-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v52_0)) (v1 : (c : Dev Cert.KernelIdeal.nD) → Buf (Elt Ideal) ((c.tc : Thread Cert.KernelIdeal.nD Cert.KernelIdeal.τ).loc Cert.KernelIdeal.main_v52_1)) (v2 : (c : Dev Cert.KernelIdeal.nD) → Buf (Elt Ideal) ((c.tc : Thread Cert.KernelIdeal.nD Cert.KernelIdeal.τ).loc Cert.KernelIdeal.main_v52_2)) (v3 : (c : Dev Cert.KernelIdeal.nD) → Buf (Elt Ideal) ((c.tc : Thread Cert.KernelIdeal.nD Cert.KernelIdeal.τ).loc Cert.KernelIdeal.main_v52_3)) (v4 : (c : Dev Cert.KernelIdeal.nD) → Buf (Elt Ideal) ((c.tc : Thread Cert.KernelIdeal.nD Cert.KernelIdeal.τ).loc Cert.KernelIdeal.main_v52_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52_0) = v0 c
          ∧ r.2.mem ((c.tc : Thread Cert.KernelIdeal.nD Cert.KernelIdeal.τ).loc Cert.KernelIdeal.main_v52_1) = v1 c
          ∧ r.2.mem ((c.tc : Thread Cert.KernelIdeal.nD Cert.KernelIdeal.τ).loc Cert.KernelIdeal.main_v52_2) = v2 c
          ∧ r.2.mem ((c.tc : Thread Cert.KernelIdeal.nD Cert.KernelIdeal.τ).loc Cert.KernelIdeal.main_v52_3) = v3 c
          ∧ r.2.mem ((c.tc : Thread Cert.KernelIdeal.nD Cert.KernelIdeal.τ).loc Cert.KernelIdeal.main_v52_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_v85) = v1 c
          ∧ r.2.mem ((c.tc : Thread Cert.ReferenceIdeal.nD Cert.ReferenceIdeal.τ).loc Cert.ReferenceIdeal.main_v88) = v2 c
          ∧ r.2.mem ((c.tc : Thread Cert.ReferenceIdeal.nD Cert.ReferenceIdeal.τ).loc Cert.ReferenceIdeal.main_v90) = v3 c
          ∧ r.2.mem ((c.tc : Thread Cert.ReferenceIdeal.nD Cert.ReferenceIdeal.τ).loc Cert.ReferenceIdeal.main_v92) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v1_0)) (v1 : (c : Dev Cert.Kernel2Ideal.nD) → Buf (Elt Ideal) ((c.tc : Thread Cert.Kernel2Ideal.nD Cert.Kernel2Ideal.τ).loc Cert.Kernel2Ideal.main_v1_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1_0) = v0 c
          ∧ r.2.mem ((c.tc : Thread Cert.Kernel2Ideal.nD Cert.Kernel2Ideal.τ).loc Cert.Kernel2Ideal.main_v1_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v49) = v0 c
          ∧ r.2.mem ((c.tc : Thread Cert.Reference2Ideal.nD Cert.Reference2Ideal.τ).loc Cert.Reference2Ideal.main_v50) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v16) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v16) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1_0)) (v1 : (c : Dev Cert.Kernel6Ideal.nD) → Buf (Elt Ideal) ((c.tc : Thread Cert.Kernel6Ideal.nD Cert.Kernel6Ideal.τ).loc Cert.Kernel6Ideal.main_v1_1)) (v2 : (c : Dev Cert.Kernel6Ideal.nD) → Buf (Elt Ideal) ((c.tc : Thread Cert.Kernel6Ideal.nD Cert.Kernel6Ideal.τ).loc Cert.Kernel6Ideal.main_v1_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1_0) = v0 c
          ∧ r.2.mem ((c.tc : Thread Cert.Kernel6Ideal.nD Cert.Kernel6Ideal.τ).loc Cert.Kernel6Ideal.main_v1_1) = v1 c
          ∧ r.2.mem ((c.tc : Thread Cert.Kernel6Ideal.nD Cert.Kernel6Ideal.τ).loc Cert.Kernel6Ideal.main_v1_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v18) = v0 c
          ∧ r.2.mem ((c.tc : Thread Cert.Reference6Ideal.nD Cert.Reference6Ideal.τ).loc Cert.Reference6Ideal.main_v22) = v1 c
          ∧ r.2.mem ((c.tc : Thread Cert.Reference6Ideal.nD Cert.Reference6Ideal.τ).loc Cert.Reference6Ideal.main_v25) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v1_0)) (v1 : (c : Dev Cert.Kernel9Ideal.nD) → Buf (Elt Ideal) ((c.tc : Thread Cert.Kernel9Ideal.nD Cert.Kernel9Ideal.τ).loc Cert.Kernel9Ideal.main_v1_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1_0) = v0 c
          ∧ r.2.mem ((c.tc : Thread Cert.Kernel9Ideal.nD Cert.Kernel9Ideal.τ).loc Cert.Kernel9Ideal.main_v1_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v40) = v0 c
          ∧ r.2.mem ((c.tc : Thread Cert.Reference9Ideal.nD Cert.Reference9Ideal.τ).loc Cert.Reference9Ideal.main_v41) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v1_0)) (v1 : (c : Dev Cert.Kernel10Ideal.nD) → Buf (Elt Ideal) ((c.tc : Thread Cert.Kernel10Ideal.nD Cert.Kernel10Ideal.τ).loc Cert.Kernel10Ideal.main_v1_1)) (v2 : (c : Dev Cert.Kernel10Ideal.nD) → Buf (Elt Ideal) ((c.tc : Thread Cert.Kernel10Ideal.nD Cert.Kernel10Ideal.τ).loc Cert.Kernel10Ideal.main_v1_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1_0) = v0 c
          ∧ r.2.mem ((c.tc : Thread Cert.Kernel10Ideal.nD Cert.Kernel10Ideal.τ).loc Cert.Kernel10Ideal.main_v1_1) = v1 c
          ∧ r.2.mem ((c.tc : Thread Cert.Kernel10Ideal.nD Cert.Kernel10Ideal.τ).loc Cert.Kernel10Ideal.main_v1_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v15) = v0 c
          ∧ r.2.mem ((c.tc : Thread Cert.Reference10Ideal.nD Cert.Reference10Ideal.τ).loc Cert.Reference10Ideal.main_v16) = v1 c
          ∧ r.2.mem ((c.tc : Thread Cert.Reference10Ideal.nD Cert.Reference10Ideal.τ).loc Cert.Reference10Ideal.main_v17) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v5) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v4) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v6) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)) →
    ∃ (v0 : (c : Dev Cert.Kernel18Ideal.nD) → Buf (Elt Ideal) ((c.tc : Thread Cert.Kernel18Ideal.nD Cert.Kernel18Ideal.τ).loc Cert.Kernel18Ideal.main_v1_0)) (v1 : (c : Dev Cert.Kernel18Ideal.nD) → Buf (Elt Ideal) ((c.tc : Thread Cert.Kernel18Ideal.nD Cert.Kernel18Ideal.τ).loc Cert.Kernel18Ideal.main_v1_1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v1_0) = v0 c
          ∧ r.2.mem ((c.tc : Thread Cert.Kernel18Ideal.nD Cert.Kernel18Ideal.τ).loc Cert.Kernel18Ideal.main_v1_1) = v1 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v40) = v0 c
          ∧ r.2.mem ((c.tc : Thread Cert.Reference18Ideal.nD Cert.Reference18Ideal.τ).loc Cert.Reference18Ideal.main_v41) = v1 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)) →
    ∃ (v0 : (c : Dev Cert.Kernel19Ideal.nD) → Buf (Elt Ideal) ((c.tc : Thread Cert.Kernel19Ideal.nD Cert.Kernel19Ideal.τ).loc Cert.Kernel19Ideal.main_v1_0)) (v1 : (c : Dev Cert.Kernel19Ideal.nD) → Buf (Elt Ideal) ((c.tc : Thread Cert.Kernel19Ideal.nD Cert.Kernel19Ideal.τ).loc Cert.Kernel19Ideal.main_v1_1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v1_0) = v0 c
          ∧ r.2.mem ((c.tc : Thread Cert.Kernel19Ideal.nD Cert.Kernel19Ideal.τ).loc Cert.Kernel19Ideal.main_v1_1) = v1 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v13) = v0 c
          ∧ r.2.mem ((c.tc : Thread Cert.Reference19Ideal.nD Cert.Reference19Ideal.τ).loc Cert.Reference19Ideal.main_v15) = v1 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hPre_finite : Cert.Pre_finite.Facts) (hPre_finite4 : Cert.Pre_finite4.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
-- ==== Pre_finite.lean ====
abbrev S8192x512 : Shape := ⟨2, ![8192, 512]⟩
abbrev S8x8192 : Shape := ⟨2, ![8, 8192]⟩
abbrev S_ : Shape := ⟨0, ![]⟩

class Facts : Prop where
  bitsLt_bf16_f32 : FTy.bits .bf16 < FTy.bits .f32
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8x8192 : S_.BroadcastsInDim S8x8192 (![] : Fin 0 → Fin S8x8192.rank)
  reducesTo_S8x8192_S_d0_1 : S8x8192.ReducesTo [0, 1] S_

variable [Facts]

def fn_part1 {F : FTy → Type} [FloatOps F] (main_arg4 : FVec F S8x8192 .f32) (main_v16 : IVec S_ 1) (main_v17 : FVec F S8192x512 .f32) : IVec S_ 1 :=
  let main_v18 : FVec F S8192x512 .f32 := Host.absf main_v17
  let main_cst_4 : FVec F S_ .f32 := constant S_ .f32 0x7F800000#32
  let main_v19 : FVec F S8192x512 .f32 := broadcastInDim S8192x512 ![] bcast_S_S8192x512 main_cst_4
  let main_v20 : IVec S8192x512 1 := cmpf .olt main_v18 main_v19
  let main_c_5 : IVec S_ 1 := constantI S_ 1 1#1
  let main_v21 : IVec S_ 1 := (fun x v => Host.reduce IntOp.andi x v reducesTo_S8192x512_S_d0_1 h_S_) main_v20 main_c_5
  let main_v22 : IVec S_ 1 := andi main_v16 main_v21
  let main_v23 : FVec F S8x8192 .f32 := Host.absf main_arg4
  let main_cst_6 : FVec F S_ .f32 := constant S_ .f32 0x7F800000#32
  let main_v24 : FVec F S8x8192 .f32 := broadcastInDim S8x8192 ![] bcast_S_S8x8192 main_cst_6
  let main_v25 : IVec S8x8192 1 := cmpf .olt main_v23 main_v24
  let main_c_7 : IVec S_ 1 := constantI S_ 1 1#1
  let main_v26 : IVec S_ 1 := (fun x v => Host.reduce IntOp.andi x v reducesTo_S8x8192_S_d0_1 h_S_) main_v25 main_c_7
  let main_v27 : IVec S_ 1 := andi main_v22 main_v26
  main_v27

def fn {F : FTy → Type} [FloatOps F] (main_arg0 : FVec F S8192x512 .bf16) (main_arg1 : FVec F S8192x512 .bf16) (main_arg2 : FVec F S8192x512 .bf16) (main_arg3 : FVec F S8192x512 .bf16) (main_arg4 : FVec F S8x8192 .f32) : IVec S_ 1 :=
  let main_v0 : FVec F S8192x512 .f32 := (extf .f32 · bitsLt_bf16_f32) main_arg0
  let main_v1 : FVec F S8192x512 .f32 := Host.absf main_v0
  let main_cst : FVec F S_ .f32 := constant S_ .f32 0x7F800000#32
  let main_v2 : FVec F S8192x512 .f32 := broadcastInDim S8192x512 ![] bcast_S_S8192x512 main_cst
  let main_v3 : IVec S8192x512 1 := cmpf .olt main_v1 main_v2
  let main_c : IVec S_ 1 := constantI S_ 1 1#1
  let main_v4 : IVec S_ 1 := (fun x v => Host.reduce IntOp.andi x v reducesTo_S8192x512_S_d0_1 h_S_) main_v3 main_c
  let main_v5 : FVec F S8192x512 .f32 := (extf .f32 · bitsLt_bf16_f32) main_arg1
  let main_v6 : FVec F S8192x512 .f32 := Host.absf main_v5
  let main_cst_0 : FVec F S_ .f32 := constant S_ .f32 0x7F800000#32
  let main_v7 : FVec F S8192x512 .f32 := broadcastInDim S8192x512 ![] bcast_S_S8192x512 main_cst_0
  let main_v8 : IVec S8192x512 1 := cmpf .olt main_v6 main_v7
  let main_c_1 : IVec S_ 1 := constantI S_ 1 1#1
  let main_v9 : IVec S_ 1 := (fun x v => Host.reduce IntOp.andi x v reducesTo_S8192x512_S_d0_1 h_S_) main_v8 main_c_1
  let main_v10 : IVec S_ 1 := andi main_v4 main_v9
  let main_v11 : FVec F S8192x512 .f32 := (extf .f32 · bitsLt_bf16_f32) main_arg2
  let main_v12 : FVec F S8192x512 .f32 := Host.absf main_v11
  let main_cst_2 : FVec F S_ .f32 := constant S_ .f32 0x7F800000#32
  let main_v13 : FVec F S8192x512 .f32 := broadcastInDim S8192x512 ![] bcast_S_S8192x512 main_cst_2
  let main_v14 : IVec S8192x512 1 := cmpf .olt main_v12 main_v13
  let main_c_3 : IVec S_ 1 := constantI S_ 1 1#1
  let main_v15 : IVec S_ 1 := (fun x v => Host.reduce IntOp.andi x v reducesTo_S8192x512_S_d0_1 h_S_) main_v14 main_c_3
  let main_v16 : IVec S_ 1 := andi main_v10 main_v15
  let main_v17 : FVec F S8192x512 .f32 := (extf .f32 · bitsLt_bf16_f32) main_arg3
  fn_part1 (F := F) main_arg4 main_v16 main_v17
-- ==== Pre_finite4.lean ====
abbrev S8192x1024 : Shape := ⟨2, ![8192, 1024]⟩
abbrev S2816x1024 : Shape := ⟨2, ![2816, 1024]⟩
abbrev S2x8192x2816 : Shape := ⟨3, ![2, 8192, 2816]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bitsLt_bf16_f32 : FTy.bits .bf16 < FTy.bits .f32
  bcast_S_S2816x1024 : S_.BroadcastsInDim S2816x1024 (![] : Fin 0 → Fin S2816x1024.rank)
  reducesTo_S2816x1024_S_d0_1 : S2816x1024.ReducesTo [0, 1] S_
  bcast_S_S2x8192x2816 : S_.BroadcastsInDim S2x8192x2816 (![] : Fin 0 → Fin S2x8192x2816.rank)
  reducesTo_S2x8192x2816_S_d0_1_2 : S2x8192x2816.ReducesTo [0, 1, 2] S_

variable [Facts]

def fn {F : FTy → Type} [FloatOps F] (main_arg0 : FVec F S8192x1024 .f32) (main_arg1 : FVec F S2816x1024 .bf16) (main_arg2 : FVec F S2x8192x2816 .bf16) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S2816x1024 .f32 := (extf .f32 · bitsLt_bf16_f32) main_arg1
  let main_v5 : FVec F S2816x1024 .f32 := Host.absf main_v4
  let main_cst_0 : FVec F S_ .f32 := constant S_ .f32 0x7F800000#32
  let main_v6 : FVec F S2816x1024 .f32 := broadcastInDim S2816x1024 ![] bcast_S_S2816x1024 main_cst_0
  let main_v7 : IVec S2816x1024 1 := cmpf .olt main_v5 main_v6
  let main_c_1 : IVec S_ 1 := constantI S_ 1 1#1
  let main_v8 : IVec S_ 1 := (fun x v => Host.reduce IntOp.andi x v reducesTo_S2816x1024_S_d0_1 h_S_) main_v7 main_c_1
  let main_v9 : IVec S_ 1 := andi main_v3 main_v8
  let main_v10 : FVec F S2x8192x2816 .f32 := (extf .f32 · bitsLt_bf16_f32) main_arg2
  let main_v11 : FVec F S2x8192x2816 .f32 := Host.absf main_v10
  let main_cst_2 : FVec F S_ .f32 := constant S_ .f32 0x7F800000#32
  let main_v12 : FVec F S2x8192x2816 .f32 := broadcastInDim S2x8192x2816 ![] bcast_S_S2x8192x2816 main_cst_2
  let main_v13 : IVec S2x8192x2816 1 := cmpf .olt main_v11 main_v12
  let main_c_3 : IVec S_ 1 := constantI S_ 1 1#1
  let main_v14 : IVec S_ 1 := (fun x v => Host.reduce IntOp.andi x v reducesTo_S2x8192x2816_S_d0_1_2 h_S_) main_v13 main_c_3
  let main_v15 : IVec S_ 1 := andi main_v9 main_v14
  main_v15
-- ==== Kernel.lean ====
abbrev S8192x512 : Shape := ⟨2, ![8192, 512]⟩
abbrev S8x8192 : Shape := ⟨2, ![8, 8192]⟩
abbrev S136 : Shape := ⟨1, ![136]⟩
abbrev S8192x8x64 : Shape := ⟨3, ![8192, 8, 64]⟩
abbrev S8x8192x64 : Shape := ⟨3, ![8, 8192, 64]⟩
abbrev S8x8192x8192 : Shape := ⟨3, ![8, 8192, 8192]⟩
abbrev S8x8192x1 : Shape := ⟨3, ![8, 8192, 1]⟩
abbrev S8x1x8192 : Shape := ⟨3, ![8, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S_ : Shape := ⟨0, ![]⟩
abbrev S512x8192 : Shape := ⟨2, ![512, 8192]⟩
abbrev S4x2x8192 : Shape := ⟨3, ![4, 2, 8192]⟩
abbrev S8192x8 : Shape := ⟨2, ![8192, 8]⟩
abbrev S8192x4x2 : Shape := ⟨3, ![8192, 4, 2]⟩
abbrev S4x8192x2 : Shape := ⟨3, ![4, 8192, 2]⟩
abbrev S4x16x128x512 : Shape := ⟨4, ![4, 16, 128, 512]⟩
abbrev S4x16x2x512 : Shape := ⟨4, ![4, 16, 2, 512]⟩
abbrev S512x128 : Shape := ⟨2, ![512, 128]⟩
abbrev S1 : Shape := ⟨1, ![1]⟩
abbrev S128x512 : Shape := ⟨2, ![128, 512]⟩
abbrev S1x2x512 : Shape := ⟨3, ![1, 2, 512]⟩
abbrev S1x512x2 : Shape := ⟨3, ![1, 512, 2]⟩
abbrev S1x16x128x512 : Shape := ⟨4, ![1, 16, 128, 512]⟩
abbrev S1x16x2x512 : Shape := ⟨4, ![1, 16, 2, 512]⟩
abbrev S2x512x1 : Shape := ⟨3, ![2, 512, 1]⟩
abbrev S1x128 : Shape := ⟨2, ![1, 128]⟩
abbrev S512x512 : Shape := ⟨2, ![512, 512]⟩
abbrev S1x512x1 : Shape := ⟨3, ![1, 512, 1]⟩
abbrev S512x1 : Shape := ⟨2, ![512, 1]⟩
abbrev S1x1x512 : Shape := ⟨3, ![1, 1, 512]⟩
abbrev S1x512 : Shape := ⟨2, ![1, 512]⟩
abbrev S512 : Shape := ⟨1, ![512]⟩
abbrev S1x1x1x512 : Shape := ⟨4, ![1, 1, 1, 512]⟩
abbrev S64x512 : Shape := ⟨2, ![64, 512]⟩
abbrev S1x1x128x512 : Shape := ⟨4, ![1, 1, 128, 512]⟩

abbrev nBuf : Space → Nat
  | .hbm => 66
  | .vmem => 35
  | .smem => 2
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S8x8192, .f32⟩
  | .hbm, ⟨5, _⟩ => ⟨S8192x512, .f32⟩
  | .hbm, ⟨6, _⟩ => ⟨S8192x8x64, .f32⟩
  | .hbm, ⟨7, _⟩ => ⟨S8x8192x64, .f32⟩
  | .hbm, ⟨8, _⟩ => ⟨S8192x512, .f32⟩
  | .hbm, ⟨9, _⟩ => ⟨S8192x8x64, .f32⟩
  | .hbm, ⟨10, _⟩ => ⟨S8x8192x64, .f32⟩
  | .hbm, ⟨11, _⟩ => ⟨S8192x512, .f32⟩
  | .hbm, ⟨12, _⟩ => ⟨S8192x8x64, .f32⟩
  | .hbm, ⟨13, _⟩ => ⟨S8x8192x64, .f32⟩
  | .hbm, ⟨14, _⟩ => ⟨S8192x512, .f32⟩
  | .hbm, ⟨15, _⟩ => ⟨S8192x8x64, .f32⟩
  | .hbm, ⟨16, _⟩ => ⟨S8x8192x64, .f32⟩
  | .hbm, ⟨17, _⟩ => ⟨S8x8192x8192, .f32⟩
  | .hbm, ⟨18, _⟩ => ⟨S8x8192x1, .f32⟩
  | .hbm, ⟨19, _⟩ => ⟨S8x8192x8192, .f32⟩
  | .hbm, ⟨20, _⟩ => ⟨S8x8192x8192, .f32⟩
  | .hbm, ⟨21, _⟩ => ⟨S8x1x8192, .f32⟩
  | .hbm, ⟨22, _⟩ => ⟨S8x8192x8192, .f32⟩
  | .hbm, ⟨23, _⟩ => ⟨S8x8192x8192, .f32⟩
  | .hbm, ⟨24, _⟩ => ⟨S8192, .i32⟩
  | .hbm, ⟨25, _⟩ => ⟨S1x8192, .i32⟩
  | .hbm, ⟨26, _⟩ => ⟨S8192, .i32⟩
  | .hbm, ⟨27, _⟩ => ⟨S8192x1, .i32⟩
  | .hbm, ⟨28, _⟩ => ⟨S8192x8192, .i32⟩
  | .hbm, ⟨29, _⟩ => ⟨S8192x8192, .i32⟩
  | .hbm, ⟨30, _⟩ => ⟨S8192x8192, .i1⟩
  | .hbm, ⟨31, _⟩ => ⟨S8x8192x8192, .i1⟩
  | .hbm, ⟨32, _⟩ => ⟨S_, .f32⟩
  | .hbm, ⟨33, _⟩ => ⟨S8x8192x8192, .f32⟩
  | .hbm, ⟨34, _⟩ => ⟨S8x8192x8192, .f32⟩
  | .hbm, ⟨35, _⟩ => ⟨S_, .f32⟩
  | .hbm, ⟨36, _⟩ => ⟨S8x8192, .f32⟩
  | .hbm, ⟨37, _⟩ => ⟨S8x8192x1, .f32⟩
  | .hbm, ⟨38, _⟩ => ⟨S8x8192x8192, .f32⟩
  | .hbm, ⟨39, _⟩ => ⟨S8x8192x8192, .f32⟩
  | .hbm, ⟨40, _⟩ => ⟨S8x8192x8192, .f32⟩
  | .hbm, ⟨41, _⟩ => ⟨S_, .f32⟩
  | .hbm, ⟨42, _⟩ => ⟨S8x8192, .f32⟩
  | .hbm, ⟨43, _⟩ => ⟨S8x8192x1, .f32⟩
  | .hbm, ⟨44, _⟩ => ⟨S8x8192x8192, .f32⟩
  | .hbm, ⟨45, _⟩ => ⟨S8x8192x8192, .f32⟩
  | .hbm, ⟨46, _⟩ => ⟨S8x8192x64, .f32⟩
  | .hbm, ⟨47, _⟩ => ⟨S8x8192, .f32⟩
  | .hbm, ⟨48, _⟩ => ⟨S8x8192, .f32⟩
  | .hbm, ⟨49, _⟩ => ⟨S8x8192x64, .f32⟩
  | .hbm, ⟨50, _⟩ => ⟨S_, .f32⟩
  | .hbm, ⟨51, _⟩ => ⟨S8x8192, .f32⟩
  | .hbm, ⟨52, _⟩ => ⟨S512x8192, .bf16⟩
  | .hbm, ⟨53, _⟩ => ⟨S512x8192, .bf16⟩
  | .hbm, ⟨54, _⟩ => ⟨S512x8192, .bf16⟩
  | .hbm, ⟨55, _⟩ => ⟨S4x2x8192, .f32⟩
  | .hbm, ⟨56, _⟩ => ⟨S4x2x8192, .f32⟩
  | .hbm, ⟨57, _⟩ => ⟨S4x2x8192, .f32⟩
  | .hbm, ⟨58, _⟩ => ⟨S8192x8, .f32⟩
  | .hbm, ⟨59, _⟩ => ⟨S8192x4x2, .f32⟩
  | .hbm, ⟨60, _⟩ => ⟨S4x8192x2, .f32⟩
  | .hbm, ⟨61, _⟩ => ⟨S4x16x128x512, .f32⟩
  | .hbm, ⟨62, _⟩ => ⟨S8192x512, .f32⟩
  | .hbm, ⟨63, _⟩ => ⟨S8192x512, .bf16⟩
  | .hbm, ⟨64, _⟩ => ⟨S4x8192x2, .f32⟩
  | .hbm, ⟨65, _⟩ => ⟨S4x16x2x512, .f32⟩
  | .local _ .vmem, ⟨0, _⟩ => ⟨S512x128, .bf16⟩
  | .local _ .vmem, ⟨1, _⟩ => ⟨S512x128, .bf16⟩
  | .local _ .vmem, ⟨2, _⟩ => ⟨S128x512, .bf16⟩
  | .local _ .vmem, ⟨3, _⟩ => ⟨S128x512, .bf16⟩
  | .local _ .vmem, ⟨4, _⟩ => ⟨S512x128, .bf16⟩
  | .local _ .vmem, ⟨5, _⟩ => ⟨S512x128, .bf16⟩
  | .local _ .vmem, ⟨6, _⟩ => ⟨S128x512, .bf16⟩
  | .local _ .vmem, ⟨7, _⟩ => ⟨S128x512, .bf16⟩
  | .local _ .vmem, ⟨8, _⟩ => ⟨S512x128, .bf16⟩
  | .local _ .vmem, ⟨9, _⟩ => ⟨S512x128, .bf16⟩
  | .local _ .vmem, ⟨10, _⟩ => ⟨S512x128, .bf16⟩
  | .local _ .vmem, ⟨11, _⟩ => ⟨S512x128, .bf16⟩
  | .local _ .vmem, ⟨12, _⟩ => ⟨S128x512, .bf16⟩
  | .local _ .vmem, ⟨13, _⟩ => ⟨S128x512, .bf16⟩
  | .local _ .vmem, ⟨14, _⟩ => ⟨S1x2x512, .f32⟩
  | .local _ .vmem, ⟨15, _⟩ => ⟨S1x2x512, .f32⟩
  | .local _ .vmem, ⟨16, _⟩ => ⟨S1x2x512, .f32⟩
  | .local _ .vmem, ⟨17, _⟩ => ⟨S1x2x512, .f32⟩
  | .local _ .vmem, ⟨18, _⟩ => ⟨S1x2x512, .f32⟩
  | .local _ .vmem, ⟨19, _⟩ => ⟨S1x2x512, .f32⟩
  | .local _ .vmem, ⟨20, _⟩ => ⟨S1x512x2, .f32⟩
  | .local _ .vmem, ⟨21, _⟩ => ⟨S1x512x2, .f32⟩
  | .local _ .vmem, ⟨22, _⟩ => ⟨S1x16x128x512, .f32⟩
  | .local _ .vmem, ⟨23, _⟩ => ⟨S1x16x128x512, .f32⟩
  | .local _ .vmem, ⟨24, _⟩ => ⟨S512x128, .f32⟩
  | .local _ .vmem, ⟨25, _⟩ => ⟨S512x128, .f32⟩
  | .local _ .vmem, ⟨26, _⟩ => ⟨S512x128, .bf16⟩
  | .local _ .vmem, ⟨27, _⟩ => ⟨S512x128, .bf16⟩
  | .local _ .vmem, ⟨28, _⟩ => ⟨S1x512x2, .f32⟩
  | .local _ .vmem, ⟨29, _⟩ => ⟨S1x512x2, .f32⟩
  | .local _ .vmem, ⟨30, _⟩ => ⟨S1x16x2x512, .f32⟩
  | .local _ .vmem, ⟨31, _⟩ => ⟨S1x16x2x512, .f32⟩
  | .local _ .vmem, ⟨32, _⟩ => ⟨S512x128, .f32⟩
  | .local _ .vmem, ⟨33, _⟩ => ⟨S512x128, .f32⟩
  | .local _ .vmem, ⟨34, _⟩ => ⟨S2x512x1, .f32⟩
  | .local _ .smem, ⟨0, _⟩ => ⟨S136, .i32⟩
  | .local _ .smem, ⟨1, _⟩ => ⟨S136, .i32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_cst : Ref sig .tc := ⟨.hbm, 32, rfl⟩
abbrev main_v27 : Ref sig .tc := ⟨.hbm, 33, rfl⟩
abbrev main_v28 : Ref sig .tc := ⟨.hbm, 34, rfl⟩
abbrev main_cst_1 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst_2 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_cst_3 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52_0 : Ref sig .tc := ⟨.hbm, 61, rfl⟩
abbrev main_v52_1 : Ref sig .tc := ⟨.hbm, 62, rfl⟩
abbrev main_v52_2 : Ref sig .tc := ⟨.hbm, 63, rfl⟩
abbrev main_v52_3 : Ref sig .tc := ⟨.hbm, 64, rfl⟩
abbrev main_v52_4 : Ref sig .tc := ⟨.hbm, 65, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_scratch0 : Ref sig .tc := ⟨.vmem, 32, rfl⟩
abbrev cc0_scratch1 : Ref sig .tc := ⟨.vmem, 33, rfl⟩
abbrev cc0_scratch2 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31

abbrev nD : Nat := 1
abbrev τ : Topo := Topo.v7x

variable {F : FTy → Type} [FloatOps F]

abbrev grid0 : Pipeline.Grid := ⟨2, ![4, 136], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (v1 : BitVec 32) : Fin 4 → Nat :=
  let c0_47 : Index := 0#32
  let v86 : Index := Scalar.indexCast v1
  let c0_48 : Index := 0#32
  let c0_49 : Index := 0#32
  ![0, v86.toNat, 0, 0]
def k0_cond3 (v1 : BitVec 32) (v3 : BitVec 32) : BitVec 1 :=
  let c512_i32 : BitVec 32 := 512#32
  let v7 : BitVec 32 := Scalar.muli v3 c512_i32
  let c0_i32 : BitVec 32 := 0#32
  let v9 : BitVec 1 := Scalar.cmpi .sgt v7 c0_i32
  let v10 : BitVec 32 := Scalar.extui v9
  let c0_i32_1 : BitVec 32 := 0#32
  let v11 : BitVec 1 := Scalar.cmpi .slt v7 c0_i32_1
  let v12 : BitVec 32 := Scalar.extui v11
  let v13 : BitVec 32 := Scalar.subi v10 v12
  let c512_i32_0 : BitVec 32 := 512#32
  let c0_i32_2 : BitVec 32 := 0#32
  let v14 : BitVec 1 := Scalar.cmpi .sgt c512_i32_0 c0_i32_2
  let v15 : BitVec 32 := Scalar.extui v14
  let c0_i32_3 : BitVec 32 := 0#32
  let v16 : BitVec 1 := Scalar.cmpi .slt c512_i32_0 c0_i32_3
  let v17 : BitVec 32 := Scalar.extui v16
  let v18 : BitVec 32 := Scalar.subi v15 v17
  let v19 : BitVec 1 := Scalar.cmpi .ne v13 v18
  let v20 : BitVec 32 := Scalar.remsi v7 c512_i32_0
  let c0_i32_4 : BitVec 32 := 0#32
  let v21 : BitVec 1 := Scalar.cmpi .ne v20 c0_i32_4
  let v22 : BitVec 1 := Scalar.andi v19 v21
  let v8 : BitVec 32 := Scalar.divsi v7 c512_i32_0
  let c1_i32 : BitVec 32 := 1#32
  let v23 : BitVec 32 := Scalar.subi v8 c1_i32
  let v24 : BitVec 32 := Scalar.select v22 v23 v8
  let v25 : BitVec 1 := Scalar.cmpi .eq v1 v24
  let v_true : BitVec 1 := 1#1
  let v31 : BitVec 1 := Scalar.xori v25 v_true
  let v32 : BitVec 32 := Scalar.extui v31
  let c0_i32_8 : BitVec 32 := 0#32
  let v33 : BitVec 1 := Scalar.cmpi .ne v32 c0_i32_8
  v33

def k0_off3 (v1 : BitVec 32) : Fin 4 → Nat :=
  let c0_80 : Index := 0#32
  let v138 : Index := Scalar.indexCast v1
  let c1_81 : Index := 1#32
  let c0_82 : Index := 0#32
  ![0, v138.toNat, 1, 0]
def k0_off4 (v1 : BitVec 32) : Fin 4 → Nat :=
  let c0_97 : Index := 0#32
  let v168 : Index := Scalar.indexCast v1
  let c0_98 : Index := 0#32
  let c0_99 : Index := 0#32
  ![0, v168.toNat, 0, 0]
def k0_off5 (v1 : BitVec 32) : Fin 4 → Nat :=
  let c0_50 : Index := 0#32
  let v97 : Index := Scalar.indexCast v1
  let c0_51 : Index := 0#32
  let c0_52 : Index := 0#32
  ![0, v97.toNat, 0, 0]
def k0_cond4 (v1 : BitVec 32) (v3 : BitVec 32) : BitVec 1 :=
  let c512_i32 : BitVec 32 := 512#32
  let v7 : BitVec 32 := Scalar.muli v3 c512_i32
  let c0_i32 : BitVec 32 := 0#32
  let v9 : BitVec 1 := Scalar.cmpi .sgt v7 c0_i32
  let v10 : BitVec 32 := Scalar.extui v9
  let c0_i32_1 : BitVec 32 := 0#32
  let v11 : BitVec 1 := Scalar.cmpi .slt v7 c0_i32_1
  let v12 : BitVec 32 := Scalar.extui v11
  let v13 : BitVec 32 := Scalar.subi v10 v12
  let c512_i32_0 : BitVec 32 := 512#32
  let c0_i32_2 : BitVec 32 := 0#32
  let v14 : BitVec 1 := Scalar.cmpi .sgt c512_i32_0 c0_i32_2
  let v15 : BitVec 32 := Scalar.extui v14
  let c0_i32_3 : BitVec 32 := 0#32
  let v16 : BitVec 1 := Scalar.cmpi .slt c512_i32_0 c0_i32_3
  let v17 : BitVec 32 := Scalar.extui v16
  let v18 : BitVec 32 := Scalar.subi v15 v17
  let v19 : BitVec 1 := Scalar.cmpi .ne v13 v18
  let v20 : BitVec 32 := Scalar.remsi v7 c512_i32_0
  let c0_i32_4 : BitVec 32 := 0#32
  let v21 : BitVec 1 := Scalar.cmpi .ne v20 c0_i32_4
  let v22 : BitVec 1 := Scalar.andi v19 v21
  let v8 : BitVec 32 := Scalar.divsi v7 c512_i32_0
  let c1_i32 : BitVec 32 := 1#32
  let v23 : BitVec 32 := Scalar.subi v8 c1_i32
  let v24 : BitVec 32 := Scalar.select v22 v23 v8
  let v25 : BitVec 1 := Scalar.cmpi .eq v1 v24
  let v34 : BitVec 32 := Scalar.extui v25
  let c0_i32_9 : BitVec 32 := 0#32
  let v35 : BitVec 1 := Scalar.cmpi .ne v34 c0_i32_9
  v35

def k0_off6 (v1 : BitVec 32) : Fin 4 → Nat :=
  let c0_86 : Index := 0#32
  let v160 : Index := Scalar.indexCast v1
  let c1_87 : Index := 1#32
  let c0_88 : Index := 0#32
  ![0, v160.toNat, 1, 0]
def k0_off7 (v1 : BitVec 32) : Fin 4 → Nat :=
  let c0_103 : Index := 0#32
  let v190 : Index := Scalar.indexCast v1
  let c0_104 : Index := 0#32
  let c0_105 : Index := 0#32
  ![0, v190.toNat, 0, 0]

def k0_chk1 (v1 : BitVec 32) (v3 : BitVec 32) : Prop :=
  (∀ (k0_h3 : k0_cond3 v1 v3 = 1#1), ∀ a, (k0_off2 v1) a + S1x1x1x512.size a ≤ S1x16x2x512.size a) ∧
  (∀ (k0_h3 : k0_cond3 v1 v3 = 1#1), ∀ a, (k0_off3 v1) a + S1x1x1x512.size a ≤ S1x16x2x512.size a) ∧
  (∀ (k0_h3 : k0_cond3 v1 v3 = 1#1), ∀ a, (k0_off4 v1) a + S1x1x128x512.size a ≤ S1x16x128x512.size a) ∧
  (∀ (k0_h4 : k0_cond4 v1 v3 = 1#1), ∀ a, (k0_off5 v1) a + S1x1x1x512.size a ≤ S1x16x2x512.size a) ∧
  (∀ (k0_h4 : k0_cond4 v1 v3 = 1#1), ∀ a, (k0_off6 v1) a + S1x1x1x512.size a ≤ S1x16x2x512.size a) ∧
  (∀ (k0_h4 : k0_cond4 v1 v3 = 1#1), ∀ a, (k0_off7 v1) a + S1x1x128x512.size a ≤ S1x16x128x512.size a)
theorem k0_off2_inb : ∀ (v1 : BitVec 32) (v3 : BitVec 32) (k0_hw1 : k0_chk1 v1 v3), ∀ (k0_h3 : k0_cond3 v1 v3 = 1#1), ∀ a, (k0_off2 v1) a + S1x1x1x512.size a ≤ S1x16x2x512.size a := fun v1 v3 k0_hw1 k0_h3 => k0_hw1.1 k0_h3
theorem k0_off3_inb : ∀ (v1 : BitVec 32) (v3 : BitVec 32) (k0_hw1 : k0_chk1 v1 v3), ∀ (k0_h3 : k0_cond3 v1 v3 = 1#1), ∀ a, (k0_off3 v1) a + S1x1x1x512.size a ≤ S1x16x2x512.size a := fun v1 v3 k0_hw1 k0_h3 => k0_hw1.2.1 k0_h3
theorem k0_off4_inb : ∀ (v1 : BitVec 32) (v3 : BitVec 32) (k0_hw1 : k0_chk1 v1 v3), ∀ (k0_h3 : k0_cond3 v1 v3 = 1#1), ∀ a, (k0_off4 v1) a + S1x1x128x512.size a ≤ S1x16x128x512.size a := fun v1 v3 k0_hw1 k0_h3 => k0_hw1.2.2.1 k0_h3
theorem k0_off5_inb : ∀ (v1 : BitVec 32) (v3 : BitVec 32) (k0_hw1 : k0_chk1 v1 v3), ∀ (k0_h4 : k0_cond4 v1 v3 = 1#1), ∀ a, (k0_off5 v1) a + S1x1x1x512.size a ≤ S1x16x2x512.size a := fun v1 v3 k0_hw1 k0_h4 => k0_hw1.2.2.2.1 k0_h4
theorem k0_off6_inb : ∀ (v1 : BitVec 32) (v3 : BitVec 32) (k0_hw1 : k0_chk1 v1 v3), ∀ (k0_h4 : k0_cond4 v1 v3 = 1#1), ∀ a, (k0_off6 v1) a + S1x1x1x512.size a ≤ S1x16x2x512.size a := fun v1 v3 k0_hw1 k0_h4 => k0_hw1.2.2.2.2.1 k0_h4
theorem k0_off7_inb : ∀ (v1 : BitVec 32) (v3 : BitVec 32) (k0_hw1 : k0_chk1 v1 v3), ∀ (k0_h4 : k0_cond4 v1 v3 = 1#1), ∀ a, (k0_off7 v1) a + S1x1x128x512.size a ≤ S1x16x128x512.size a := fun v1 v3 k0_hw1 k0_h4 => k0_hw1.2.2.2.2.2 k0_h4

def k0_cond1 (i : grid0.Coords) : BitVec 1 :=
  let arg1 : BitVec 32 := BitVec.ofNat 32 (i 1).val
  let c0_i32_5 : BitVec 32 := 0#32
  let v26 : BitVec 1 := Scalar.cmpi .eq arg1 c0_i32_5
  let v27 : BitVec 32 := Scalar.extui v26
  let c0_i32_6 : BitVec 32 := 0#32
  let v28 : BitVec 1 := Scalar.cmpi .ne v27 c0_i32_6
  v28

def k0_cond5 (v1 : BitVec 32) : BitVec 1 :=
  let c15_i32 : BitVec 32 := 15#32
  let v36 : BitVec 1 := Scalar.cmpi .eq v1 c15_i32
  let v37 : BitVec 32 := Scalar.extui v36
  let c0_i32_10 : BitVec 32 := 0#32
  let v38 : BitVec 1 := Scalar.cmpi .ne v37 c0_i32_10
  v38

def cc0_transform_0 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S136) ![v0.toNat] S1.size (k0_off1_inb i)) numel1_S1
  let c0_i32 : BitVec 32 := 0#32
  ![v1.toNat, arg0.toNat]

def cc0_transform_1 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S136) ![v0.toNat] S1.size (k0_off1_inb i)) numel1_S1
  let c0_i32 : BitVec 32 := 0#32
  ![arg0.toNat, v1.toNat]

def cc0_transform_2 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S136) ![v0.toNat] S1.size (k0_off1_inb i)) numel1_S1
  let c0_i32 : BitVec 32 := 0#32
  ![v1.toNat, arg0.toNat]

def cc0_transform_3 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S136) ![v0.toNat] S1.size (k0_off1_inb i)) numel1_S1
  let c0_i32 : BitVec 32 := 0#32
  ![arg0.toNat, v1.toNat]

def cc0_transform_4 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S136) ![v0.toNat] S1.size (k0_off1_inb i)) numel1_S1
  let c0_i32 : BitVec 32 := 0#32
  ![v1.toNat, arg0.toNat]

def cc0_transform_5 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S136) ![v0.toNat] S1.size (k0_off1_inb i)) numel1_S1
  let c0_i32 : BitVec 32 := 0#32
  ![v1.toNat, arg0.toNat]

def cc0_transform_6 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S136) ![v0.toNat] S1.size (k0_off1_inb i)) numel1_S1
  let c0_i32 : BitVec 32 := 0#32
  ![arg0.toNat, v1.toNat]

def cc0_transform_7 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S136) ![v0.toNat] S1.size (k0_off1_inb i)) numel1_S1
  let c0_i32 : BitVec 32 := 0#32
  let c0_i32_0 : BitVec 32 := 0#32
  ![arg0.toNat, c0_i32.toNat, v1.toNat]

def cc0_transform_8 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S136) ![v0.toNat] S1.size (k0_off1_inb i)) numel1_S1
  let c0_i32 : BitVec 32 := 0#32
  let c0_i32_0 : BitVec 32 := 0#32
  ![arg0.toNat, c0_i32.toNat, v1.toNat]

def cc0_transform_9 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S136) ![v0.toNat] S1.size (k0_off1_inb i)) numel1_S1
  let c0_i32 : BitVec 32 := 0#32
  let c0_i32_0 : BitVec 32 := 0#32
  ![arg0.toNat, c0_i32.toNat, v1.toNat]

def cc0_transform_10 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S136) ![v0.toNat] S1.size (k0_off1_inb i)) numel1_S1
  let c0_i32 : BitVec 32 := 0#32
  let c0_i32_0 : BitVec 32 := 0#32
  ![arg0.toNat, v1.toNat, c0_i32.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_12 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S136) ![v0.toNat] S1.size (k0_off1_inb i)) numel1_S1
  let c0_i32 : BitVec 32 := 0#32
  ![v1.toNat, arg0.toNat]

def cc0_transform_13 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S136) ![v0.toNat] S1.size (k0_off1_inb i)) numel1_S1
  let c0_i32 : BitVec 32 := 0#32
  ![v1.toNat, arg0.toNat]

def cc0_transform_14 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S136) ![v0.toNat] S1.size (k0_off1_inb i)) numel1_S1
  let c0_i32 : BitVec 32 := 0#32
  let c0_i32_0 : BitVec 32 := 0#32
  ![arg0.toNat, v1.toNat, c0_i32.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x2 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x16x128x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x2 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x16x2x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]
-- ==== ReferenceIdeal.lean ====
abbrev S8192x512 : Shape := ⟨2, ![8192, 512]⟩
abbrev S8x8192 : Shape := ⟨2, ![8, 8192]⟩
abbrev S8192x8x64 : Shape := ⟨3, ![8192, 8, 64]⟩
abbrev S8x8192x64 : Shape := ⟨3, ![8, 8192, 64]⟩
abbrev S8x8192x8192 : Shape := ⟨3, ![8, 8192, 8192]⟩
abbrev S8x8192x1 : Shape := ⟨3, ![8, 8192, 1]⟩
abbrev S8x1x8192 : Shape := ⟨3, ![8, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S_ : Shape := ⟨0, ![]⟩
abbrev S8x64x8192 : Shape := ⟨3, ![8, 64, 8192]⟩
abbrev S16x512x4x128 : Shape := ⟨4, ![16, 512, 4, 128]⟩
abbrev S4x16x128x512 : Shape := ⟨4, ![4, 16, 128, 512]⟩
abbrev S4x2x8192 : Shape := ⟨3, ![4, 2, 8192]⟩
abbrev S4x8192x2 : Shape := ⟨3, ![4, 8192, 2]⟩
abbrev S4x2x16x512 : Shape := ⟨4, ![4, 2, 16, 512]⟩
abbrev S4x16x2x512 : Shape := ⟨4, ![4, 16, 2, 512]⟩

abbrev nBuf : Space → Nat
  | .hbm => 122
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S8x8192, .f32⟩
  | .hbm, ⟨5, _⟩ => ⟨S8192x512, .f32⟩
  | .hbm, ⟨6, _⟩ => ⟨S8192x8x64, .f32⟩
  | .hbm, ⟨7, _⟩ => ⟨S8x8192x64, .f32⟩
  | .hbm, ⟨8, _⟩ => ⟨S8192x512, .f32⟩
  | .hbm, ⟨9, _⟩ => ⟨S8192x8x64, .f32⟩
  | .hbm, ⟨10, _⟩ => ⟨S8x8192x64, .f32⟩
  | .hbm, ⟨11, _⟩ => ⟨S8192x512, .f32⟩
  | .hbm, ⟨12, _⟩ => ⟨S8192x8x64, .f32⟩
  | .hbm, ⟨13, _⟩ => ⟨S8x8192x64, .f32⟩
  | .hbm, ⟨14, _⟩ => ⟨S8x8192x8192, .f32⟩
  | .hbm, ⟨15, _⟩ => ⟨S8x8192x1, .f32⟩
  | .hbm, ⟨16, _⟩ => ⟨S8x8192x8192, .f32⟩
  | .hbm, ⟨17, _⟩ => ⟨S8x8192x8192, .f32⟩
  | .hbm, ⟨18, _⟩ => ⟨S8x1x8192, .f32⟩
  | .hbm, ⟨19, _⟩ => ⟨S8x8192x8192, .f32⟩
  | .hbm, ⟨20, _⟩ => ⟨S8x8192x8192, .f32⟩
  | .hbm, ⟨21, _⟩ => ⟨S8192, .i32⟩
  | .hbm, ⟨22, _⟩ => ⟨S1x8192, .i32⟩
  | .hbm, ⟨23, _⟩ => ⟨S8192x1, .i32⟩
  | .hbm, ⟨24, _⟩ => ⟨S8192x8192, .i32⟩
  | .hbm, ⟨25, _⟩ => ⟨S8192x8192, .i32⟩
  | .hbm, ⟨26, _⟩ => ⟨S8192x8192, .i1⟩
  | .hbm, ⟨27, _⟩ => ⟨S_, .f32⟩
  | .hbm, ⟨28, _⟩ => ⟨S_, .f32⟩
  | .hbm, ⟨29, _⟩ => ⟨S8x8192x8192, .i1⟩
  | .hbm, ⟨30, _⟩ => ⟨S8x8192x8192, .f32⟩
  | .hbm, ⟨31, _⟩ => ⟨S8x8192x8192, .f32⟩
  | .hbm, ⟨32, _⟩ => ⟨S_, .f32⟩
  | .hbm, ⟨33, _⟩ => ⟨S8x8192x8192, .f32⟩
  | .hbm, ⟨34, _⟩ => ⟨S_, .f32⟩
  | .hbm, ⟨35, _⟩ => ⟨S8x8192, .f32⟩
  | .hbm, ⟨36, _⟩ => ⟨S8x8192x1, .f32⟩
  | .hbm, ⟨37, _⟩ => ⟨S8x8192x8192, .f32⟩
  | .hbm, ⟨38, _⟩ => ⟨S8x8192x8192, .i1⟩
  | .hbm, ⟨39, _⟩ => ⟨S8x8192x8192, .f32⟩
  | .hbm, ⟨40, _⟩ => ⟨S_, .f32⟩
  | .hbm, ⟨41, _⟩ => ⟨S8x8192, .f32⟩
  | .hbm, ⟨42, _⟩ => ⟨S_, .f32⟩
  | .hbm, ⟨43, _⟩ => ⟨S8x8192, .f32⟩
  | .hbm, ⟨44, _⟩ => ⟨S8x8192, .f32⟩
  | .hbm, ⟨45, _⟩ => ⟨S_, .f32⟩
  | .hbm, ⟨46, _⟩ => ⟨S8x8192, .f32⟩
  | .hbm, ⟨47, _⟩ => ⟨S8x8192, .i1⟩
  | .hbm, ⟨48, _⟩ => ⟨S_, .f32⟩
  | .hbm, ⟨49, _⟩ => ⟨S8x8192, .f32⟩
  | .hbm, ⟨50, _⟩ => ⟨S8x8192, .i1⟩
  | .hbm, ⟨51, _⟩ => ⟨S_, .f32⟩
  | .hbm, ⟨52, _⟩ => ⟨S8x8192, .f32⟩
  | .hbm, ⟨53, _⟩ => ⟨S_, .f32⟩
  | .hbm, ⟨54, _⟩ => ⟨S8x8192, .f32⟩
  | .hbm, ⟨55, _⟩ => ⟨S_, .f32⟩
  | .hbm, ⟨56, _⟩ => ⟨S8x8192, .f32⟩
  | .hbm, ⟨57, _⟩ => ⟨S8x8192, .f32⟩
  | .hbm, ⟨58, _⟩ => ⟨S8x8192, .f32⟩
  | .hbm, ⟨59, _⟩ => ⟨S8x8192x1, .f32⟩
  | .hbm, ⟨60, _⟩ => ⟨S8x8192x8192, .f32⟩
  | .hbm, ⟨61, _⟩ => ⟨S8x8192x8192, .f32⟩
  | .hbm, ⟨62, _⟩ => ⟨S8x8192x8192, .f32⟩
  | .hbm, ⟨63, _⟩ => ⟨S_, .f32⟩
  | .hbm, ⟨64, _⟩ => ⟨S8x8192, .f32⟩
  | .hbm, ⟨65, _⟩ => ⟨S8x8192x1, .f32⟩
  | .hbm, ⟨66, _⟩ => ⟨S8x8192x8192, .f32⟩
  | .hbm, ⟨67, _⟩ => ⟨S8x8192x8192, .f32⟩
  | .hbm, ⟨68, _⟩ => ⟨S8x8192x1, .f32⟩
  | .hbm, ⟨69, _⟩ => ⟨S_, .f32⟩
  | .hbm, ⟨70, _⟩ => ⟨S8x8192x1, .f32⟩
  | .hbm, ⟨71, _⟩ => ⟨S8x8192x1, .f32⟩
  | .hbm, ⟨72, _⟩ => ⟨S8x8192x64, .f32⟩
  | .hbm, ⟨73, _⟩ => ⟨S8192x512, .f32⟩
  | .hbm, ⟨74, _⟩ => ⟨S8192x8x64, .f32⟩
  | .hbm, ⟨75, _⟩ => ⟨S8x8192x64, .f32⟩
  | .hbm, ⟨76, _⟩ => ⟨S8x64x8192, .f32⟩
  | .hbm, ⟨77, _⟩ => ⟨S8x8192x64, .f32⟩
  | .hbm, ⟨78, _⟩ => ⟨S8x8192x8192, .f32⟩
  | .hbm, ⟨79, _⟩ => ⟨S8x8192x8192, .f32⟩
  | .hbm, ⟨80, _⟩ => ⟨S8x8192x8192, .f32⟩
  | .hbm, ⟨81, _⟩ => ⟨S8x8192x8192, .f32⟩
  | .hbm, ⟨82, _⟩ => ⟨S_, .f32⟩
  | .hbm, ⟨83, _⟩ => ⟨S8x8192, .f32⟩
  | .hbm, ⟨84, _⟩ => ⟨S8x8192x1, .f32⟩
  | .hbm, ⟨85, _⟩ => ⟨S8x8192x1, .f32⟩
  | .hbm, ⟨86, _⟩ => ⟨S8x8192x8192, .f32⟩
  | .hbm, ⟨87, _⟩ => ⟨S8x8192x8192, .f32⟩
  | .hbm, ⟨88, _⟩ => ⟨S_, .f32⟩
  | .hbm, ⟨89, _⟩ => ⟨S8x8192, .f32⟩
  | .hbm, ⟨90, _⟩ => ⟨S8x8192x8192, .f32⟩
  | .hbm, ⟨91, _⟩ => ⟨S8x8192x8192, .f32⟩
  | .hbm, ⟨92, _⟩ => ⟨S8x8192x8192, .f32⟩
  | .hbm, ⟨93, _⟩ => ⟨S_, .f32⟩
  | .hbm, ⟨94, _⟩ => ⟨S8x8192x8192, .f32⟩
  | .hbm, ⟨95, _⟩ => ⟨S8x8192x8192, .f32⟩
  | .hbm, ⟨96, _⟩ => ⟨S8x8192x8192, .f32⟩
  | .hbm, ⟨97, _⟩ => ⟨S_, .f32⟩
  | .hbm, ⟨98, _⟩ => ⟨S8x8192, .f32⟩
  | .hbm, ⟨99, _⟩ => ⟨S8x1x8192, .f32⟩
  | .hbm, ⟨100, _⟩ => ⟨S_, .f32⟩
  | .hbm, ⟨101, _⟩ => ⟨S8x8192, .f32⟩
  | .hbm, ⟨102, _⟩ => ⟨S_, .f32⟩
  | .hbm, ⟨103, _⟩ => ⟨S8x8192, .f32⟩
  | .hbm, ⟨104, _⟩ => ⟨S8x8192x1, .f32⟩
  | .hbm, ⟨105, _⟩ => ⟨S_, .f32⟩
  | .hbm, ⟨106, _⟩ => ⟨S8x8192, .f32⟩
  | .hbm, ⟨107, _⟩ => ⟨S8x8192x64, .f32⟩
  | .hbm, ⟨108, _⟩ => ⟨S8x8192x64, .f32⟩
  | .hbm, ⟨109, _⟩ => ⟨S8192x8x64, .f32⟩
  | .hbm, ⟨110, _⟩ => ⟨S8192x512, .f32⟩
  | .hbm, ⟨111, _⟩ => ⟨S16x512x4x128, .f32⟩
  | .hbm, ⟨112, _⟩ => ⟨S4x16x128x512, .f32⟩
  | .hbm, ⟨113, _⟩ => ⟨S8192x8x64, .f32⟩
  | .hbm, ⟨114, _⟩ => ⟨S8192x512, .f32⟩
  | .hbm, ⟨115, _⟩ => ⟨S8192x8x64, .f32⟩
  | .hbm, ⟨116, _⟩ => ⟨S8192x512, .f32⟩
  | .hbm, ⟨117, _⟩ => ⟨S8192x512, .bf16⟩
  | .hbm, ⟨118, _⟩ => ⟨S4x2x8192, .f32⟩
  | .hbm, ⟨119, _⟩ => ⟨S4x8192x2, .f32⟩
  | .hbm, ⟨120, _⟩ => ⟨S4x2x16x512, .f32⟩
  | .hbm, ⟨121, _⟩ => ⟨S4x16x2x512, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst : Ref sig .tc := ⟨.hbm, 27, rfl⟩
abbrev main_call0_v0 : Ref sig .tc := ⟨.hbm, 28, rfl⟩
abbrev main_v22_1 : Ref sig .tc := ⟨.hbm, 29, rfl⟩
abbrev main_call0_v2 : Ref sig .tc := ⟨.hbm, 30, rfl⟩
abbrev main_v22_0 : Ref sig .tc := ⟨.hbm, 31, rfl⟩
abbrev main_call0_cst : Ref sig .tc := ⟨.hbm, 32, rfl⟩
abbrev main_v22_2 : Ref sig .tc := ⟨.hbm, 33, rfl⟩
abbrev main_cst_0 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_1 : Ref sig .tc := ⟨.hbm, 40, rfl⟩
abbrev main_v28 : Ref sig .tc := ⟨.hbm, 41, rfl⟩
abbrev main_cst_2 : Ref sig .tc := ⟨.hbm, 42, rfl⟩
abbrev main_v29 : Ref sig .tc := ⟨.hbm, 43, rfl⟩
abbrev main_v30 : Ref sig .tc := ⟨.hbm, 44, rfl⟩
abbrev main_cst_3 : Ref sig .tc := ⟨.hbm, 45, rfl⟩
abbrev main_v31 : Ref sig .tc := ⟨.hbm, 46, rfl⟩
abbrev main_v32 : Ref sig .tc := ⟨.hbm, 47, rfl⟩
abbrev main_cst_4 : Ref sig .tc := ⟨.hbm, 48, rfl⟩
abbrev main_v33 : Ref sig .tc := ⟨.hbm, 49, rfl⟩
abbrev main_v34 : Ref sig .tc := ⟨.hbm, 50, rfl⟩
abbrev main_cst_5 : Ref sig .tc := ⟨.hbm, 51, rfl⟩
abbrev main_v35 : Ref sig .tc := ⟨.hbm, 52, rfl⟩
abbrev main_cst_6 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_8 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_9 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_10 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_11 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_call1_cst : Ref sig .tc := ⟨.hbm, 93, rfl⟩
abbrev main_call1_v0 : Ref sig .tc := ⟨.hbm, 94, rfl⟩
abbrev main_v70 : Ref sig .tc := ⟨.hbm, 95, rfl⟩
abbrev main_v71 : Ref sig .tc := ⟨.hbm, 96, rfl⟩
abbrev main_cst_12 : Ref sig .tc := ⟨.hbm, 97, rfl⟩
abbrev main_v72 : Ref sig .tc := ⟨.hbm, 98, rfl⟩
abbrev main_v73 : Ref sig .tc := ⟨.hbm, 99, rfl⟩
abbrev main_cst_13 : Ref sig .tc := ⟨.hbm, 100, rfl⟩
abbrev main_v74 : Ref sig .tc := ⟨.hbm, 101, rfl⟩
abbrev main_cst_14 : Ref sig .tc := ⟨.hbm, 102, rfl⟩
abbrev main_v75 : Ref sig .tc := ⟨.hbm, 103, rfl⟩
abbrev main_v76 : Ref sig .tc := ⟨.hbm, 104, rfl⟩
abbrev main_cst_15 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩

abbrev nD : Nat := 1
abbrev τ : Topo := Topo.v7x

variable {F : FTy → Type} [FloatOps F]
-- ==== Kernel2.lean ====
abbrev S2x8192x2816 : Shape := ⟨3, ![2, 8192, 2816]⟩
abbrev S1024x5632 : Shape := ⟨2, ![1024, 5632]⟩
abbrev S8192x1024 : Shape := ⟨2, ![8192, 1024]⟩
abbrev S1024 : Shape := ⟨1, ![1024]⟩
abbrev S1x1024 : Shape := ⟨2, ![1, 1024]⟩
abbrev S1x512x2816 : Shape := ⟨3, ![1, 512, 2816]⟩
abbrev S1024x2816 : Shape := ⟨2, ![1024, 2816]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩

abbrev nBuf : Space → Nat
  | .hbm => 8
  | .vmem => 13
  | .smem => 0
  | _ => 0

abbrev bufTy : (tb : Table) → Fin (tcTables nBuf tb) → BufTy
  | .hbm, ⟨0, _⟩ => ⟨S2x8192x2816, .bf16⟩
  | .hbm, ⟨1, _⟩ => ⟨S1024x5632, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S1x1024, .f32⟩
  | .local _ .vmem, ⟨0, _⟩ => ⟨S1x512x2816, .bf16⟩
  | .local _ .vmem, ⟨1, _⟩ => ⟨S1x512x2816, .bf16⟩
  | .local _ .vmem, ⟨2, _⟩ => ⟨S1024x2816, .bf16⟩
  | .local _ .vmem, ⟨3, _⟩ => ⟨S1024x2816, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | _, _ => ⟨S2x8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![16, 2], ![false, false]⟩

def k0_cond3 (i : grid0.Coords) : BitVec 1 :=
  let arg1 : BitVec 32 := BitVec.ofNat 32 (i 1).val
  let c1_i32 : BitVec 32 := 1#32
  let v10 : BitVec 1 := Scalar.cmpi .eq arg1 c1_i32
  let v11 : BitVec 32 := Scalar.extui v10
  let c0_i32_7 : BitVec 32 := 0#32
  let v12 : BitVec 1 := Scalar.cmpi .ne v11 c0_i32_7
  v12

def k0_cond4 (i : grid0.Coords) : BitVec 1 :=
  let arg0 : BitVec 32 := BitVec.ofNat 32 (i 0).val
  let c0_i32_24 : BitVec 32 := 0#32
  let v45 : BitVec 1 := Scalar.cmpi .eq arg0 c0_i32_24
  let v46 : BitVec 32 := Scalar.extui v45
  let c0_i32_25 : BitVec 32 := 0#32
  let v47 : BitVec 1 := Scalar.cmpi .ne v46 c0_i32_25
  v47

def k0_cond5 (i : grid0.Coords) : BitVec 1 :=
  let arg0 : BitVec 32 := BitVec.ofNat 32 (i 0).val
  let c0_i32_26 : BitVec 32 := 0#32
  let v48 : BitVec 1 := Scalar.cmpi .sgt arg0 c0_i32_26
  let v49 : BitVec 32 := Scalar.extui v48
  let c0_i32_27 : BitVec 32 := 0#32
  let v50 : BitVec 1 := Scalar.cmpi .ne v49 c0_i32_27
  v50

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference2Ideal.lean ====
abbrev S2x8192x2816 : Shape := ⟨3, ![2, 8192, 2816]⟩
abbrev S1024x5632 : Shape := ⟨2, ![1024, 5632]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x2816 : Shape := ⟨2, ![1024, 2816]⟩
abbrev S8192x2816 : Shape := ⟨2, ![8192, 2816]⟩
abbrev S1x8192x2816 : Shape := ⟨3, ![1, 8192, 2816]⟩

abbrev nBuf : Space → Nat
  | .hbm => 65
  | .vmem => 0
  | .smem => 0
  | _ => 0

abbrev bufTy : (tb : Table) → Fin (tcTables nBuf tb) → BufTy
  | .hbm, ⟨0, _⟩ => ⟨S2x8192x2816, .bf16⟩
  | .hbm, ⟨1, _⟩ => ⟨S1024x5632, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1024x5632, .f32⟩
  | .hbm, ⟨6, _⟩ => ⟨S2x8192x2816, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S1024x2816, .f32⟩
  | .hbm, ⟨28, _⟩ => ⟨S8192x2816, .f32⟩
  | .hbm, ⟨29, _⟩ => ⟨S1024x2816, .f32⟩
  | .hbm, ⟨30, _⟩ => ⟨S8192x2816, .f32⟩
  | .hbm, ⟨31, _⟩ => ⟨S1x8192x2816, .f32⟩
  | .hbm, ⟨32, _⟩ => ⟨S8192x2816, .f32⟩
  | .hbm, ⟨33, _⟩ => ⟨S1x8192x2816, .f32⟩
  | .hbm, ⟨34, _⟩ => ⟨S8192x2816, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S1024, .f32⟩
  | .hbm, ⟨46, _⟩ => ⟨S8192x1024, .f32⟩
  | .hbm, ⟨47, _⟩ => ⟨S_, .f32⟩
  | .hbm, ⟨48, _⟩ => ⟨S8192, .f32⟩
  | .hbm, ⟨49, _⟩ => ⟨S8192x1, .f32⟩
  | .hbm, ⟨50, _⟩ => ⟨S8192x1024, .f32⟩
  | .hbm, ⟨51, _⟩ => ⟨S8192x1024, .f32⟩
  | .hbm, ⟨52, _⟩ => ⟨S8192x1, .f32⟩
  | .hbm, ⟨53, _⟩ => ⟨S_, .f32⟩
  | .hbm, ⟨54, _⟩ => ⟨S8192x1, .f32⟩
  | .hbm, ⟨55, _⟩ => ⟨S8192x1, .f32⟩
  | .hbm, ⟨56, _⟩ => ⟨S_, .f32⟩
  | .hbm, ⟨57, _⟩ => ⟨S8192, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S1x1024, .f32⟩
  | _, _ => ⟨S2x8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_4 : Ref sig .tc := ⟨.hbm, 44, rfl⟩
abbrev main_v34 : Ref sig .tc := ⟨.hbm, 45, rfl⟩
abbrev main_v35 : Ref sig .tc := ⟨.hbm, 46, rfl⟩
abbrev main_cst_5 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_6 : Ref sig .tc := ⟨.hbm, 53, rfl⟩
abbrev main_v41 : Ref sig .tc := ⟨.hbm, 54, rfl⟩
abbrev main_v42 : Ref sig .tc := ⟨.hbm, 55, rfl⟩
abbrev main_cst_7 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩

abbrev nD : Nat := 1
abbrev τ : Topo := Topo.v7x

variable {F : FTy → Type} [FloatOps F]
-- ==== Kernel3.lean ====
abbrev S8192x1024 : Shape := ⟨2, ![8192, 1024]⟩
abbrev S2x8192x2816 : Shape := ⟨3, ![2, 8192, 2816]⟩
abbrev S2x1024x2816 : Shape := ⟨3, ![2, 1024, 2816]⟩
abbrev S1024x1024 : Shape := ⟨2, ![1024, 1024]⟩
abbrev S1x1024x1408 : Shape := ⟨3, ![1, 1024, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S2x8192x2816, .bf16⟩
  | .hbm, ⟨2, _⟩ => ⟨S2x1024x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![2, 1, 2, 8], ![false, false, false, false]⟩

def k0_cond3 (i : grid0.Coords) : BitVec 1 :=
  let arg3 : BitVec 32 := BitVec.ofNat 32 (i 3).val
  let c7_i32 : BitVec 32 := 7#32
  let v10 : BitVec 1 := Scalar.cmpi .eq arg3 c7_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== Reference3Ideal.lean ====
abbrev S8192x1024 : Shape := ⟨2, ![8192, 1024]⟩
abbrev S2x8192x2816 : Shape := ⟨3, ![2, 8192, 2816]⟩
abbrev S_ : Shape := ⟨0, ![]⟩
abbrev S1024x2816 : Shape := ⟨2, ![1024, 2816]⟩
abbrev S8192x2816 : Shape := ⟨2, ![8192, 2816]⟩
abbrev S1x8192x2816 : Shape := ⟨3, ![1, 8192, 2816]⟩
abbrev S2816x1024 : Shape := ⟨2, ![2816, 1024]⟩
abbrev S1x1024x2816 : Shape := ⟨3, ![1, 1024, 2816]⟩
abbrev S2x1024x2816 : Shape := ⟨3, ![2, 1024, 2816]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2x8192x2816, .bf16⟩
  | .hbm, ⟨2, _⟩ => ⟨S8192x1024, .f32⟩
  | .hbm, ⟨3, _⟩ => ⟨S2x8192x2816, .f32⟩
  | .hbm, ⟨4, _⟩ => ⟨S_, .f32⟩
  | .hbm, ⟨5, _⟩ => ⟨S1024x2816, .f32⟩
  | .hbm, ⟨6, _⟩ => ⟨S8192x2816, .f32⟩
  | .hbm, ⟨7, _⟩ => ⟨S8192x2816, .f32⟩
  | .hbm, ⟨8, _⟩ => ⟨S1x8192x2816, .f32⟩
  | .hbm, ⟨9, _⟩ => ⟨S8192x2816, .f32⟩
  | .hbm, ⟨10, _⟩ => ⟨S1x8192x2816, .f32⟩
  | .hbm, ⟨11, _⟩ => ⟨S8192x2816, .f32⟩
  | .hbm, ⟨12, _⟩ => ⟨S2816x1024, .f32⟩
  | .hbm, ⟨13, _⟩ => ⟨S1024x2816, .f32⟩
  | .hbm, ⟨14, _⟩ => ⟨S2816x1024, .f32⟩
  | .hbm, ⟨15, _⟩ => ⟨S1024x2816, .f32⟩
  | .hbm, ⟨16, _⟩ => ⟨S1x1024x2816, .f32⟩
  | .hbm, ⟨17, _⟩ => ⟨S1x1024x2816, .f32⟩
  | .hbm, ⟨18, _⟩ => ⟨S2x1024x2816, .f32⟩
  | .hbm, ⟨19, _⟩ => ⟨S2x1024x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩

abbrev nD : Nat := 1
abbrev τ : Topo := Topo.v7x

variable {F : FTy → Type} [FloatOps F]
-- ==== Kernel4.lean ====
abbrev S8192x1024 : Shape := ⟨2, ![8192, 1024]⟩
abbrev S2816x1024 : Shape := ⟨2, ![2816, 1024]⟩
abbrev S2x8192x2816 : Shape := ⟨3, ![2, 8192, 2816]⟩
abbrev S1024x1024 : Shape := ⟨2, ![1024, 1024]⟩
abbrev S1408x1024 : Shape := ⟨2, ![1408, 1024]⟩
abbrev S2x1024x1408 : Shape := ⟨3, ![2, 1024, 1408]⟩
abbrev S1024x1408 : Shape := ⟨2, ![1024, 1408]⟩
abbrev S1x1024x1408 : Shape := ⟨3, ![1, 1024, 1408]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S2816x1024, .bf16⟩
  | .hbm, ⟨2, _⟩ => ⟨S2x8192x2816, .bf16⟩
  | .hbm, ⟨3, _⟩ => ⟨S2x8192x2816, .bf16⟩
  | .local _ .vmem, ⟨0, _⟩ => ⟨S1024x1024, .f32⟩
  | .local _ .vmem, ⟨1, _⟩ => ⟨S1024x1024, .f32⟩
  | .local _ .vmem, ⟨2, _⟩ => ⟨S1408x1024, .bf16⟩
  | .local _ .vmem, ⟨3, _⟩ => ⟨S1408x1024, .bf16⟩
  | .local _ .vmem, ⟨4, _⟩ => ⟨S2x1024x1408, .bf16⟩
  | .local _ .vmem, ⟨5, _⟩ => ⟨S2x1024x1408, .bf16⟩
  | .local _ .vmem, ⟨6, _⟩ => ⟨S2x1024x1408, .bf16⟩
  | .local _ .vmem, ⟨7, _⟩ => ⟨S2x1024x1408, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S8192x1024 : Shape := ⟨2, ![8192, 1024]⟩
abbrev S2816x1024 : Shape := ⟨2, ![2816, 1024]⟩
abbrev S2x8192x2816 : Shape := ⟨3, ![2, 8192, 2816]⟩
abbrev S1x8192x2816 : Shape := ⟨3, ![1, 8192, 2816]⟩
abbrev S8192x2816 : Shape := ⟨2, ![8192, 2816]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2816x1024, .bf16⟩
  | .hbm, ⟨2, _⟩ => ⟨S2x8192x2816, .bf16⟩
  | .hbm, ⟨3, _⟩ => ⟨S2816x1024, .f32⟩
  | .hbm, ⟨4, _⟩ => ⟨S2x8192x2816, .f32⟩
  | .hbm, ⟨5, _⟩ => ⟨S1x8192x2816, .f32⟩
  | .hbm, ⟨6, _⟩ => ⟨S8192x2816, .f32⟩
  | .hbm, ⟨7, _⟩ => ⟨S1x8192x2816, .f32⟩
  | .hbm, ⟨8, _⟩ => ⟨S8192x2816, .f32⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S_, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S8192x1024, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S1x8192x2816, .f32⟩
  | .hbm, ⟨32, _⟩ => ⟨S1x8192x2816, .f32⟩
  | .hbm, ⟨33, _⟩ => ⟨S2x8192x2816, .f32⟩
  | .hbm, ⟨34, _⟩ => ⟨S2x8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_v6_2 : Ref sig .tc := ⟨.hbm, 16, rfl⟩
abbrev main_call0_cst_1 : Ref sig .tc := ⟨.hbm, 17, rfl⟩
abbrev main_call0_v6 : Ref sig .tc := ⟨.hbm, 18, rfl⟩
abbrev main_call0_v7 : Ref sig .tc := ⟨.hbm, 19, rfl⟩
abbrev main_v6_1 : Ref sig .tc := ⟨.hbm, 20, rfl⟩
abbrev main_v6_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩

abbrev nD : Nat := 1
abbrev τ : Topo := Topo.v7x

variable {F : FTy → Type} [FloatOps F]
-- ==== Kernel5.lean ====
abbrev S8192x2816 : Shape := ⟨2, ![8192, 2816]⟩
abbrev S8192x1024 : Shape := ⟨2, ![8192, 1024]⟩
abbrev S2816x1024 : Shape := ⟨2, ![2816, 1024]⟩
abbrev S1024x1408 : Shape := ⟨2, ![1024, 1408]⟩
abbrev S1024x512 : Shape := ⟨2, ![1024, 512]⟩
abbrev S1408x512 : Shape := ⟨2, ![1408, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x512, .f32⟩
  | .local _ .vmem, ⟨3, _⟩ => ⟨S1024x512, .f32⟩
  | .local _ .vmem, ⟨4, _⟩ => ⟨S1408x512, .bf16⟩
  | .local _ .vmem, ⟨5, _⟩ => ⟨S1408x512, .bf16⟩
  | .local _ .vmem, ⟨6, _⟩ => ⟨S1408x512, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 2, 2, 8], ![false, false, false, false]⟩

def k0_cond3 (i : grid0.Coords) : BitVec 1 :=
  let arg3 : BitVec 32 := BitVec.ofNat 32 (i 3).val
  let c7_i32 : BitVec 32 := 7#32
  let v10 : BitVec 1 := Scalar.cmpi .eq arg3 c7_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== Reference5Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S8192x1024 : Shape := ⟨2, ![8192, 1024]⟩
abbrev S1024 : Shape := ⟨1, ![1024]⟩
abbrev S1024x5632 : Shape := ⟨2, ![1024, 5632]⟩
abbrev S1x1024 : Shape := ⟨2, ![1, 1024]⟩
abbrev S2x8192x2816 : Shape := ⟨3, ![2, 8192, 2816]⟩
abbrev S8192x2816 : Shape := ⟨2, ![8192, 2816]⟩
abbrev S512x1024 : Shape := ⟨2, ![512, 1024]⟩
abbrev S1024x1408 : Shape := ⟨2, ![1024, 1408]⟩
abbrev S2x512x1408 : Shape := ⟨3, ![2, 512, 1408]⟩
abbrev S512x1408 : Shape := ⟨2, ![512, 1408]⟩
abbrev S512 : Shape := ⟨1, ![512]⟩
abbrev S512x1 : Shape := ⟨2, ![512, 1]⟩
abbrev S1x512x1408 : Shape := ⟨3, ![1, 512, 1408]⟩

abbrev nBuf : Space → Nat
  | .hbm => 7
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .bf16⟩
  | .hbm, ⟨3, _⟩ => ⟨S1x1024, .f32⟩
  | .hbm, ⟨4, _⟩ => ⟨S8192x1024, .bf16⟩
  | .hbm, ⟨5, _⟩ => ⟨S2x8192x2816, .bf16⟩
  | .hbm, ⟨6, _⟩ => ⟨S8192x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S512x1024, .bf16⟩
  | .local _ .vmem, ⟨8, _⟩ => ⟨S512x1024, .bf16⟩
  | .local _ .vmem, ⟨9, _⟩ => ⟨S2x512x1408, .bf16⟩
  | .local _ .vmem, ⟨10, _⟩ => ⟨S2x512x1408, .bf16⟩
  | .local _ .vmem, ⟨11, _⟩ => ⟨S512x1408, .bf16⟩
  | .local _ .vmem, ⟨12, _⟩ => ⟨S512x1408, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2x512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference6Ideal.lean ====
abbrev S8192x1024 : Shape := ⟨2, ![8192, 1024]⟩
abbrev S1024 : Shape := ⟨1, ![1024]⟩
abbrev S1024x5632 : Shape := ⟨2, ![1024, 5632]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x2816 : Shape := ⟨2, ![1024, 2816]⟩
abbrev S8192x2816 : Shape := ⟨2, ![8192, 2816]⟩
abbrev S1x8192x2816 : Shape := ⟨3, ![1, 8192, 2816]⟩
abbrev S2x8192x2816 : Shape := ⟨3, ![2, 8192, 2816]⟩

abbrev nBuf : Space → Nat
  | .hbm => 40
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .bf16⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S1024x5632, .f32⟩
  | .hbm, ⟨20, _⟩ => ⟨S1024x2816, .f32⟩
  | .hbm, ⟨21, _⟩ => ⟨S8192x2816, .f32⟩
  | .hbm, ⟨22, _⟩ => ⟨S1024x2816, .f32⟩
  | .hbm, ⟨23, _⟩ => ⟨S8192x2816, .f32⟩
  | .hbm, ⟨24, _⟩ => ⟨S8192x1024, .bf16⟩
  | .hbm, ⟨25, _⟩ => ⟨S1x8192x2816, .f32⟩
  | .hbm, ⟨26, _⟩ => ⟨S1x8192x2816, .f32⟩
  | .hbm, ⟨27, _⟩ => ⟨S2x8192x2816, .f32⟩
  | .hbm, ⟨28, _⟩ => ⟨S2x8192x2816, .bf16⟩
  | .hbm, ⟨29, _⟩ => ⟨S8192x2816, .f32⟩
  | .hbm, ⟨30, _⟩ => ⟨S8192x2816, .f32⟩
  | .hbm, ⟨31, _⟩ => ⟨S_, .f32⟩
  | .hbm, ⟨32, _⟩ => ⟨S8192x2816, .f32⟩
  | .hbm, ⟨33, _⟩ => ⟨S8192x2816, .f32⟩
  | .hbm, ⟨34, _⟩ => ⟨S_, .f32⟩
  | .hbm, ⟨35, _⟩ => ⟨S8192x2816, .f32⟩
  | .hbm, ⟨36, _⟩ => ⟨S8192x2816, .f32⟩
  | .hbm, ⟨37, _⟩ => ⟨S8192x2816, .f32⟩
  | .hbm, ⟨38, _⟩ => ⟨S8192x2816, .f32⟩
  | .hbm, ⟨39, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel7.lean ====
abbrev S8192x2816 : Shape := ⟨2, ![8192, 2816]⟩
abbrev S2816x1024 : Shape := ⟨2, ![2816, 1024]⟩
abbrev S8192x1024 : Shape := ⟨2, ![8192, 1024]⟩
abbrev S1024x2816 : Shape := ⟨2, ![1024, 2816]⟩
abbrev S2816x512 : Shape := ⟨2, ![2816, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x512, .bf16⟩
  | .local _ .vmem, ⟨3, _⟩ => ⟨S2816x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![1, 8, 2, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S2816x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true, false]
-- ==== Reference7Ideal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x2816, .f32⟩
  | .hbm, ⟨4, _⟩ => ⟨S2816x1024, .f32⟩
  | .hbm, ⟨5, _⟩ => ⟨S8192x1024, .f32⟩
  | .hbm, ⟨6, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel8.lean ====
abbrev S8192x1024 : Shape := ⟨2, ![8192, 1024]⟩
abbrev S8192x2176 : Shape := ⟨2, ![8192, 2176]⟩
abbrev S1024x2176 : Shape := ⟨2, ![1024, 2176]⟩
abbrev S1024x512 : Shape := ⟨2, ![1024, 512]⟩
abbrev S512x2176 : Shape := ⟨2, ![512, 2176]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2176, .bf16⟩
  | .hbm, ⟨2, _⟩ => ⟨S1024x2176, .bf16⟩
  | .local _ .vmem, ⟨0, _⟩ => ⟨S1024x512, .bf16⟩
  | .local _ .vmem, ⟨1, _⟩ => ⟨S1024x512, .bf16⟩
  | .local _ .vmem, ⟨2, _⟩ => ⟨S1024x2176, .bf16⟩
  | .local _ .vmem, ⟨3, _⟩ => ⟨S1024x2176, .bf16⟩
  | .local _ .vmem, ⟨4, _⟩ => ⟨S512x2176, .bf16⟩
  | .local _ .vmem, ⟨5, _⟩ => ⟨S512x2176, .bf16⟩
  | .local _ .vmem, ⟨6, _⟩ => ⟨S512x2176, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 2, 1, 8], ![false, false, false, false]⟩

def k0_cond3 (i : grid0.Coords) : BitVec 1 :=
  let arg3 : BitVec 32 := BitVec.ofNat 32 (i 3).val
  let c7_i32 : BitVec 32 := 7#32
  let v9 : BitVec 1 := Scalar.cmpi .eq arg3 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1024x2176 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S512x2176 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== Reference8Ideal.lean ====
abbrev S8192x1024 : Shape := ⟨2, ![8192, 1024]⟩
abbrev S8192x2176 : Shape := ⟨2, ![8192, 2176]⟩
abbrev S_ : Shape := ⟨0, ![]⟩
abbrev S1024x2176 : Shape := ⟨2, ![1024, 2176]⟩
abbrev S2176x1024 : Shape := ⟨2, ![2176, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2176, .bf16⟩
  | .hbm, ⟨2, _⟩ => ⟨S_, .f32⟩
  | .hbm, ⟨3, _⟩ => ⟨S1024x2176, .f32⟩
  | .hbm, ⟨4, _⟩ => ⟨S8192x1024, .f32⟩
  | .hbm, ⟨5, _⟩ => ⟨S8192x2176, .f32⟩
  | .hbm, ⟨6, _⟩ => ⟨S8192x2176, .f32⟩
  | .hbm, ⟨7, _⟩ => ⟨S2176x1024, .f32⟩
  | .hbm, ⟨8, _⟩ => ⟨S1024x2176, .f32⟩
  | .hbm, ⟨9, _⟩ => ⟨S1024x2176, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel9.lean ====
abbrev S8192x2176 : Shape := ⟨2, ![8192, 2176]⟩
abbrev S1024x2176 : Shape := ⟨2, ![1024, 2176]⟩
abbrev S8192x1024 : Shape := ⟨2, ![8192, 1024]⟩
abbrev S1024 : Shape := ⟨1, ![1024]⟩
abbrev S1x1024 : Shape := ⟨2, ![1, 1024]⟩
abbrev S512x2176 : Shape := ⟨2, ![512, 2176]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 11
  | .smem => 0
  | _ => 0

abbrev bufTy : (tb : Table) → Fin (tcTables nBuf tb) → BufTy
  | .hbm, ⟨0, _⟩ => ⟨S8192x2176, .bf16⟩
  | .hbm, ⟨1, _⟩ => ⟨S1024x2176, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S1x1024, .f32⟩
  | .local _ .vmem, ⟨0, _⟩ => ⟨S512x2176, .bf16⟩
  | .local _ .vmem, ⟨1, _⟩ => ⟨S512x2176, .bf16⟩
  | .local _ .vmem, ⟨2, _⟩ => ⟨S1024x2176, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S8192x2176, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨2, ![16, 1], ![false, false]⟩

def k0_cond1 (i : grid0.Coords) : BitVec 1 :=
  let arg0 : BitVec 32 := BitVec.ofNat 32 (i 0).val
  let c0_i32 : BitVec 32 := 0#32
  let v34 : BitVec 1 := Scalar.cmpi .eq arg0 c0_i32
  let v35 : BitVec 32 := Scalar.extui v34
  let c0_i32_17 : BitVec 32 := 0#32
  let v36 : BitVec 1 := Scalar.cmpi .ne v35 c0_i32_17
  v36

def k0_cond2 (i : grid0.Coords) : BitVec 1 :=
  let arg0 : BitVec 32 := BitVec.ofNat 32 (i 0).val
  let c0_i32_18 : BitVec 32 := 0#32
  let v37 : BitVec 1 := Scalar.cmpi .sgt arg0 c0_i32_18
  let v38 : BitVec 32 := Scalar.extui v37
  let c0_i32_19 : BitVec 32 := 0#32
  let v39 : BitVec 1 := Scalar.cmpi .ne v38 c0_i32_19
  v39

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2176 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x2176 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference9Ideal.lean ====
abbrev S8192x2176 : Shape := ⟨2, ![8192, 2176]⟩
abbrev S1024x2176 : Shape := ⟨2, ![1024, 2176]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S8192x2176, .bf16⟩
  | .hbm, ⟨1, _⟩ => ⟨S1024x2176, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S1024x2176, .f32⟩
  | .hbm, ⟨26, _⟩ => ⟨S8192x2176, .f32⟩
  | .hbm, ⟨27, _⟩ => ⟨S8192x2176, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S8192x1024, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S_, .f32⟩
  | .hbm, ⟨48, _⟩ => ⟨S8192, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S1x1024, .f32⟩
  | _, _ => ⟨S8192x2176, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Kernel10.lean ====
abbrev S8192x1024 : Shape := ⟨2, ![8192, 1024]⟩
abbrev S1024 : Shape := ⟨1, ![1024]⟩
abbrev S1024x2176 : Shape := ⟨2, ![1024, 2176]⟩
abbrev S1x1024 : Shape := ⟨2, ![1, 1024]⟩
abbrev S8192x2048 : Shape := ⟨2, ![8192, 2048]⟩
abbrev S8192x128 : Shape := ⟨2, ![8192, 128]⟩
abbrev S1024x1024 : Shape := ⟨2, ![1024, 1024]⟩
abbrev S1024x2048 : Shape := ⟨2, ![1024, 2048]⟩
abbrev S1024x128 : Shape := ⟨2, ![1024, 128]⟩
abbrev S1024x1 : Shape := ⟨2, ![1024, 1]⟩

abbrev nBuf : Space → Nat
  | .hbm => 7
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2176, .bf16⟩
  | .hbm, ⟨3, _⟩ => ⟨S1x1024, .f32⟩
  | .hbm, ⟨4, _⟩ => ⟨S8192x1024, .bf16⟩
  | .hbm, ⟨5, _⟩ => ⟨S8192x2048, .f32⟩
  | .hbm, ⟨6, _⟩ => ⟨S8192x128, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2176, .bf16⟩
  | .local _ .vmem, ⟨4, _⟩ => ⟨S1024x1024, .bf16⟩
  | .local _ .vmem, ⟨5, _⟩ => ⟨S1024x1024, .bf16⟩
  | .local _ .vmem, ⟨6, _⟩ => ⟨S1024x2048, .f32⟩
  | .local _ .vmem, ⟨7, _⟩ => ⟨S1024x2048, .f32⟩
  | .local _ .vmem, ⟨8, _⟩ => ⟨S1024x128, .f32⟩
  | .local _ .vmem, ⟨9, _⟩ => ⟨S1024x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2176 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference10Ideal.lean ====
abbrev S8192x1024 : Shape := ⟨2, ![8192, 1024]⟩
abbrev S1024 : Shape := ⟨1, ![1024]⟩
abbrev S1024x2176 : Shape := ⟨2, ![1024, 2176]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2176 : Shape := ⟨2, ![8192, 2176]⟩
abbrev S8192x2048 : Shape := ⟨2, ![8192, 2048]⟩
abbrev S8192x128 : Shape := ⟨2, ![8192, 128]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2176, .bf16⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S1024x2176, .f32⟩
  | .hbm, ⟨20, _⟩ => ⟨S8192x2176, .f32⟩
  | .hbm, ⟨21, _⟩ => ⟨S8192x1024, .bf16⟩
  | .hbm, ⟨22, _⟩ => ⟨S8192x2048, .f32⟩
  | .hbm, ⟨23, _⟩ => ⟨S8192x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kernel11.lean ====
abbrev S8192x1024 : Shape := ⟨2, ![8192, 1024]⟩
abbrev S1024x1024 : Shape := ⟨2, ![1024, 1024]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![1, 8, 2, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true, false]
-- ==== Reference11Ideal.lean ====
abbrev S8192x1024 : Shape := ⟨2, ![8192, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel12.lean ====
abbrev S8192x1024 : Shape := ⟨2, ![8192, 1024]⟩
abbrev S1024x1024 : Shape := ⟨2, ![1024, 1024]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .f32⟩
  | .local _ .vmem, ⟨3, _⟩ => ⟨S1024x512, .f32⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 1, 2, 8], ![false, false, false, false]⟩

def k0_cond3 (i : grid0.Coords) : BitVec 1 :=
  let arg3 : BitVec 32 := BitVec.ofNat 32 (i 3).val
  let c7_i32 : BitVec 32 := 7#32
  let v10 : BitVec 1 := Scalar.cmpi .eq arg3 c7_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== Reference12Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel13.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 8, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== Reference13Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel14.lean ====
abbrev S8192x512 : Shape := ⟨2, ![8192, 512]⟩
abbrev S512x1024 : Shape := ⟨2, ![512, 1024]⟩
abbrev S8192x1024 : Shape := ⟨2, ![8192, 1024]⟩
abbrev S1024x512 : Shape := ⟨2, ![1024, 512]⟩
abbrev S512x512 : Shape := ⟨2, ![512, 512]⟩

abbrev nBuf : Space → Nat
  | .hbm => 4
  | .vmem => 8
  | .smem => 0
  | _ => 0

abbrev bufTy : (tb : Table) → Fin (tcTables nBuf tb) → BufTy
  | .hbm, ⟨0, _⟩ => ⟨S8192x512, .bf16⟩
  | .hbm, ⟨1, _⟩ => ⟨S512x1024, .bf16⟩
  | .hbm, ⟨2, _⟩ => ⟨S8192x1024, .f32⟩
  | .hbm, ⟨3, _⟩ => ⟨S8192x1024, .f32⟩
  | .local _ .vmem, ⟨0, _⟩ => ⟨S1024x512, .bf16⟩
  | .local _ .vmem, ⟨1, _⟩ => ⟨S1024x512, .bf16⟩
  | .local _ .vmem, ⟨2, _⟩ => ⟨S512x512, .bf16⟩
  | .local _ .vmem, ⟨3, _⟩ => ⟨S512x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![1, 8, 2, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true, false]
-- ==== Reference14Ideal.lean ====
abbrev S8192x512 : Shape := ⟨2, ![8192, 512]⟩
abbrev S512x1024 : Shape := ⟨2, ![512, 1024]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S512x1024, .bf16⟩
  | .hbm, ⟨2, _⟩ => ⟨S8192x1024, .f32⟩
  | .hbm, ⟨3, _⟩ => ⟨S8192x512, .f32⟩
  | .hbm, ⟨4, _⟩ => ⟨S512x1024, .f32⟩
  | .hbm, ⟨5, _⟩ => ⟨S8192x1024, .f32⟩
  | .hbm, ⟨6, _⟩ => ⟨S8192x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel15.lean ====
abbrev S8192x512 : Shape := ⟨2, ![8192, 512]⟩
abbrev S8192x1024 : Shape := ⟨2, ![8192, 1024]⟩
abbrev S512x1024 : Shape := ⟨2, ![512, 1024]⟩
abbrev S1024x512 : Shape := ⟨2, ![1024, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S8192x1024, .f32⟩
  | .hbm, ⟨2, _⟩ => ⟨S512x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x1024, .f32⟩
  | .local _ .vmem, ⟨3, _⟩ => ⟨S1024x1024, .f32⟩
  | .local _ .vmem, ⟨4, _⟩ => ⟨S512x1024, .bf16⟩
  | .local _ .vmem, ⟨5, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨4, ![1, 1, 1, 8], ![false, false, false, false]⟩

def k0_cond3 (i : grid0.Coords) : BitVec 1 :=
  let arg3 : BitVec 32 := BitVec.ofNat 32 (i 3).val
  let c7_i32 : BitVec 32 := 7#32
  let v10 : BitVec 1 := Scalar.cmpi .eq arg3 c7_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, true, false]
-- ==== Reference15Ideal.lean ====
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩

abbrev nBuf : Space → Nat
  | .hbm => 9
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1024, .f32⟩
  | .hbm, ⟨2, _⟩ => ⟨S_, .f32⟩
  | .hbm, ⟨3, _⟩ => ⟨S512x1024, .f32⟩
  | .hbm, ⟨4, _⟩ => ⟨S8192x512, .f32⟩
  | .hbm, ⟨5, _⟩ => ⟨S8192x1024, .f32⟩
  | .hbm, ⟨6, _⟩ => ⟨S1024x512, .f32⟩
  | .hbm, ⟨7, _⟩ => ⟨S512x1024, .f32⟩
  | .hbm, ⟨8, _⟩ => ⟨S512x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel16.lean ====
abbrev S8192x1024 : Shape := ⟨2, ![8192, 1024]⟩
abbrev S512x1024 : Shape := ⟨2, ![512, 1024]⟩
abbrev S8192x512 : Shape := ⟨2, ![8192, 512]⟩
abbrev S1024x1024 : Shape := ⟨2, ![1024, 1024]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S512x1024, .bf16⟩
  | .hbm, ⟨2, _⟩ => ⟨S8192x512, .bf16⟩
  | .local _ .vmem, ⟨0, _⟩ => ⟨S1024x1024, .f32⟩
  | .local _ .vmem, ⟨1, _⟩ => ⟨S1024x1024, .f32⟩
  | .local _ .vmem, ⟨2, _⟩ => ⟨S512x1024, .bf16⟩
  | .local _ .vmem, ⟨3, _⟩ => ⟨S1024x512, .bf16⟩
  | .local _ .vmem, ⟨4, _⟩ => ⟨S1024x512, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 8, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== Reference16Ideal.lean ====
abbrev S8192x1024 : Shape := ⟨2, ![8192, 1024]⟩
abbrev S512x1024 : Shape := ⟨2, ![512, 1024]⟩
abbrev S_ : Shape := ⟨0, ![]⟩
abbrev S8192x512 : Shape := ⟨2, ![8192, 512]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S512x1024, .bf16⟩
  | .hbm, ⟨2, _⟩ => ⟨S_, .f32⟩
  | .hbm, ⟨3, _⟩ => ⟨S8192x512, .f32⟩
  | .hbm, ⟨4, _⟩ => ⟨S512x1024, .f32⟩
  | .hbm, ⟨5, _⟩ => ⟨S8192x1024, .f32⟩
  | .hbm, ⟨6, _⟩ => ⟨S8192x512, .f32⟩
  | .hbm, ⟨7, _⟩ => ⟨S8192x512, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel17.lean ====
abbrev S8192x1024 : Shape := ⟨2, ![8192, 1024]⟩
abbrev S8192x512 : Shape := ⟨2, ![8192, 512]⟩
abbrev S1024x512 : Shape := ⟨2, ![1024, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S1024x512, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨4, ![1, 1, 1, 8], ![false, false, false, false]⟩

def k0_cond3 (i : grid0.Coords) : BitVec 1 :=
  let arg3 : BitVec 32 := BitVec.ofNat 32 (i 3).val
  let c7_i32 : BitVec 32 := 7#32
  let v9 : BitVec 1 := Scalar.cmpi .eq arg3 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, true, false]
-- ==== Reference17Ideal.lean ====
abbrev S8192x1024 : Shape := ⟨2, ![8192, 1024]⟩
abbrev S8192x512 : Shape := ⟨2, ![8192, 512]⟩
abbrev S_ : Shape := ⟨0, ![]⟩
abbrev S1024x512 : Shape := ⟨2, ![1024, 512]⟩
abbrev S512x1024 : Shape := ⟨2, ![512, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S_, .f32⟩
  | .hbm, ⟨3, _⟩ => ⟨S1024x512, .f32⟩
  | .hbm, ⟨4, _⟩ => ⟨S8192x1024, .f32⟩
  | .hbm, ⟨5, _⟩ => ⟨S8192x512, .f32⟩
  | .hbm, ⟨6, _⟩ => ⟨S8192x512, .f32⟩
  | .hbm, ⟨7, _⟩ => ⟨S512x1024, .f32⟩
  | .hbm, ⟨8, _⟩ => ⟨S1024x512, .f32⟩
  | .hbm, ⟨9, _⟩ => ⟨S1024x512, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel18.lean ====
abbrev S8192x512 : Shape := ⟨2, ![8192, 512]⟩
abbrev S1024x512 : Shape := ⟨2, ![1024, 512]⟩
abbrev S8192x1024 : Shape := ⟨2, ![8192, 1024]⟩
abbrev S1024 : Shape := ⟨1, ![1024]⟩
abbrev S1x1024 : Shape := ⟨2, ![1, 1024]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 11
  | .smem => 0
  | _ => 0

abbrev bufTy : (tb : Table) → Fin (tcTables nBuf tb) → BufTy
  | .hbm, ⟨0, _⟩ => ⟨S8192x512, .bf16⟩
  | .hbm, ⟨1, _⟩ => ⟨S1024x512, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S1x1024, .f32⟩
  | .local _ .vmem, ⟨0, _⟩ => ⟨S512x512, .bf16⟩
  | .local _ .vmem, ⟨1, _⟩ => ⟨S512x512, .bf16⟩
  | .local _ .vmem, ⟨2, _⟩ => ⟨S1024x512, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨2, ![16, 1], ![false, false]⟩

def k0_cond1 (i : grid0.Coords) : BitVec 1 :=
  let arg0 : BitVec 32 := BitVec.ofNat 32 (i 0).val
  let c0_i32 : BitVec 32 := 0#32
  let v34 : BitVec 1 := Scalar.cmpi .eq arg0 c0_i32
  let v35 : BitVec 32 := Scalar.extui v34
  let c0_i32_17 : BitVec 32 := 0#32
  let v36 : BitVec 1 := Scalar.cmpi .ne v35 c0_i32_17
  v36

def k0_cond2 (i : grid0.Coords) : BitVec 1 :=
  let arg0 : BitVec 32 := BitVec.ofNat 32 (i 0).val
  let c0_i32_18 : BitVec 32 := 0#32
  let v37 : BitVec 1 := Scalar.cmpi .sgt arg0 c0_i32_18
  let v38 : BitVec 32 := Scalar.extui v37
  let c0_i32_19 : BitVec 32 := 0#32
  let v39 : BitVec 1 := Scalar.cmpi .ne v38 c0_i32_19
  v39

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference18Ideal.lean ====
abbrev S8192x512 : Shape := ⟨2, ![8192, 512]⟩
abbrev S1024x512 : Shape := ⟨2, ![1024, 512]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S1024x512, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S1024x512, .f32⟩
  | .hbm, ⟨26, _⟩ => ⟨S8192x512, .f32⟩
  | .hbm, ⟨27, _⟩ => ⟨S8192x512, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S8192x1024, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S_, .f32⟩
  | .hbm, ⟨48, _⟩ => ⟨S8192, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S1x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Kernel19.lean ====
abbrev S8192x1024 : Shape := ⟨2, ![8192, 1024]⟩
abbrev S1024 : Shape := ⟨1, ![1024]⟩
abbrev S1024x512 : Shape := ⟨2, ![1024, 512]⟩
abbrev S1x1024 : Shape := ⟨2, ![1, 1024]⟩
abbrev S8192x512 : Shape := ⟨2, ![8192, 512]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x512, .bf16⟩
  | .hbm, ⟨3, _⟩ => ⟨S1x1024, .f32⟩
  | .hbm, ⟨4, _⟩ => ⟨S8192x1024, .bf16⟩
  | .hbm, ⟨5, _⟩ => ⟨S8192x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x512, .bf16⟩
  | .local _ .vmem, ⟨4, _⟩ => ⟨S512x1024, .bf16⟩
  | .local _ .vmem, ⟨5, _⟩ => ⟨S512x1024, .bf16⟩
  | .local _ .vmem, ⟨6, _⟩ => ⟨S512x512, .f32⟩
  | .local _ .vmem, ⟨7, _⟩ => ⟨S512x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![16, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference19Ideal.lean ====
abbrev S8192x1024 : Shape := ⟨2, ![8192, 1024]⟩
abbrev S1024 : Shape := ⟨1, ![1024]⟩
abbrev S1024x512 : Shape := ⟨2, ![1024, 512]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x512 : Shape := ⟨2, ![8192, 512]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x512, .bf16⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | .hbm, ⟨20, _⟩ => ⟨S1024x512, .f32⟩
  | .hbm, ⟨21, _⟩ => ⟨S8192x512, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Proof.Tile.lean ====
/-
  What one grid point does to the running sums, as pure functions of the blocks it reads: the two tiles of the body (one off
  the diagonal, one on it), written over the payloads of the body's skeleton, with no memory in them.
-/
module

public import proofs.«01_k».proof.Proof.Gen.KernelIdeal.Skeleton
public import proofs.«01_k».proof.Proof.Gen.KernelIdeal.Launch
public import Idealize.ShloMosaic.Lib.VecWindow

@[expose] public section

set_option maxRecDepth 16384

noncomputable section

namespace Cert.KernelIdeal.Fox

open Cert.KernelIdeal Cert.KernelIdeal.Gen
open Idealize.ShloMosaic Idealize.ShloMosaic.TcCoe

variable {F : FTy → Type} [FloatOps F]

/-- The blocks a grid point reads: query, transposed query, key, transposed key, value, the output's gradient and its
    transpose, then the rows of log-sums, of deltas and of query decays, and the columns of key decays. -/
structure Ins (F : FTy → Type) where
  q : Vec F S512x128 .bf16
  qt : Vec F S128x512 .bf16
  k : Vec F S512x128 .bf16
  kt : Vec F S128x512 .bf16
  v : Vec F S512x128 .bf16
  o : Vec F S512x128 .bf16
  ot : Vec F S128x512 .bf16
  ls : Vec F S1x2x512 .f32
  dl : Vec F S1x2x512 .f32
  cr : Vec F S1x2x512 .f32
  cc : Vec F S1x512x2 .f32

/-- The running sums: the transposed query gradients and the query decay gradients of one pair of heads, all rows of tiles,
    and the key, value and key decay gradients of one column of tiles. -/
structure St (F : FTy → Type) where
  dq : Vec F S1x16x128x512 .f32
  dr : Vec F S1x16x2x512 .f32
  dk : Vec F S512x128 .f32
  dv : Vec F S512x128 .f32
  dc : Vec F S2x512x1 .f32

/-- Row `h` of a block of two rows. -/
abbrev row0 (x : Vec F S1x2x512 .f32) : Vec F S1x1x512 .f32 := View.ld x (Rect.unit (s := S1x2x512) ![0, 0, 0] S1x1x512.size inb_S1x2x512_S1x1x512_0_0_0)
abbrev row1 (x : Vec F S1x2x512 .f32) : Vec F S1x1x512 .f32 := View.ld x (Rect.unit (s := S1x2x512) ![0, 1, 0] S1x1x512.size inb_S1x2x512_S1x1x512_0_1_0)
/-- A column of a block of two columns. -/
abbrev col0 (x : Vec F S1x512x2 .f32) : Vec F S1x512x1 .f32 := View.ld x (Rect.unit (s := S1x512x2) ![0, 0, 0] S1x512x1.size inb_S1x512x2_S1x512x1_0_0_0)
abbrev col1 (x : Vec F S1x512x2 .f32) : Vec F S1x512x1 .f32 := View.ld x (Rect.unit (s := S1x512x2) ![0, 0, 1] S1x512x1.size inb_S1x512x2_S1x512x1_0_0_1)

/-- A row of the query decay gradients lies inside their buffer. -/
theorem inb_dr (r : Fin 16) (h : Fin 2) : ∀ a, (![0, r.val, h.val, 0] : Fin 4 → ℕ) a + S1x1x1x512.size a ≤ S1x16x2x512.size a := by
  revert r h; decide
/-- A row of tiles of the query gradients lies inside their buffer. -/
theorem inb_dq (r : Fin 16) : ∀ a, (![0, r.val, 0, 0] : Fin 4 → ℕ) a + S1x1x128x512.size a ≤ S1x16x128x512.size a := by
  revert r; decide
/-- One head's column of key decay gradients lies inside the scratch. -/
theorem inb_dc (h : Fin 2) : ∀ a, (![h.val, 0, 0] : Fin 3 → ℕ) a + S1x512x1.size a ≤ S2x512x1.size a := by
  revert h; decide

/-- The query decay gradients with the two heads' rows of row of tiles `r` replaced, one after the other. -/
def putDr (x : Vec F S1x16x2x512 .f32) (r : Fin 16) (p0 p1 : Vec F S1x1x1x512 .f32 → Vec F S1x1x1x512 .f32) : Vec F S1x16x2x512 .f32 :=
  VecWindow.put (VecWindow.put x ![0, r.val, (0 : Fin 2).val, 0] S1x1x1x512.size (p0 (VecWindow.window x ![0, r.val, (0 : Fin 2).val, 0] S1x1x1x512.size (inb_dr r 0))))
    ![0, r.val, (1 : Fin 2).val, 0] S1x1x1x512.size (p1 (VecWindow.window x ![0, r.val, (1 : Fin 2).val, 0] S1x1x1x512.size (inb_dr r 1)))

/-- The query gradients with row of tiles `r` replaced. -/
def putDq (x : Vec F S1x16x128x512 .f32) (r : Fin 16) (p : Vec F S1x1x128x512 .f32 → Vec F S1x1x128x512 .f32) : Vec F S1x16x128x512 .f32 :=
  VecWindow.put x ![0, r.val, 0, 0] S1x1x128x512.size (p (VecWindow.window x ![0, r.val, 0, 0] S1x1x128x512.size (inb_dq r)))

/-- The key decay gradients with the two heads' columns replaced, one after the other. -/
def putDc (x : Vec F S2x512x1 .f32) (p0 p1 : Vec F S1x512x1 .f32 → Vec F S1x512x1 .f32) : Vec F S2x512x1 .f32 :=
  VecWindow.put (VecWindow.put x ![(0 : Fin 2).val, 0, 0] S1x512x1.size (p0 (VecWindow.window x ![(0 : Fin 2).val, 0, 0] S1x512x1.size (inb_dc 0))))
    ![(1 : Fin 2).val, 0, 0] S1x512x1.size (p1 (VecWindow.window x ![(1 : Fin 2).val, 0, 0] S1x512x1.size (inb_dc 1)))

/-- A tile off the diagonal, in row of tiles `r`. -/
def offStep (r : Fin 16) (I : Ins F) (s : St F) : St F where
  dq := putDq s.dq r fun x => k0_pay27 (k0_pay5 I.kt)
    (k0_pay15 (k0_pay5 I.kt) (k0_pay6 I.ot) (k0_pay7 k0_pay51 I.qt I.k (col0 I.cc) (row0 I.cr) (row0 I.ls)) (k0_pay9 k0_pay51 I.v) (row0 I.dl))
    (k0_pay20 I.v (k0_pay6 I.ot) (k0_pay16 k0_pay51) (k0_pay17 k0_pay51 (k0_pay4 I.qt) I.k) (col1 I.cc) (row1 I.cr) (row1 I.ls) (row1 I.dl)) x
  dr := putDr s.dr r (fun x => k0_pay12 (k0_pay6 I.ot) (k0_pay7 k0_pay51 I.qt I.k (col0 I.cc) (row0 I.cr) (row0 I.ls)) (k0_pay9 k0_pay51 I.v) (row0 I.dl) x)
    (fun x => k0_pay23 (k0_pay20 I.v (k0_pay6 I.ot) (k0_pay16 k0_pay51) (k0_pay17 k0_pay51 (k0_pay4 I.qt) I.k) (col1 I.cc) (row1 I.cr) (row1 I.ls) (row1 I.dl)) (k0_pay22 x))
  dk := k0_pay25 k0_pay51 I.q (k0_pay14 I.q (k0_pay6 I.ot) (k0_pay7 k0_pay51 I.qt I.k (col0 I.cc) (row0 I.cr) (row0 I.ls)) (k0_pay9 k0_pay51 I.v) (row0 I.dl))
    (k0_pay20 I.v (k0_pay6 I.ot) (k0_pay16 k0_pay51) (k0_pay17 k0_pay51 (k0_pay4 I.qt) I.k) (col1 I.cc) (row1 I.cr) (row1 I.ls) (row1 I.dl)) s.dk
  dv := k0_pay26 k0_pay51 (k0_pay8 k0_pay51 I.qt I.k I.o (col0 I.cc) (row0 I.cr) (row0 I.ls))
    (k0_pay19 I.o (k0_pay17 k0_pay51 (k0_pay4 I.qt) I.k) (col1 I.cc) (row1 I.cr) (row1 I.ls)) s.dv
  dc := putDc s.dc (fun x => k0_pay11 (k0_pay6 I.ot) (k0_pay7 k0_pay51 I.qt I.k (col0 I.cc) (row0 I.cr) (row0 I.ls)) (k0_pay9 k0_pay51 I.v) (row0 I.dl) x)
    (fun x => k0_pay21 I.v (k0_pay6 I.ot) (k0_pay16 k0_pay51) (k0_pay17 k0_pay51 (k0_pay4 I.qt) I.k) (col1 I.cc) (row1 I.cr) (row1 I.ls) (row1 I.dl) x)

/-- A tile on the diagonal, of the tile numbers `v1` (row) and `v3` (column); the column's sums start here. -/
def diagStep (r : Fin 16) (v1 v3 : BitVec 32) (I : Ins F) (s : St F) : St F where
  dq := putDq s.dq r fun x => k0_pay58
    (k0_pay40 (k0_pay29 I.kt) (k0_pay38 k0_pay51 I.v (k0_pay30 I.ot) (k0_pay31 v1 v3 k0_pay51 I.qt I.k (col0 I.cc)) (k0_pay32 (row0 I.cr)) (row0 I.ls) (row0 I.dl)))
    (k0_pay49 (k0_pay29 I.kt) (k0_pay42 v1 v3 k0_pay51 (k0_pay28 I.qt) I.k (col1 I.cc) (row1 I.cr) (row1 I.ls)) (k0_pay44 k0_pay51 I.v (k0_pay30 I.ot)) (row1 I.dl)) x
  dr := putDr s.dr r (fun x => k0_pay37 k0_pay51 I.v (k0_pay30 I.ot) (k0_pay31 v1 v3 k0_pay51 I.qt I.k (col0 I.cc)) (k0_pay32 (row0 I.cr)) (row0 I.ls) (row0 I.dl) x)
    (fun x => k0_pay47 (k0_pay42 v1 v3 k0_pay51 (k0_pay28 I.qt) I.k (col1 I.cc) (row1 I.cr) (row1 I.ls)) (k0_pay44 k0_pay51 I.v (k0_pay30 I.ot)) (row1 I.dl) x)
  dk := k0_pay50 k0_pay51 I.q
    (k0_pay39 I.q (k0_pay38 k0_pay51 I.v (k0_pay30 I.ot) (k0_pay31 v1 v3 k0_pay51 I.qt I.k (col0 I.cc)) (k0_pay32 (row0 I.cr)) (row0 I.ls) (row0 I.dl)) (constant S512x128 .f32 0x00000000#32))
    (k0_pay42 v1 v3 k0_pay51 (k0_pay28 I.qt) I.k (col1 I.cc) (row1 I.cr) (row1 I.ls)) (k0_pay44 k0_pay51 I.v (k0_pay30 I.ot)) (row1 I.dl) k0_pay54
  dv := k0_pay57 (k0_pay34 I.o (k0_pay31 v1 v3 k0_pay51 I.qt I.k (col0 I.cc)) (k0_pay32 (row0 I.cr)) (row0 I.ls))
    (k0_pay43 v1 v3 k0_pay51 (k0_pay28 I.qt) I.k I.o (col1 I.cc) (row1 I.cr) (row1 I.ls)) k0_pay55
  dc := putDc k0_pay56 (fun x => k0_pay36 k0_pay51 I.v (k0_pay30 I.ot) (k0_pay31 v1 v3 k0_pay51 I.qt I.k (col0 I.cc)) (k0_pay32 (row0 I.cr)) (row0 I.ls) (row0 I.dl) x)
    (fun x => k0_pay46 (k0_pay42 v1 v3 k0_pay51 (k0_pay28 I.qt) I.k (col1 I.cc) (row1 I.cr) (row1 I.ls)) (k0_pay44 k0_pay51 I.v (k0_pay30 I.ot)) (row1 I.dl) x)

/-- The key decay gradients as stored: both heads' columns negated, side by side. -/
def negCols (x : Vec F S2x512x1 .f32) (y : Vec F S1x512x2 .f32) : Vec F S1x512x2 .f32 :=
  VecWindow.put (VecWindow.put y ![0, 0, 0] S1x512x1.size (k0_pay2 (VecWindow.window x ![(0 : Fin 2).val, 0, 0] S1x512x1.size (inb_dc 0))))
    ![0, 0, 1] S1x512x1.size (k0_pay3 (VecWindow.window x ![(1 : Fin 2).val, 0, 0] S1x512x1.size (inb_dc 1)))

/-- The two columns fill the block, so what was there before doesn't matter. -/
theorem negCols_eq (x : Vec F S2x512x1 .f32) (y y' : Vec F S1x512x2 .f32) : negCols x y = negCols x y' := by
  funext z
  unfold negCols VecWindow.put
  by_cases h1 : ∀ a, (![0, 0, 1] : Fin 3 → ℕ) a ≤ (z a).val ∧ (z a).val < (![0, 0, 1] : Fin 3 → ℕ) a + S1x512x1.size a
  · rw [dif_pos h1, dif_pos h1]
  · have h0 : ∀ a, (![0, 0, 0] : Fin 3 → ℕ) a ≤ (z a).val ∧ (z a).val < (![0, 0, 0] : Fin 3 → ℕ) a + S1x512x1.size a := by
      have z0 := (z 0).isLt
      have z1 := (z 1).isLt
      have z2 := (z 2).isLt
      change (z 0).val < 1 at z0
      change (z 1).val < 512 at z1
      change (z 2).val < 2 at z2
      have : (z 2).val = 0 := by
        by_contra hne
        apply h1
        intro a
        fin_cases a
        · exact ⟨Nat.zero_le _, z0⟩
        · exact ⟨Nat.zero_le _, by show (z 1).val < 0 + 512; omega⟩
        · exact ⟨by show 1 ≤ (z 2).val; omega, by show (z 2).val < 1 + 1; omega⟩
      intro a
      fin_cases a
      · exact ⟨Nat.zero_le _, z0⟩
      · exact ⟨Nat.zero_le _, by show (z 1).val < 0 + 512; omega⟩
      · exact ⟨Nat.zero_le _, by show (z 2).val < 0 + 1; omega⟩
    rw [dif_neg h1, dif_neg h1, dif_pos h0, dif_pos h0]

end Cert.KernelIdeal.Fox

end
-- ==== Proof.Body.lean ====
/-
  One run of the body on whole memrefs: from the blocks and the running sums to the running sums after the tile
  (Tile.lean), and in a column's last tile the three blocks that are written out.
-/
module

public import proofs.«01_k».proof.Proof.Tile
public import Idealize.ShloMosaic.Lib.Tactic
public import Idealize.ShloMosaic.Lib.Pipeline.Frame
public import Idealize.ShloMosaic.Lib.Pipeline.FrameBody

@[expose] public section

set_option maxRecDepth 16384

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The word a table holds at a grid point. -/
abbrev w1 (x : Vec F S136 .i32) (i : grid0.Coords) : Elt F .i32 :=
  x ((Rect.unit (s := S136) (k0_off1 i) S1.size (k0_off1_inb i)).idx (Shape.Idx.first (s := S1) (numel1_S1.symm ▸ Nat.one_pos)))

/-- Where a word is a small number, its row offsets are that number. -/
theorem off2_eq (r : Fin 16) : k0_off2 (BitVec.ofNat 32 r.val) = ![0, r.val, (0 : Fin 2).val, 0] := by revert r; decide
theorem off3_eq (r : Fin 16) : k0_off3 (BitVec.ofNat 32 r.val) = ![0, r.val, (1 : Fin 2).val, 0] := by revert r; decide
theorem off4_eq (r : Fin 16) : k0_off4 (BitVec.ofNat 32 r.val) = ![0, r.val, 0, 0] := by revert r; decide
theorem off5_eq (r : Fin 16) : k0_off5 (BitVec.ofNat 32 r.val) = ![0, r.val, (0 : Fin 2).val, 0] := by revert r; decide
theorem off6_eq (r : Fin 16) : k0_off6 (BitVec.ofNat 32 r.val) = ![0, r.val, (1 : Fin 2).val, 0] := by revert r; decide
theorem off7_eq (r : Fin 16) : k0_off7 (BitVec.ofNat 32 r.val) = ![0, r.val, 0, 0] := by revert r; decide

section Reads

variable {κ : Kind} {sp : Space} {s : Shape} {e : EltTy} {Val : EltTy → Type}

/-- A load of one window out of the buffer after one window update. -/
theorem readAt_one (v : View sig κ sp s e) (f : v.ty.Contents Val) {o1 o2 o1' o2' size : Fin s.rank → ℕ}
    (inb1 : ∀ a, o1 a + size a ≤ s.size a) (inb2 : ∀ a, o2 a + size a ≤ s.size a) (inb2' : ∀ a, o2' a + size a ≤ s.size a)
    (h1 : o1 = o1') (h2 : o2 = o2') (L : List (View.Piece Val s e)) (X : s.Idx → Val e) (hX : v.read Val (v.writes Val f L) = X)
    (w : (Rect.unit o1 size inb1).shape.Idx → Val e) :
    v.readAt Val (Rect.unit o2 size inb2).toLoadRect (v.writes Val f (⟨Rect.unit o1 size inb1, w⟩ :: L))
      = VecWindow.window (VecWindow.put X o1' size w) o2' size inb2' := by
  subst h1 h2 hX
  rw [View.readAt_unit _ _ _ rfl inb2', View.read_writes_cons_put _ _ _ _ _ rfl]

/-- A buffer after one window update. -/
theorem read_one (v : View sig κ sp s e) (f : v.ty.Contents Val) {o1 o1' size : Fin s.rank → ℕ}
    (inb1 : ∀ a, o1 a + size a ≤ s.size a) (inb1' : ∀ a, o1' a + size a ≤ s.size a)
    (h1 : o1 = o1') (L : List (View.Piece Val s e)) (X : s.Idx → Val e) (hX : v.read Val (v.writes Val f L) = X)
    (p1 : ((Rect.unit o1 size inb1).shape.Idx → Val e) → ((Rect.unit o1 size inb1).shape.Idx → Val e)) (A1 : (Rect.unit o1 size inb1).shape.Idx → Val e)
    (hA1 : A1 = VecWindow.window X o1' size inb1') :
    v.read Val (v.writes Val f (⟨Rect.unit o1 size inb1, p1 A1⟩ :: L)) = VecWindow.put X o1' size (p1 (VecWindow.window X o1' size inb1')) := by
  subst h1 hX hA1
  rw [View.read_writes_cons_put _ _ _ _ _ rfl]

/-- A buffer a guarded store filled or left alone. -/
theorem read_guard (v : View sig κ sp s e) (f : v.ty.Contents Val) {o : Fin s.rank → ℕ} (inb : ∀ a, o a + s.size a ≤ s.size a)
    (c c' : Prop) [Decidable c] [Decidable c'] (hc : c ↔ c') (w w' : s.Idx → Val e) (hw : w = w') :
    v.read Val (if _h : c then v.writes Val f [⟨Rect.unit o s.size inb, w⟩] else f) = if c' then w' else v.read Val f := by
  subst hw
  by_cases h : c
  · rw [dif_pos h, if_pos (hc.mp h), View.read_writes_full]
  · rw [dif_neg h, if_neg (fun h' => h (hc.mpr h'))]

end Reads

/-- The query gradients after a row of tiles is replaced. -/
theorem read_dq (v : View sig .tc .vmem S1x16x128x512 .f32) (f : v.ty.Contents (Elt F)) (r : Fin 16) (p : Vec F S1x1x128x512 .f32 → Vec F S1x1x128x512 .f32)
    (X : Vec F S1x16x128x512 .f32) (hX : v.read (Elt F) f = X) {o : Fin 4 → ℕ} (h : o = ![0, r.val, 0, 0]) (inb : ∀ a, o a + S1x1x128x512.size a ≤ S1x16x128x512.size a)  :
    v.read (Elt F) (v.writes (Elt F) f [⟨Rect.unit (s := S1x16x128x512) o S1x1x128x512.size inb,
      p (v.readAt (Elt F) (Rect.unit (s := S1x16x128x512) o S1x1x128x512.size inb).toLoadRect f)⟩]) = putDq X r p := by
  subst h hX
  exact read_one v f inb (inb_dq r) rfl [] _ rfl p _ (View.readAt_unit v f inb rfl (inb_dq r))

/-- The query decay gradients after the two heads' rows are replaced. -/
theorem read_dr (v : View sig .tc .vmem S1x16x2x512 .f32) (f : v.ty.Contents (Elt F)) (r : Fin 16) (p0 p1 : Vec F S1x1x1x512 .f32 → Vec F S1x1x1x512 .f32)
    (X : Vec F S1x16x2x512 .f32) (hX : v.read (Elt F) f = X) {o o' : Fin 4 → ℕ} (h : o = ![0, r.val, (0 : Fin 2).val, 0]) (h' : o' = ![0, r.val, (1 : Fin 2).val, 0])
    (inb : ∀ a, o a + S1x1x1x512.size a ≤ S1x16x2x512.size a) (inb' : ∀ a, o' a + S1x1x1x512.size a ≤ S1x16x2x512.size a) (w0 w1 A0 A1 : Vec F S1x1x1x512 .f32)
    (hw0 : w0 = p0 A0) (hw1 : w1 = p1 A1)
    (hA0 : A0 = v.readAt (Elt F) (Rect.unit (s := S1x16x2x512) o S1x1x1x512.size inb).toLoadRect f)
    (hA1 : A1 = v.readAt (Elt F) (Rect.unit (s := S1x16x2x512) o' S1x1x1x512.size inb').toLoadRect (v.writes (Elt F) f [⟨Rect.unit (s := S1x16x2x512) o S1x1x1x512.size inb, w0⟩])) :
    putDr X r p0 p1 = v.read (Elt F) (v.writes (Elt F) f [⟨Rect.unit (s := S1x16x2x512) o' S1x1x1x512.size inb', w1⟩,
      ⟨Rect.unit (s := S1x16x2x512) o S1x1x1x512.size inb, w0⟩]) := by
  subst h h' hX hA1 hw1 hA0 hw0
  unfold putDr
  rw [readAt_one v f inb inb' (inb_dr r 1) rfl rfl [] _ rfl, View.read_writes_cons_put _ _ _ _ _ rfl, View.read_writes_cons_put _ _ _ _ _ rfl,
    View.readAt_unit v f inb rfl (inb_dr r 0),
    VecWindow.window_put_of_disjoint _ _ _ _ _ _ _ (2 : Fin 4) (Or.inr (by decide : (0 : ℕ) + 1 ≤ 1))]
  rfl

/-- The key decay gradients after the two heads' columns are replaced. -/
theorem read_dc (v : View sig .tc .vmem S2x512x1 .f32) (f : v.ty.Contents (Elt F)) (L : List (View.Piece (Elt F) S2x512x1 .f32))
    (p0 p1 : Vec F S1x512x1 .f32 → Vec F S1x512x1 .f32)
    (X : Vec F S2x512x1 .f32) (hX : v.read (Elt F) (v.writes (Elt F) f L) = X) (w0 w1 A0 A1 : Vec F S1x512x1 .f32)
    (hw0 : w0 = p0 A0) (hw1 : w1 = p1 A1)
    (h0 : A0 = VecWindow.window X ![(0 : Fin 2).val, 0, 0] S1x512x1.size (inb_dc 0))
    (h1 : A1 = VecWindow.window X ![(1 : Fin 2).val, 0, 0] S1x512x1.size (inb_dc 1)) :
    putDc X p0 p1 = v.read (Elt F) (v.writes (Elt F) f (⟨Rect.unit (s := S2x512x1) ![1, 0, 0] S1x512x1.size inb_S2x512x1_S1x512x1_1_0_0, w1⟩ ::
      ⟨Rect.unit (s := S2x512x1) ![0, 0, 0] S1x512x1.size inb_S2x512x1_S1x512x1_0_0_0, w0⟩ :: L)) := by
  subst hX h0 h1 hw0 hw1
  unfold putDc
  rw [View.read_writes_cons_put _ _ _ _ _ rfl, View.read_writes_cons_put _ _ _ _ _ rfl]
  rfl

/-- A column of them, loaded back after both are replaced: head 0's. -/
theorem cov_dc0 (v : View sig .tc .vmem S2x512x1 .f32) (L : List (View.Piece (Elt F) S2x512x1 .f32)) (p0 p1 : Vec F S1x512x1 .f32 → Vec F S1x512x1 .f32)
    (X : Vec F S2x512x1 .f32) (w0 w1 A0 : Vec F S1x512x1 .f32) (hw0 : w0 = p0 A0)
    (h0 : A0 = VecWindow.window X ![(0 : Fin 2).val, 0, 0] S1x512x1.size (inb_dc 0)) :
    v.readCov (⟨Rect.unit (s := S2x512x1) ![1, 0, 0] S1x512x1.size inb_S2x512x1_S1x512x1_1_0_0, w1⟩ ::
        ⟨Rect.unit (s := S2x512x1) ![0, 0, 0] S1x512x1.size inb_S2x512x1_S1x512x1_0_0_0, w0⟩ :: L)
      (Rect.unit (s := S2x512x1) ![0, 0, 0] S1x512x1.size inb_S2x512x1_S1x512x1_0_0_0).toLoadRect
      = VecWindow.window (putDc X p0 p1) ![(0 : Fin 2).val, 0, 0] S1x512x1.size (inb_dc 0) := by
  subst h0 hw0
  unfold putDc View.readCov
  rw [View.readAt_unit _ _ _ rfl (inb_dc 0), View.read_writes_cons_put _ _ _ _ _ rfl, View.read_writes_cons_put _ _ _ _ _ rfl]
  refine (VecWindow.window_put_of_disjoint _ _ _ _ _ _ _ (0 : Fin 3) (Or.inl (by decide : (0 : ℕ) + 1 ≤ 1))).trans ?_
  refine Eq.trans ?_ (VecWindow.window_put_of_disjoint _ _ _ _ _ _ _ (0 : Fin 3) (Or.inl (by decide : (0 : ℕ) + 1 ≤ 1))).symm
  exact (VecWindow.window_put_same (s := S2x512x1) _ ![0, 0, 0] S1x512x1.size (inb_dc 0) _).trans (VecWindow.window_put_same (s := S2x512x1) _ ![(0 : Fin 2).val, 0, 0] S1x512x1.size (inb_dc 0) _).symm

/-- A column of them, loaded back after both are replaced: head 1's. -/
theorem cov_dc1 (v : View sig .tc .vmem S2x512x1 .f32) (L : List (View.Piece (Elt F) S2x512x1 .f32)) (p0 p1 : Vec F S1x512x1 .f32 → Vec F S1x512x1 .f32)
    (X : Vec F S2x512x1 .f32) (w1 A1 : Vec F S1x512x1 .f32) (hw1 : w1 = p1 A1)
    (h1 : A1 = VecWindow.window X ![(1 : Fin 2).val, 0, 0] S1x512x1.size (inb_dc 1)) :
    v.readCov (⟨Rect.unit (s := S2x512x1) ![1, 0, 0] S1x512x1.size inb_S2x512x1_S1x512x1_1_0_0, w1⟩ :: L)
      (Rect.unit (s := S2x512x1) ![1, 0, 0] S1x512x1.size inb_S2x512x1_S1x512x1_1_0_0).toLoadRect
      = VecWindow.window (putDc X p0 p1) ![(1 : Fin 2).val, 0, 0] S1x512x1.size (inb_dc 1) := by
  subst h1 hw1
  unfold putDc View.readCov
  rw [View.readAt_unit _ _ _ rfl (inb_dc 1), View.read_writes_cons_put _ _ _ _ _ rfl]
  exact (VecWindow.window_put_same (s := S2x512x1) _ ![1, 0, 0] S1x512x1.size (inb_dc 1) _).trans (VecWindow.window_put_same (s := S2x512x1) _ ![(1 : Fin 2).val, 0, 0] S1x512x1.size (inb_dc 1) _).symm

/-- The columns right after the whole scratch was filled. -/
theorem fill_dc (v : View sig .tc .vmem S2x512x1 .f32) (f : v.ty.Contents (Elt F)) (w : Vec F S2x512x1 .f32) :
    v.read (Elt F) (v.writes (Elt F) f [⟨Rect.unit (s := S2x512x1) ![0, 0, 0] S2x512x1.size inb_S2x512x1_S2x512x1_0_0_0, w⟩]) = w :=
  View.read_writes_full (s := S2x512x1) v f inb_S2x512x1_S2x512x1_0_0_0 w []
theorem fill_dc0 (v : View sig .tc .vmem S2x512x1 .f32) (w : Vec F S2x512x1 .f32) :
    v.readCov [⟨Rect.unit (s := S2x512x1) ![0, 0, 0] S2x512x1.size inb_S2x512x1_S2x512x1_0_0_0, w⟩]
      (Rect.unit (s := S2x512x1) ![0, 0, 0] S1x512x1.size inb_S2x512x1_S1x512x1_0_0_0).toLoadRect = VecWindow.window w ![(0 : Fin 2).val, 0, 0] S1x512x1.size (inb_dc 0) := by
  unfold View.readCov
  rw [View.readAt_unit _ _ _ rfl (inb_dc 0), fill_dc]
  rfl
theorem fill_dc1 (v : View sig .tc .vmem S2x512x1 .f32) (w : Vec F S2x512x1 .f32) (w0 : Vec F S1x512x1 .f32) :
    v.readCov [⟨Rect.unit (s := S2x512x1) ![0, 0, 0] S1x512x1.size inb_S2x512x1_S1x512x1_0_0_0, w0⟩,
        ⟨Rect.unit (s := S2x512x1) ![0, 0, 0] S2x512x1.size inb_S2x512x1_S2x512x1_0_0_0, w⟩]
      (Rect.unit (s := S2x512x1) ![1, 0, 0] S1x512x1.size inb_S2x512x1_S1x512x1_1_0_0).toLoadRect = VecWindow.window w ![(1 : Fin 2).val, 0, 0] S1x512x1.size (inb_dc 1) := by
  unfold View.readCov
  rw [View.readAt_unit _ _ _ rfl (inb_dc 1), View.read_writes_cons_put _ _ _ _ _ rfl, fill_dc]
  exact VecWindow.window_put_of_disjoint _ _ _ _ _ _ _ (0 : Fin 3) (Or.inr (by decide : (0 : ℕ) + 1 ≤ 1))

/-- The two columns written out, or the block left alone. -/
theorem read_cols (v : View sig .tc .vmem S1x512x2 .f32) (f : v.ty.Contents (Elt F)) (x : Vec F S2x512x1 .f32)
    (c c' : Prop) [Decidable c] [Decidable c'] (hc : c ↔ c') (w0 w1 : Vec F S1x512x1 .f32)
    (h0 : w0 = VecWindow.window x ![(0 : Fin 2).val, 0, 0] S1x512x1.size (inb_dc 0)) (h1 : w1 = VecWindow.window x ![(1 : Fin 2).val, 0, 0] S1x512x1.size (inb_dc 1)) :
    v.read (Elt F) (if _h : c then v.writes (Elt F) f [⟨Rect.unit (s := S1x512x2) ![0, 0, 1] S1x512x1.size inb_S1x512x2_S1x512x1_0_0_1, k0_pay3 w1⟩,
        ⟨Rect.unit (s := S1x512x2) ![0, 0, 0] S1x512x1.size inb_S1x512x2_S1x512x1_0_0_0, k0_pay2 w0⟩] else f)
      = if c' then negCols x (v.read (Elt F) f) else v.read (Elt F) f := by
  subst h0 h1
  by_cases h : c
  · rw [dif_pos h, if_pos (hc.mp h), View.read_writes_cons_put _ _ _ _ _ rfl, View.read_writes_cons_put _ _ _ _ _ rfl]
    rfl
  · rw [dif_neg h, if_neg (fun h' => h (hc.mpr h'))]

/-- A block as a whole load reads it. -/
abbrev ldQ {e : EltTy} (x : Vec F S512x128 e) : Vec F S512x128 e := View.ld x (Rect.unit (s := S512x128) ![0, 0] S512x128.size inb_S512x128_S512x128_0_0)
abbrev ldT {e : EltTy} (x : Vec F S128x512 e) : Vec F S128x512 e := View.ld x (Rect.unit (s := S128x512) ![0, 0] S128x512.size inb_S128x512_S128x512_0_0)
theorem ldQ_eq {e : EltTy} (x : Vec F S512x128 e) : ldQ x = x := funext fun y => congrArg x (Rect.emb_unit_full (s := S512x128) inb_S512x128_S512x128_0_0 y)
theorem ldT_eq {e : EltTy} (x : Vec F S128x512 e) : ldT x = x := funext fun y => congrArg x (Rect.emb_unit_full (s := S128x512) inb_S128x512_S128x512_0_0 y)

set_option maxHeartbeats 400000 in
/-- A tile off the diagonal. -/
theorem path_off (c : Dev nD) (E : Set ℕ) (q : PosShare TreeShare) (i : grid0.Coords) (arg2 : Memref sig .tc .smem S136 .i32) (harg2 : arg2.IsWhole) (arg3 : Memref sig .tc .smem S136 .i32) (harg3 : arg3.IsWhole) (arg4 : Memref sig .tc .vmem S512x128 .bf16) (harg4 : arg4.IsWhole) (arg5 : Memref sig .tc .vmem S128x512 .bf16) (harg5 : arg5.IsWhole) (arg6 : Memref sig .tc .vmem S512x128 .bf16) (harg6 : arg6.IsWhole) (arg7 : Memref sig .tc .vmem S128x512 .bf16) (harg7 : arg7.IsWhole) (arg8 : Memref sig .tc .vmem S512x128 .bf16) (harg8 : arg8.IsWhole) (arg9 : Memref sig .tc .vmem S512x128 .bf16) (harg9 : arg9.IsWhole) (arg10 : Memref sig .tc .vmem S128x512 .bf16) (harg10 : arg10.IsWhole) (arg11 : Memref sig .tc .vmem S1x2x512 .f32) (harg11 : arg11.IsWhole) (arg12 : Memref sig .tc .vmem S1x2x512 .f32) (harg12 : arg12.IsWhole) (arg13 : Memref sig .tc .vmem S1x2x512 .f32) (harg13 : arg13.IsWhole) (arg14 : Memref sig .tc .vmem S1x512x2 .f32) (harg14 : arg14.IsWhole) (arg15 : Memref sig .tc .vmem S1x16x128x512 .f32) (harg15 : arg15.IsWhole) (arg16 : Memref sig .tc .vmem S512x128 .f32) (harg16 : arg16.IsWhole) (arg17 : Memref sig .tc .vmem S512x128 .bf16) (harg17 : arg17.IsWhole) (arg18 : Memref sig .tc .vmem S1x512x2 .f32) (harg18 : arg18.IsWhole) (arg19 : Memref sig .tc .vmem S1x16x2x512 .f32) (harg19 : arg19.IsWhole) (arg20 : Memref sig .tc .vmem S512x128 .f32) (harg20 : arg20.IsWhole) (arg21 : Memref sig .tc .vmem S512x128 .f32) (harg21 : arg21.IsWhole) (arg22 : Memref sig .tc .vmem S2x512x1 .f32) (harg22 : arg22.IsWhole)
    (x2 : Vec F S136 .i32) (x3 : Vec F S136 .i32) (x4 : Vec F S512x128 .bf16) (x5 : Vec F S128x512 .bf16) (x6 : Vec F S512x128 .bf16) (x7 : Vec F S128x512 .bf16) (x8 : Vec F S512x128 .bf16) (x9 : Vec F S512x128 .bf16) (x10 : Vec F S128x512 .bf16) (x11 : Vec F S1x2x512 .f32) (x12 : Vec F S1x2x512 .f32) (x13 : Vec F S1x2x512 .f32) (x14 : Vec F S1x512x2 .f32) (x15 : Vec F S1x16x128x512 .f32) (x16 : Vec F S512x128 .f32) (x17 : Vec F S512x128 .bf16) (x18 : Vec F S1x512x2 .f32) (x19 : Vec F S1x16x2x512 .f32) (x20 : Vec F S512x128 .f32) (x21 : Vec F S512x128 .f32) (x22 : Vec F S2x512x1 .f32)
    (r : Fin 16) (hr : w1 x2 i = BitVec.ofNat 32 r.val)
    (hc3 : k0_cond3 (w1 x2 i) (w1 x3 i) = 1#1) (hc4 : ¬ k0_cond4 (w1 x2 i) (w1 x3 i) = 1#1) (hk : k0_chk1 (w1 x2 i) (w1 x3 i)) (K : PUnit → sProp 𝕄) :
    iprop(owns (c : Thread nD τ) arg2 q x2 ∗ owns (c : Thread nD τ) arg3 q x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22
        ∗ (iprop(owns (c : Thread nD τ) arg2 q x2 ∗ owns (c : Thread nD τ) arg3 q x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare (offStep r ⟨ldQ x4, ldT x5, ldQ x6, ldT x7, ldQ x8, ldQ x9, ldT x10, x11, x12, x13, x14⟩ ⟨if k0_cond1 i = 1#1 then k0_pay52 else x15, if k0_cond1 i = 1#1 then k0_pay53 else x19, ldQ x20, ldQ x21, x22⟩).dq ∗ owns (c : Thread nD τ) arg16 fullShare (if k0_cond5 (w1 x2 i) = 1#1 then (offStep r ⟨ldQ x4, ldT x5, ldQ x6, ldT x7, ldQ x8, ldQ x9, ldT x10, x11, x12, x13, x14⟩ ⟨if k0_cond1 i = 1#1 then k0_pay52 else x15, if k0_cond1 i = 1#1 then k0_pay53 else x19, ldQ x20, ldQ x21, x22⟩).dk else x16) ∗ owns (c : Thread nD τ) arg17 fullShare (if k0_cond5 (w1 x2 i) = 1#1 then k0_pay1 (offStep r ⟨ldQ x4, ldT x5, ldQ x6, ldT x7, ldQ x8, ldQ x9, ldT x10, x11, x12, x13, x14⟩ ⟨if k0_cond1 i = 1#1 then k0_pay52 else x15, if k0_cond1 i = 1#1 then k0_pay53 else x19, ldQ x20, ldQ x21, x22⟩).dv else x17) ∗ owns (c : Thread nD τ) arg18 fullShare (if k0_cond5 (w1 x2 i) = 1#1 then negCols (offStep r ⟨ldQ x4, ldT x5, ldQ x6, ldT x7, ldQ x8, ldQ x9, ldT x10, x11, x12, x13, x14⟩ ⟨if k0_cond1 i = 1#1 then k0_pay52 else x15, if k0_cond1 i = 1#1 then k0_pay53 else x19, ldQ x20, ldQ x21, x22⟩).dc x18 else x18) ∗ owns (c : Thread nD τ) arg19 fullShare (offStep r ⟨ldQ x4, ldT x5, ldQ x6, ldT x7, ldQ x8, ldQ x9, ldT x10, x11, x12, x13, x14⟩ ⟨if k0_cond1 i = 1#1 then k0_pay52 else x15, if k0_cond1 i = 1#1 then k0_pay53 else x19, ldQ x20, ldQ x21, x22⟩).dr ∗ owns (c : Thread nD τ) arg20 fullShare (offStep r ⟨ldQ x4, ldT x5, ldQ x6, ldT x7, ldQ x8, ldQ x9, ldT x10, x11, x12, x13, x14⟩ ⟨if k0_cond1 i = 1#1 then k0_pay52 else x15, if k0_cond1 i = 1#1 then k0_pay53 else x19, ldQ x20, ldQ x21, x22⟩).dk ∗ owns (c : Thread nD τ) arg21 fullShare (offStep r ⟨ldQ x4, ldT x5, ldQ x6, ldT x7, ldQ x8, ldQ x9, ldT x10, x11, x12, x13, x14⟩ ⟨if k0_cond1 i = 1#1 then k0_pay52 else x15, if k0_cond1 i = 1#1 then k0_pay53 else x19, ldQ x20, ldQ x21, x22⟩).dv ∗ owns (c : Thread nD τ) arg22 fullShare (offStep r ⟨ldQ x4, ldT x5, ldQ x6, ldT x7, ldQ x8, ldQ x9, ldT x10, x11, x12, x13, x14⟩ ⟨if k0_cond1 i = 1#1 then k0_pay52 else x15, if k0_cond1 i = 1#1 then k0_pay53 else x19, ldQ x20, ldQ x21, x22⟩).dc) -∗ K ⟨⟩))
      ⊢ wp frame (wpE (defs₀ (F := F)) Variants.none c none) E (cc0_fox_attention_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0_fox_attention_bwd_eq_skeleton]; unfold cc0_fox_attention_bwd_skel
  simp only [k0_part9_eq_skeleton]; unfold k0_part9_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, Hk⟩
  subst hf2 hf3 hf4 hf5 hf6 hf7 hf8 hf9 hf10 hf11 hf12 hf13 hf14 hf15 hf16 hf17 hf18 hf19 hf20 hf21 hf22
  sl_exec (disch := first | (with_reducible refine (?_ : ¬ k0_cond4 _ _ = 1#1); exact hc4)| (with_reducible refine (?_ : k0_cond3 _ _ = 1#1); exact hc3)| (with_reducible refine (?_ : k0_chk1 _ _); exact hk)| (with_reducible refine (?_ : ¬ (Scalar.cmpi .ne _ _ : BitVec 1) = 1#1); exact hc4))
  sl_step
  iapply Hk
  isplitl [H2]
  · iexists _; isplitr
    swap; · iexact H2
    ipureintro
    rfl
  isplitl [H3]
  · iexists _; isplitr
    swap; · iexact H3
    ipureintro
    rfl
  isplitl [H4]
  · iexists _; isplitr
    swap; · iexact H4
    ipureintro
    rfl
  isplitl [H5]
  · iexists _; isplitr
    swap; · iexact H5
    ipureintro
    rfl
  isplitl [H6]
  · iexists _; isplitr
    swap; · iexact H6
    ipureintro
    rfl
  isplitl [H7]
  · iexists _; isplitr
    swap; · iexact H7
    ipureintro
    rfl
  isplitl [H8]
  · iexists _; isplitr
    swap; · iexact H8
    ipureintro
    rfl
  isplitl [H9]
  · iexists _; isplitr
    swap; · iexact H9
    ipureintro
    rfl
  isplitl [H10]
  · iexists _; isplitr
    swap; · iexact H10
    ipureintro
    rfl
  isplitl [H11]
  · iexists _; isplitr
    swap; · iexact H11
    ipureintro
    rfl
  isplitl [H12]
  · iexists _; isplitr
    swap; · iexact H12
    ipureintro
    rfl
  isplitl [H13]
  · iexists _; isplitr
    swap; · iexact H13
    ipureintro
    rfl
  isplitl [H14]
  · iexists _; isplitr
    swap; · iexact H14
    ipureintro
    rfl
  isplitl [H15]
  · iexists _; isplitr
    swap; · iexact H15
    ipureintro
    exact read_dq _ _ r _ _ (read_guard _ _ _ _ _ Iff.rfl _ _ rfl) ((congrArg k0_off4 hr).trans (off4_eq r)) _
  isplitl [H16]
  · iexists _; isplitr
    swap; · iexact H16
    ipureintro
    exact read_guard _ _ _ _ _ Iff.rfl _ _ (View.readCov_full _ _ _ _ _)
  isplitl [H17]
  · iexists _; isplitr
    swap; · iexact H17
    ipureintro
    exact read_guard _ _ _ _ _ Iff.rfl _ _ (congrArg k0_pay1 (View.readCov_full _ _ _ _ _))
  isplitl [H18]
  · iexists _; isplitr
    swap; · iexact H18
    ipureintro
    dsimp only [offStep]
    refine read_cols _ _ _ _ _ Iff.rfl _ _ ?h0_18 ?h1_18
    case h0_18 =>
      delta path_off.sl.v44 path_off.sl.H22_2
      refine cov_dc0 _ _ _ _ _ _ _ ?a0_18 ?b0_18 ?c0_18
      case b0_18 => rfl
      case c0_18 => exact View.readAt_unit _ _ _ rfl (inb_dc 0)
    case h1_18 =>
      delta path_off.sl.v51 path_off.sl.H22_2
      refine cov_dc1 _ _ _ _ _ _ ?a1_18 ?b1_18 ?c1_18
      case b1_18 => rfl
      case c1_18 => exact View.readAt_unit _ _ _ rfl (inb_dc 1)
  isplitl [H19]
  · iexists _; isplitr
    swap; · iexact H19
    ipureintro
    delta path_off.sl.H19_2 path_off.sl.H19_1
    dsimp only [offStep]
    refine Eq.symm (read_dr _ _ r _ _ _ ?_ ((congrArg k0_off2 hr).trans (off2_eq r)) ((congrArg k0_off3 hr).trans (off3_eq r)) _ _ _ _ ?a0_19 ?a1_19 ?b0_19 ?b1_19 ?c0_19 ?c1_19)
    · exact (read_guard _ _ _ _ _ Iff.rfl _ _ rfl)
    case b0_19 => rfl
    case b1_19 => rfl
    case c0_19 => rfl
    case c1_19 => rfl
  isplitl [H20]
  · iexists _; isplitr
    swap; · iexact H20
    ipureintro
    exact View.read_writes_full _ _ _ _ _
  isplitl [H21]
  · iexists _; isplitr
    swap; · iexact H21
    ipureintro
    exact View.read_writes_full _ _ _ _ _
  iexists _; isplitr
  swap; · iexact H22
  ipureintro
  delta path_off.sl.H22_2
  dsimp only [offStep]
  refine Eq.symm (read_dc _ _ _ _ _ _ ?_ _ _ ?a0_22 ?a1_22 ?b0_22 ?b1_22 ?c0_22 ?c1_22)
  · rfl
  case b0_22 => rfl
  case b1_22 => rfl
  case c0_22 => exact View.readAt_unit _ _ _ rfl (inb_dc 0)
  case c1_22 => exact View.readAt_unit _ _ _ rfl (inb_dc 1)

set_option maxHeartbeats 3200000 in
/-- A tile on the diagonal. -/
theorem path_diag (c : Dev nD) (E : Set ℕ) (q : PosShare TreeShare) (i : grid0.Coords) (arg2 : Memref sig .tc .smem S136 .i32) (harg2 : arg2.IsWhole) (arg3 : Memref sig .tc .smem S136 .i32) (harg3 : arg3.IsWhole) (arg4 : Memref sig .tc .vmem S512x128 .bf16) (harg4 : arg4.IsWhole) (arg5 : Memref sig .tc .vmem S128x512 .bf16) (harg5 : arg5.IsWhole) (arg6 : Memref sig .tc .vmem S512x128 .bf16) (harg6 : arg6.IsWhole) (arg7 : Memref sig .tc .vmem S128x512 .bf16) (harg7 : arg7.IsWhole) (arg8 : Memref sig .tc .vmem S512x128 .bf16) (harg8 : arg8.IsWhole) (arg9 : Memref sig .tc .vmem S512x128 .bf16) (harg9 : arg9.IsWhole) (arg10 : Memref sig .tc .vmem S128x512 .bf16) (harg10 : arg10.IsWhole) (arg11 : Memref sig .tc .vmem S1x2x512 .f32) (harg11 : arg11.IsWhole) (arg12 : Memref sig .tc .vmem S1x2x512 .f32) (harg12 : arg12.IsWhole) (arg13 : Memref sig .tc .vmem S1x2x512 .f32) (harg13 : arg13.IsWhole) (arg14 : Memref sig .tc .vmem S1x512x2 .f32) (harg14 : arg14.IsWhole) (arg15 : Memref sig .tc .vmem S1x16x128x512 .f32) (harg15 : arg15.IsWhole) (arg16 : Memref sig .tc .vmem S512x128 .f32) (harg16 : arg16.IsWhole) (arg17 : Memref sig .tc .vmem S512x128 .bf16) (harg17 : arg17.IsWhole) (arg18 : Memref sig .tc .vmem S1x512x2 .f32) (harg18 : arg18.IsWhole) (arg19 : Memref sig .tc .vmem S1x16x2x512 .f32) (harg19 : arg19.IsWhole) (arg20 : Memref sig .tc .vmem S512x128 .f32) (harg20 : arg20.IsWhole) (arg21 : Memref sig .tc .vmem S512x128 .f32) (harg21 : arg21.IsWhole) (arg22 : Memref sig .tc .vmem S2x512x1 .f32) (harg22 : arg22.IsWhole)
    (x2 : Vec F S136 .i32) (x3 : Vec F S136 .i32) (x4 : Vec F S512x128 .bf16) (x5 : Vec F S128x512 .bf16) (x6 : Vec F S512x128 .bf16) (x7 : Vec F S128x512 .bf16) (x8 : Vec F S512x128 .bf16) (x9 : Vec F S512x128 .bf16) (x10 : Vec F S128x512 .bf16) (x11 : Vec F S1x2x512 .f32) (x12 : Vec F S1x2x512 .f32) (x13 : Vec F S1x2x512 .f32) (x14 : Vec F S1x512x2 .f32) (x15 : Vec F S1x16x128x512 .f32) (x16 : Vec F S512x128 .f32) (x17 : Vec F S512x128 .bf16) (x18 : Vec F S1x512x2 .f32) (x19 : Vec F S1x16x2x512 .f32) (x20 : Vec F S512x128 .f32) (x21 : Vec F S512x128 .f32) (x22 : Vec F S2x512x1 .f32)
    (r : Fin 16) (hr : w1 x2 i = BitVec.ofNat 32 r.val)
    (hc3 : ¬ k0_cond3 (w1 x2 i) (w1 x3 i) = 1#1) (hc4 : k0_cond4 (w1 x2 i) (w1 x3 i) = 1#1) (hk : k0_chk1 (w1 x2 i) (w1 x3 i)) (K : PUnit → sProp 𝕄) :
    iprop(owns (c : Thread nD τ) arg2 q x2 ∗ owns (c : Thread nD τ) arg3 q x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22
        ∗ (iprop(owns (c : Thread nD τ) arg2 q x2 ∗ owns (c : Thread nD τ) arg3 q x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare (diagStep r (w1 x2 i) (w1 x3 i) ⟨ldQ x4, ldT x5, ldQ x6, ldT x7, ldQ x8, ldQ x9, ldT x10, x11, x12, x13, x14⟩ ⟨if k0_cond1 i = 1#1 then k0_pay52 else x15, if k0_cond1 i = 1#1 then k0_pay53 else x19, ldQ x20, ldQ x21, x22⟩).dq ∗ owns (c : Thread nD τ) arg16 fullShare (if k0_cond5 (w1 x2 i) = 1#1 then (diagStep r (w1 x2 i) (w1 x3 i) ⟨ldQ x4, ldT x5, ldQ x6, ldT x7, ldQ x8, ldQ x9, ldT x10, x11, x12, x13, x14⟩ ⟨if k0_cond1 i = 1#1 then k0_pay52 else x15, if k0_cond1 i = 1#1 then k0_pay53 else x19, ldQ x20, ldQ x21, x22⟩).dk else x16) ∗ owns (c : Thread nD τ) arg17 fullShare (if k0_cond5 (w1 x2 i) = 1#1 then k0_pay1 (diagStep r (w1 x2 i) (w1 x3 i) ⟨ldQ x4, ldT x5, ldQ x6, ldT x7, ldQ x8, ldQ x9, ldT x10, x11, x12, x13, x14⟩ ⟨if k0_cond1 i = 1#1 then k0_pay52 else x15, if k0_cond1 i = 1#1 then k0_pay53 else x19, ldQ x20, ldQ x21, x22⟩).dv else x17) ∗ owns (c : Thread nD τ) arg18 fullShare (if k0_cond5 (w1 x2 i) = 1#1 then negCols (diagStep r (w1 x2 i) (w1 x3 i) ⟨ldQ x4, ldT x5, ldQ x6, ldT x7, ldQ x8, ldQ x9, ldT x10, x11, x12, x13, x14⟩ ⟨if k0_cond1 i = 1#1 then k0_pay52 else x15, if k0_cond1 i = 1#1 then k0_pay53 else x19, ldQ x20, ldQ x21, x22⟩).dc x18 else x18) ∗ owns (c : Thread nD τ) arg19 fullShare (diagStep r (w1 x2 i) (w1 x3 i) ⟨ldQ x4, ldT x5, ldQ x6, ldT x7, ldQ x8, ldQ x9, ldT x10, x11, x12, x13, x14⟩ ⟨if k0_cond1 i = 1#1 then k0_pay52 else x15, if k0_cond1 i = 1#1 then k0_pay53 else x19, ldQ x20, ldQ x21, x22⟩).dr ∗ owns (c : Thread nD τ) arg20 fullShare (diagStep r (w1 x2 i) (w1 x3 i) ⟨ldQ x4, ldT x5, ldQ x6, ldT x7, ldQ x8, ldQ x9, ldT x10, x11, x12, x13, x14⟩ ⟨if k0_cond1 i = 1#1 then k0_pay52 else x15, if k0_cond1 i = 1#1 then k0_pay53 else x19, ldQ x20, ldQ x21, x22⟩).dk ∗ owns (c : Thread nD τ) arg21 fullShare (diagStep r (w1 x2 i) (w1 x3 i) ⟨ldQ x4, ldT x5, ldQ x6, ldT x7, ldQ x8, ldQ x9, ldT x10, x11, x12, x13, x14⟩ ⟨if k0_cond1 i = 1#1 then k0_pay52 else x15, if k0_cond1 i = 1#1 then k0_pay53 else x19, ldQ x20, ldQ x21, x22⟩).dv ∗ owns (c : Thread nD τ) arg22 fullShare (diagStep r (w1 x2 i) (w1 x3 i) ⟨ldQ x4, ldT x5, ldQ x6, ldT x7, ldQ x8, ldQ x9, ldT x10, x11, x12, x13, x14⟩ ⟨if k0_cond1 i = 1#1 then k0_pay52 else x15, if k0_cond1 i = 1#1 then k0_pay53 else x19, ldQ x20, ldQ x21, x22⟩).dc) -∗ K ⟨⟩))
      ⊢ wp frame (wpE (defs₀ (F := F)) Variants.none c none) E (cc0_fox_attention_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0_fox_attention_bwd_eq_skeleton]; unfold cc0_fox_attention_bwd_skel
  simp only [k0_part9_eq_skeleton]; unfold k0_part9_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, Hk⟩
  subst hf2 hf3 hf4 hf5 hf6 hf7 hf8 hf9 hf10 hf11 hf12 hf13 hf14 hf15 hf16 hf17 hf18 hf19 hf20 hf21 hf22
  sl_exec (disch := first | (with_reducible refine (?_ : ¬ k0_cond3 _ _ = 1#1); exact hc3)| (with_reducible refine (?_ : k0_cond4 _ _ = 1#1); exact hc4)| (with_reducible refine (?_ : k0_chk1 _ _); exact hk)| (with_reducible refine (?_ : (Scalar.cmpi .ne _ _ : BitVec 1) = 1#1); exact hc4))
  sl_step
  iapply Hk
  isplitl [H2]
  · iexists _; isplitr
    swap; · iexact H2
    ipureintro
    rfl
  isplitl [H3]
  · iexists _; isplitr
    swap; · iexact H3
    ipureintro
    rfl
  isplitl [H4]
  · iexists _; isplitr
    swap; · iexact H4
    ipureintro
    rfl
  isplitl [H5]
  · iexists _; isplitr
    swap; · iexact H5
    ipureintro
    rfl
  isplitl [H6]
  · iexists _; isplitr
    swap; · iexact H6
    ipureintro
    rfl
  isplitl [H7]
  · iexists _; isplitr
    swap; · iexact H7
    ipureintro
    rfl
  isplitl [H8]
  · iexists _; isplitr
    swap; · iexact H8
    ipureintro
    rfl
  isplitl [H9]
  · iexists _; isplitr
    swap; · iexact H9
    ipureintro
    rfl
  isplitl [H10]
  · iexists _; isplitr
    swap; · iexact H10
    ipureintro
    rfl
  isplitl [H11]
  · iexists _; isplitr
    swap; · iexact H11
    ipureintro
    rfl
  isplitl [H12]
  · iexists _; isplitr
    swap; · iexact H12
    ipureintro
    rfl
  isplitl [H13]
  · iexists _; isplitr
    swap; · iexact H13
    ipureintro
    rfl
  isplitl [H14]
  · iexists _; isplitr
    swap; · iexact H14
    ipureintro
    rfl
  isplitl [H15]
  · iexists _; isplitr
    swap; · iexact H15
    ipureintro
    exact read_dq _ _ r _ _ (read_guard _ _ _ _ _ Iff.rfl _ _ rfl) ((congrArg k0_off7 hr).trans (off7_eq r)) _
  isplitl [H16]
  · iexists _; isplitr
    swap; · iexact H16
    ipureintro
    exact read_guard _ _ _ _ _ Iff.rfl _ _ ((View.readCov_full _ _ _ _ _).trans (congrArg (k0_pay50 _ _ _ _ _ _) (View.readCov_full _ _ _ _ _)))
  isplitl [H17]
  · iexists _; isplitr
    swap; · iexact H17
    ipureintro
    exact read_guard _ _ _ _ _ Iff.rfl _ _ (congrArg k0_pay1 ((View.readCov_full _ _ _ _ _).trans (congrArg (k0_pay57 _ _) (View.readCov_full _ _ _ _ _))))
  isplitl [H18]
  · iexists _; isplitr
    swap; · iexact H18
    ipureintro
    dsimp only [diagStep]
    refine read_cols _ _ _ _ _ Iff.rfl _ _ ?h0_18 ?h1_18
    case h0_18 =>
      delta path_diag.sl.v44 path_diag.sl.H22_3
      refine cov_dc0 _ _ _ _ _ _ _ ?a0_18 ?b0_18 ?c0_18
      case b0_18 => rfl
      case c0_18 => exact fill_dc0 _ _
    case h1_18 =>
      delta path_diag.sl.v51 path_diag.sl.H22_3
      refine cov_dc1 _ _ _ _ _ _ ?a1_18 ?b1_18 ?c1_18
      case b1_18 => rfl
      case c1_18 => exact fill_dc1 _ _ _
  isplitl [H19]
  · iexists _; isplitr
    swap; · iexact H19
    ipureintro
    delta path_diag.sl.H19_2 path_diag.sl.H19_1
    dsimp only [diagStep]
    refine Eq.symm (read_dr _ _ r _ _ _ ?_ ((congrArg k0_off5 hr).trans (off5_eq r)) ((congrArg k0_off6 hr).trans (off6_eq r)) _ _ _ _ ?a0_19 ?a1_19 ?b0_19 ?b1_19 ?c0_19 ?c1_19)
    · exact (read_guard _ _ _ _ _ Iff.rfl _ _ rfl)
    case b0_19 => rfl
    case b1_19 => rfl
    case c0_19 => rfl
    case c1_19 => rfl
  isplitl [H20]
  · iexists _; isplitr
    swap; · iexact H20
    ipureintro
    exact (View.read_writes_full _ _ _ _ _).trans (congrArg (k0_pay50 _ _ _ _ _ _) (View.readCov_full _ _ _ _ _))
  isplitl [H21]
  · iexists _; isplitr
    swap; · iexact H21
    ipureintro
    exact (View.read_writes_full _ _ _ _ _).trans (congrArg (k0_pay57 _ _) (View.readCov_full _ _ _ _ _))
  iexists _; isplitr
  swap; · iexact H22
  ipureintro
  delta path_diag.sl.H22_3
  dsimp only [diagStep]
  refine Eq.symm (read_dc _ _ _ _ _ _ ?_ _ _ ?a0_22 ?a1_22 ?b0_22 ?b1_22 ?c0_22 ?c1_22)
  · exact fill_dc _ _ _
  case b0_22 => rfl
  case b1_22 => rfl
  case c0_22 => exact fill_dc0 _ _
  case c1_22 => exact fill_dc1 _ _ _

end Cert.KernelIdeal.Fox

end
-- ==== Proof.Tables.lean ====
module

public import proofs.«01_k».proof.Proof.Body

/-!
  The two tables of tile numbers that the region reads: `lit0` gives the query tile and `lit1` the key tile of each of
  the 136 points of a head pair. Here are the closed facts about them: what the index maps and the body read at a point,
  which points lie on the diagonal, when an output block is written back, and the pipeline's side condition.
-/

@[expose] public section

set_option maxRecDepth 16384

noncomputable section

namespace Cert.KernelIdeal.Fox

open Cert.KernelIdeal Cert.KernelIdeal.Gen
open Idealize.ShloMosaic Idealize.ShloMosaic.TcCoe

variable {F : FTy → Type} [FloatOps F]

/-- The tables' contents. -/
def tab : pre0.Contents (Elt F) := fun
  | 0 => fun i => lit0 (S136.rowMajor i)
  | 1 => fun i => lit1 (S136.rowMajor i)
  | ⟨_ + 2, h⟩ => absurd h (Nat.not_lt.2 (Nat.le_add_left _ _))

/-- The query tile of point `s`. -/
def it (s : Fin 136) : Fin 16 := ⟨(lit0 s).toNat % 16, Nat.mod_lt _ (by decide)⟩
/-- The key tile of point `s`. -/
def jt (s : Fin 136) : Fin 16 := ⟨(lit1 s).toNat % 16, Nat.mod_lt _ (by decide)⟩

theorem word_it (s : Fin 136) : lit0 s = BitVec.ofNat 32 (it s).val := by revert s; decide +kernel
theorem word_jt (s : Fin 136) : lit1 s = BitVec.ofNat 32 (jt s).val := by revert s; decide +kernel

theorem nat_it (s : Fin 136) : (lit0 s).toNat = (it s).val := by revert s; decide +kernel
theorem nat_jt (s : Fin 136) : (lit1 s).toNat = (jt s).val := by revert s; decide +kernel

/-- Rank one: the row-major place is the coordinate. -/
theorem place_eq (x : S136.Idx) : (S136.rowMajor x).val = (x 0).val := by
  have h := Shape.rowMajorPi_succ_val S136.size x
  refine h.trans ?_
  simp [Shape.rowMajorPi]
  rfl

theorem off_eq (s : Fin 136) : (Scalar.indexCast (BitVec.ofNat 32 s.val)).toNat = s.val := by revert s; decide +kernel

/-- The place of the word a point reads is the point's own number. -/
theorem place (s : Fin 136) (h : ∀ a, ![(Scalar.indexCast (BitVec.ofNat 32 s.val)).toNat] a + S1.size a ≤ S136.size a)
    (h1 : 0 < (Rect.unit (s := S136) ![(Scalar.indexCast (BitVec.ofNat 32 s.val)).toNat] S1.size h).shape.numel) :
    S136.rowMajor ((Rect.unit (s := S136) ![(Scalar.indexCast (BitVec.ofNat 32 s.val)).toNat] S1.size h).emb (Shape.Idx.first h1)) = s := by
  refine Fin.ext ((place_eq _).trans ?_)
  have e : (((Rect.unit (s := S136) ![(Scalar.indexCast (BitVec.ofNat 32 s.val)).toNat] S1.size h).emb (Shape.Idx.first h1)) 0).val
      = (Scalar.indexCast (BitVec.ofNat 32 s.val)).toNat + 1 * ((Shape.Idx.first h1 : (Rect.unit (s := S136) ![(Scalar.indexCast (BitVec.ofNat 32 s.val)).toNat] S1.size h).shape.Idx) 0).val := rfl
  have hl : ((Shape.Idx.first h1 : (Rect.unit (s := S136) ![(Scalar.indexCast (BitVec.ofNat 32 s.val)).toNat] S1.size h).shape.Idx) 0).val < 1 := Fin.isLt _
  exact e.trans (congrArg₂ (fun x y : ℕ => x + 1 * y) (off_eq s) (Nat.lt_one_iff.mp hl))

theorem tab_at0 (i : grid0.Coords) (h) (h1) :
    (tab (F := F)).at 0 (Rect.unit (s := S136) ![(Scalar.indexCast (BitVec.ofNat 32 (i 1).val)).toNat] S1.size h) h1 = lit0 (i 1) :=
  congrArg lit0 (place (i 1) h _)
theorem tab_at1 (i : grid0.Coords) (h) (h1) :
    (tab (F := F)).at 1 (Rect.unit (s := S136) ![(Scalar.indexCast (BitVec.ofNat 32 (i 1).val)).toNat] S1.size h) h1 = lit1 (i 1) :=
  congrArg lit1 (place (i 1) h _)

theorem placeD (s : Fin 136) (h : ∀ a, ![(Scalar.indexCast (BitVec.ofNat 32 s.val)).toNat] a + 1 ≤ S136.size a) :
    S136.rowMajor ((fun a => ⟨![(Scalar.indexCast (BitVec.ofNat 32 s.val)).toNat] a, h a⟩) : S136.Idx) = s :=
  Fin.ext ((place_eq _).trans (off_eq s))

theorem inD (i : grid0.Coords) : ∀ a, k0_off1 i a + 1 ≤ S136.size a := fun a =>
  le_trans (by have : S1.size a = 1 := by revert a; decide
               rw [this]) (k0_off1_inb i a)

theorem tab_atD0 (i : grid0.Coords) : (tab (F := F)).atD 0 (k0_off1 i) = BitVec.ofNat 32 (it (i 1)).val :=
  ((dif_pos (inD i)).trans (congrArg lit0 (placeD (i 1) (inD i)))).trans (word_it _)
theorem tab_atD1 (i : grid0.Coords) : (tab (F := F)).atD 1 (k0_off1 i) = BitVec.ofNat 32 (jt (i 1)).val :=
  ((dif_pos (inD i)).trans (congrArg lit1 (placeD (i 1) (inD i)))).trans (word_jt _)

/-- On the words of tile numbers the two conditions of the body are "the tiles differ" and "the tiles agree". -/
theorem cond3_iff (a b : Fin 16) : k0_cond3 (BitVec.ofNat 32 a.val) (BitVec.ofNat 32 b.val) = 1#1 ↔ a ≠ b := by
  revert a b; decide +kernel
theorem cond4_iff (a b : Fin 16) : k0_cond4 (BitVec.ofNat 32 a.val) (BitVec.ofNat 32 b.val) = 1#1 ↔ a = b := by
  revert a b; decide +kernel
theorem cond5_iff (a : Fin 16) : k0_cond5 (BitVec.ofNat 32 a.val) = 1#1 ↔ a = 15 := by
  revert a; decide +kernel
theorem cond1_iff (i : grid0.Coords) : k0_cond1 i = 1#1 ↔ i 1 = (0 : Fin 136) := by
  have h : ∀ s : Fin 136, Scalar.cmpi .ne (Scalar.extui (Scalar.cmpi .eq (BitVec.ofNat 32 s.val) 0#32)) (0#32 : BitVec 32) = 1#1 ↔ s = 0 := by decide +kernel
  exact h (i 1)
theorem chk1 (a b : Fin 16) : k0_chk1 (BitVec.ofNat 32 a.val) (BitVec.ofNat 32 b.val) := by
  revert a b; decide +kernel

theorem nat_pair (i : grid0.Coords) : (BitVec.ofNat 32 (i 0).val).toNat = (i 0).val := by
  have h : ∀ p : Fin 4, (BitVec.ofNat 32 p.val).toNat = p.val := by decide
  exact h (i 0)

/-! The block index of each window that reads a table. -/

theorem ix_0 (i : grid0.Coords) : cc0_transform_0 k0_off1_inb numel1_S1 (tab (F := F)) i = ![(it (i 1)).val, (i 0).val] :=
  congrArg₂ (fun x y : ℕ => ![x, y]) ((congrArg BitVec.toNat (tab_at0 (F := F) i (k0_off1_inb i) numel1_S1)).trans (nat_it _)) (nat_pair i)
theorem ix_1 (i : grid0.Coords) : cc0_transform_1 k0_off1_inb numel1_S1 (tab (F := F)) i = ![(i 0).val, (it (i 1)).val] :=
  congrArg₂ (fun x y : ℕ => ![x, y]) (nat_pair i) ((congrArg BitVec.toNat (tab_at0 (F := F) i (k0_off1_inb i) numel1_S1)).trans (nat_it _))
theorem ix_2 (i : grid0.Coords) : cc0_transform_2 k0_off1_inb numel1_S1 (tab (F := F)) i = ![(jt (i 1)).val, (i 0).val] :=
  congrArg₂ (fun x y : ℕ => ![x, y]) ((congrArg BitVec.toNat (tab_at1 (F := F) i (k0_off1_inb i) numel1_S1)).trans (nat_jt _)) (nat_pair i)
theorem ix_3 (i : grid0.Coords) : cc0_transform_3 k0_off1_inb numel1_S1 (tab (F := F)) i = ![(i 0).val, (jt (i 1)).val] :=
  congrArg₂ (fun x y : ℕ => ![x, y]) (nat_pair i) ((congrArg BitVec.toNat (tab_at1 (F := F) i (k0_off1_inb i) numel1_S1)).trans (nat_jt _))
theorem ix_4 (i : grid0.Coords) : cc0_transform_4 k0_off1_inb numel1_S1 (tab (F := F)) i = ![(jt (i 1)).val, (i 0).val] :=
  congrArg₂ (fun x y : ℕ => ![x, y]) ((congrArg BitVec.toNat (tab_at1 (F := F) i (k0_off1_inb i) numel1_S1)).trans (nat_jt _)) (nat_pair i)
theorem ix_5 (i : grid0.Coords) : cc0_transform_5 k0_off1_inb numel1_S1 (tab (F := F)) i = ![(it (i 1)).val, (i 0).val] :=
  congrArg₂ (fun x y : ℕ => ![x, y]) ((congrArg BitVec.toNat (tab_at0 (F := F) i (k0_off1_inb i) numel1_S1)).trans (nat_it _)) (nat_pair i)
theorem ix_6 (i : grid0.Coords) : cc0_transform_6 k0_off1_inb numel1_S1 (tab (F := F)) i = ![(i 0).val, (it (i 1)).val] :=
  congrArg₂ (fun x y : ℕ => ![x, y]) (nat_pair i) ((congrArg BitVec.toNat (tab_at0 (F := F) i (k0_off1_inb i) numel1_S1)).trans (nat_it _))
theorem ix_7 (i : grid0.Coords) : cc0_transform_7 k0_off1_inb numel1_S1 (tab (F := F)) i = ![(i 0).val, 0, (it (i 1)).val] :=
  congrArg₂ (fun x y : ℕ => ![x, 0, y]) (nat_pair i) ((congrArg BitVec.toNat (tab_at0 (F := F) i (k0_off1_inb i) numel1_S1)).trans (nat_it _))
theorem ix_8 (i : grid0.Coords) : cc0_transform_8 k0_off1_inb numel1_S1 (tab (F := F)) i = ![(i 0).val, 0, (it (i 1)).val] :=
  congrArg₂ (fun x y : ℕ => ![x, 0, y]) (nat_pair i) ((congrArg BitVec.toNat (tab_at0 (F := F) i (k0_off1_inb i) numel1_S1)).trans (nat_it _))
theorem ix_9 (i : grid0.Coords) : cc0_transform_9 k0_off1_inb numel1_S1 (tab (F := F)) i = ![(i 0).val, 0, (it (i 1)).val] :=
  congrArg₂ (fun x y : ℕ => ![x, 0, y]) (nat_pair i) ((congrArg BitVec.toNat (tab_at0 (F := F) i (k0_off1_inb i) numel1_S1)).trans (nat_it _))
theorem ix_10 (i : grid0.Coords) : cc0_transform_10 k0_off1_inb numel1_S1 (tab (F := F)) i = ![(i 0).val, (jt (i 1)).val, 0] :=
  congrArg₂ (fun x y : ℕ => ![x, y, 0]) (nat_pair i) ((congrArg BitVec.toNat (tab_at1 (F := F) i (k0_off1_inb i) numel1_S1)).trans (nat_jt _))
theorem ix_12 (i : grid0.Coords) : cc0_transform_12 k0_off1_inb numel1_S1 (tab (F := F)) i = ![(jt (i 1)).val, (i 0).val] :=
  congrArg₂ (fun x y : ℕ => ![x, y]) ((congrArg BitVec.toNat (tab_at1 (F := F) i (k0_off1_inb i) numel1_S1)).trans (nat_jt _)) (nat_pair i)
theorem ix_13 (i : grid0.Coords) : cc0_transform_13 k0_off1_inb numel1_S1 (tab (F := F)) i = ![(jt (i 1)).val, (i 0).val] :=
  congrArg₂ (fun x y : ℕ => ![x, y]) ((congrArg BitVec.toNat (tab_at1 (F := F) i (k0_off1_inb i) numel1_S1)).trans (nat_jt _)) (nat_pair i)
theorem ix_14 (i : grid0.Coords) : cc0_transform_14 k0_off1_inb numel1_S1 (tab (F := F)) i = ![(i 0).val, (jt (i 1)).val, 0] :=
  congrArg₂ (fun x y : ℕ => ![x, y, 0]) (nat_pair i) ((congrArg BitVec.toNat (tab_at1 (F := F) i (k0_off1_inb i) numel1_S1)).trans (nat_jt _))

/-! A block with such an index is inside its array and made of whole words. -/

theorem ok_Q_bf16 (f : Fin 2 → ℕ) (a : Fin 16) (p : Fin 4) (hf : f = ![a.val, p.val]) :
    ∃ h : (∀ x, (f x + 1) * S512x128.size x ≤ S8192x512.size x), EltTy.bits .bf16 = 32 ∨ (Rect.block (s := S8192x512) S512x128.size f h).WholeWords (EltTy.packing .bf16) := by
  subst hf; revert a p; decide +kernel
theorem ok_T_bf16 (f : Fin 2 → ℕ) (a : Fin 16) (p : Fin 4) (hf : f = ![p.val, a.val]) :
    ∃ h : (∀ x, (f x + 1) * S128x512.size x ≤ S512x8192.size x), EltTy.bits .bf16 = 32 ∨ (Rect.block (s := S512x8192) S128x512.size f h).WholeWords (EltTy.packing .bf16) := by
  subst hf; revert a p; decide +kernel
theorem ok_Q_f32 (f : Fin 2 → ℕ) (a : Fin 16) (p : Fin 4) (hf : f = ![a.val, p.val]) :
    ∃ h : (∀ x, (f x + 1) * S512x128.size x ≤ S8192x512.size x), EltTy.bits .f32 = 32 ∨ (Rect.block (s := S8192x512) S512x128.size f h).WholeWords (EltTy.packing .f32) := by
  subst hf; revert a p; decide +kernel
theorem ok_R_f32 (f : Fin 3 → ℕ) (a : Fin 16) (p : Fin 4) (hf : f = ![p.val, 0, a.val]) :
    ∃ h : (∀ x, (f x + 1) * S1x2x512.size x ≤ S4x2x8192.size x), EltTy.bits .f32 = 32 ∨ (Rect.block (s := S4x2x8192) S1x2x512.size f h).WholeWords (EltTy.packing .f32) := by
  subst hf; revert a p; decide +kernel
theorem ok_C_f32 (f : Fin 3 → ℕ) (a : Fin 16) (p : Fin 4) (hf : f = ![p.val, a.val, 0]) :
    ∃ h : (∀ x, (f x + 1) * S1x512x2.size x ≤ S4x8192x2.size x), EltTy.bits .f32 = 32 ∨ (Rect.block (s := S4x8192x2) S1x512x2.size f h).WholeWords (EltTy.packing .f32) := by
  subst hf; revert a p; decide +kernel

/-- The pipeline's side condition holds of the tables. -/
theorem ok_tab : ok0 (tab (F := F)) := by
  unfold ok0
  exact ⟨fun i => ok_Q_bf16 _ _ (i 0) (ix_0 i),
    fun i => ok_T_bf16 _ _ (i 0) (ix_1 i),
    fun i => ok_Q_bf16 _ _ (i 0) (ix_2 i),
    fun i => ok_T_bf16 _ _ (i 0) (ix_3 i),
    fun i => ok_Q_bf16 _ _ (i 0) (ix_4 i),
    fun i => ok_Q_bf16 _ _ (i 0) (ix_5 i),
    fun i => ok_T_bf16 _ _ (i 0) (ix_6 i),
    fun i => ok_R_f32 _ _ (i 0) (ix_7 i),
    fun i => ok_R_f32 _ _ (i 0) (ix_8 i),
    fun i => ok_R_f32 _ _ (i 0) (ix_9 i),
    fun i => ok_C_f32 _ _ (i 0) (ix_10 i),
    fun i => ok_Q_f32 _ _ (i 0) (ix_12 i),
    fun i => ok_Q_bf16 _ _ (i 0) (ix_13 i),
    fun i => ok_C_f32 _ _ (i 0) (ix_14 i)⟩

end Cert.KernelIdeal.Fox

end
-- ==== Proof.Data.lean ====
/-
  The pipeline's proof data: the state of the running sums from point to point, what each window's buffer holds after
  the body, and the body's obligation at a point.
-/
module

public import proofs.«01_k».proof.Proof.Tables

@[expose] public section

set_option maxRecDepth 16384

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The running sums a point starts from: at a pair's first point the two that run over the whole pair are reset. -/
def reset (i : grid0.Coords) (S : St F) : St F :=
  ⟨if k0_cond1 i = 1#1 then k0_pay52 else S.dq, if k0_cond1 i = 1#1 then k0_pay53 else S.dr, S.dk, S.dv, S.dc⟩

/-- One point of the grid, on tiles `r` of the queries and `j` of the keys. -/
def stepAt (i : grid0.Coords) (r j : Fin 16) (I : Ins F) (S : St F) : St F :=
  if r = j then diagStep r (BitVec.ofNat 32 r.val) (BitVec.ofNat 32 j.val) I (reset i S) else offStep r I (reset i S)

/-- The body at any point of the grid. -/
theorem path (c : Dev nD) (E : Set ℕ) (q : PosShare TreeShare) (i : grid0.Coords) (arg2 : Memref sig .tc .smem S136 .i32) (harg2 : arg2.IsWhole) (arg3 : Memref sig .tc .smem S136 .i32) (harg3 : arg3.IsWhole) (arg4 : Memref sig .tc .vmem S512x128 .bf16) (harg4 : arg4.IsWhole) (arg5 : Memref sig .tc .vmem S128x512 .bf16) (harg5 : arg5.IsWhole) (arg6 : Memref sig .tc .vmem S512x128 .bf16) (harg6 : arg6.IsWhole) (arg7 : Memref sig .tc .vmem S128x512 .bf16) (harg7 : arg7.IsWhole) (arg8 : Memref sig .tc .vmem S512x128 .bf16) (harg8 : arg8.IsWhole) (arg9 : Memref sig .tc .vmem S512x128 .bf16) (harg9 : arg9.IsWhole) (arg10 : Memref sig .tc .vmem S128x512 .bf16) (harg10 : arg10.IsWhole) (arg11 : Memref sig .tc .vmem S1x2x512 .f32) (harg11 : arg11.IsWhole) (arg12 : Memref sig .tc .vmem S1x2x512 .f32) (harg12 : arg12.IsWhole) (arg13 : Memref sig .tc .vmem S1x2x512 .f32) (harg13 : arg13.IsWhole) (arg14 : Memref sig .tc .vmem S1x512x2 .f32) (harg14 : arg14.IsWhole) (arg15 : Memref sig .tc .vmem S1x16x128x512 .f32) (harg15 : arg15.IsWhole) (arg16 : Memref sig .tc .vmem S512x128 .f32) (harg16 : arg16.IsWhole) (arg17 : Memref sig .tc .vmem S512x128 .bf16) (harg17 : arg17.IsWhole) (arg18 : Memref sig .tc .vmem S1x512x2 .f32) (harg18 : arg18.IsWhole) (arg19 : Memref sig .tc .vmem S1x16x2x512 .f32) (harg19 : arg19.IsWhole) (arg20 : Memref sig .tc .vmem S512x128 .f32) (harg20 : arg20.IsWhole) (arg21 : Memref sig .tc .vmem S512x128 .f32) (harg21 : arg21.IsWhole) (arg22 : Memref sig .tc .vmem S2x512x1 .f32) (harg22 : arg22.IsWhole)
    (x2 : Vec F S136 .i32) (x3 : Vec F S136 .i32) (x4 : Vec F S512x128 .bf16) (x5 : Vec F S128x512 .bf16) (x6 : Vec F S512x128 .bf16) (x7 : Vec F S128x512 .bf16) (x8 : Vec F S512x128 .bf16) (x9 : Vec F S512x128 .bf16) (x10 : Vec F S128x512 .bf16) (x11 : Vec F S1x2x512 .f32) (x12 : Vec F S1x2x512 .f32) (x13 : Vec F S1x2x512 .f32) (x14 : Vec F S1x512x2 .f32) (x15 : Vec F S1x16x128x512 .f32) (x16 : Vec F S512x128 .f32) (x17 : Vec F S512x128 .bf16) (x18 : Vec F S1x512x2 .f32) (x19 : Vec F S1x16x2x512 .f32) (x20 : Vec F S512x128 .f32) (x21 : Vec F S512x128 .f32) (x22 : Vec F S2x512x1 .f32)
    (r j : Fin 16) (hr : w1 x2 i = BitVec.ofNat 32 r.val) (hj : w1 x3 i = BitVec.ofNat 32 j.val) (K : PUnit → sProp 𝕄) :
    iprop(owns (c : Thread nD τ) arg2 q x2 ∗ owns (c : Thread nD τ) arg3 q x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22
        ∗ (iprop(owns (c : Thread nD τ) arg2 q x2 ∗ owns (c : Thread nD τ) arg3 q x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare (stepAt i r j ⟨x4, x5, x6, x7, x8, x9, x10, x11, x12, x13, x14⟩ ⟨x15, x19, x20, x21, x22⟩).dq ∗ owns (c : Thread nD τ) arg16 fullShare (if r = 15 then (stepAt i r j ⟨x4, x5, x6, x7, x8, x9, x10, x11, x12, x13, x14⟩ ⟨x15, x19, x20, x21, x22⟩).dk else x16) ∗ owns (c : Thread nD τ) arg17 fullShare (if r = 15 then k0_pay1 (stepAt i r j ⟨x4, x5, x6, x7, x8, x9, x10, x11, x12, x13, x14⟩ ⟨x15, x19, x20, x21, x22⟩).dv else x17) ∗ owns (c : Thread nD τ) arg18 fullShare (if r = 15 then negCols (stepAt i r j ⟨x4, x5, x6, x7, x8, x9, x10, x11, x12, x13, x14⟩ ⟨x15, x19, x20, x21, x22⟩).dc x18 else x18) ∗ owns (c : Thread nD τ) arg19 fullShare (stepAt i r j ⟨x4, x5, x6, x7, x8, x9, x10, x11, x12, x13, x14⟩ ⟨x15, x19, x20, x21, x22⟩).dr ∗ owns (c : Thread nD τ) arg20 fullShare (stepAt i r j ⟨x4, x5, x6, x7, x8, x9, x10, x11, x12, x13, x14⟩ ⟨x15, x19, x20, x21, x22⟩).dk ∗ owns (c : Thread nD τ) arg21 fullShare (stepAt i r j ⟨x4, x5, x6, x7, x8, x9, x10, x11, x12, x13, x14⟩ ⟨x15, x19, x20, x21, x22⟩).dv ∗ owns (c : Thread nD τ) arg22 fullShare (stepAt i r j ⟨x4, x5, x6, x7, x8, x9, x10, x11, x12, x13, x14⟩ ⟨x15, x19, x20, x21, x22⟩).dc) -∗ K ⟨⟩))
      ⊢ wp frame (wpE (defs₀ (F := F)) Variants.none c none) E (cc0_fox_attention_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  have hk : k0_chk1 (w1 x2 i) (w1 x3 i) := by rw [hr, hj]; exact chk1 r j
  have h5 : (k0_cond5 (w1 x2 i) = 1#1) = (r = 15) := by rw [hr]; exact propext (cond5_iff r)
  by_cases hrj : r = j
  · have h4 : k0_cond4 (w1 x2 i) (w1 x3 i) = 1#1 := by rw [hr, hj]; exact (cond4_iff r j).mpr hrj
    have h3 : ¬ k0_cond3 (w1 x2 i) (w1 x3 i) = 1#1 := by rw [hr, hj]; exact fun h => (cond3_iff r j).mp h hrj
    have h := path_diag c E q i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x2 x3 x4 x5 x6 x7 x8 x9 x10 x11 x12 x13 x14 x15 x16 x17 x18 x19 x20 x21 x22 r hr h3 h4 hk K
    simp only [ldQ_eq, ldT_eq, hr, hj] at h
    simp only [hr] at h5
    simp only [h5] at h
    unfold stepAt
    simp only [if_pos hrj]
    exact h
  · have h4 : ¬ k0_cond4 (w1 x2 i) (w1 x3 i) = 1#1 := by rw [hr, hj]; exact fun h => hrj ((cond4_iff r j).mp h)
    have h3 : k0_cond3 (w1 x2 i) (w1 x3 i) = 1#1 := by rw [hr, hj]; exact (cond3_iff r j).mpr hrj
    have h := path_off c E q i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x2 x3 x4 x5 x6 x7 x8 x9 x10 x11 x12 x13 x14 x15 x16 x17 x18 x19 x20 x21 x22 r hr h3 h4 hk K
    simp only [ldQ_eq, ldT_eq, h5] at h
    unfold stepAt
    simp only [if_neg hrj]
    exact h

/-! ## The tables at the pipeline -/

/-- The tables, with their side condition. -/
abbrev adm : (pcfg0 (F := F)).Adm := ⟨tab, ok_tab⟩
/-- The pipeline at them. -/
abbrev cfgA : Pipeline.Cfg sig Λ₀ := cfg0 (F := F) adm

/-- The word the body reads at a point is the table's word of that point. -/
theorem w1_tab0 (i : grid0.Coords) : w1 ((tab (F := F)) 0) i = BitVec.ofNat 32 (it (i 1)).val :=
  ((congrArg lit0 (place (i 1) (k0_off1_inb i) _)).trans (word_it (i 1)) :)
theorem w1_tab1 (i : grid0.Coords) : w1 ((tab (F := F)) 1) i = BitVec.ofNat 32 (jt (i 1)).val :=
  ((congrArg lit1 (place (i 1) (k0_off1_inb i) _)).trans (word_jt (i 1)) :)

/-! ## Idle points and write-backs -/

theorem idle_11 (i : grid0.Coords) : (cfgA (F := F)).idle 11 i = false := by
  show (!(k0_cond1 i == 1#1) && !(k0_cond3 ((tab (F := F)).atD 0 (k0_off1 i)) ((tab (F := F)).atD 1 (k0_off1 i)) == 1#1) && !(k0_cond4 ((tab (F := F)).atD 0 (k0_off1 i)) ((tab (F := F)).atD 1 (k0_off1 i)) == 1#1)) = false
  rw [tab_atD0, tab_atD1]
  by_cases h : it (i 1) = jt (i 1)
  · rw [(cond4_iff _ _).mpr h]; simp
  · rw [(cond3_iff _ _).mpr h]; simp
theorem idle_15 (i : grid0.Coords) : (cfgA (F := F)).idle 15 i = false := idle_11 (F := F) i
theorem idle_12 (i : grid0.Coords) : (cfgA (F := F)).idle 12 i = !(decide (it (i 1) = 15)) := by
  show (!(k0_cond5 ((tab (F := F)).atD 0 (k0_off1 i)) == 1#1)) = _
  rw [tab_atD0]
  by_cases h : it (i 1) = 15
  · rw [(cond5_iff _).mpr h, h]; rfl
  · have : ¬ k0_cond5 (BitVec.ofNat 32 (it (i 1)).val) = 1#1 := fun e => h ((cond5_iff _).mp e)
    rw [decide_eq_false h, beq_eq_false_iff_ne.mpr this]
theorem idle_13 (i : grid0.Coords) : (cfgA (F := F)).idle 13 i = !(decide (it (i 1) = 15)) := idle_12 (F := F) i
theorem idle_14 (i : grid0.Coords) : (cfgA (F := F)).idle 14 i = !(decide (it (i 1) = 15)) := idle_12 (F := F) i

/-- A point's number is the pair's number times 136 plus the point's number within the pair. -/
theorem coords_1 (t : Fin grid0.N) : (grid0.coords t 1).val = t.val % 136 := by revert t; decide +kernel

/-- The pair's outputs are written back after its last point only. -/
theorem stay (t : Fin grid0.N) : ((true && (decide (t.val + 1 = grid0.N) || decide (∃ h : t.val + 1 < grid0.N, cc0_transform_11 (grid0.coords ⟨t.val + 1, h⟩) ≠ cc0_transform_11 (grid0.coords t)))) = true)
    → t.val % 136 = 135 := by
  revert t; decide +kernel
theorem flush_11 (t : Fin grid0.N) (h : ((cfgA (F := F)).win 11).flush t = true) : t.val % 136 = 135 := stay t h
theorem flush_15 (t : Fin grid0.N) (h : ((cfgA (F := F)).win 15).flush t = true) : t.val % 136 = 135 := stay t h

/-- A column's outputs are written back after the column's last tile. -/
theorem leave (t : Fin grid0.N) (h : t.val + 1 = grid0.N ∨ ∃ h : t.val + 1 < grid0.N, ¬ (jt (grid0.coords ⟨t.val + 1, h⟩ 1) = jt (grid0.coords t 1) ∧ grid0.coords ⟨t.val + 1, h⟩ 0 = grid0.coords t 0)) :
    it (grid0.coords t 1) = 15 := by
  revert t; decide +kernel
theorem flush_12 (t : Fin grid0.N) (h : ((cfgA (F := F)).win 12).flush t = true) : it (grid0.coords t 1) = 15 := by
  have h' : (true && (decide (t.val + 1 = grid0.N) || decide (∃ h : t.val + 1 < grid0.N, cc0_transform_12 k0_off1_inb numel1_S1 (tab (F := F)) (grid0.coords ⟨t.val + 1, h⟩) ≠ cc0_transform_12 k0_off1_inb numel1_S1 (tab (F := F)) (grid0.coords t)))) = true := h
  refine leave t ?_
  simp only [Bool.true_and, Bool.or_eq_true, decide_eq_true_eq] at h'
  rcases h' with h' | ⟨hl, hne⟩
  · exact .inl h'
  · refine .inr ⟨hl, fun e => hne ?_⟩
    rw [ix_12, ix_12, e.1, e.2]
theorem flush_13 (t : Fin grid0.N) (h : ((cfgA (F := F)).win 13).flush t = true) : it (grid0.coords t 1) = 15 := by
  have h' : (true && (decide (t.val + 1 = grid0.N) || decide (∃ h : t.val + 1 < grid0.N, cc0_transform_13 k0_off1_inb numel1_S1 (tab (F := F)) (grid0.coords ⟨t.val + 1, h⟩) ≠ cc0_transform_13 k0_off1_inb numel1_S1 (tab (F := F)) (grid0.coords t)))) = true := h
  refine leave t ?_
  simp only [Bool.true_and, Bool.or_eq_true, decide_eq_true_eq] at h'
  rcases h' with h' | ⟨hl, hne⟩
  · exact .inl h'
  · refine .inr ⟨hl, fun e => hne ?_⟩
    rw [ix_13, ix_13, e.1, e.2]
theorem flush_14 (t : Fin grid0.N) (h : ((cfgA (F := F)).win 14).flush t = true) : it (grid0.coords t 1) = 15 := by
  have h' : (true && (decide (t.val + 1 = grid0.N) || decide (∃ h : t.val + 1 < grid0.N, cc0_transform_14 k0_off1_inb numel1_S1 (tab (F := F)) (grid0.coords ⟨t.val + 1, h⟩) ≠ cc0_transform_14 k0_off1_inb numel1_S1 (tab (F := F)) (grid0.coords t)))) = true := h
  refine leave t ?_
  simp only [Bool.true_and, Bool.or_eq_true, decide_eq_true_eq] at h'
  rcases h' with h' | ⟨hl, hne⟩
  · exact .inl h'
  · refine .inr ⟨hl, fun e => hne ?_⟩
    rw [ix_14, ix_14, e.1, e.2]

/-! ## The proof data -/

variable (V : (c : Dev nD) → (b : Ref sig .tc) → Buf (Elt F) ((c.tc : Thread nD τ).loc b))

/-- Window `w`'s block at point `t`. -/
def blk (c : Dev nD) (w : Fin 16) (t : Fin grid0.N) : (((cfgA (F := F)).win w).xblock (grid0.coords t)).Idx → Elt F ((cfgA (F := F)).win w).elt :=
  (((cfgA (F := F)).win w).blk t).view.read (Elt F) (V c (Pipeline.arrRef spec0 w))

/-- The blocks of the eleven inputs at point `t`. -/
def ins (c : Dev nD) (t : Fin grid0.N) : Ins F :=
  ⟨blk V c 0 t, blk V c 1 t, blk V c 2 t, blk V c 3 t, blk V c 4 t, blk V c 5 t, blk V c 6 t, blk V c 7 t, blk V c 8 t, blk V c 9 t, blk V c 10 t⟩

/-- The running sums before point `n`. -/
def st (c : Dev nD) : ℕ → St F
  | 0 => ⟨k0_pay52, k0_pay53, k0_pay54, k0_pay55, k0_pay56⟩
  | n + 1 => if h : n < grid0.N then
      stepAt (grid0.coords ⟨n, h⟩) (it (grid0.coords ⟨n, h⟩ 1)) (jt (grid0.coords ⟨n, h⟩ 1)) (ins V c ⟨n, h⟩) (st c n) else st c n

theorem st_succ (c : Dev nD) (t : Fin grid0.N) :
    st V c (t.val + 1) = stepAt (grid0.coords t) (it (grid0.coords t 1)) (jt (grid0.coords t 1)) (ins V c t) (st V c t.val) := by
  show dite _ _ _ = _
  exact dif_pos t.isLt

/-- The invariant before point `n`: the scratch buffers at the running sums (at the first point at anything), the
    generator's register, the body's half of the tables. -/
def inv (c : Dev nD) (n : ℕ) : sProp 𝕄 :=
  iprop((∃ S : St F, ⌜n ≠ 0 → S.dk = (st V c n).dk ∧ S.dv = (st V c n).dv ∧ S.dc = (st V c n).dc⌝
      ∗ owns (c : Thread nD τ) (Memref.whole cc0_scratch0) fullShare S.dk
      ∗ owns (c : Thread nD τ) (Memref.whole cc0_scratch1) fullShare S.dv
      ∗ owns (c : Thread nD τ) (Memref.whole cc0_scratch2) fullShare S.dc)
    ∗ (∃ r, prngReg c r) ∗ Pipeline.ΦT pre0 (tab (F := F)) c)

/-- The proof data. -/
def dats (_ : Fin 1) (c : Dev nD) : Dat τ (Elt F) Unit ℕ (UR sig nD τ) ℕ (cfgA (F := F)) c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => blk V c 7 t
    | ⟨8, _⟩ => blk V c 8 t
    | ⟨9, _⟩ => blk V c 9 t
    | ⟨10, _⟩ => blk V c 10 t
    | ⟨11, _⟩ => (st V c (t.val + 1)).dq
    | ⟨12, _⟩ => (st V c (t.val + 1)).dk
    | ⟨13, _⟩ => k0_pay1 (st V c (t.val + 1)).dv
    | ⟨14, _⟩ => negCols (st V c (t.val + 1)).dc (ins V c t).cc
    | ⟨15, _⟩ => (st V c (t.val + 1)).dr
    | ⟨_ + 16, h⟩ => absurd h (Nat.not_lt.2 (Nat.le_add_left _ _))
  Φ t := inv V c t.val
  q _ := fullShare
  owed _ := 0

theorem A_eq (c : Dev nD) (w : Fin 16) : (dats V 0 c).A w = V c (Pipeline.arrRef spec0 w) := by dsimp only [dats]
theorem after_0 (c : Dev nD) (t : Fin grid0.N) : (dats V 0 c).after 0 t = blk V c 0 t := by dsimp only [dats]; rfl
theorem before_0 (c : Dev nD) (t : Fin grid0.N) (d) : (dats V 0 c).before 0 t d = blk V c 0 t := by
  refine ((dats V 0 c).before_in_eq_fetched 0 rfl (fun _ => rfl) (fun _ _ _ => rfl) (fun t => ?_) t d).trans ?_
  · unfold Dat.blockOf; rw [after_0, A_eq]; rfl
  · unfold Dat.fetched Dat.blockOf; rw [A_eq]; rfl
theorem after_1 (c : Dev nD) (t : Fin grid0.N) : (dats V 0 c).after 1 t = blk V c 1 t := by dsimp only [dats]; rfl
theorem before_1 (c : Dev nD) (t : Fin grid0.N) (d) : (dats V 0 c).before 1 t d = blk V c 1 t := by
  refine ((dats V 0 c).before_in_eq_fetched 1 rfl (fun _ => rfl) (fun _ _ _ => rfl) (fun t => ?_) t d).trans ?_
  · unfold Dat.blockOf; rw [after_1, A_eq]; rfl
  · unfold Dat.fetched Dat.blockOf; rw [A_eq]; rfl
theorem after_2 (c : Dev nD) (t : Fin grid0.N) : (dats V 0 c).after 2 t = blk V c 2 t := by dsimp only [dats]; rfl
theorem before_2 (c : Dev nD) (t : Fin grid0.N) (d) : (dats V 0 c).before 2 t d = blk V c 2 t := by
  refine ((dats V 0 c).before_in_eq_fetched 2 rfl (fun _ => rfl) (fun _ _ _ => rfl) (fun t => ?_) t d).trans ?_
  · unfold Dat.blockOf; rw [after_2, A_eq]; rfl
  · unfold Dat.fetched Dat.blockOf; rw [A_eq]; rfl
theorem after_3 (c : Dev nD) (t : Fin grid0.N) : (dats V 0 c).after 3 t = blk V c 3 t := by dsimp only [dats]; rfl
theorem before_3 (c : Dev nD) (t : Fin grid0.N) (d) : (dats V 0 c).before 3 t d = blk V c 3 t := by
  refine ((dats V 0 c).before_in_eq_fetched 3 rfl (fun _ => rfl) (fun _ _ _ => rfl) (fun t => ?_) t d).trans ?_
  · unfold Dat.blockOf; rw [after_3, A_eq]; rfl
  · unfold Dat.fetched Dat.blockOf; rw [A_eq]; rfl
theorem after_4 (c : Dev nD) (t : Fin grid0.N) : (dats V 0 c).after 4 t = blk V c 4 t := by dsimp only [dats]; rfl
theorem before_4 (c : Dev nD) (t : Fin grid0.N) (d) : (dats V 0 c).before 4 t d = blk V c 4 t := by
  refine ((dats V 0 c).before_in_eq_fetched 4 rfl (fun _ => rfl) (fun _ _ _ => rfl) (fun t => ?_) t d).trans ?_
  · unfold Dat.blockOf; rw [after_4, A_eq]; rfl
  · unfold Dat.fetched Dat.blockOf; rw [A_eq]; rfl
theorem after_5 (c : Dev nD) (t : Fin grid0.N) : (dats V 0 c).after 5 t = blk V c 5 t := by dsimp only [dats]; rfl
theorem before_5 (c : Dev nD) (t : Fin grid0.N) (d) : (dats V 0 c).before 5 t d = blk V c 5 t := by
  refine ((dats V 0 c).before_in_eq_fetched 5 rfl (fun _ => rfl) (fun _ _ _ => rfl) (fun t => ?_) t d).trans ?_
  · unfold Dat.blockOf; rw [after_5, A_eq]; rfl
  · unfold Dat.fetched Dat.blockOf; rw [A_eq]; rfl
theorem after_6 (c : Dev nD) (t : Fin grid0.N) : (dats V 0 c).after 6 t = blk V c 6 t := by dsimp only [dats]; rfl
theorem before_6 (c : Dev nD) (t : Fin grid0.N) (d) : (dats V 0 c).before 6 t d = blk V c 6 t := by
  refine ((dats V 0 c).before_in_eq_fetched 6 rfl (fun _ => rfl) (fun _ _ _ => rfl) (fun t => ?_) t d).trans ?_
  · unfold Dat.blockOf; rw [after_6, A_eq]; rfl
  · unfold Dat.fetched Dat.blockOf; rw [A_eq]; rfl
theorem after_7 (c : Dev nD) (t : Fin grid0.N) : (dats V 0 c).after 7 t = blk V c 7 t := by dsimp only [dats]; rfl
theorem before_7 (c : Dev nD) (t : Fin grid0.N) (d) : (dats V 0 c).before 7 t d = blk V c 7 t := by
  refine ((dats V 0 c).before_in_eq_fetched 7 rfl (fun _ => rfl) (fun _ _ _ => rfl) (fun t => ?_) t d).trans ?_
  · unfold Dat.blockOf; rw [after_7, A_eq]; rfl
  · unfold Dat.fetched Dat.blockOf; rw [A_eq]; rfl
theorem after_8 (c : Dev nD) (t : Fin grid0.N) : (dats V 0 c).after 8 t = blk V c 8 t := by dsimp only [dats]; rfl
theorem before_8 (c : Dev nD) (t : Fin grid0.N) (d) : (dats V 0 c).before 8 t d = blk V c 8 t := by
  refine ((dats V 0 c).before_in_eq_fetched 8 rfl (fun _ => rfl) (fun _ _ _ => rfl) (fun t => ?_) t d).trans ?_
  · unfold Dat.blockOf; rw [after_8, A_eq]; rfl
  · unfold Dat.fetched Dat.blockOf; rw [A_eq]; rfl
theorem after_9 (c : Dev nD) (t : Fin grid0.N) : (dats V 0 c).after 9 t = blk V c 9 t := by dsimp only [dats]; rfl
theorem before_9 (c : Dev nD) (t : Fin grid0.N) (d) : (dats V 0 c).before 9 t d = blk V c 9 t := by
  refine ((dats V 0 c).before_in_eq_fetched 9 rfl (fun _ => rfl) (fun _ _ _ => rfl) (fun t => ?_) t d).trans ?_
  · unfold Dat.blockOf; rw [after_9, A_eq]; rfl
  · unfold Dat.fetched Dat.blockOf; rw [A_eq]; rfl
theorem after_10 (c : Dev nD) (t : Fin grid0.N) : (dats V 0 c).after 10 t = blk V c 10 t := by dsimp only [dats]; rfl
theorem before_10 (c : Dev nD) (t : Fin grid0.N) (d) : (dats V 0 c).before 10 t d = blk V c 10 t := by
  refine ((dats V 0 c).before_in_eq_fetched 10 rfl (fun _ => rfl) (fun _ _ _ => rfl) (fun t => ?_) t d).trans ?_
  · unfold Dat.blockOf; rw [after_10, A_eq]; rfl
  · unfold Dat.fetched Dat.blockOf; rw [A_eq]; rfl
theorem after_11 (c : Dev nD) (t : Fin grid0.N) : (dats V 0 c).after 11 t = (st V c (t.val + 1)).dq := by dsimp only [dats]; rfl
theorem after_12 (c : Dev nD) (t : Fin grid0.N) : (dats V 0 c).after 12 t = (st V c (t.val + 1)).dk := by dsimp only [dats]; rfl
theorem after_13 (c : Dev nD) (t : Fin grid0.N) : (dats V 0 c).after 13 t = k0_pay1 (st V c (t.val + 1)).dv := by dsimp only [dats]; rfl
theorem after_14 (c : Dev nD) (t : Fin grid0.N) : (dats V 0 c).after 14 t = negCols (st V c (t.val + 1)).dc (ins V c t).cc := by dsimp only [dats]; rfl
theorem after_15 (c : Dev nD) (t : Fin grid0.N) : (dats V 0 c).after 15 t = (st V c (t.val + 1)).dr := by dsimp only [dats]; rfl
/-- After a pair's first point the buffer holds what the last point left. -/
theorem before_11 (c : Dev nD) (t : Fin grid0.N) (d) (h : ¬ k0_cond1 (grid0.coords t) = 1#1) : (dats V 0 c).before 11 t d = (st V c t.val).dq := by
  have h0 : t.val % 136 ≠ 0 := fun e => h ((cond1_iff _).mpr (Fin.ext ((coords_1 t).trans e)))
  have ht : t.val ≠ 0 := fun e => h0 (by rw [e])
  have hfl : ((cfgA (F := F)).win 11).flush ⟨t.val - 1, Nat.lt_of_le_of_lt (Nat.sub_le _ _) t.isLt⟩ = false := by
    rw [← Bool.not_eq_true]
    intro e
    have := flush_11 (F := F) _ e
    dsimp only at this
    omega
  refine ((dats V 0 c).before_out_kept 11 rfl t ht hfl (idle_11 (F := F)) (fun _ _ => rfl) d).trans ?_
  rw [after_11]
  dsimp only
  rw [Nat.sub_add_cancel (Nat.pos_of_ne_zero ht)]
/-- After a pair's first point the buffer holds what the last point left. -/
theorem before_15 (c : Dev nD) (t : Fin grid0.N) (d) (h : ¬ k0_cond1 (grid0.coords t) = 1#1) : (dats V 0 c).before 15 t d = (st V c t.val).dr := by
  have h0 : t.val % 136 ≠ 0 := fun e => h ((cond1_iff _).mpr (Fin.ext ((coords_1 t).trans e)))
  have ht : t.val ≠ 0 := fun e => h0 (by rw [e])
  have hfl : ((cfgA (F := F)).win 15).flush ⟨t.val - 1, Nat.lt_of_le_of_lt (Nat.sub_le _ _) t.isLt⟩ = false := by
    rw [← Bool.not_eq_true]
    intro e
    have := flush_15 (F := F) _ e
    dsimp only at this
    omega
  refine ((dats V 0 c).before_out_kept 15 rfl t ht hfl (idle_15 (F := F)) (fun _ _ => rfl) d).trans ?_
  rw [after_15]
  dsimp only
  rw [Nat.sub_add_cancel (Nat.pos_of_ne_zero ht)]

end Cert.KernelIdeal.Fox

end
-- ==== Proof.Run.lean ====
/-
  The body's obligation at every point, and the run of the whole program from it.
-/
module

public import proofs.«01_k».proof.Proof.Data

@[expose] public section

set_option maxRecDepth 16384

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c.tc : Thread nD τ).loc b))

/-- What a point leaves in an output window's buffer, in the words of the library's obligation. -/
def Leaves (c : Dev nD) (t : Fin grid0.N) (w : Fin 16) : sProp 𝕄 :=
  match (cfgA (F := F)).idle w ((cfgA (F := F)).grid.coords t) with
  | true =>
    match ((cfgA (F := F)).win w).flush t with
    | false => iprop(∃ d, owns (c : Thread nD τ) (((cfgA (F := F)).win w).stage ((cfgA (F := F)).slots t w)) fullShare ((dats V 0 c).before w t d))
    | true => owns (c : Thread nD τ) (((cfgA (F := F)).win w).stage ((cfgA (F := F)).slots t w)) fullShare ((dats V 0 c).after w t)
  | false => owns (c : Thread nD τ) (((cfgA (F := F)).win w).stage ((cfgA (F := F)).slots t w)) fullShare ((dats V 0 c).after w t)

theorem leaves_live (c : Dev nD) (t : Fin grid0.N) (w : Fin 16) (h : (cfgA (F := F)).idle w ((cfgA (F := F)).grid.coords t) = false) :
    Leaves V c t w = owns (c : Thread nD τ) (((cfgA (F := F)).win w).stage ((cfgA (F := F)).slots t w)) fullShare ((dats V 0 c).after w t) := by
  unfold Leaves; rw [h]
theorem leaves_idle (c : Dev nD) (t : Fin grid0.N) (w : Fin 16) (h : (cfgA (F := F)).idle w ((cfgA (F := F)).grid.coords t) = true)
    (hf : ((cfgA (F := F)).win w).flush t = false) :
    Leaves V c t w = iprop(∃ d, owns (c : Thread nD τ) (((cfgA (F := F)).win w).stage ((cfgA (F := F)).slots t w)) fullShare ((dats V 0 c).before w t d)) := by
  unfold Leaves; rw [h, hf]

/-- The point's result, from sums that agree with the state where it matters. -/
theorem step_eq (c : Dev nD) (t : Fin grid0.N) (S : St F) (x15 : Vec F S1x16x128x512 .f32) (x19 : Vec F S1x16x2x512 .f32)
    (h15 : ¬ k0_cond1 (grid0.coords t) = 1#1 → x15 = (st V c t.val).dq) (h19 : ¬ k0_cond1 (grid0.coords t) = 1#1 → x19 = (st V c t.val).dr)
    (hS : t.val ≠ 0 → S.dk = (st V c t.val).dk ∧ S.dv = (st V c t.val).dv ∧ S.dc = (st V c t.val).dc) :
    stepAt (grid0.coords t) (it (grid0.coords t 1)) (jt (grid0.coords t 1)) (ins V c t) ⟨x15, x19, S.dk, S.dv, S.dc⟩ = st V c (t.val + 1) := by
  rw [st_succ]
  have hr : ∀ d e f, reset (grid0.coords t) ⟨x15, x19, d, e, f⟩ = reset (grid0.coords t) ⟨(st V c t.val).dq, (st V c t.val).dr, d, e, f⟩ := by
    intro d e f
    unfold reset
    by_cases h : k0_cond1 (grid0.coords t) = 1#1
    · simp only [if_pos h]
    · simp only [if_neg h, h15 h, h19 h]
  unfold stepAt
  by_cases h0 : t.val = 0
  · have ht : t = ⟨0, by decide⟩ := Fin.ext h0
    have e : it (grid0.coords t 1) = jt (grid0.coords t 1) := by subst ht; decide +kernel
    rw [if_pos e, if_pos e, hr]
    rfl
  · obtain ⟨h1, h2, h3⟩ := hS h0
    rw [hr, h1, h2, h3]

/-- What the body is called with at point `t`, -/
def bodyPre (c : Dev nD) (t : Fin grid0.N) : sProp 𝕄 :=
  iprop((dats V 0 c).Φ t.castSucc ∗ (dats V 0 c).owesAt () t.castSucc
    ∗ (∃ d, owns (c : Thread nD τ) (((cfgA (F := F)).win 0).stage ((cfgA (F := F)).slots t 0)) fullShare ((dats V 0 c).before 0 t d))
    ∗ (∃ d, owns (c : Thread nD τ) (((cfgA (F := F)).win 1).stage ((cfgA (F := F)).slots t 1)) fullShare ((dats V 0 c).before 1 t d))
    ∗ (∃ d, owns (c : Thread nD τ) (((cfgA (F := F)).win 2).stage ((cfgA (F := F)).slots t 2)) fullShare ((dats V 0 c).before 2 t d))
    ∗ (∃ d, owns (c : Thread nD τ) (((cfgA (F := F)).win 3).stage ((cfgA (F := F)).slots t 3)) fullShare ((dats V 0 c).before 3 t d))
    ∗ (∃ d, owns (c : Thread nD τ) (((cfgA (F := F)).win 4).stage ((cfgA (F := F)).slots t 4)) fullShare ((dats V 0 c).before 4 t d))
    ∗ (∃ d, owns (c : Thread nD τ) (((cfgA (F := F)).win 5).stage ((cfgA (F := F)).slots t 5)) fullShare ((dats V 0 c).before 5 t d))
    ∗ (∃ d, owns (c : Thread nD τ) (((cfgA (F := F)).win 6).stage ((cfgA (F := F)).slots t 6)) fullShare ((dats V 0 c).before 6 t d))
    ∗ (∃ d, owns (c : Thread nD τ) (((cfgA (F := F)).win 7).stage ((cfgA (F := F)).slots t 7)) fullShare ((dats V 0 c).before 7 t d))
    ∗ (∃ d, owns (c : Thread nD τ) (((cfgA (F := F)).win 8).stage ((cfgA (F := F)).slots t 8)) fullShare ((dats V 0 c).before 8 t d))
    ∗ (∃ d, owns (c : Thread nD τ) (((cfgA (F := F)).win 9).stage ((cfgA (F := F)).slots t 9)) fullShare ((dats V 0 c).before 9 t d))
    ∗ (∃ d, owns (c : Thread nD τ) (((cfgA (F := F)).win 10).stage ((cfgA (F := F)).slots t 10)) fullShare ((dats V 0 c).before 10 t d))
    ∗ (∃ d, owns (c : Thread nD τ) (((cfgA (F := F)).win 11).stage ((cfgA (F := F)).slots t 11)) fullShare ((dats V 0 c).before 11 t d))
    ∗ (∃ d, owns (c : Thread nD τ) (((cfgA (F := F)).win 12).stage ((cfgA (F := F)).slots t 12)) fullShare ((dats V 0 c).before 12 t d))
    ∗ (∃ d, owns (c : Thread nD τ) (((cfgA (F := F)).win 13).stage ((cfgA (F := F)).slots t 13)) fullShare ((dats V 0 c).before 13 t d))
    ∗ (∃ d, owns (c : Thread nD τ) (((cfgA (F := F)).win 14).stage ((cfgA (F := F)).slots t 14)) fullShare ((dats V 0 c).before 14 t d))
    ∗ (∃ d, owns (c : Thread nD τ) (((cfgA (F := F)).win 15).stage ((cfgA (F := F)).slots t 15)) fullShare ((dats V 0 c).before 15 t d)))

/-- and what it returns. -/
def bodyPost (c : Dev nD) (t : Fin grid0.N) : sProp 𝕄 :=
  iprop((dats V 0 c).Φ t.succ ∗ (dats V 0 c).owesAt () t.succ
    ∗ Leaves V c t 0
    ∗ Leaves V c t 1
    ∗ Leaves V c t 2
    ∗ Leaves V c t 3
    ∗ Leaves V c t 4
    ∗ Leaves V c t 5
    ∗ Leaves V c t 6
    ∗ Leaves V c t 7
    ∗ Leaves V c t 8
    ∗ Leaves V c t 9
    ∗ Leaves V c t 10
    ∗ Leaves V c t 11
    ∗ Leaves V c t 12
    ∗ Leaves V c t 13
    ∗ Leaves V c t 14
    ∗ Leaves V c t 15)

/-- The body's half of the tables, as the two memrefs it reads. -/
theorem tables_eq (c : Dev nD) : (Pipeline.ΦT pre0 (tab (F := F)) c : sProp 𝕄)
    = iprop(owns (c : Thread nD τ) (Memref.whole main_c) fullShare.right ((tab (F := F)) 0) ∗ owns (c : Thread nD τ) (Memref.whole main_c_0) fullShare.right ((tab (F := F)) 1)) :=
  (bigSep_univ_two _).trans (congrArg₂ _ (owns_whole (c : Thread nD τ) main_c fullShare.right ((tab (F := F)) 0)).symm (owns_whole (c : Thread nD τ) main_c_0 fullShare.right ((tab (F := F)) 1)).symm)

theorem Phi_cast (c : Dev nD) (t : Fin grid0.N) : (dats V 0 c).Φ t.castSucc = inv V c t.val := by dsimp only [dats]; rfl
theorem Phi_succ (c : Dev nD) (t : Fin grid0.N) : (dats V 0 c).Φ t.succ = inv V c (t.val + 1) := by dsimp only [dats]; rfl

theorem close_12 (c : Dev nD) (t : Fin grid0.N) (d) (X : ((cfgA (F := F)).win 12).block.Idx → Elt F ((cfgA (F := F)).win 12).elt)
    (h1 : it (grid0.coords t 1) = 15 → X = (dats V 0 c).after 12 t) (h2 : ¬ it (grid0.coords t 1) = 15 → X = (dats V 0 c).before 12 t d) :
    (owns (c : Thread nD τ) (((cfgA (F := F)).win 12).stage ((cfgA (F := F)).slots t 12)) fullShare X : sProp 𝕄) ⊢ Leaves V c t 12 := by
  by_cases h : it (grid0.coords t 1) = 15
  · rw [leaves_live V c t 12 ((idle_12 (F := F) _).trans (by rw [decide_eq_true h]; rfl)), h1 h]
    exact .rfl
  · have hf : ((cfgA (F := F)).win 12).flush t = false := by
      rw [← Bool.not_eq_true]; exact fun e => h (flush_12 t e)
    rw [leaves_idle V c t 12 ((idle_12 (F := F) _).trans (by rw [decide_eq_false h]; rfl)) hf, h2 h]
    iintro H; iexists _; iexact H
theorem close_13 (c : Dev nD) (t : Fin grid0.N) (d) (X : ((cfgA (F := F)).win 13).block.Idx → Elt F ((cfgA (F := F)).win 13).elt)
    (h1 : it (grid0.coords t 1) = 15 → X = (dats V 0 c).after 13 t) (h2 : ¬ it (grid0.coords t 1) = 15 → X = (dats V 0 c).before 13 t d) :
    (owns (c : Thread nD τ) (((cfgA (F := F)).win 13).stage ((cfgA (F := F)).slots t 13)) fullShare X : sProp 𝕄) ⊢ Leaves V c t 13 := by
  by_cases h : it (grid0.coords t 1) = 15
  · rw [leaves_live V c t 13 ((idle_13 (F := F) _).trans (by rw [decide_eq_true h]; rfl)), h1 h]
    exact .rfl
  · have hf : ((cfgA (F := F)).win 13).flush t = false := by
      rw [← Bool.not_eq_true]; exact fun e => h (flush_13 t e)
    rw [leaves_idle V c t 13 ((idle_13 (F := F) _).trans (by rw [decide_eq_false h]; rfl)) hf, h2 h]
    iintro H; iexists _; iexact H
theorem close_14 (c : Dev nD) (t : Fin grid0.N) (d) (X : ((cfgA (F := F)).win 14).block.Idx → Elt F ((cfgA (F := F)).win 14).elt)
    (h1 : it (grid0.coords t 1) = 15 → X = (dats V 0 c).after 14 t) (h2 : ¬ it (grid0.coords t 1) = 15 → X = (dats V 0 c).before 14 t d) :
    (owns (c : Thread nD τ) (((cfgA (F := F)).win 14).stage ((cfgA (F := F)).slots t 14)) fullShare X : sProp 𝕄) ⊢ Leaves V c t 14 := by
  by_cases h : it (grid0.coords t 1) = 15
  · rw [leaves_live V c t 14 ((idle_14 (F := F) _).trans (by rw [decide_eq_true h]; rfl)), h1 h]
    exact .rfl
  · have hf : ((cfgA (F := F)).win 14).flush t = false := by
      rw [← Bool.not_eq_true]; exact fun e => h (flush_14 t e)
    rw [leaves_idle V c t 14 ((idle_14 (F := F) _).trans (by rw [decide_eq_false h]; rfl)) hf, h2 h]
    iintro H; iexists _; iexact H
/-- The body at any point. -/
theorem sound_body (c : Dev nD) (t : Fin grid0.N) :
    bodyPre V c t ⊢ wp frame (wpE (defs₀ (F := F)) Variants.none c none) Set.univ (defs₀ (F := F) .tc (cfgA (F := F)).body ((cfgA (F := F)).bodyArgs t ((cfgA (F := F)).slots t))) (fun _ => bodyPost V c t) := by
  unfold bodyPre bodyPost
  simp only [before_0, before_1, before_2, before_3, before_4, before_5, before_6, before_7, before_8, before_9, before_10]
  rw [Phi_cast, Phi_succ]
  unfold inv
  rw [tables_eq]
  rw [show (dats V 0 c).owesAt () t.succ = (dats V 0 c).owesAt () t.castSucc from rfl]
  iintro ⟨⟨⟨%S, %hS, G0, G1, G2⟩, Hp, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  icases HT with ⟨T0, T1⟩
  have he := step_eq V c t S ((dats V 0 c).before 11 t d11) ((dats V 0 c).before 15 t d15) (before_11 V c t d11) (before_15 V c t d15) hS
  unfold defs₀; rw [Defs.onTc_tc]
  iapply (path c Set.univ fullShare.right (grid0.coords t) (Memref.whole main_c) (Memref.isWhole_whole _) (Memref.whole main_c_0) (Memref.isWhole_whole _) _ _ _ _ _ _ _ _ _ _ _ _ _ _ _ _ _ _ _ _ _ _ _ _ _ _ _ _ _ _ _ _ _ _ _ _ _ _
    ((tab (F := F)) 0) ((tab (F := F)) 1) (blk V c 0 t) (blk V c 1 t) (blk V c 2 t) (blk V c 3 t) (blk V c 4 t) (blk V c 5 t) (blk V c 6 t) (blk V c 7 t) (blk V c 8 t) (blk V c 9 t) (blk V c 10 t) _ _ _ _ _ _ _ _ (it (grid0.coords t 1)) (jt (grid0.coords t 1)) (w1_tab0 _) (w1_tab1 _) _)
  isplitl [T0]; · iexact T0
  isplitl [T1]; · iexact T1
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [G0]; · iexact G0
  isplitl [G1]; · iexact G1
  isplitl [G2]; · iexact G2
  iintro ⟨T0, T1, H0, H1, H2, H3, H4, H5, H6, H7, H8, H9, H10, H11, H12, H13, H14, H15, G0, G1, G2⟩
  dsimp only [ins] at he
  rw [he]
  isplitl [G0 G1 G2 Hp T0 T1]
  · isplitl [G0 G1 G2]
    · iexists _; isplitr
      swap
      · isplitl [G0]; · iexact G0
        isplitl [G1]; · iexact G1
        iexact G2
      ipureintro
      exact fun _ => ⟨rfl, rfl, rfl⟩
    isplitl [Hp]; · iexact Hp
    isplitl [T0]; · iexact T0
    iexact T1
  isplitl [Ho]; · iexact Ho
  isplitl [H0]; · rw [leaves_live V c t 0 rfl, after_0]; iexact H0
  isplitl [H1]; · rw [leaves_live V c t 1 rfl, after_1]; iexact H1
  isplitl [H2]; · rw [leaves_live V c t 2 rfl, after_2]; iexact H2
  isplitl [H3]; · rw [leaves_live V c t 3 rfl, after_3]; iexact H3
  isplitl [H4]; · rw [leaves_live V c t 4 rfl, after_4]; iexact H4
  isplitl [H5]; · rw [leaves_live V c t 5 rfl, after_5]; iexact H5
  isplitl [H6]; · rw [leaves_live V c t 6 rfl, after_6]; iexact H6
  isplitl [H7]; · rw [leaves_live V c t 7 rfl, after_7]; iexact H7
  isplitl [H8]; · rw [leaves_live V c t 8 rfl, after_8]; iexact H8
  isplitl [H9]; · rw [leaves_live V c t 9 rfl, after_9]; iexact H9
  isplitl [H10]; · rw [leaves_live V c t 10 rfl, after_10]; iexact H10
  isplitl [H11]; · rw [leaves_live V c t 11 (idle_11 (F := F) _), after_11]; iexact H11
  isplitl [H12]; · iapply (close_12 V c t d12 _ (fun h => (if_pos h).trans ((after_12 V c t).symm)) (fun h => if_neg h)); iexact H12
  isplitl [H13]; · iapply (close_13 V c t d13 _ (fun h => (if_pos h).trans ((after_13 V c t).symm)) (fun h => if_neg h)); iexact H13
  isplitl [H14]; · iapply (close_14 V c t d14 _ (fun h => (if_pos h).trans ((negCols_eq _ _ _).trans (after_14 V c t).symm)) (fun h => if_neg h)); iexact H14
  rw [leaves_live V c t 15 (idle_15 (F := F) _), after_15]; iexact H15

theorem body_obligation (c : Dev nD) : BodyObligation (dats V 0 c) (defs₀ (F := F)) Variants.none () Set.univ := fun t => by
  rw [bigSep_W0, bigSep_W0]
  exact triple_restated (sound_body V c t) rfl .rfl fun _ => .rfl

end Cert.KernelIdeal.Fox

end
-- ==== Proof.Whole.lean ====
/-
  The run of the whole program: what every array holds at the end, and the frame.
-/
module

public import proofs.«01_k».proof.Proof.Run

@[expose] public section

set_option maxRecDepth 16384

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (g : Dev nD → PrngReg)

/-- What a buffer holds when the kernel starts: the launch contents after the host's own lines. -/
def entry (c : Dev nD) (b : Ref sig .tc) : Buf (Elt F) ((c.tc : Thread nD τ).loc b) :=
  StableHlo.after (hostOps0 (F := F)) (fun b => m (c, b)) b

theorem entry_c (c : Dev nD) : entry m c main_c = (tab (F := F)) 0 := by
  unfold entry; simp only [hostOps0]; after_results_simp; rfl
theorem entry_c0 (c : Dev nD) : entry m c main_c_0 = (tab (F := F)) 1 := by
  unfold entry; simp only [hostOps0]; after_results_simp; rfl

theorem entry_arg0 (c : Dev nD) : entry m c main_arg0 = m ((c.tc : Thread nD τ).loc main_arg0) := by
  unfold entry; simp only [hostOps0]; after_results_simp
theorem entry_arg1 (c : Dev nD) : entry m c main_arg1 = m ((c.tc : Thread nD τ).loc main_arg1) := by
  unfold entry; simp only [hostOps0]; after_results_simp
theorem entry_arg2 (c : Dev nD) : entry m c main_arg2 = m ((c.tc : Thread nD τ).loc main_arg2) := by
  unfold entry; simp only [hostOps0]; after_results_simp
theorem entry_arg3 (c : Dev nD) : entry m c main_arg3 = m ((c.tc : Thread nD τ).loc main_arg3) := by
  unfold entry; simp only [hostOps0]; after_results_simp
theorem entry_arg4 (c : Dev nD) : entry m c main_arg4 = m ((c.tc : Thread nD τ).loc main_arg4) := by
  unfold entry; simp only [hostOps0]; after_results_simp

theorem tables_at (c : Dev nD) (k : Fin 2) : entry m c (pre0.ref k) = (tab (F := F)) k :=
  match k with
  | 0 => entry_c m c
  | 1 => entry_c0 m c

/-- The kernel starts with its scratch buffers at whatever they hold. -/
theorem enter (c : Dev nD) : iprop(Pipeline.ΦA spec0 c ∗ Pipeline.ΦT pre0 (tab (F := F)) c) ⊢ (inv (entry m) c 0 : sProp 𝕄) := by
  unfold Pipeline.ΦA inv
  simp only [scopedRest0_eq, owns_whole]
  iintro ⟨⟨⟨⟨%f0, H0⟩, ⟨%f1, H1⟩, ⟨%f2, H2⟩⟩, Hp⟩, HT⟩
  isplitl [H0 H1 H2]
  · iexists (⟨k0_pay52, k0_pay53, f0, f1, f2⟩ : St F); isplitr
    swap
    · isplitl [H0]; · iexact H0
      isplitl [H1]; · iexact H1
      iexact H2
    ipureintro
    exact fun h => absurd rfl h
  isplitl [Hp]; · iexact Hp
  iexact HT

/-- It ends with them at whatever the last point left. -/
theorem leave_all (c : Dev nD) (n : ℕ) : (inv (entry m) c n : sProp 𝕄) ⊢ Pipeline.ΦA spec0 c := by
  unfold Pipeline.ΦA inv
  simp only [scopedRest0_eq, owns_whole]
  iintro ⟨⟨%S, %hS, H0, H1, H2⟩, Hp, HT⟩
  iclear HT
  isplitl [H0 H1 H2]
  · isplitl [H0]; · iexists _; iexact H0
    isplitl [H1]; · iexists _; iexact H1
    iexists _; iexact H2
  iexact Hp

theorem fresh : (hostOps0 (F := F)).Forall fun op => op.fresh = ∅ := by
  repeat' (first | exact rfl | refine ⟨rfl, ?_⟩ | trivial)

set_option backward.isDefEq.respectTransparency.types false in
/-- The run: every array at what the grid's points left in it, every other buffer untouched, and every counter zero. -/
theorem run_main : θ_run defs (onTc (τ := τ) (main (F := F))) ⟨m, fun _ => 0, g⟩
    (fun r => Pipeline.FramePost (Pipeline.pin (pcfgs (F := F)) (fun _ => adm)) (fun _ c => dats (entry m) 0 c) 0 (entry m) r ∧ r.2.sem = fun _ => 0) :=
  Pipeline.θ_run_frameP_track (Q' := _) (pcfgs (F := F)) (fun _ => adm) (fun _ c => dats (entry m) 0 c) (0 : Fin 1) launch0 defs₀ Variants.none m g main
    (hbody := fun c => (body_obligation (entry m) c).loose) (hshare := fun c => (dats (entry m) 0 c).share_full fun _ => rfl)
    (howed := fun _ _ => rfl) (V := entry m)
    (hmain := Pipeline.hmainP_prefix _ _ _ _ m main hostOps0 hostOps0_sub fresh main_chain)
    (hA := A_eq (entry m)) (hpf := tables_at m) (hin := enter m) (hout := fun c => leave_all m c _)

/-- The decays as given are no window's array. -/
theorem rest4 : ∀ w, (spec0 w).arr.view.ref ≠ main_arg4 := by decide

/-- The arguments end as they began. -/
theorem frame : θ_run defs (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => ⟨((h.1 c).1 0).trans ((((dats (entry m) 0 c).arrAt_in 0 rfl _).trans (A_eq (entry m) c 0)).trans (entry_arg0 m c)),
    ((h.1 c).1 2).trans ((((dats (entry m) 0 c).arrAt_in 2 rfl _).trans (A_eq (entry m) c 2)).trans (entry_arg1 m c)),
    ((h.1 c).1 4).trans ((((dats (entry m) 0 c).arrAt_in 4 rfl _).trans (A_eq (entry m) c 4)).trans (entry_arg2 m c)),
    ((h.1 c).1 5).trans ((((dats (entry m) 0 c).arrAt_in 5 rfl _).trans (A_eq (entry m) c 5)).trans (entry_arg3 m c)),
    ((h.1 c).2 main_arg4 (Pipeline.mem_restRefs_of main_arg4 rfl rest4)).trans (entry_arg4 m c)⟩, h.2⟩) (run_main m g)

end Cert.KernelIdeal.Fox

end
-- ==== Proof.TileAt.lean ====
module

public import proofs.«01_k».proof.Proof.Tile
public import Idealize.ShloMosaic.Lib.Pointwise
public import Idealize.ShloMosaic.Lib.WordCmp

@[expose] public section

set_option maxRecDepth 16384

noncomputable section

namespace Cert.KernelIdeal.Fox

open Cert.KernelIdeal Cert.KernelIdeal.Gen
open Idealize.ShloMosaic Idealize.ShloMosaic.TcCoe

theorem putDq_at (x : Vec Ideal S1x16x128x512 .f32) (r r' : Fin 16) (p : Vec Ideal S1x1x128x512 .f32 → Vec Ideal S1x1x128x512 .f32) (g : EReal → EReal)
    (l : Fin 128) (b : Fin 512) (hp : ∀ y, p y (ix4 0 0 l b) = g (y (ix4 0 0 l b))) :
    putDq x r p (ix4 0 r' l b) = if r' = r then g (x (ix4 0 r l b)) else x (ix4 0 r' l b) := by
  unfold putDq VecWindow.put
  by_cases e : r' = r
  · subst e
    rw [if_pos rfl, dif_pos]
    · refine Eq.trans (congrArg (p _) (?_ : (_ : S1x1x128x512.Idx) = ix4 0 0 l b)) ((hp _).trans (congrArg g (congrArg x ?_)))
      · funext a; fin_cases a <;> (apply Fin.ext; simp [Rect.unitLocal, ix4])
      · funext a; fin_cases a <;> (apply Fin.ext; simp [Rect.emb, Rect.unit, ix4])
    · intro a; fin_cases a <;> simp [ix4] <;> omega
  · rw [if_neg e, dif_neg]
    intro h
    have := h 1
    simp [ix4] at this
    exact e (Fin.ext (by omega))

theorem putDr_at (x : Vec Ideal S1x16x2x512 .f32) (r r' : Fin 16) (p0 p1 : Vec Ideal S1x1x1x512 .f32 → Vec Ideal S1x1x1x512 .f32) (g : Fin 2 → EReal → EReal)
    (h : Fin 2) (b : Fin 512) (hp0 : ∀ y, p0 y (ix4 0 0 0 b) = g 0 (y (ix4 0 0 0 b))) (hp1 : ∀ y, p1 y (ix4 0 0 0 b) = g 1 (y (ix4 0 0 0 b))) :
    putDr x r p0 p1 (ix4 0 r' h b) = if r' = r then g h (x (ix4 0 r h b)) else x (ix4 0 r' h b) := by
  unfold putDr VecWindow.put
  by_cases e : r' = r
  · subst e
    rw [if_pos rfl]
    fin_cases h
    · rw [dif_neg, dif_pos]
      · refine Eq.trans (congrArg (p0 _) (?_ : (_ : S1x1x1x512.Idx) = ix4 0 0 0 b)) ((hp0 _).trans (congrArg (g 0) (congrArg x ?_)))
        · funext a; fin_cases a <;> (apply Fin.ext; simp [Rect.unitLocal, ix4])
        · funext a; fin_cases a <;> (apply Fin.ext; simp [Rect.emb, Rect.unit, ix4])
      · intro a; fin_cases a <;> simp [ix4] <;> omega
      · intro h; have := h 2; simp [ix4] at this
    · rw [dif_pos]
      · refine Eq.trans (congrArg (p1 _) (?_ : (_ : S1x1x1x512.Idx) = ix4 0 0 0 b)) ((hp1 _).trans (congrArg (g 1) (congrArg x ?_)))
        · funext a; fin_cases a <;> (apply Fin.ext; simp [Rect.unitLocal, ix4])
        · funext a; fin_cases a <;> (apply Fin.ext; simp [Rect.emb, Rect.unit, ix4])
      · intro a; fin_cases a <;> simp [ix4] <;> omega
  · rw [if_neg e, dif_neg, dif_neg] <;>
    · intro h
      have := h 1
      simp [ix4] at this
      exact e (Fin.ext (by omega))

theorem putDc_at (x : Vec Ideal S2x512x1 .f32) (p0 p1 : Vec Ideal S1x512x1 .f32 → Vec Ideal S1x512x1 .f32) (g : Fin 2 → EReal → EReal)
    (h : Fin 2) (a : Fin 512) (hp0 : ∀ y, p0 y (ix3 0 a 0) = g 0 (y (ix3 0 a 0))) (hp1 : ∀ y, p1 y (ix3 0 a 0) = g 1 (y (ix3 0 a 0))) :
    putDc x p0 p1 (ix3 h a 0) = g h (x (ix3 h a 0)) := by
  unfold putDc VecWindow.put
  fin_cases h
  · rw [dif_neg, dif_pos]
    · refine Eq.trans (congrArg (p0 _) (?_ : (_ : S1x512x1.Idx) = ix3 0 a 0)) ((hp0 _).trans (congrArg (g 0) (congrArg x ?_)))
      · funext a; fin_cases a <;> (apply Fin.ext; simp [Rect.unitLocal, ix3])
      · funext a; fin_cases a <;> (apply Fin.ext; simp [Rect.emb, Rect.unit, ix3])
    · intro a; fin_cases a <;> simp [ix3] <;> omega
    · intro h; have := h 0; simp [ix3] at this
  · rw [dif_pos]
    · refine Eq.trans (congrArg (p1 _) (?_ : (_ : S1x512x1.Idx) = ix3 0 a 0)) ((hp1 _).trans (congrArg (g 1) (congrArg x ?_)))
      · funext a; fin_cases a <;> (apply Fin.ext; simp [Rect.unitLocal, ix3])
      · funext a; fin_cases a <;> (apply Fin.ext; simp [Rect.emb, Rect.unit, ix3])
    · intro a; fin_cases a <;> simp [ix3] <;> omega

/-- Which head of the pair a lane belongs to. -/
def hd (l : Fin 128) : Fin 2 := ⟨l.val / 64, by omega⟩

/-- A tile's scores: key `a` against query `b` over the lanes of head `h`. -/
def tS (I : Ins Ideal) (h : Fin 2) (a b : Fin 512) : EReal := ∑ x : Fin 128, if hd x = h then I.k (ix2 a x) * I.qt (ix2 x b) else 0

def tDP (I : Ins Ideal) (h : Fin 2) (a b : Fin 512) : EReal := ∑ x : Fin 128, if hd x = h then I.v (ix2 a x) * I.ot (ix2 x b) else 0

/-- A tile's softmax weights. On the diagonal (`g = true`) a key after the query has weight `exp ⊥`. -/
def tP (g : Bool) (I : Ins Ideal) (h : Fin 2) (a b : Fin 512) : EReal :=
  Ideal.exp ((if g = false ∨ a ≤ b then tS I h a b - I.cc (ix3 0 a h) else ⊥) + (I.cr (ix3 0 h b) - I.ls (ix3 0 h b)))

def tD (g : Bool) (I : Ins Ideal) (h : Fin 2) (a b : Fin 512) : EReal := tP g I h a b * (tDP I h a b - I.dl (ix3 0 h b))

theorem sel_if {α : Type} (c : Prop) [Decidable c] (x y : α) : Scalar.select (if c then 1#1 else 0#1 : BitVec 1) x y = if c then x else y := by
  split <;> rfl

theorem lane_lt : ∀ l : Fin 128, IntOp.cmpi .slt (BitVec.ofNat 32 l.val) 64#32 = if hd l = 0 then 1#1 else 0#1 := by decide

theorem lane_ge (l : Fin 128) : IntOp.xori (if hd l = 0 then 1#1 else 0#1) 1#1 = if hd l = 1 then 1#1 else 0#1 := by
  generalize hd l = h
  fin_cases h <;> rfl

theorem M_at (l : Fin 128) : (k0_pay51 (ix2 0 l) : BitVec 1) = if hd l = 0 then 1#1 else 0#1 := by
  rw [← lane_lt]
  pointwise [k0_pay51]

theorem diag_le (r : Fin 16) (a b : Fin 512) :
    IntOp.cmpi .sle (IntOp.addi (Scalar.muli (BitVec.ofNat 32 r) 512#32) (BitVec.ofNat 32 a)) (IntOp.addi (Scalar.muli (BitVec.ofNat 32 r) 512#32) (BitVec.ofNat 32 b))
      = if a ≤ b then 1#1 else 0#1 := by
  have e : ∀ x : Fin 512, IntOp.addi (Scalar.muli (BitVec.ofNat 32 r) 512#32) (BitVec.ofNat 32 x) = BitVec.ofNat 32 (r.val * 512 + x.val) := by
    intro x
    apply BitVec.eq_of_toNat_eq
    simp [IntOp.addi, Scalar.muli, IntOp.muli]
  rw [e, e]
  have ha := a.isLt
  have hb := b.isLt
  have hr := r.isLt
  by_cases h : a ≤ b
  · rw [if_pos h]
    exact (Idealize.ShloMosaic.WordCmp.cmpi_sle_ofNat_eq_one_iff (by omega) (by omega)).2 (by have : a.val ≤ b.val := h; omega)
  · rw [if_neg h]
    exact (Idealize.ShloMosaic.WordCmp.cmpi_sle_ofNat_eq_zero_iff (by omega) (by omega)).2 (by have : ¬ a.val ≤ b.val := h; omega)

theorem ninf : Ideal.ofBits .f32 4286578688#32 = ⊥ := by simp [Ideal.ofBits, Ideal.ieee]

variable (I : Ins Ideal) (s : St Ideal) (r : Fin 16)

theorem offP0 (a b : Fin 512) : k0_pay7 (F := Ideal) k0_pay51 I.qt I.k (col0 I.cc) (row0 I.cr) (row0 I.ls) (ix2 a b) = tP false I 0 a b := by
  pointwise [k0_pay7, k0_pay4, M_at, col0, row0, tP, tS]
  simp [sel_if, M_at]

theorem offP1 (a b : Fin 512) : k0_pay18 (F := Ideal) (k0_pay17 k0_pay51 (k0_pay4 I.qt) I.k) (col1 I.cc) (row1 I.cr) (row1 I.ls) (ix2 a b) = tP false I 1 a b := by
  pointwise [k0_pay18, k0_pay17, k0_pay16, k0_pay4, M_at, col1, row1, tP, tS]
  simp [sel_if, M_at, lane_ge]

theorem offD0 (a b : Fin 512) : k0_pay10 (F := Ideal) (k0_pay6 I.ot) (k0_pay7 k0_pay51 I.qt I.k (col0 I.cc) (row0 I.cr) (row0 I.ls)) (k0_pay9 k0_pay51 I.v) (row0 I.dl) (ix2 a b) = tD false I 0 a b := by
  pointwise [k0_pay10, k0_pay6, k0_pay9, M_at, offP0, tD, tDP]
  simp [sel_if, M_at]
  pointwise [row0]

theorem offD1 (a b : Fin 512) : k0_pay20 (F := Ideal) I.v (k0_pay6 I.ot) (k0_pay16 k0_pay51) (k0_pay17 k0_pay51 (k0_pay4 I.qt) I.k) (col1 I.cc) (row1 I.cr) (row1 I.ls) (row1 I.dl) (ix2 a b) = tD false I 1 a b := by
  pointwise [k0_pay20, k0_pay6, k0_pay16, M_at, offP1, tD, tDP]
  simp [sel_if, M_at, lane_ge]
  pointwise [row1]

theorem diP0 (a b : Fin 512) : k0_pay33 (F := Ideal) (k0_pay31 (BitVec.ofNat 32 r) (BitVec.ofNat 32 r) k0_pay51 I.qt I.k (col0 I.cc)) (k0_pay32 (row0 I.cr)) (row0 I.ls) (ix2 a b) = tP true I 0 a b := by
  pointwise [k0_pay33, k0_pay31, k0_pay32, k0_pay28, M_at, col0, row0, tP, tS]
  simp [sel_if, M_at, diag_le, ninf]

theorem diP1 (a b : Fin 512) : k0_pay42 (F := Ideal) (BitVec.ofNat 32 r) (BitVec.ofNat 32 r) k0_pay51 (k0_pay28 I.qt) I.k (col1 I.cc) (row1 I.cr) (row1 I.ls) (ix2 a b) = tP true I 1 a b := by
  pointwise [k0_pay42, k0_pay41, M_at, k0_pay28, col1, row1, tP, tS]
  simp [sel_if, M_at, diag_le, ninf, lane_ge]

theorem diD0 (a b : Fin 512) : k0_pay35 (F := Ideal) k0_pay51 I.v (k0_pay30 I.ot) (k0_pay31 (BitVec.ofNat 32 r) (BitVec.ofNat 32 r) k0_pay51 I.qt I.k (col0 I.cc)) (k0_pay32 (row0 I.cr)) (row0 I.ls) (row0 I.dl) (ix2 a b) = tD true I 0 a b := by
  pointwise [k0_pay35, k0_pay30, M_at, diP0, tD, tDP]
  simp [sel_if, M_at]
  pointwise [row0]

theorem diD1 (a b : Fin 512) : k0_pay45 (F := Ideal) (k0_pay42 (BitVec.ofNat 32 r) (BitVec.ofNat 32 r) k0_pay51 (k0_pay28 I.qt) I.k (col1 I.cc) (row1 I.cr) (row1 I.ls)) (k0_pay44 k0_pay51 I.v (k0_pay30 I.ot)) (row1 I.dl) (ix2 a b) = tD true I 1 a b := by
  pointwise [k0_pay45, k0_pay44, k0_pay41, k0_pay30, M_at, diP1, tD, tDP]
  simp [sel_if, M_at, lane_ge]
  pointwise [row1]

theorem sel_hd (f : Fin 2 → EReal) (l : Fin 128) : Scalar.select (if hd l = 0 then 1#1 else 0#1 : BitVec 1) (f 0) (f 1) = f (hd l) := by
  generalize hd l = h
  fin_cases h <;> rfl

/-! What one tile adds to each of the five results. -/

def tGk (g : Bool) (I : Ins Ideal) (a : Fin 512) (l : Fin 128) : EReal := ∑ b, tD g I (hd l) a b * I.q (ix2 b l)
def tGv (g : Bool) (I : Ins Ideal) (a : Fin 512) (l : Fin 128) : EReal := ∑ b, tP g I (hd l) a b * I.o (ix2 b l)
def tGc (g : Bool) (I : Ins Ideal) (h : Fin 2) (a : Fin 512) : EReal := ∑ b, tD g I h a b
def tGr (g : Bool) (I : Ins Ideal) (h : Fin 2) (b : Fin 512) : EReal := ∑ a, tD g I h a b
def tGq (g : Bool) (I : Ins Ideal) (l : Fin 128) (b : Fin 512) : EReal := ∑ a, I.kt (ix2 l a) * tD g I (hd l) a b

theorem off_dk (a : Fin 512) (l : Fin 128) : (offStep r I s).dk (ix2 a l) = s.dk (ix2 a l) + tGk false I a l := by
  pointwise [offStep, k0_pay25, k0_pay24, k0_pay14, k0_pay13, M_at, offD0, offD1, tGk]
  rw [sel_hd fun h => ∑ x, tD false I h a x * I.q (ix2 x l)]
theorem off_dv (a : Fin 512) (l : Fin 128) : (offStep r I s).dv (ix2 a l) = s.dv (ix2 a l) + tGv false I a l := by
  pointwise [offStep, k0_pay26, k0_pay8, k0_pay19, M_at, offP0, offP1, tGv]
  rw [sel_hd fun h => ∑ x, tP false I h a x * I.o (ix2 x l)]
theorem di_dk (a : Fin 512) (l : Fin 128) : (diagStep r (BitVec.ofNat 32 r) (BitVec.ofNat 32 r) I s).dk (ix2 a l) = tGk true I a l := by
  pointwise [diagStep, k0_pay50, k0_pay54, k0_pay48, k0_pay38, k0_pay39, M_at, diD0, diD1, tGk]
  rw [sel_hd fun h => ∑ x, tD true I h a x * I.q (ix2 x l)]
theorem di_dv (a : Fin 512) (l : Fin 128) : (diagStep r (BitVec.ofNat 32 r) (BitVec.ofNat 32 r) I s).dv (ix2 a l) = tGv true I a l := by
  pointwise [diagStep, k0_pay57, k0_pay55, k0_pay34, k0_pay43, M_at, diP0, diP1, tGv]
  rw [sel_hd fun h => ∑ x, tP true I h a x * I.o (ix2 x l)]

theorem off_dq (b : Fin 512) (r' : Fin 16) (l : Fin 128) : (offStep r I s).dq (ix4 0 r' l b) = if r' = r then s.dq (ix4 0 r l b) + tGq false I l b else s.dq (ix4 0 r' l b) := by
  refine putDq_at s.dq r r' _ (fun y => y + tGq false I l b) l b fun y => ?_
  pointwise [k0_pay27, k0_pay24, k0_pay15, k0_pay13, k0_pay5, offD0, offD1, tGq]
  congr 1
  by_cases h : l.val < 64
  · rw [dif_pos h, show hd l = 0 from Fin.ext (by simp [hd]; omega)]
  · rw [dif_neg h, show hd l = 1 from Fin.ext (by simp [hd]; omega)]
    refine Finset.sum_congr rfl fun x _ => ?_
    rw [show (⟨64 + (l.val - 64), by omega⟩ : Fin 128) = l from Fin.ext (by simp; omega)]
theorem off_dr (b : Fin 512) (r' : Fin 16) (h : Fin 2) : (offStep r I s).dr (ix4 0 r' h b) = if r' = r then s.dr (ix4 0 r h b) + tGr false I h b else s.dr (ix4 0 r' h b) := by
  refine putDr_at s.dr r r' _ (fun x => k0_pay23 (k0_pay20 I.v (k0_pay6 I.ot) (k0_pay16 k0_pay51) (k0_pay17 k0_pay51 (k0_pay4 I.qt) I.k) (col1 I.cc) (row1 I.cr) (row1 I.ls) (row1 I.dl)) (k0_pay22 x))
    (fun h y => y + tGr false I h b) h b (fun y => ?_) (fun y => ?_)
  · pointwise [k0_pay12, offD0, tGr]
  · pointwise [k0_pay23, k0_pay22, offD1, tGr]
theorem off_dc (a : Fin 512) (h : Fin 2) : (offStep r I s).dc (ix3 h a 0) = s.dc (ix3 h a 0) + tGc false I h a := by
  refine putDc_at s.dc _ _ (fun h y => y + tGc false I h a) h a (fun y => ?_) (fun y => ?_)
  · pointwise [k0_pay11, offD0, tGc]
  · pointwise [k0_pay21, offD1, tGc]
theorem di_dq (b : Fin 512) (r' : Fin 16) (l : Fin 128) : (diagStep r (BitVec.ofNat 32 r) (BitVec.ofNat 32 r) I s).dq (ix4 0 r' l b) = if r' = r then s.dq (ix4 0 r l b) + tGq true I l b else s.dq (ix4 0 r' l b) := by
  refine putDq_at s.dq r r' _ (fun y => y + tGq true I l b) l b fun y => ?_
  pointwise [k0_pay58, k0_pay49, k0_pay48, k0_pay40, k0_pay38, k0_pay29, diD0, diD1, tGq]
  congr 1
  by_cases h : l.val < 64
  · rw [dif_pos h, show hd l = 0 from Fin.ext (by simp [hd]; omega)]
  · rw [dif_neg h, show hd l = 1 from Fin.ext (by simp [hd]; omega)]
    refine Finset.sum_congr rfl fun x _ => ?_
    rw [show (⟨64 + (l.val - 64), by omega⟩ : Fin 128) = l from Fin.ext (by simp; omega)]
theorem di_dr (b : Fin 512) (r' : Fin 16) (h : Fin 2) : (diagStep r (BitVec.ofNat 32 r) (BitVec.ofNat 32 r) I s).dr (ix4 0 r' h b) = if r' = r then s.dr (ix4 0 r h b) + tGr true I h b else s.dr (ix4 0 r' h b) := by
  refine putDr_at s.dr r r' _ _ (fun h y => y + tGr true I h b) h b (fun y => ?_) (fun y => ?_)
  · pointwise [k0_pay37, diD0, tGr]
  · pointwise [k0_pay47, diD1, tGr]
theorem di_dc (a : Fin 512) (h : Fin 2) : (diagStep r (BitVec.ofNat 32 r) (BitVec.ofNat 32 r) I s).dc (ix3 h a 0) = tGc true I h a := by
  refine (putDc_at _ _ _ (fun h y => y + tGc true I h a) h a (fun y => ?_) (fun y => ?_)).trans ?_
  · pointwise [k0_pay36, diD0, tGc]
  · pointwise [k0_pay46, diD1, tGc]
  · pointwise [k0_pay56]

end Cert.KernelIdeal.Fox

end
-- ==== Proof.Spec.lean ====
module

public import Idealize.ShloMosaic.Lib.Pointwise
public import Idealize.ShloMosaic.Lib.WordCmp

@[expose] public section

noncomputable section

namespace Cert.Fox

open Idealize.ShloMosaic

/-- The arguments: the scaled queries, the keys, the values and the gradient of the attention's output, token by
    channel, and the running sums of the log forget gates, head by token. -/
structure Args where
  q : Fin 8192 → Fin 512 → EReal
  k : Fin 8192 → Fin 512 → EReal
  v : Fin 8192 → Fin 512 → EReal
  o : Fin 8192 → Fin 512 → EReal
  c : Fin 8 → Fin 8192 → EReal

/-- Channel `d` of head `h`. -/
def ch (h : Fin 8) (d : Fin 64) : Fin 512 := ⟨h.val * 64 + d.val, by omega⟩

/-! ## Positions: token `a` of block `i`, lane `l` of pair `p`, head `h` of pair `p`, and a channel's head and place in it -/

def big (i : Fin 16) (a : Fin 512) : Fin 8192 := ⟨i.val * 512 + a.val, by omega⟩
def lane (p : Fin 4) (l : Fin 128) : Fin 512 := ⟨p.val * 128 + l.val, by omega⟩
def hh (p : Fin 4) (h : Fin 2) : Fin 8 := ⟨p.val * 2 + h.val, by omega⟩
def hdOf (l : Fin 512) : Fin 8 := ⟨l.val / 64, by omega⟩
def dmOf (l : Fin 512) : Fin 64 := ⟨l.val % 64, by omega⟩

variable (x : Args) (h : Fin 8) (a b : Fin 8192)

/-! ## The attention: key `a`, query `b` -/

/-- The masked score. -/
def score : EReal := if a ≤ b then (∑ d : Fin 64, x.q b (ch h d) * x.k a (ch h d)) + x.c h b - x.c h a else ⊥

/-- A query's largest score. -/
def top : EReal := Finset.univ.fold max ⊥ fun a => score x h a b

def ex : EReal := Ideal.exp (score x h a b - top x h b)

def den : EReal := ∑ a, ex x h a b

/-- The softmax weight. -/
def wt : EReal := Ideal.div (ex x h a b) (den x h b)

/-- The gradient of a weight. -/
def dw : EReal := ∑ d : Fin 64, x.o b (ch h d) * x.v a (ch h d)

/-- The gradient of a score, as the chain rule through the quotient `ex / den` gives it. -/
def ds : EReal :=
  if a ≤ b then (Ideal.div (dw x h a b) (den x h b) + -∑ a', dw x h a' b * Ideal.div 1 (den x h b * den x h b) * ex x h a' b) * ex x h a b else 0

/-! ## The gradients -/

def gq (b : Fin 8192) (d : Fin 64) : EReal := ∑ a, ds x h a b * x.k a (ch h d)
def gk (a : Fin 8192) (d : Fin 64) : EReal := ∑ b, ds x h a b * x.q b (ch h d)
def gv (a : Fin 8192) (d : Fin 64) : EReal := ∑ b, x.o b (ch h d) * wt x h a b
def gcq (b : Fin 8192) : EReal := ∑ a, ds x h a b
def gck (a : Fin 8192) : EReal := ∑ b, -ds x h a b

/-! ## What the forward pass saves, and the kernel's weights and score gradients -/

def lse : EReal := top x h b + Ideal.log (den x h b)

def out (d : Fin 64) : EReal := ∑ a, wt x h a b * x.v a (ch h d)

def delta : EReal := ∑ d : Fin 64, x.o b (ch h d) * out x h b d

def kwt : EReal :=
  Ideal.exp ((if a ≤ b then (∑ d : Fin 64, x.k a (ch h d) * x.q b (ch h d)) - x.c h a else ⊥) + (x.c h b - lse x h b))

def kds : EReal := kwt x h a b * ((∑ d : Fin 64, x.v a (ch h d) * x.o b (ch h d)) - delta x h b)

end Cert.Fox

end
-- ==== Proof.Blocks.lean ====
module

public import proofs.«01_k».proof.Proof.TileAt
public import proofs.«01_k».proof.Proof.Data
public import proofs.«01_k».proof.Proof.Spec
public import Idealize.ShloMosaic.Lib.Pipeline.ValueKit

@[expose] public section

set_option maxRecDepth 16384

noncomputable section

namespace Cert.KernelIdeal.Fox

open Cert.KernelIdeal Cert.KernelIdeal.Gen Cert.Fox
open Idealize.ShloMosaic Idealize.ShloMosaic.TcCoe

variable (V : (c : Dev nD) → (b : Ref sig .tc) → Buf (Elt Ideal) ((c.tc : Thread nD τ).loc b))

def pr (t : Fin grid0.N) : Fin 4 := grid0.coords t 0
def iq (t : Fin grid0.N) : Fin 16 := it (grid0.coords t 1)
def jk (t : Fin grid0.N) : Fin 16 := jt (grid0.coords t 1)

theorem blk_0 (c : Dev nD) (t : Fin grid0.N) (y : S512x128.Idx) :
    blk V c 0 t y = V c main_arg0 (ix2 (big (iq t) (y 0)) (lane (pr t) (y 1))) := by
  refine congrArg (V c main_arg0) (funext fun a => Fin.ext ?_)
  refine (((cfgA (F := Ideal)).win 0).rect_emb_val t y a).trans ?_
  refine (congrArg (fun n => n * _ + _) (congrFun (ix_0 (F := Ideal) (grid0.coords t)) a)).trans ?_
  match a with
  | ⟨0, _⟩ => rfl
  | ⟨1, _⟩ => rfl

theorem blk_1 (c : Dev nD) (t : Fin grid0.N) (y : S128x512.Idx) :
    blk V c 1 t y = V c main_v43 (ix2 (lane (pr t) (y 0)) (big (iq t) (y 1))) := by
  refine congrArg (V c main_v43) (funext fun a => Fin.ext ?_)
  refine (((cfgA (F := Ideal)).win 1).rect_emb_val t y a).trans ?_
  refine (congrArg (fun n => n * _ + _) (congrFun (ix_1 (F := Ideal) (grid0.coords t)) a)).trans ?_
  match a with
  | ⟨0, _⟩ => rfl
  | ⟨1, _⟩ => rfl

theorem blk_2 (c : Dev nD) (t : Fin grid0.N) (y : S512x128.Idx) :
    blk V c 2 t y = V c main_arg1 (ix2 (big (jk t) (y 0)) (lane (pr t) (y 1))) := by
  refine congrArg (V c main_arg1) (funext fun a => Fin.ext ?_)
  refine (((cfgA (F := Ideal)).win 2).rect_emb_val t y a).trans ?_
  refine (congrArg (fun n => n * _ + _) (congrFun (ix_2 (F := Ideal) (grid0.coords t)) a)).trans ?_
  match a with
  | ⟨0, _⟩ => rfl
  | ⟨1, _⟩ => rfl

theorem blk_3 (c : Dev nD) (t : Fin grid0.N) (y : S128x512.Idx) :
    blk V c 3 t y = V c main_v44 (ix2 (lane (pr t) (y 0)) (big (jk t) (y 1))) := by
  refine congrArg (V c main_v44) (funext fun a => Fin.ext ?_)
  refine (((cfgA (F := Ideal)).win 3).rect_emb_val t y a).trans ?_
  refine (congrArg (fun n => n * _ + _) (congrFun (ix_3 (F := Ideal) (grid0.coords t)) a)).trans ?_
  match a with
  | ⟨0, _⟩ => rfl
  | ⟨1, _⟩ => rfl

theorem blk_4 (c : Dev nD) (t : Fin grid0.N) (y : S512x128.Idx) :
    blk V c 4 t y = V c main_arg2 (ix2 (big (jk t) (y 0)) (lane (pr t) (y 1))) := by
  refine congrArg (V c main_arg2) (funext fun a => Fin.ext ?_)
  refine (((cfgA (F := Ideal)).win 4).rect_emb_val t y a).trans ?_
  refine (congrArg (fun n => n * _ + _) (congrFun (ix_4 (F := Ideal) (grid0.coords t)) a)).trans ?_
  match a with
  | ⟨0, _⟩ => rfl
  | ⟨1, _⟩ => rfl

theorem blk_5 (c : Dev nD) (t : Fin grid0.N) (y : S512x128.Idx) :
    blk V c 5 t y = V c main_arg3 (ix2 (big (iq t) (y 0)) (lane (pr t) (y 1))) := by
  refine congrArg (V c main_arg3) (funext fun a => Fin.ext ?_)
  refine (((cfgA (F := Ideal)).win 5).rect_emb_val t y a).trans ?_
  refine (congrArg (fun n => n * _ + _) (congrFun (ix_5 (F := Ideal) (grid0.coords t)) a)).trans ?_
  match a with
  | ⟨0, _⟩ => rfl
  | ⟨1, _⟩ => rfl

theorem blk_6 (c : Dev nD) (t : Fin grid0.N) (y : S128x512.Idx) :
    blk V c 6 t y = V c main_v45 (ix2 (lane (pr t) (y 0)) (big (iq t) (y 1))) := by
  refine congrArg (V c main_v45) (funext fun a => Fin.ext ?_)
  refine (((cfgA (F := Ideal)).win 6).rect_emb_val t y a).trans ?_
  refine (congrArg (fun n => n * _ + _) (congrFun (ix_6 (F := Ideal) (grid0.coords t)) a)).trans ?_
  match a with
  | ⟨0, _⟩ => rfl
  | ⟨1, _⟩ => rfl

theorem blk_7 (c : Dev nD) (t : Fin grid0.N) (y : S1x2x512.Idx) :
    blk V c 7 t y = V c main_v46 (ix3 (pr t) (y 1) (big (iq t) (y 2))) := by
  refine congrArg (V c main_v46) (funext fun a => Fin.ext ?_)
  refine (((cfgA (F := Ideal)).win 7).rect_emb_val t y a).trans ?_
  refine (congrArg (fun n => n * _ + _) (congrFun (ix_7 (F := Ideal) (grid0.coords t)) a)).trans ?_
  match a with
  | ⟨0, _⟩ => exact (congrArg (_ + ·) (by have := (y 0).isLt; simpa using this : (y 0).val = 0)).trans (by exact Nat.mul_one _)
  | ⟨1, _⟩ => exact (by rw [Nat.zero_mul, Nat.zero_add] : 0 * 2 + (y 1).val = (y 1).val)
  | ⟨2, _⟩ => rfl

theorem blk_8 (c : Dev nD) (t : Fin grid0.N) (y : S1x2x512.Idx) :
    blk V c 8 t y = V c main_v47 (ix3 (pr t) (y 1) (big (iq t) (y 2))) := by
  refine congrArg (V c main_v47) (funext fun a => Fin.ext ?_)
  refine (((cfgA (F := Ideal)).win 8).rect_emb_val t y a).trans ?_
  refine (congrArg (fun n => n * _ + _) (congrFun (ix_8 (F := Ideal) (grid0.coords t)) a)).trans ?_
  match a with
  | ⟨0, _⟩ => exact (congrArg (_ + ·) (by have := (y 0).isLt; simpa using this : (y 0).val = 0)).trans (by exact Nat.mul_one _)
  | ⟨1, _⟩ => exact (by rw [Nat.zero_mul, Nat.zero_add] : 0 * 2 + (y 1).val = (y 1).val)
  | ⟨2, _⟩ => rfl

theorem blk_9 (c : Dev nD) (t : Fin grid0.N) (y : S1x2x512.Idx) :
    blk V c 9 t y = V c main_v48 (ix3 (pr t) (y 1) (big (iq t) (y 2))) := by
  refine congrArg (V c main_v48) (funext fun a => Fin.ext ?_)
  refine (((cfgA (F := Ideal)).win 9).rect_emb_val t y a).trans ?_
  refine (congrArg (fun n => n * _ + _) (congrFun (ix_9 (F := Ideal) (grid0.coords t)) a)).trans ?_
  match a with
  | ⟨0, _⟩ => exact (congrArg (_ + ·) (by have := (y 0).isLt; simpa using this : (y 0).val = 0)).trans (by exact Nat.mul_one _)
  | ⟨1, _⟩ => exact (by rw [Nat.zero_mul, Nat.zero_add] : 0 * 2 + (y 1).val = (y 1).val)
  | ⟨2, _⟩ => rfl

theorem blk_10 (c : Dev nD) (t : Fin grid0.N) (y : S1x512x2.Idx) :
    blk V c 10 t y = V c main_v51 (ix3 (pr t) (big (jk t) (y 1)) (y 2)) := by
  refine congrArg (V c main_v51) (funext fun a => Fin.ext ?_)
  refine (((cfgA (F := Ideal)).win 10).rect_emb_val t y a).trans ?_
  refine (congrArg (fun n => n * _ + _) (congrFun (ix_10 (F := Ideal) (grid0.coords t)) a)).trans ?_
  match a with
  | ⟨0, _⟩ => exact (congrArg (_ + ·) (by have := (y 0).isLt; simpa using this : (y 0).val = 0)).trans (by exact Nat.mul_one _)
  | ⟨1, _⟩ => rfl
  | ⟨2, _⟩ => exact (by rw [Nat.zero_mul, Nat.zero_add] : 0 * 2 + (y 2).val = (y 2).val)

/-- The eleven input blocks of pair `p`, query tile `i` and key tile `j`, as places of their arrays. -/
def tileIns (c : Dev nD) (p : Fin 4) (i j : Fin 16) : Ins Ideal where
  q := fun y => V c main_arg0 (ix2 (big i (y 0)) (lane p (y 1)))
  qt := fun y => V c main_v43 (ix2 (lane p (y 0)) (big i (y 1)))
  k := fun y => V c main_arg1 (ix2 (big j (y 0)) (lane p (y 1)))
  kt := fun y => V c main_v44 (ix2 (lane p (y 0)) (big j (y 1)))
  v := fun y => V c main_arg2 (ix2 (big j (y 0)) (lane p (y 1)))
  o := fun y => V c main_arg3 (ix2 (big i (y 0)) (lane p (y 1)))
  ot := fun y => V c main_v45 (ix2 (lane p (y 0)) (big i (y 1)))
  ls := fun y => V c main_v46 (ix3 p (y 1) (big i (y 2)))
  dl := fun y => V c main_v47 (ix3 p (y 1) (big i (y 2)))
  cr := fun y => V c main_v48 (ix3 p (y 1) (big i (y 2)))
  cc := fun y => V c main_v51 (ix3 p (big j (y 1)) (y 2))

theorem ins_eq (c : Dev nD) (t : Fin grid0.N) : ins V c t = tileIns V c (pr t) (iq t) (jk t) := by
  unfold ins tileIns
  congr 1
  · exact funext (blk_0 V c t)
  · exact funext (blk_1 V c t)
  · exact funext (blk_2 V c t)
  · exact funext (blk_3 V c t)
  · exact funext (blk_4 V c t)
  · exact funext (blk_5 V c t)
  · exact funext (blk_6 V c t)
  · exact funext (blk_7 V c t)
  · exact funext (blk_8 V c t)
  · exact funext (blk_9 V c t)
  · exact funext (blk_10 V c t)

end Cert.KernelIdeal.Fox

end
-- ==== Proof.Sums.lean ====
module

public import proofs.«01_k».proof.Proof.Blocks

@[expose] public section

set_option maxRecDepth 16384

noncomputable section

namespace Cert.KernelIdeal.Fox

open Cert.KernelIdeal Cert.KernelIdeal.Gen Cert.Fox
open Idealize.ShloMosaic Idealize.ShloMosaic.TcCoe

variable (V : (c : Dev nD) → (b : Ref sig .tc) → Buf (Elt Ideal) ((c.tc : Thread nD τ).loc b))

/-! ## The order of the points -/

theorem le_tile : ∀ t : Fin grid0.N, (jk t).val ≤ (iq t).val := by decide +kernel

theorem col_prev : ∀ t : Fin grid0.N, iq t ≠ jk t → ∃ s : Fin grid0.N, s.val + 1 = t.val ∧ (iq s).val + 1 = (iq t).val ∧ jk s = jk t ∧ pr s = pr t := by
  have h : ∀ t : Fin grid0.N, iq t ≠ jk t → 0 < t.val ∧ (iq ⟨t.val - 1, by omega⟩).val + 1 = (iq t).val ∧ jk ⟨t.val - 1, by omega⟩ = jk t ∧ pr ⟨t.val - 1, by omega⟩ = pr t := by
    decide +kernel
  intro t ht
  obtain ⟨h0, h1⟩ := h t ht
  exact ⟨⟨t.val - 1, by omega⟩, by dsimp only; omega, h1⟩

theorem row_prev : ∀ t : Fin grid0.N, t.val % 136 ≠ 0 → ∃ s : Fin grid0.N, s.val + 1 = t.val ∧ pr s = pr t
    ∧ ((jk s).val = (jk t).val ∧ (iq s).val + 1 = (iq t).val ∨ (jk s).val + 1 = (jk t).val ∧ (iq s).val = 15 ∧ (iq t).val = (jk t).val) := by
  have h : ∀ t : Fin grid0.N, t.val % 136 ≠ 0 → 0 < t.val ∧ pr ⟨t.val - 1, by omega⟩ = pr t
    ∧ ((jk ⟨t.val - 1, by omega⟩).val = (jk t).val ∧ (iq ⟨t.val - 1, by omega⟩).val + 1 = (iq t).val ∨ (jk ⟨t.val - 1, by omega⟩).val + 1 = (jk t).val ∧ (iq ⟨t.val - 1, by omega⟩).val = 15 ∧ (iq t).val = (jk t).val) := by
    decide +kernel
  intro t ht
  obtain ⟨h0, h1⟩ := h t ht
  exact ⟨⟨t.val - 1, by omega⟩, by dsimp only; omega, h1⟩

theorem row_first : ∀ t : Fin grid0.N, t.val % 136 = 0 → (iq t).val = 0 ∧ (jk t).val = 0 := by decide +kernel
theorem row_last : ∀ t : Fin grid0.N, t.val % 136 = 135 → (iq t).val = 15 ∧ (jk t).val = 15 := by decide +kernel

/-! ## Sums down a column and along the rows -/

theorem pick (r : Fin 16) (x : EReal) : (∑ i : Fin 16, if i = r then x else 0) = x := by
  rw [Finset.sum_ite_eq' Finset.univ r fun _ => x, if_pos (Finset.mem_univ _)]

theorem col_sum (X : ℕ → EReal) (f : Fin 4 → Fin 16 → Fin 16 → EReal)
    (hX : ∀ t : Fin grid0.N, X (t.val + 1) = (if iq t = jk t then 0 else X t.val) + f (pr t) (iq t) (jk t)) :
    ∀ (n : ℕ) (t : Fin grid0.N), t.val = n → X (t.val + 1) = ∑ i : Fin 16, if (jk t).val ≤ i.val ∧ i.val ≤ (iq t).val then f (pr t) i (jk t) else 0 := by
  intro n
  induction n with
  | zero =>
    intro t ht
    have h := row_first t (by omega)
    rw [hX, if_pos (Fin.ext (h.1.trans h.2.symm)), zero_add, ← pick (iq t) (f (pr t) (iq t) (jk t))]
    refine Finset.sum_congr rfl fun i _ => ?_
    by_cases e : i = iq t
    · subst e; rw [if_pos rfl, if_pos ⟨le_tile t, le_rfl⟩]
    · rw [if_neg e, if_neg]
      intro hh; exact e (Fin.ext (by omega))
  | succ n ih =>
    intro t ht
    by_cases e : iq t = jk t
    · rw [hX, if_pos e, zero_add, ← pick (iq t) (f (pr t) (iq t) (jk t))]
      refine Finset.sum_congr rfl fun i _ => ?_
      by_cases e' : i = iq t
      · subst e'; rw [if_pos rfl, if_pos ⟨le_tile t, le_rfl⟩]
      · rw [if_neg e', if_neg]
        intro hh; exact e' (Fin.ext (by have := congrArg Fin.val e; omega))
    · obtain ⟨s, h1, h2, h3, h4⟩ := col_prev t e
      have hs := ih s (by omega)
      rw [h1] at hs
      rw [hX, if_neg e, hs, h3, h4, ← pick (iq t) (f (pr t) (iq t) (jk t)), ← Finset.sum_add_distrib]
      refine Finset.sum_congr rfl fun i _ => ?_
      have := le_tile t
      have hne : (iq t).val ≠ (jk t).val := fun h => e (Fin.ext h)
      by_cases e' : i = iq t
      · subst e'
        have p1 : (if (jk t).val ≤ (iq t).val ∧ (iq t).val ≤ (iq t).val then f (pr t) (iq t) (jk t) else 0) = f (pr t) (iq t) (jk t) := if_pos ⟨le_tile t, le_rfl⟩
        have p2 : (if (jk t).val ≤ (iq t).val ∧ (iq t).val ≤ (iq s).val then f (pr t) (iq t) (jk t) else 0) = 0 := if_neg (by omega)
        rw [p1, p2, zero_add, if_pos rfl]
      · have hv : i.val ≠ (iq t).val := fun h => e' (Fin.ext h)
        rw [if_neg e', add_zero]
        exact if_congr (by omega) rfl rfl

theorem row_sum (r : Fin 16) (X : ℕ → EReal) (f : Fin 4 → Fin 16 → Fin 16 → EReal)
    (hX : ∀ t : Fin grid0.N, X (t.val + 1) = (if t.val % 136 = 0 then 0 else X t.val) + if iq t = r then f (pr t) r (jk t) else 0) :
    ∀ (n : ℕ) (t : Fin grid0.N), t.val = n → X (t.val + 1) = ∑ j : Fin 16, if j.val ≤ r.val ∧ (j.val < (jk t).val ∨ j.val = (jk t).val ∧ r.val ≤ (iq t).val) then f (pr t) r j else 0 := by
  have one : ∀ t : Fin grid0.N, (if iq t = r then f (pr t) r (jk t) else 0) = ∑ j : Fin 16, if j = jk t ∧ iq t = r then f (pr t) r j else 0 := by
    intro t
    by_cases e : iq t = r
    · rw [if_pos e, ← pick (jk t) (f (pr t) r (jk t))]
      refine Finset.sum_congr rfl fun j _ => ?_
      by_cases e' : j = jk t
      · subst e'; rw [if_pos rfl, if_pos ⟨rfl, e⟩]
      · rw [if_neg e', if_neg fun h => e' h.1]
    · rw [if_neg e]
      exact (Finset.sum_eq_zero fun j _ => if_neg fun h => e h.2).symm
  have first : ∀ t : Fin grid0.N, t.val % 136 = 0 → X (t.val + 1) = ∑ j : Fin 16, if j.val ≤ r.val ∧ (j.val < (jk t).val ∨ j.val = (jk t).val ∧ r.val ≤ (iq t).val) then f (pr t) r j else 0 := by
    intro t h0
    rw [hX, if_pos h0, zero_add, one]
    obtain ⟨h1, h2⟩ := row_first t h0
    refine Finset.sum_congr rfl fun j _ => if_congr ?_ rfl rfl
    simp only [Fin.ext_iff]
    omega
  intro n
  induction n with
  | zero => exact fun t ht => first t (by omega)
  | succ n ih =>
    intro t ht
    by_cases h0 : t.val % 136 = 0
    · exact first t h0
    · obtain ⟨s, h1, h4, h⟩ := row_prev t h0
      have hs := ih s (by omega)
      rw [h1] at hs
      rw [hX, if_neg h0, hs, h4, one, ← Finset.sum_add_distrib]
      refine Finset.sum_congr rfl fun j _ => ?_
      have hl := le_tile t
      have hl' := le_tile s
      have hr := r.isLt
      by_cases e : j = jk t ∧ iq t = r
      · have e1 := congrArg Fin.val e.1
        have e2 := congrArg Fin.val e.2
        rw [if_pos e, if_neg (by omega), zero_add, if_pos (by omega)]
      · have e' : ¬ (j.val = (jk t).val ∧ (iq t).val = r.val) := fun h => e ⟨Fin.ext h.1, Fin.ext h.2⟩
        rw [if_neg e, add_zero]
        exact if_congr (by omega) rfl rfl

/-! ## The running sums at an index -/

def gK (c : Dev nD) (a : Fin 512) (l : Fin 128) (p : Fin 4) (i j : Fin 16) : EReal := tGk (decide (i = j)) (tileIns V c p i j) a l
def gV (c : Dev nD) (a : Fin 512) (l : Fin 128) (p : Fin 4) (i j : Fin 16) : EReal := tGv (decide (i = j)) (tileIns V c p i j) a l
def gC (c : Dev nD) (h : Fin 2) (a : Fin 512) (p : Fin 4) (i j : Fin 16) : EReal := tGc (decide (i = j)) (tileIns V c p i j) h a
def gR (c : Dev nD) (h : Fin 2) (b : Fin 512) (p : Fin 4) (i j : Fin 16) : EReal := tGr (decide (i = j)) (tileIns V c p i j) h b
def gQ (c : Dev nD) (l : Fin 128) (b : Fin 512) (p : Fin 4) (i j : Fin 16) : EReal := tGq (decide (i = j)) (tileIns V c p i j) l b

theorem st_at (c : Dev nD) (t : Fin grid0.N) : st V c (t.val + 1) = stepAt (grid0.coords t) (iq t) (jk t) (tileIns V c (pr t) (iq t) (jk t)) (st V c t.val) :=
  (st_succ V c t).trans (congrArg (fun I => stepAt (grid0.coords t) (iq t) (jk t) I (st V c t.val)) (ins_eq V c t))

theorem first_iff (t : Fin grid0.N) : k0_cond1 (grid0.coords t) = 1#1 ↔ t.val % 136 = 0 := by
  rw [cond1_iff, ← coords_1]
  exact ⟨fun h => congrArg Fin.val h, fun h => Fin.ext h⟩

theorem st_dk (c : Dev nD) (a : Fin 512) (l : Fin 128) (t : Fin grid0.N) :
    (st V c (t.val + 1)).dk (ix2 a l) = (if iq t = jk t then 0 else (st V c t.val).dk (ix2 a l)) + gK V c a l (pr t) (iq t) (jk t) := by
  rw [st_at]
  unfold stepAt gK
  by_cases e : iq t = jk t
  · rw [if_pos e, if_pos e, zero_add, decide_eq_true e, ← e]; exact di_dk _ _ _ _ _
  · rw [if_neg e, if_neg e, decide_eq_false e]; exact off_dk _ _ _ _ _

theorem st_dv (c : Dev nD) (a : Fin 512) (l : Fin 128) (t : Fin grid0.N) :
    (st V c (t.val + 1)).dv (ix2 a l) = (if iq t = jk t then 0 else (st V c t.val).dv (ix2 a l)) + gV V c a l (pr t) (iq t) (jk t) := by
  rw [st_at]
  unfold stepAt gV
  by_cases e : iq t = jk t
  · rw [if_pos e, if_pos e, zero_add, decide_eq_true e, ← e]; exact di_dv _ _ _ _ _
  · rw [if_neg e, if_neg e, decide_eq_false e]; exact off_dv _ _ _ _ _

theorem st_dc (c : Dev nD) (h : Fin 2) (a : Fin 512) (t : Fin grid0.N) :
    (st V c (t.val + 1)).dc (ix3 h a 0) = (if iq t = jk t then 0 else (st V c t.val).dc (ix3 h a 0)) + gC V c h a (pr t) (iq t) (jk t) := by
  rw [st_at]
  unfold stepAt gC
  by_cases e : iq t = jk t
  · rw [if_pos e, if_pos e, zero_add, decide_eq_true e, ← e]; exact di_dc _ _ _ _ _
  · rw [if_neg e, if_neg e, decide_eq_false e]; exact off_dc _ _ _ _ _

theorem reset_dq (c : Dev nD) (t : Fin grid0.N) (S : St Ideal) (r : Fin 16) (l : Fin 128) (b : Fin 512) :
    (reset (grid0.coords t) S).dq (ix4 0 r l b) = if t.val % 136 = 0 then 0 else S.dq (ix4 0 r l b) := by
  unfold reset
  by_cases h : t.val % 136 = 0
  · rw [if_pos h]; dsimp only; rw [if_pos ((first_iff t).mpr h)]; pointwise [k0_pay52]
  · rw [if_neg h]; dsimp only; rw [if_neg fun e => h ((first_iff t).mp e)]

theorem reset_dr (c : Dev nD) (t : Fin grid0.N) (S : St Ideal) (r : Fin 16) (l : Fin 2) (b : Fin 512) :
    (reset (grid0.coords t) S).dr (ix4 0 r l b) = if t.val % 136 = 0 then 0 else S.dr (ix4 0 r l b) := by
  unfold reset
  by_cases h : t.val % 136 = 0
  · rw [if_pos h]; dsimp only; rw [if_pos ((first_iff t).mpr h)]; pointwise [k0_pay53]
  · rw [if_neg h]; dsimp only; rw [if_neg fun e => h ((first_iff t).mp e)]

theorem st_dq (c : Dev nD) (r : Fin 16) (l : Fin 128) (b : Fin 512) (t : Fin grid0.N) :
    (st V c (t.val + 1)).dq (ix4 0 r l b) = (if t.val % 136 = 0 then 0 else (st V c t.val).dq (ix4 0 r l b)) + if iq t = r then gQ V c l b (pr t) r (jk t) else 0 := by
  rw [st_at, ← reset_dq c t]
  unfold stepAt gQ
  by_cases e : iq t = jk t
  · rw [if_pos e, ← e]
    refine (di_dq _ _ _ _ _ _).trans ?_
    by_cases e' : iq t = r
    · rw [← e', if_pos rfl, if_pos rfl, decide_eq_true rfl]
    · rw [if_neg (Ne.symm e'), if_neg e', add_zero]
  · rw [if_neg e]
    refine (off_dq _ _ _ _ _ _).trans ?_
    by_cases e' : iq t = r
    · rw [← e', if_pos rfl, if_pos rfl, decide_eq_false e]
    · rw [if_neg (Ne.symm e'), if_neg e', add_zero]

theorem st_dr (c : Dev nD) (r : Fin 16) (h : Fin 2) (b : Fin 512) (t : Fin grid0.N) :
    (st V c (t.val + 1)).dr (ix4 0 r h b) = (if t.val % 136 = 0 then 0 else (st V c t.val).dr (ix4 0 r h b)) + if iq t = r then gR V c h b (pr t) r (jk t) else 0 := by
  rw [st_at, ← reset_dr c t]
  unfold stepAt gR
  by_cases e : iq t = jk t
  · rw [if_pos e, ← e]
    refine (di_dr _ _ _ _ _ _).trans ?_
    by_cases e' : iq t = r
    · rw [← e', if_pos rfl, if_pos rfl, decide_eq_true rfl]
    · rw [if_neg (Ne.symm e'), if_neg e', add_zero]
  · rw [if_neg e]
    refine (off_dr _ _ _ _ _ _).trans ?_
    by_cases e' : iq t = r
    · rw [← e', if_pos rfl, if_pos rfl, decide_eq_false e]
    · rw [if_neg (Ne.symm e'), if_neg e', add_zero]

/-! ## After a column's last tile, and after a pair's last point -/

theorem end_col (c : Dev nD) (t : Fin grid0.N) (ht : iq t = 15) (X : ℕ → EReal) (f : Fin 4 → Fin 16 → Fin 16 → EReal)
    (hX : ∀ t : Fin grid0.N, X (t.val + 1) = (if iq t = jk t then 0 else X t.val) + f (pr t) (iq t) (jk t)) :
    X (t.val + 1) = ∑ i : Fin 16, if (jk t).val ≤ i.val then f (pr t) i (jk t) else 0 := by
  rw [col_sum X f hX _ t rfl, ht]
  exact Finset.sum_congr rfl fun i _ => if_congr ⟨fun h => h.1, fun h => ⟨h, by have := i.isLt; show i.val ≤ 15; omega⟩⟩ rfl rfl

theorem end_row (c : Dev nD) (t : Fin grid0.N) (ht : t.val % 136 = 135) (r : Fin 16) (X : ℕ → EReal) (f : Fin 4 → Fin 16 → Fin 16 → EReal)
    (hX : ∀ t : Fin grid0.N, X (t.val + 1) = (if t.val % 136 = 0 then 0 else X t.val) + if iq t = r then f (pr t) r (jk t) else 0) :
    X (t.val + 1) = ∑ j : Fin 16, if j.val ≤ r.val then f (pr t) r j else 0 := by
  rw [row_sum r X f hX _ t rfl]
  obtain ⟨h1, h2⟩ := row_last t ht
  refine Finset.sum_congr rfl fun i _ => if_congr ?_ rfl rfl
  have := i.isLt
  have := r.isLt
  omega

end Cert.KernelIdeal.Fox

end
-- ==== Proof.Host.lean ====
module

public import proofs.«01_k».proof.Proof.Whole
public import proofs.«01_k».proof.Proof.Spec

@[expose] public section

set_option maxRecDepth 16384

noncomputable section

namespace Cert.KernelIdeal.Fox

open Cert.KernelIdeal Cert.KernelIdeal.Gen Cert.Fox
open Idealize.ShloMosaic Idealize.ShloMosaic.TcCoe Idealize.ShloMosaic.Tactic

/-! ## The host's lines as functions of the arguments -/

section
variable (x y z w : FVec Ideal S8192x512 .bf16) (c : FVec Ideal S8x8192 .f32)

def hHeads : FVec Ideal S8x8192x64 .f32 :=
  transpose S8x8192x64 [1, 0, 2] (shapeCast S8192x8x64 (extf .f32 x bitsLt_bf16_f32) shapeCasts_S8192x512_S8192x8x64) transposes_S8192x8x64_S8x8192x64_1_0_2

def hScore : FVec Ideal S8x8192x8192 .f32 :=
  select
    (broadcastInDim S8x8192x8192 ![1, 2] bcast_S8192x8192_S8x8192x8192_1_2
      (cmpi .sle (broadcastInDim S8192x8192 ![0, 1] bcast_S1x8192_S8192x8192_0_1 (broadcastInDim S1x8192 ![1] bcast_S8192_S1x8192_1 (iotaInDim S8192 32 0)))
        (broadcastInDim S8192x8192 ![0, 1] bcast_S8192x1_S8192x8192_0_1 (broadcastInDim S8192x1 ![0] bcast_S8192_S8192x1_0 (iotaInDim S8192 32 0)))))
    (subf
      (addf (Host.dotGeneral dot_S8x8192x64_S8x8192x64_S8x8192x8192_2_2_1_1_0_0 none (hHeads x) (hHeads y))
        (broadcastInDim S8x8192x8192 ![0, 1, 2] bcast_S8x8192x1_S8x8192x8192_0_1_2 (broadcastInDim S8x8192x1 ![0, 1] bcast_S8x8192_S8x8192x1_0_1 c)))
      (broadcastInDim S8x8192x8192 ![0, 1, 2] bcast_S8x1x8192_S8x8192x8192_0_1_2 (broadcastInDim S8x1x8192 ![0, 2] bcast_S8x8192_S8x1x8192_0_2 c)))
    (broadcastInDim S8x8192x8192 ![] bcast_S_S8x8192x8192 (constant (F := Ideal) S_ .f32 0xFF800000#32))

def hTop : FVec Ideal S8x8192 .f32 :=
  Host.reduce FloatOps.maximumf (hScore x y c) (constant (F := Ideal) S_ .f32 0xFF800000#32) reducesTo_S8x8192x8192_S8x8192_d2 h_S_

/-- A row's number beside every key. -/
def hOver (u : FVec Ideal S8x8192 .f32) : FVec Ideal S8x8192x8192 .f32 :=
  broadcastInDim S8x8192x8192 ![0, 1, 2] bcast_S8x8192x1_S8x8192x8192_0_1_2 (broadcastInDim S8x8192x1 ![0, 1] bcast_S8x8192_S8x8192x1_0_1 u)

def hEx : FVec Ideal S8x8192x8192 .f32 := Host.exp (subf (hScore x y c) (hOver (hTop x y c)))

def hDen : FVec Ideal S8x8192 .f32 :=
  Host.reduceAdd (hEx x y c) (constant (F := Ideal) S_ .f32 0x00000000#32) reducesTo_S8x8192x8192_S8x8192_d2 h_S_

def hLse : FVec Ideal S8x8192 .f32 := addf (hTop x y c) (Host.log (hDen x y c))

def hWt : FVec Ideal S8x8192x8192 .f32 := Host.divf (hEx x y c) (hOver (hDen x y c))

def hOut : FVec Ideal S8x8192x64 .f32 :=
  Host.dotGeneral dot_S8x8192x8192_S8x8192x64_S8x8192x64_2_1_1_2_0_0 none (hWt x y c) (hHeads z)

def hDelta : FVec Ideal S8x8192 .f32 :=
  Host.reduceAdd (mulf (hHeads w) (hOut x y z c)) (constant (F := Ideal) S_ .f32 0x00000000#32) reducesTo_S8x8192x64_S8x8192_d2 h_S_

def args : Args := ⟨fun b l => x (ix2 b l), fun b l => y (ix2 b l), fun b l => z (ix2 b l), fun b l => w (ix2 b l), fun h b => c (ix2 h b)⟩

theorem hbot : Ideal.ofBits .f32 4286578688#32 = ⊥ := by simp [Ideal.ofBits, Ideal.ieee]

theorem key_le {α : Type} (a b : Fin 8192) (x y : α) :
    Scalar.select (IntOp.cmpi CmpIPredicate.sle (BitVec.ofNat 32 a.val) (BitVec.ofNat 32 b.val)) x y = if a ≤ b then x else y := by
  have ha := a.isLt
  have hb := b.isLt
  by_cases h : a ≤ b
  · rw [if_pos h, (Idealize.ShloMosaic.WordCmp.cmpi_sle_ofNat_eq_one_iff (by omega) (by omega)).2 h]; rfl
  · rw [if_neg h, (Idealize.ShloMosaic.WordCmp.cmpi_sle_ofNat_eq_zero_iff (by omega) (by omega)).2 (by have : ¬ a.val ≤ b.val := h; omega)]; rfl

theorem hHeads_at (h : Fin 8) (b : Fin 8192) (d : Fin 64) : hHeads x (ix3 h b d) = x (ix2 b (ch h d)) := by
  pointwise [hHeads]
  rfl

theorem hScore_at (h : Fin 8) (b a : Fin 8192) : hScore x y c (ix3 h b a) = score (args x y z w c) h a b := by
  pointwise [hScore, hHeads_at]
  rw [key_le, hbot]
  rfl

theorem hTop_at (h : Fin 8) (b : Fin 8192) : hTop x y c (ix2 h b) = top (args x y z w c) h b := by
  have e : hTop x y c (ix2 h b) = Finset.fold max ⊥ (fun a => hScore x y c (ix3 h b a)) Finset.univ := by
    pointwise [hTop]
    rw [hbot]
  have e' : ∀ f g : Fin 8192 → EReal, f = g → Finset.fold max ⊥ f Finset.univ = Finset.fold max ⊥ g Finset.univ := fun f g h => congrArg (fun f => Finset.fold max ⊥ f Finset.univ) h
  exact e.trans (e' _ _ (funext fun a => hScore_at x y z w c h b a))

theorem hEx_at (h : Fin 8) (b a : Fin 8192) : hEx x y c (ix3 h b a) = ex (args x y z w c) h a b := by
  pointwise [hEx, hOver]
  rw [hScore_at x y z w, hTop_at x y z w]
  rfl

theorem hDen_at (h : Fin 8) (b : Fin 8192) : hDen x y c (ix2 h b) = den (args x y z w c) h b := by
  pointwise [hDen]
  exact Finset.sum_congr rfl fun a _ => hEx_at x y z w c h b a

theorem add_log {s : Shape} (u l : FVec Ideal s .f32) (i : s.Idx) : addf u (Host.log l) i = (u i : EReal) + Ideal.log (l i) := rfl

theorem hLse_eq (i : S8x8192.Idx) : hLse x y c i = (hTop x y c i : EReal) + Ideal.log (hDen x y c i) := add_log _ _ i

theorem hLse_at (h : Fin 8) (b : Fin 8192) : hLse x y c (ix2 h b) = lse (args x y z w c) h b := by
  unfold lse
  rw [hLse_eq, ← hTop_at x y z w c, ← hDen_at x y z w c]

theorem hWt_at (h : Fin 8) (b a : Fin 8192) : hWt x y c (ix3 h b a) = wt (args x y z w c) h a b := by
  pointwise [hWt, hOver]
  rw [hEx_at x y z w, hDen_at x y z w]
  rfl

theorem hOut_at (h : Fin 8) (b : Fin 8192) (d : Fin 64) : hOut x y z c (ix3 h b d) = out (args x y z w c) h b d := by
  pointwise [hOut, hHeads_at]
  simp only [hWt_at x y z w]
  rfl

theorem hDelta_at (h : Fin 8) (b : Fin 8192) : hDelta x y z w c (ix2 h b) = delta (args x y z w c) h b := by
  pointwise [hDelta, hHeads_at]
  simp only [hOut_at x y z w]
  rfl

end

end Cert.KernelIdeal.Fox

end
-- ==== Proof.Entry.lean ====
module

public import proofs.«01_k».proof.Proof.Whole
public import proofs.«01_k».proof.Proof.Host

@[expose] public section

set_option maxRecDepth 16384

noncomputable section

namespace Cert.KernelIdeal.Fox

open Cert.KernelIdeal Cert.KernelIdeal.Gen Cert.Fox
open Idealize.ShloMosaic Idealize.ShloMosaic.TcCoe Idealize.ShloMosaic.Tactic

/-! ## What the kernel's operands hold -/

variable (m : (ℓ : Loc nD τ sig) → Buf (Elt Ideal) ℓ)

theorem entry_v43 (c : Dev nD) (l : Fin 512) (b : Fin 8192) : entry m c main_v43 (ix2 l b) = m (c, main_arg0) (ix2 b l) := by
  have e : entry m c main_v43 = transpose S512x8192 [1, 0] (m (c, main_arg0)) transposes_S8192x512_S512x8192_1_0 := by
    unfold entry; simp only [hostOps0]; after_results_simp
  rw [e]
  pointwise

theorem entry_v44 (c : Dev nD) (l : Fin 512) (b : Fin 8192) : entry m c main_v44 (ix2 l b) = m (c, main_arg1) (ix2 b l) := by
  have e : entry m c main_v44 = transpose S512x8192 [1, 0] (m (c, main_arg1)) transposes_S8192x512_S512x8192_1_0 := by
    unfold entry; simp only [hostOps0]; after_results_simp
  rw [e]
  pointwise

theorem entry_v45 (c : Dev nD) (l : Fin 512) (b : Fin 8192) : entry m c main_v45 (ix2 l b) = m (c, main_arg3) (ix2 b l) := by
  have e : entry m c main_v45 = transpose S512x8192 [1, 0] (m (c, main_arg3)) transposes_S8192x512_S512x8192_1_0 := by
    unfold entry; simp only [hostOps0]; after_results_simp
  rw [e]
  pointwise

theorem entry_v46 (c : Dev nD) (p : Fin 4) (h : Fin 2) (b : Fin 8192) :
    entry m c main_v46 (ix3 p h b) = hLse (m (c, main_arg0)) (m (c, main_arg1)) (m (c, main_arg4)) (ix2 (hh p h) b) := by
  have e : entry m c main_v46 = shapeCast S4x2x8192 (hLse (m (c, main_arg0)) (m (c, main_arg1)) (m (c, main_arg4))) shapeCasts_S8x8192_S4x2x8192 := by
    unfold entry; simp only [hostOps0]; after_results_simp; rfl
  rw [e]
  pointwise
  rfl

theorem entry_v47 (c : Dev nD) (p : Fin 4) (h : Fin 2) (b : Fin 8192) :
    entry m c main_v47 (ix3 p h b) = hDelta (m (c, main_arg0)) (m (c, main_arg1)) (m (c, main_arg2)) (m (c, main_arg3)) (m (c, main_arg4)) (ix2 (hh p h) b) := by
  have e : entry m c main_v47 = shapeCast S4x2x8192 (hDelta (m (c, main_arg0)) (m (c, main_arg1)) (m (c, main_arg2)) (m (c, main_arg3)) (m (c, main_arg4))) shapeCasts_S8x8192_S4x2x8192 := by
    unfold entry; simp only [hostOps0]; after_results_simp; rfl
  rw [e]
  pointwise
  rfl

theorem entry_v48 (c : Dev nD) (p : Fin 4) (h : Fin 2) (b : Fin 8192) : entry m c main_v48 (ix3 p h b) = m (c, main_arg4) (ix2 (hh p h) b) := by
  have e : entry m c main_v48 = shapeCast S4x2x8192 (m (c, main_arg4)) shapeCasts_S8x8192_S4x2x8192 := by
    unfold entry; simp only [hostOps0]; after_results_simp; rfl
  have k : ∀ u : FVec Ideal S8x8192 .f32, shapeCast S4x2x8192 u shapeCasts_S8x8192_S4x2x8192 (ix3 p h b) = u (ix2 (hh p h) b) := by
    intro u
    pointwise
    rfl
  rw [e]
  exact k _

theorem entry_v51 (c : Dev nD) (p : Fin 4) (b : Fin 8192) (h : Fin 2) : entry m c main_v51 (ix3 p b h) = m (c, main_arg4) (ix2 (hh p h) b) := by
  have e : entry m c main_v51 = transpose S4x8192x2 [1, 0, 2] (shapeCast S8192x4x2 (transpose S8192x8 [1, 0] (m (c, main_arg4)) transposes_S8x8192_S8192x8_1_0) shapeCasts_S8192x8_S8192x4x2) transposes_S8192x4x2_S4x8192x2_1_0_2 := by
    unfold entry; simp only [hostOps0]; after_results_simp; rfl
  rw [e]
  pointwise
  rfl

end Cert.KernelIdeal.Fox

end
-- ==== Proof.Real.lean ====
module

public import proofs.«01_k».proof.Proof.Spec

@[expose] public section

noncomputable section

namespace Cert.Fox

open Idealize.ShloMosaic

/-! ## Sums and maxima of reals among the extended reals -/

theorem sum_coe {ι : Type} (s : Finset ι) (f : ι → ℝ) : ∑ i ∈ s, (f i : EReal) = ((∑ i ∈ s, f i : ℝ) : EReal) := by
  classical
  induction s using Finset.induction_on with
  | empty => simp
  | insert i s hi ih => rw [Finset.sum_insert hi, Finset.sum_insert hi, ih, EReal.coe_add]

theorem fold_max_real {ι : Type} (s : Finset ι) (f : ι → EReal) (hf : ∀ i, f i = ⊥ ∨ ∃ r : ℝ, f i = r) (i : ι) (hi : i ∈ s) (r : ℝ) (hr : f i = r) :
    ∃ m : ℝ, s.fold max ⊥ f = m := by
  have h1 : s.fold max ⊥ f = ⊥ ∨ ∃ r : ℝ, s.fold max ⊥ f = r := by
    classical
    clear hi
    induction s using Finset.induction_on with
    | empty => exact .inl rfl
    | insert j s hj ih =>
      rw [Finset.fold_insert hj]
      rcases hf j with h | ⟨u, h⟩ <;> rcases ih with h' | ⟨w, h'⟩ <;> rw [h, h']
      · exact .inl (max_self _)
      · exact .inr ⟨w, max_eq_right bot_le⟩
      · exact .inr ⟨u, max_eq_left bot_le⟩
      · rcases le_total u w with g | g
        · exact .inr ⟨w, max_eq_right (EReal.coe_le_coe_iff.2 g)⟩
        · exact .inr ⟨u, max_eq_left (EReal.coe_le_coe_iff.2 g)⟩
  rcases h1 with h1 | h1
  · have : (r : EReal) ≤ s.fold max ⊥ f := (Finset.le_fold_max _).2 (.inr ⟨i, hi, hr.ge⟩)
    rw [h1] at this
    exact absurd (le_bot_iff.1 this) (EReal.coe_ne_bot r)
  · exact h1

/-! ## Real arguments -/

/-- The arguments as reals. -/
structure RArgs where
  q : Fin 8192 → Fin 512 → ℝ
  k : Fin 8192 → Fin 512 → ℝ
  v : Fin 8192 → Fin 512 → ℝ
  o : Fin 8192 → Fin 512 → ℝ
  c : Fin 8 → Fin 8192 → ℝ

def RArgs.coe (y : RArgs) : Args :=
  ⟨fun b l => y.q b l, fun b l => y.k b l, fun b l => y.v b l, fun b l => y.o b l, fun h b => y.c h b⟩

variable (y : RArgs) (h : Fin 8) (a b : Fin 8192)

def rscore : ℝ := (∑ d : Fin 64, y.q b (ch h d) * y.k a (ch h d)) + y.c h b - y.c h a
def rdw : ℝ := ∑ d : Fin 64, y.o b (ch h d) * y.v a (ch h d)

theorem score_coe : score y.coe h a b = if a ≤ b then (rscore y h a b : EReal) else ⊥ := by
  unfold score rscore RArgs.coe
  dsimp only
  simp only [← EReal.coe_mul, sum_coe, ← EReal.coe_add, ← EReal.coe_sub]

theorem dw_coe : dw y.coe h a b = (rdw y h a b : EReal) := by
  unfold dw rdw RArgs.coe
  dsimp only
  simp only [← EReal.coe_mul, sum_coe]

theorem top_coe : ∃ m : ℝ, top y.coe h b = m :=
  fold_max_real _ _ (fun a => by rw [score_coe]; split; exacts [.inr ⟨_, rfl⟩, .inl rfl]) b (Finset.mem_univ _) (rscore y h b b)
    ((score_coe y h b b).trans (if_pos le_rfl))

def rtop : ℝ := (top_coe y h b).choose
theorem top_eq : top y.coe h b = rtop y h b := (top_coe y h b).choose_spec

def rex : ℝ := if a ≤ b then Real.exp (rscore y h a b - rtop y h b) else 0
def rden : ℝ := ∑ a, rex y h a b

theorem ex_coe : ex y.coe h a b = rex y h a b := by
  unfold ex rex
  rw [score_coe, top_eq]
  by_cases e : a ≤ b
  · rw [if_pos e, if_pos e, ← EReal.coe_sub, Ideal.exp_coe]
  · rw [if_neg e, if_neg e, EReal.bot_sub, Ideal.exp_bot, EReal.coe_zero]

theorem den_coe : den y.coe h b = rden y h b := by
  unfold den rden
  simp only [ex_coe, sum_coe]

theorem den_pos : 0 < rden y h b := by
  refine Finset.sum_pos' (fun a _ => ?_) ⟨b, Finset.mem_univ _, ?_⟩
  · unfold rex; split; exacts [(Real.exp_pos _).le, le_rfl]
  · unfold rex; rw [if_pos le_rfl]; exact Real.exp_pos _

def rwt : ℝ := rex y h a b * (1 / rden y h b)

theorem wt_coe : wt y.coe h a b = rwt y h a b := by
  unfold wt rwt
  rw [ex_coe, den_coe, Ideal.div_coe (den_pos y h b).ne', EReal.coe_mul]

def rdelta : ℝ := ∑ a, rwt y h a b * rdw y h a b

theorem delta_coe : delta y.coe h b = rdelta y h b := by
  unfold delta out
  simp only [wt_coe]
  unfold RArgs.coe rdelta rdw
  dsimp only
  simp only [← EReal.coe_mul, sum_coe, EReal.coe_eq_coe_iff, Finset.mul_sum]
  rw [Finset.sum_comm]
  exact Finset.sum_congr rfl fun a _ => Finset.sum_congr rfl fun d _ => by ring

theorem lse_coe : lse y.coe h b = ((rtop y h b + Real.log (rden y h b) : ℝ) : EReal) := by
  unfold lse
  rw [top_eq, den_coe, Ideal.log_coe, if_neg (den_pos y h b).not_ge, EReal.coe_add]

/-- The kernel's weight is the softmax weight. -/
theorem kwt_coe : kwt y.coe h a b = rwt y h a b := by
  unfold kwt rwt rex
  rw [lse_coe]
  unfold RArgs.coe
  dsimp only
  by_cases e : a ≤ b
  · rw [if_pos e, if_pos e]
    simp only [← EReal.coe_mul, sum_coe, ← EReal.coe_add, ← EReal.coe_sub]
    rw [Ideal.exp_coe, EReal.coe_eq_coe_iff]
    have hd := den_pos y h b
    have : (∑ d, y.k a (ch h d) * y.q b (ch h d)) - y.c h a + (y.c h b - (rtop y h b + Real.log (rden y h b)))
        = (rscore y h a b - rtop y h b) - Real.log (rden y h b) := by
      unfold rscore
      rw [Finset.sum_congr rfl fun d _ => mul_comm (y.k a (ch h d)) (y.q b (ch h d))]
      ring
    rw [this, Real.exp_sub, Real.exp_log hd, div_eq_mul_one_div]
  · rw [if_neg e, if_neg e, EReal.bot_add, Ideal.exp_bot, zero_mul, EReal.coe_zero]

def rds : ℝ := rwt y h a b * (rdw y h a b - rdelta y h b)

theorem kds_coe : kds y.coe h a b = rds y h a b := by
  unfold kds rds
  rw [kwt_coe, delta_coe]
  unfold RArgs.coe rdw
  dsimp only
  simp only [← EReal.coe_mul, sum_coe, ← EReal.coe_sub]
  rw [EReal.coe_eq_coe_iff, Finset.sum_congr rfl fun d _ => mul_comm (y.v a (ch h d)) (y.o b (ch h d))]

theorem ds_coe : ds y.coe h a b = rds y h a b := by
  unfold ds
  have hd := (den_pos y h b).ne'
  simp only [ex_coe, den_coe, dw_coe, ← EReal.coe_mul, ← EReal.coe_one]
  rw [Ideal.div_coe hd, Ideal.div_coe (mul_ne_zero hd hd)]
  simp only [← EReal.coe_mul, sum_coe, ← EReal.coe_neg, ← EReal.coe_add]
  by_cases e : a ≤ b
  · rw [if_pos e, EReal.coe_eq_coe_iff]
    unfold rds rdelta rwt
    have : ∑ a', rdw y h a' b * (1 * (1 / (rden y h b * rden y h b))) * rex y h a' b
        = (1 / rden y h b) * ∑ a', rex y h a' b * (1 / rden y h b) * rdw y h a' b := by
      rw [Finset.mul_sum]
      exact Finset.sum_congr rfl fun a' _ => by field_simp
    rw [this]
    ring
  · rw [if_neg e, rds, rwt, rex, if_neg e, zero_mul, zero_mul, EReal.coe_zero]

theorem kds_eq : kds y.coe h a b = ds y.coe h a b := (kds_coe y h a b).trans (ds_coe y h a b).symm
theorem kwt_eq : kwt y.coe h a b = wt y.coe h a b := (kwt_coe y h a b).trans (wt_coe y h a b).symm

/-- A key after its query has weight zero, and its score gradient zero. -/
theorem kwt_late (e : b < a) : kwt y.coe h a b = 0 := by
  rw [kwt_coe, rwt, rex, if_neg e.not_ge, zero_mul, EReal.coe_zero]

theorem kds_late (e : b < a) : kds y.coe h a b = 0 := by
  rw [kds_coe, rds, rwt, rex, if_neg e.not_ge, zero_mul, zero_mul, EReal.coe_zero]

end Cert.Fox

end
-- ==== Proof.Global.lean ====
module

public import proofs.«01_k».proof.Proof.Sums
public import proofs.«01_k».proof.Proof.Entry
public import proofs.«01_k».proof.Proof.Real

@[expose] public section

set_option maxRecDepth 16384

noncomputable section

namespace Cert.KernelIdeal.Fox

open Cert.KernelIdeal Cert.KernelIdeal.Gen Cert.Fox
open Idealize.ShloMosaic Idealize.ShloMosaic.TcCoe

/-! ## Lanes and channels -/

theorem hh_hd (p : Fin 4) (l : Fin 128) : hh p (hd l) = hdOf (lane p l) := by
  apply Fin.ext
  show p.val * 2 + l.val / 64 = (p.val * 128 + l.val) / 64
  omega

theorem ch_of (l : Fin 512) : ch (hdOf l) (dmOf l) = l := by
  apply Fin.ext
  show l.val / 64 * 64 + l.val % 64 = l.val
  omega

theorem sum_lanes (p : Fin 4) (h : Fin 2) (f : Fin 512 → EReal) : (∑ x : Fin 128, if hd x = h then f (lane p x) else 0) = ∑ d : Fin 64, f (ch (hh p h) d) := by
  rw [Fin.sum_univ_tiles 2 64 rfl, Finset.sum_comm]
  refine Finset.sum_congr rfl fun d _ => ?_
  rw [Finset.sum_eq_single h]
  · rw [if_pos (Fin.ext (show (h.val * 64 + d.val) / 64 = h.val by omega))]
    exact congrArg f (Fin.ext (show p.val * 128 + (h.val * 64 + d.val) = (p.val * 2 + h.val) * 64 + d.val by omega))
  · intro j _ hj
    exact if_neg fun e => hj (Fin.ext (by have : (j.val * 64 + d.val) / 64 = h.val := congrArg Fin.val e; omega))
  · exact fun h => absurd (Finset.mem_univ _) h

theorem sum_tokens (f : Fin 8192 → EReal) : ∑ a : Fin 8192, f a = ∑ i : Fin 16, ∑ a : Fin 512, f (big i a) := Fin.sum_univ_tiles 16 512 rfl f

/-! ## A tile's weights and score gradients -/

variable (m : (ℓ : Loc nD τ sig) → Buf (Elt Ideal) ℓ) (c : Dev nD)

def ax : Args := args (m (c, main_arg0)) (m (c, main_arg1)) (m (c, main_arg2)) (m (c, main_arg3)) (m (c, main_arg4))

variable (p : Fin 4) (i j : Fin 16) (h : Fin 2) (a b : Fin 512)

theorem at_q (l : Fin 128) : (tileIns (entry m) c p i j).q (ix2 b l) = (ax m c).q (big i b) (lane p l) := congrFun (entry_arg0 m c) _
theorem at_k (l : Fin 128) : (tileIns (entry m) c p i j).k (ix2 a l) = (ax m c).k (big j a) (lane p l) := congrFun (entry_arg1 m c) _
theorem at_v (l : Fin 128) : (tileIns (entry m) c p i j).v (ix2 a l) = (ax m c).v (big j a) (lane p l) := congrFun (entry_arg2 m c) _
theorem at_o (l : Fin 128) : (tileIns (entry m) c p i j).o (ix2 b l) = (ax m c).o (big i b) (lane p l) := congrFun (entry_arg3 m c) _
theorem at_qt (l : Fin 128) : (tileIns (entry m) c p i j).qt (ix2 l b) = (ax m c).q (big i b) (lane p l) := entry_v43 m c _ _
theorem at_kt (l : Fin 128) : (tileIns (entry m) c p i j).kt (ix2 l a) = (ax m c).k (big j a) (lane p l) := entry_v44 m c _ _
theorem at_ot (l : Fin 128) : (tileIns (entry m) c p i j).ot (ix2 l b) = (ax m c).o (big i b) (lane p l) := entry_v45 m c _ _
theorem at_ls : (tileIns (entry m) c p i j).ls (ix3 0 h b) = lse (ax m c) (hh p h) (big i b) := (entry_v46 m c _ _ _).trans (hLse_at _ _ _ _ _ _ _)
theorem at_dl : (tileIns (entry m) c p i j).dl (ix3 0 h b) = delta (ax m c) (hh p h) (big i b) := (entry_v47 m c _ _ _).trans (hDelta_at _ _ _ _ _ _ _)
theorem at_cr : (tileIns (entry m) c p i j).cr (ix3 0 h b) = (ax m c).c (hh p h) (big i b) := entry_v48 m c _ _ _
theorem at_cc : (tileIns (entry m) c p i j).cc (ix3 0 a h) = (ax m c).c (hh p h) (big j a) := entry_v51 m c _ _ _

theorem tS_eq : tS (tileIns (entry m) c p i j) h a b = ∑ d : Fin 64, (ax m c).k (big j a) (ch (hh p h) d) * (ax m c).q (big i b) (ch (hh p h) d) := by
  unfold tS
  simp only [at_k, at_qt]
  exact sum_lanes p h fun l => (ax m c).k (big j a) l * (ax m c).q (big i b) l

theorem tDP_eq : tDP (tileIns (entry m) c p i j) h a b = ∑ d : Fin 64, (ax m c).v (big j a) (ch (hh p h) d) * (ax m c).o (big i b) (ch (hh p h) d) := by
  unfold tDP
  simp only [at_v, at_ot]
  exact sum_lanes p h fun l => (ax m c).v (big j a) l * (ax m c).o (big i b) l

theorem seen_iff (hj : j.val ≤ i.val) : (decide (i = j) = false ∨ a ≤ b) ↔ big j a ≤ big i b := by
  have ha := a.isLt
  have hb := b.isLt
  rw [decide_eq_false_iff_not]
  show _ ↔ j.val * 512 + a.val ≤ i.val * 512 + b.val
  by_cases e : i = j
  · subst e
    exact ⟨fun h => by have : a.val ≤ b.val := h.resolve_left fun h => h rfl; omega, fun h => .inr (show a.val ≤ b.val by omega)⟩
  · have : i.val ≠ j.val := fun h => e (Fin.ext h)
    exact ⟨fun _ => by omega, fun _ => .inl e⟩

theorem tP_eq (hj : j.val ≤ i.val) : tP (decide (i = j)) (tileIns (entry m) c p i j) h a b = kwt (ax m c) (hh p h) (big j a) (big i b) := by
  unfold tP kwt
  rw [tS_eq, at_cc, at_cr, at_ls]
  exact congrArg (fun z => Ideal.exp (z + _)) (if_congr (seen_iff i j a b hj) rfl rfl)

theorem tD_eq (hj : j.val ≤ i.val) : tD (decide (i = j)) (tileIns (entry m) c p i j) h a b = kds (ax m c) (hh p h) (big j a) (big i b) := by
  unfold tD kds
  rw [tP_eq m c p i j h a b hj, tDP_eq, at_dl]

/-! ## The tiles' sums are sums over all tokens -/

variable {m c}
variable (y : RArgs) (hy : ax m c = y.coe)

include hy

theorem late_wt (hj : ¬ j.val ≤ i.val) : wt (ax m c) (hh p h) (big j a) (big i b) = 0 := by
  rw [hy, ← kwt_eq]
  exact kwt_late y _ _ _ (show i.val * 512 + b.val < j.val * 512 + a.val by omega)

theorem late_ds (hj : ¬ j.val ≤ i.val) : ds (ax m c) (hh p h) (big j a) (big i b) = 0 := by
  rw [hy, ← kds_eq]
  exact kds_late y _ _ _ (show i.val * 512 + b.val < j.val * 512 + a.val by omega)

theorem wt_tile (hj : j.val ≤ i.val) : tP (decide (i = j)) (tileIns (entry m) c p i j) h a b = wt (ax m c) (hh p h) (big j a) (big i b) := by
  rw [tP_eq m c p i j h a b hj, hy, kwt_eq]

theorem ds_tile (hj : j.val ≤ i.val) : tD (decide (i = j)) (tileIns (entry m) c p i j) h a b = ds (ax m c) (hh p h) (big j a) (big i b) := by
  rw [tD_eq m c p i j h a b hj, hy, kds_eq]

theorem sum_dk (l : Fin 128) : (∑ i : Fin 16, if j.val ≤ i.val then gK (entry m) c a l p i j else 0) = gk (ax m c) (hdOf (lane p l)) (big j a) (dmOf (lane p l)) := by
  unfold gk gK tGk
  rw [sum_tokens, ch_of, ← hh_hd]
  refine Finset.sum_congr rfl fun i _ => ?_
  by_cases hj : j.val ≤ i.val
  · rw [if_pos hj]
    exact Finset.sum_congr rfl fun b _ => by rw [ds_tile p i j _ a b y hy hj, at_q]
  · rw [if_neg hj]
    exact (Finset.sum_eq_zero fun b _ => by rw [late_ds p i j _ a b y hy hj, zero_mul]).symm

theorem sum_dv (l : Fin 128) : (∑ i : Fin 16, if j.val ≤ i.val then gV (entry m) c a l p i j else 0) = gv (ax m c) (hdOf (lane p l)) (big j a) (dmOf (lane p l)) := by
  unfold gv gV tGv
  rw [sum_tokens, ch_of, ← hh_hd]
  refine Finset.sum_congr rfl fun i _ => ?_
  by_cases hj : j.val ≤ i.val
  · rw [if_pos hj]
    exact Finset.sum_congr rfl fun b _ => by rw [wt_tile p i j _ a b y hy hj, at_o, mul_comm]
  · rw [if_neg hj]
    exact (Finset.sum_eq_zero fun b _ => by rw [late_wt p i j _ a b y hy hj, mul_zero]).symm

theorem sum_dc : (∑ i : Fin 16, if j.val ≤ i.val then gC (entry m) c h a p i j else 0) = ∑ b, ds (ax m c) (hh p h) (big j a) b := by
  unfold gC tGc
  rw [sum_tokens]
  refine Finset.sum_congr rfl fun i _ => ?_
  by_cases hj : j.val ≤ i.val
  · rw [if_pos hj]
    exact Finset.sum_congr rfl fun b _ => ds_tile p i j _ a b y hy hj
  · rw [if_neg hj]
    exact (Finset.sum_eq_zero fun b _ => late_ds p i j _ a b y hy hj).symm

theorem neg_dc : -(∑ i : Fin 16, if j.val ≤ i.val then gC (entry m) c h a p i j else 0) = gck (ax m c) (hh p h) (big j a) := by
  rw [sum_dc p j h a y hy]
  unfold gck
  simp only [hy, ds_coe, sum_coe, ← EReal.coe_neg, Finset.sum_neg_distrib]

theorem sum_dq (l : Fin 128) : (∑ j : Fin 16, if j.val ≤ i.val then gQ (entry m) c l b p i j else 0) = gq (ax m c) (hdOf (lane p l)) (big i b) (dmOf (lane p l)) := by
  unfold gq gQ tGq
  rw [sum_tokens, ch_of, ← hh_hd]
  refine Finset.sum_congr rfl fun j _ => ?_
  by_cases hj : j.val ≤ i.val
  · rw [if_pos hj]
    exact Finset.sum_congr rfl fun a _ => by rw [ds_tile p i j _ a b y hy hj, at_kt, mul_comm]
  · rw [if_neg hj]
    exact (Finset.sum_eq_zero fun a _ => by rw [late_ds p i j _ a b y hy hj, zero_mul]).symm

theorem sum_dr : (∑ j : Fin 16, if j.val ≤ i.val then gR (entry m) c h b p i j else 0) = gcq (ax m c) (hh p h) (big i b) := by
  unfold gcq gR tGr
  rw [sum_tokens]
  refine Finset.sum_congr rfl fun j _ => ?_
  by_cases hj : j.val ≤ i.val
  · rw [if_pos hj]
    exact Finset.sum_congr rfl fun a _ => ds_tile p i j _ a b y hy hj
  · rw [if_neg hj]
    exact (Finset.sum_eq_zero fun a _ => late_ds p i j _ a b y hy hj).symm

end Cert.KernelIdeal.Fox

end
-- ==== Proof.Cover.lean ====
/-
  The blocks written back fill the result arrays, and what is stored for the key decays.
-/
module

public import proofs.«01_k».proof.Proof.Global

@[expose] public section

set_option maxRecDepth 16384

noncomputable section

namespace Cert.KernelIdeal.Fox

open Cert.KernelIdeal Cert.KernelIdeal.Gen Cert.Fox
open Idealize.ShloMosaic Idealize.ShloMosaic.TcCoe

/-! ## The blocks written back cover the arrays -/

theorem cov_11 : ((cfgA (F := Ideal)).win 11).Covers := by decide +kernel
theorem cov_15 : ((cfgA (F := Ideal)).win 15).Covers := by decide +kernel

theorem cov_12 : ((cfgA (F := Ideal)).win 12).Covers := by decide +kernel
theorem cov_13 : ((cfgA (F := Ideal)).win 13).Covers := by decide +kernel
theorem cov_14 : ((cfgA (F := Ideal)).win 14).Covers := by decide +kernel

/-! ## The key decays' gradients as stored -/

theorem pay2_at (x : Vec Ideal S1x512x1 .f32) (a : Fin 512) : k0_pay2 (F := Ideal) x (ix3 0 a 0) = -x (ix3 0 a 0) := by
  pointwise [k0_pay2]
  exact zero_sub _
theorem pay3_at (x : Vec Ideal S1x512x1 .f32) (a : Fin 512) : k0_pay3 (F := Ideal) x (ix3 0 a 0) = -x (ix3 0 a 0) := by
  pointwise [k0_pay3]
  exact zero_sub _

theorem negCols_at (x : Vec Ideal S2x512x1 .f32) (y : Vec Ideal S1x512x2 .f32) (a : Fin 512) (h : Fin 2) : negCols x y (ix3 0 a h) = -x (ix3 h a 0) := by
  unfold negCols VecWindow.put
  fin_cases h
  · rw [dif_neg, dif_pos]
    · refine Eq.trans (congrArg (k0_pay2 (F := Ideal) _) (?_ : (_ : S1x512x1.Idx) = ix3 0 a 0)) ((pay2_at _ a).trans (congrArg (fun z => -z) (congrArg x ?_)))
      · funext a; fin_cases a <;> (apply Fin.ext; simp [Rect.unitLocal, ix3])
      · funext a; fin_cases a <;> (apply Fin.ext; simp [Rect.emb, Rect.unit, ix3])
    · intro a; fin_cases a <;> simp [ix3] <;> omega
    · intro h; have := h 2; simp [ix3] at this
  · rw [dif_pos]
    · refine Eq.trans (congrArg (k0_pay3 (F := Ideal) _) (?_ : (_ : S1x512x1.Idx) = ix3 0 a 0)) ((pay3_at _ a).trans (congrArg (fun z => -z) (congrArg x ?_)))
      · funext a; fin_cases a <;> (apply Fin.ext; simp [Rect.unitLocal, ix3])
      · funext a; fin_cases a <;> (apply Fin.ext; simp [Rect.emb, Rect.unit, ix3])
    · intro a; fin_cases a <;> simp [ix3] <;> omega

end Cert.KernelIdeal.Fox

end
-- ==== Proof.Arrays.lean ====
/-
  The five result arrays after the run, each the gradient the specification names.
-/
module

public import proofs.«01_k».proof.Proof.Cover

@[expose] public section

set_option maxRecDepth 16384

noncomputable section

namespace Cert.KernelIdeal.Fox

open Cert.KernelIdeal Cert.KernelIdeal.Gen Cert.Fox
open Idealize.ShloMosaic Idealize.ShloMosaic.TcCoe

theorem ix_11 (i : grid0.Coords) : cc0_transform_11 i = ![(i 0).val, 0, 0, 0] := congrArg (fun x : ℕ => ![x, 0, 0, 0]) (nat_pair i)
theorem ix_15 (i : grid0.Coords) : cc0_transform_15 i = ![(i 0).val, 0, 0, 0] := congrArg (fun x : ℕ => ![x, 0, 0, 0]) (nat_pair i)

/-! ## The results, as functions of the position -/

variable (m : (ℓ : Loc nD τ sig) → Buf (Elt Ideal) ℓ) (c : Dev nD)

def outQ : FVec Ideal S4x16x128x512 .f32 := fun y => gq (ax m c) (hdOf (lane (y 0) (y 2))) (big (y 1) (y 3)) (dmOf (lane (y 0) (y 2)))
def outK : FVec Ideal S8192x512 .f32 := fun y => gk (ax m c) (hdOf (y 1)) (y 0) (dmOf (y 1))
def outV : FVec Ideal S8192x512 .bf16 := fun y => gv (ax m c) (hdOf (y 1)) (y 0) (dmOf (y 1))
def outC : FVec Ideal S4x8192x2 .f32 := fun y => gck (ax m c) (hh (y 0) (y 2)) (y 1)
def outR : FVec Ideal S4x16x2x512 .f32 := fun y => gcq (ax m c) (hh (y 0) (y 2)) (big (y 1) (y 3))

variable {m c} (y : RArgs) (hy : ax m c = y.coe)
include hy

theorem arr_12 : (dats (entry m) 0 c).arrAt 12 (cfgA (F := Ideal)).N = outK m c := by
  refine (dats (entry m) 0 c).arrAt_eq_of_covers 12 (outK m c) cov_12 fun t hf z => ?_
  have e : (((cfgA (F := Ideal)).win 12).blk t).view.emb z = ix2 (big (jk t) (z 0)) (lane (pr t) (z 1)) := by
    refine funext fun a => Fin.ext ?_
    refine (((cfgA (F := Ideal)).win 12).rect_emb_val t z a).trans ?_
    refine (congrArg (fun n => n * _ + _) (congrFun (ix_12 (F := Ideal) (grid0.coords t)) a)).trans ?_
    match a with
    | ⟨0, _⟩ => rfl
    | ⟨1, _⟩ => rfl
  blk_simp
  rw [after_12]
  refine Eq.trans ?_ (congrArg (outK m c) e).symm
  have hz : (z : S512x128.Idx) = ix2 (z 0) (z 1) := by funext a; fin_cases a <;> rfl
  refine (congrArg (st (entry m) c (t.val + 1)).dk hz).trans ?_
  exact (end_col c t (flush_12 t hf) (fun n => (st (entry m) c n).dk (ix2 (z 0) (z 1))) (gK (entry m) c (z 0) (z 1)) (st_dk (entry m) c (z 0) (z 1))).trans (sum_dk (pr t) (jk t) (z 0) y hy (z 1))

theorem arr_13 : (dats (entry m) 0 c).arrAt 13 (cfgA (F := Ideal)).N = outV m c := by
  refine (dats (entry m) 0 c).arrAt_eq_of_covers 13 (outV m c) cov_13 fun t hf z => ?_
  have e : (((cfgA (F := Ideal)).win 13).blk t).view.emb z = ix2 (big (jk t) (z 0)) (lane (pr t) (z 1)) := by
    refine funext fun a => Fin.ext ?_
    refine (((cfgA (F := Ideal)).win 13).rect_emb_val t z a).trans ?_
    refine (congrArg (fun n => n * _ + _) (congrFun (ix_13 (F := Ideal) (grid0.coords t)) a)).trans ?_
    match a with
    | ⟨0, _⟩ => rfl
    | ⟨1, _⟩ => rfl
  blk_simp
  rw [after_13]
  refine Eq.trans ?_ (congrArg (outV m c) e).symm
  have hz : (z : S512x128.Idx) = ix2 (z 0) (z 1) := by funext a; fin_cases a <;> rfl
  refine (congrArg (st (entry m) c (t.val + 1)).dv hz).trans ?_
  exact (end_col c t (flush_13 t hf) (fun n => (st (entry m) c n).dv (ix2 (z 0) (z 1))) (gV (entry m) c (z 0) (z 1)) (st_dv (entry m) c (z 0) (z 1))).trans (sum_dv (pr t) (jk t) (z 0) y hy (z 1))

theorem arr_14 : (dats (entry m) 0 c).arrAt 14 (cfgA (F := Ideal)).N = outC m c := by
  refine (dats (entry m) 0 c).arrAt_eq_of_covers 14 (outC m c) cov_14 fun t hf z => ?_
  have e : (((cfgA (F := Ideal)).win 14).blk t).view.emb z = ix3 (pr t) (big (jk t) (z 1)) (z 2) := by
    refine funext fun a => Fin.ext ?_
    refine (((cfgA (F := Ideal)).win 14).rect_emb_val t z a).trans ?_
    refine (congrArg (fun n => n * _ + _) (congrFun (ix_14 (F := Ideal) (grid0.coords t)) a)).trans ?_
    match a with
    | ⟨0, _⟩ => exact (by have h : (z 0).val < 1 := (z 0).isLt; omega : (grid0.coords t 0).val * 1 + (z 0).val = (grid0.coords t 0).val)
    | ⟨1, _⟩ => rfl
    | ⟨2, _⟩ => exact (by rw [Nat.zero_mul, Nat.zero_add] : 0 * 2 + (z 2).val = (z 2).val)
  blk_simp
  rw [after_14]
  refine Eq.trans ?_ (congrArg (outC m c) e).symm
  have h0 : (z 0).val < 1 := (z 0).isLt
  have hz : (z : S1x512x2.Idx) = ix3 0 (z 1) (z 2) := by funext a; fin_cases a <;> first | rfl | exact Fin.ext (by show (z 0).val = 0; omega)
  refine (congrArg (negCols (st (entry m) c (t.val + 1)).dc (ins (entry m) c t).cc) hz).trans ((negCols_at _ _ (z 1) (z 2)).trans ?_)
  exact (congrArg (fun x => -x) (end_col c t (flush_14 t hf) (fun n => (st (entry m) c n).dc (ix3 (z 2) (z 1) 0)) (gC (entry m) c (z 2) (z 1)) (st_dc (entry m) c (z 2) (z 1)))).trans (neg_dc (pr t) (jk t) (z 2) (z 1) y hy)

theorem arr_11 : (dats (entry m) 0 c).arrAt 11 (cfgA (F := Ideal)).N = outQ m c := by
  refine (dats (entry m) 0 c).arrAt_eq_of_covers 11 (outQ m c) cov_11 fun t hf z => ?_
  have e : (((cfgA (F := Ideal)).win 11).blk t).view.emb z = ix4 (pr t) (z 1) (z 2) (z 3) := by
    refine funext fun a => Fin.ext ?_
    refine (((cfgA (F := Ideal)).win 11).rect_emb_val t z a).trans ?_
    refine (congrArg (fun n => n * _ + _) (congrFun (ix_11 (grid0.coords t)) a)).trans ?_
    match a with
    | ⟨0, _⟩ => exact (by have h : (z 0).val < 1 := (z 0).isLt; omega : (grid0.coords t 0).val * 1 + (z 0).val = (grid0.coords t 0).val)
    | ⟨1, _⟩ => exact (by rw [Nat.zero_mul, Nat.zero_add] : 0 * 16 + (z 1).val = (z 1).val)
    | ⟨2, _⟩ => exact (by rw [Nat.zero_mul, Nat.zero_add] : 0 * 128 + (z 2).val = (z 2).val)
    | ⟨3, _⟩ => exact (by rw [Nat.zero_mul, Nat.zero_add] : 0 * 512 + (z 3).val = (z 3).val)
  blk_simp
  rw [after_11]
  refine Eq.trans ?_ (congrArg (outQ m c) e).symm
  have h0 : (z 0).val < 1 := (z 0).isLt
  have hz : (z : S1x16x128x512.Idx) = ix4 0 (z 1) (z 2) (z 3) := by funext a; fin_cases a <;> first | rfl | exact Fin.ext (by show (z 0).val = 0; omega)
  refine (congrArg (st (entry m) c (t.val + 1)).dq hz).trans ?_
  exact (end_row c t (flush_11 t hf) (z 1) (fun n => (st (entry m) c n).dq (ix4 0 (z 1) (z 2) (z 3))) (gQ (entry m) c (z 2) (z 3)) (st_dq (entry m) c (z 1) (z 2) (z 3))).trans (sum_dq (pr t) (z 1) (z 3) y hy (z 2))

theorem arr_15 : (dats (entry m) 0 c).arrAt 15 (cfgA (F := Ideal)).N = outR m c := by
  refine (dats (entry m) 0 c).arrAt_eq_of_covers 15 (outR m c) cov_15 fun t hf z => ?_
  have e : (((cfgA (F := Ideal)).win 15).blk t).view.emb z = ix4 (pr t) (z 1) (z 2) (z 3) := by
    refine funext fun a => Fin.ext ?_
    refine (((cfgA (F := Ideal)).win 15).rect_emb_val t z a).trans ?_
    refine (congrArg (fun n => n * _ + _) (congrFun (ix_15 (grid0.coords t)) a)).trans ?_
    match a with
    | ⟨0, _⟩ => exact (by have h : (z 0).val < 1 := (z 0).isLt; omega : (grid0.coords t 0).val * 1 + (z 0).val = (grid0.coords t 0).val)
    | ⟨1, _⟩ => exact (by rw [Nat.zero_mul, Nat.zero_add] : 0 * 16 + (z 1).val = (z 1).val)
    | ⟨2, _⟩ => exact (by rw [Nat.zero_mul, Nat.zero_add] : 0 * 2 + (z 2).val = (z 2).val)
    | ⟨3, _⟩ => exact (by rw [Nat.zero_mul, Nat.zero_add] : 0 * 512 + (z 3).val = (z 3).val)
  blk_simp
  rw [after_15]
  refine Eq.trans ?_ (congrArg (outR m c) e).symm
  have h0 : (z 0).val < 1 := (z 0).isLt
  have hz : (z : S1x16x2x512.Idx) = ix4 0 (z 1) (z 2) (z 3) := by funext a; fin_cases a <;> first | rfl | exact Fin.ext (by show (z 0).val = 0; omega)
  refine (congrArg (st (entry m) c (t.val + 1)).dr hz).trans ?_
  exact (end_row c t (flush_15 t hf) (z 1) (fun n => (st (entry m) c n).dr (ix4 0 (z 1) (z 2) (z 3))) (gR (entry m) c (z 2) (z 3)) (st_dr (entry m) c (z 1) (z 2) (z 3))).trans (sum_dr (pr t) (z 1) (z 2) (z 3) y hy)

end Cert.KernelIdeal.Fox

end
-- ==== Proof.Ref.lean ====
module

public import proofs.«01_k».proof.Proof.Spec
public import proofs.«01_k».proof.Proof.Gen.ReferenceIdeal.Read

@[expose] public section

set_option maxRecDepth 16384

noncomputable section

namespace Cert.ReferenceIdeal.Fox

open Cert.ReferenceIdeal Cert.ReferenceIdeal.Gen Cert.ReferenceIdeal.Read Cert.Fox
open Idealize.ShloMosaic Idealize.ShloMosaic.TcCoe

variable (x0 x1 x2 x3 : (⟨S8192x512, .bf16⟩ : BufTy).Contents (Elt Ideal)) (x4 : (⟨S8x8192, .f32⟩ : BufTy).Contents (Elt Ideal))

def args : Args := ⟨fun b l => x0 (ix2 b l), fun b l => x1 (ix2 b l), fun b l => x2 (ix2 b l), fun b l => x3 (ix2 b l), fun h b => x4 (ix2 h b)⟩

theorem ninf : Ideal.ofBits .f32 4286578688#32 = ⊥ := by simp [Ideal.ofBits, Ideal.ieee]
theorem one : Ideal.ofBits .f32 1065353216#32 = 1 := by
  simp [Ideal.ofBits, Ideal.ieee]
  rw [← EReal.coe_mul, ← EReal.coe_one, EReal.coe_eq_coe_iff]
  norm_num

theorem key_le {α : Type} (a b : Fin 8192) (x y : α) :
    Scalar.select (IntOp.cmpi CmpIPredicate.sle (BitVec.ofNat 32 a.val) (BitVec.ofNat 32 b.val)) x y = if a ≤ b then x else y := by
  have ha := a.isLt
  have hb := b.isLt
  by_cases h : a ≤ b
  · rw [if_pos h, (Idealize.ShloMosaic.WordCmp.cmpi_sle_ofNat_eq_one_iff (by omega) (by omega)).2 h]; rfl
  · rw [if_neg h, (Idealize.ShloMosaic.WordCmp.cmpi_sle_ofNat_eq_zero_iff (by omega) (by omega)).2 (by have : ¬ a.val ≤ b.val := h; omega)]; rfl

theorem mask_at (h : Fin 8) (b a : Fin 8192) : (val_main_v22_1 (F := Ideal) (ix3 h b a) : BitVec 1) = IntOp.cmpi CmpIPredicate.sle (BitVec.ofNat 32 a.val) (BitVec.ofNat 32 b.val) := by
  pointwise [val_main_v22_1, val_main_v21, val_main_v20, val_main_v19, val_main_v18, val_main_v17, val_main_v16]

theorem score_at (h : Fin 8) (b a : Fin 8192) : val_main_v22_0 (F := Ideal) x0 x1 x4 (ix3 h b a) = score (args x0 x1 x2 x3 x4) h a b := by
  pointwise [val_main_v22_0, mask_at, val_main_v15, val_main_v14, val_main_v13,  val_main_v12,  val_main_v11, val_main_v10, val_main_v9, val_main_v5, val_main_v4, val_main_v3, val_main_v2, val_main_v1, val_main_v0, val_main_call0_v2, val_main_call0_v0, val_main_cst]
  rw [key_le]
  refine (congrArg (fun z => if a ≤ b then _ else z) (?_ : _ = (⊥ : EReal))).trans rfl
  exact ninf

theorem fold_at (h : Fin 8) (b : Fin 8192) : val_main_v23 (F := Ideal) x0 x1 x4 (ix2 h b) = Finset.fold max ⊥ (fun a => val_main_v22_0 (F := Ideal) x0 x1 x4 (ix3 h b a)) Finset.univ := by
  pointwise [val_main_v23, val_main_cst_0]
  rw [ninf]

theorem bot_at (i : S8x8192.Idx) : val_main_v29 (F := Ideal) i = (⊥ : EReal) := by
  rw [val_main_v29_apply, val_main_cst_2_apply]
  exact ninf

theorem top_at (h : Fin 8) (b : Fin 8192) : val_main_v30 (F := Ideal) x0 x1 x4 (ix2 h b) = top (args x0 x1 x2 x3 x4) h b := by
  have e : ∀ f g : Fin 8192 → EReal, f = g → Finset.fold max ⊥ f Finset.univ = Finset.fold max ⊥ g Finset.univ := fun f g h => congrArg (fun f => Finset.fold max ⊥ f Finset.univ) h
  refine (val_main_v30_apply x0 x1 x4 (ix2 h b)).trans ((congrArg₂ max (bot_at (ix2 h b)) (fold_at x0 x1 x4 h b)).trans ((max_bot_left _).trans ?_))
  exact e _ _ (funext fun a => score_at x0 x1 x2 x3 x4 h b a)

theorem ex_at (h : Fin 8) (b a : Fin 8192) : val_main_v43 (F := Ideal) x0 x1 x4 (ix3 h b a) = ex (args x0 x1 x2 x3 x4) h a b := by
  pointwise [val_main_v43, val_main_v42, val_main_v41, val_main_v40]
  rw [score_at x0 x1 x2 x3, top_at x0 x1 x2 x3]
  rfl

theorem den_at (h : Fin 8) (b : Fin 8192) : val_main_v44 (F := Ideal) x0 x1 x4 (ix2 h b) = den (args x0 x1 x2 x3 x4) h b := by
  pointwise [val_main_v44, val_main_cst_8]
  exact Finset.sum_congr rfl fun a _ => ex_at x0 x1 x2 x3 x4 h b a

theorem wt_at (h : Fin 8) (b a : Fin 8192) : val_main_v47 (F := Ideal) x0 x1 x4 (ix3 h b a) = wt (args x0 x1 x2 x3 x4) h a b := by
  pointwise [val_main_v47, val_main_v46, val_main_v45]
  rw [ex_at x0 x1 x2 x3, den_at x0 x1 x2 x3]
  rfl

theorem dw_at (h : Fin 8) (b a : Fin 8192) : val_main_v57 (F := Ideal) x2 x3 (ix3 h b a) = dw (args x0 x1 x2 x3 x4) h a b := by
  pointwise [val_main_v57, val_main_v54, val_main_v53, val_main_v52, val_main_v8, val_main_v7, val_main_v6]
  rfl

theorem ds_at (h : Fin 8) (b a : Fin 8192) : val_main_v70 (F := Ideal) x0 x1 x2 x3 x4 (ix3 h b a) = ds (args x0 x1 x2 x3 x4) h a b := by
  pointwise [val_main_v70, val_main_v69, val_main_v68, val_main_v67, val_main_v66, val_main_v65, val_main_v64, val_main_v63, val_main_v62, val_main_v61, val_main_v60, val_main_v59, val_main_v58, val_main_v50, val_main_v49, val_main_v48, val_main_v45, val_main_cst_9, val_main_cst_10, val_main_cst_11, val_main_call1_v0, val_main_call1_cst, mask_at]
  simp only [ex_at x0 x1 x2 x3, den_at x0 x1 x2 x3, dw_at x0 x1 x2 x3 x4, one, Finset.univ_unique, Finset.sum_singleton]
  rw [key_le]
  rfl

/-! ## The results -/

theorem gq_at (h : Fin 8) (b : Fin 8192) (d : Fin 64) : val_main_v79 (F := Ideal) x0 x1 x2 x3 x4 (ix3 h b d) = gq (args x0 x1 x2 x3 x4) h b d := by
  pointwise [val_main_v79, val_main_v5, val_main_v4, val_main_v3]
  simp only [ds_at]
  rfl

theorem gk_at (h : Fin 8) (a : Fin 8192) (d : Fin 64) : val_main_v78 (F := Ideal) x0 x1 x2 x3 x4 (ix3 h a d) = gk (args x0 x1 x2 x3 x4) h a d := by
  pointwise [val_main_v78, val_main_v2, val_main_v1, val_main_v0]
  simp only [ds_at]
  rfl

theorem gv_at (h : Fin 8) (a : Fin 8192) (d : Fin 64) : val_main_v56 (F := Ideal) x0 x1 x3 x4 (ix3 h a d) = gv (args x0 x1 x2 x3 x4) h a d := by
  pointwise [val_main_v56, val_main_v55, val_main_v54, val_main_v53, val_main_v52]
  simp only [wt_at x0 x1 x2 x3]
  rfl

theorem gcq_at (h : Fin 8) (b : Fin 8192) : val_main_v77 (F := Ideal) x0 x1 x2 x3 x4 (ix2 h b) = gcq (args x0 x1 x2 x3 x4) h b := by
  pointwise [val_main_v77, val_main_v76, val_main_v75, val_main_cst_14, val_main_cst_15]
  simp only [ds_at, Finset.univ_unique, Finset.sum_singleton]
  rfl

theorem gck_at (h : Fin 8) (a : Fin 8192) : val_main_v74 (F := Ideal) x0 x1 x2 x3 x4 (ix2 h a) = gck (args x0 x1 x2 x3 x4) h a := by
  pointwise [val_main_v74, val_main_v73, val_main_v72, val_main_v71, val_main_cst_12, val_main_cst_13]
  simp only [ds_at, Finset.univ_unique, Finset.sum_singleton]
  rfl

theorem res_dq (p : Fin 4) (i : Fin 16) (l : Fin 128) (b : Fin 512) :
    val_main_v83 (F := Ideal) x0 x1 x2 x3 x4 (ix4 p i l b) = gq (args x0 x1 x2 x3 x4) (hdOf (lane p l)) (big i b) (dmOf (lane p l)) := by
  rw [← gq_at]
  pointwise [val_main_v83, val_main_v82, val_main_v81, val_main_v80]
  refine congrArg _ (congrArg₂ (fun u w => ix3 u (big i b) w) (Fin.ext ?_) (Fin.ext ?_))
  · show p.val * 2 + l.val / 64 = (p.val * 128 + l.val) / 64
    omega
  · show l.val % 64 = (p.val * 128 + l.val) % 64
    omega

theorem res_dk (a : Fin 8192) (l : Fin 512) : val_main_v85 (F := Ideal) x0 x1 x2 x3 x4 (ix2 a l) = gk (args x0 x1 x2 x3 x4) (hdOf l) a (dmOf l) := by
  rw [← gk_at]
  pointwise [val_main_v85, val_main_v84]
  rfl

theorem res_dv (a : Fin 8192) (l : Fin 512) : val_main_v88 (F := Ideal) x0 x1 x3 x4 (ix2 a l) = gv (args x0 x1 x2 x3 x4) (hdOf l) a (dmOf l) := by
  rw [← gv_at]
  pointwise [val_main_v88, val_main_v87, val_main_v86]
  rfl

theorem res_dck (p : Fin 4) (a : Fin 8192) (h : Fin 2) : val_main_v90 (F := Ideal) x0 x1 x2 x3 x4 (ix3 p a h) = gck (args x0 x1 x2 x3 x4) (hh p h) a := by
  rw [← gck_at]
  pointwise [val_main_v90, val_main_v89]
  rfl

theorem res_dcq (p : Fin 4) (i : Fin 16) (h : Fin 2) (b : Fin 512) : val_main_v92 (F := Ideal) x0 x1 x2 x3 x4 (ix4 p i h b) = gcq (args x0 x1 x2 x3 x4) (hh p h) (big i b) := by
  rw [← gcq_at]
  pointwise [val_main_v92, val_main_v91]
  rfl

end Cert.ReferenceIdeal.Fox

end
-- ==== Proof.Finite.lean ====
module

public import proofs.«01_k».proof.Proof.Real
public import proofs.«01_k».proof.Proof.Gen.Pre_finite
public import Idealize.ShloMosaic.Lib.ReduceAll

@[expose] public section

noncomputable section

namespace Cert.Pre_finite.Fox

open Cert.Pre_finite Cert.Pre_finite.Gen Cert.Fox
open Idealize.ShloMosaic

theorem pinf : Ideal.ofBits .f32 2139095040#32 = ⊤ := by simp [Ideal.ofBits, Ideal.ieee]

theorem real_of_abs_lt (u : EReal) (h : max u (-u) < ⊤) : ∃ r : ℝ, u = r := by
  induction u using EReal.rec with
  | bot => simp at h
  | top => simp at h
  | coe r => exact ⟨r, rfl⟩

theorem cmp_one (u w : Ideal .f32) (h : (FloatOps.cmpf .olt u w : BitVec 1) = 1#1) : (u : EReal) < w := by
  by_contra hn
  have : (FloatOps.cmpf .olt u w : BitVec 1) = 0#1 := by
    show BitVec.ofBool _ = _
    simp [hn]
  rw [this] at h
  exact absurd h (by decide)

instance one_index : Subsingleton S_.Idx := ⟨fun i j => funext fun a => a.elim0⟩

variable (x0 x1 x2 x3 : FVec Ideal S8192x512 .bf16) (x4 : FVec Ideal S8x8192 .f32)

theorem all_real {s : Shape} (x : FVec Ideal s .f32) (hb : S_.BroadcastsInDim s (![] : Fin 0 → Fin s.rank)) {axes : List (Fin s.rank)} (hr : s.ReducesTo axes S_) (hu : 0 < S_.numel)
    (h : Host.reduce IntOp.andi (cmpf .olt (Host.absf x) (broadcastInDim s ![] hb (constant (F := Ideal) S_ .f32 0x7F800000#32))) (constantI S_ 1 1#1) hr hu ix0 = 1#1) (i : s.Idx) :
    ∃ r : ℝ, (x i : EReal) = r := by
  have h1 := cmp_one _ _ (Host.reduce_andi_all _ _ hr hu ix0 h i)
  refine real_of_abs_lt _ (lt_of_lt_of_eq h1 ?_)
  exact pinf

theorem reals (h : Cert.Pre_finite.fn (F := Ideal) x0 x1 x2 x3 x4 = fun _ => 1#1) :
    (∀ i, ∃ r : ℝ, (x0 i : EReal) = r) ∧ (∀ i, ∃ r : ℝ, (x1 i : EReal) = r) ∧ (∀ i, ∃ r : ℝ, (x2 i : EReal) = r) ∧ (∀ i, ∃ r : ℝ, (x3 i : EReal) = r) ∧ (∀ i, ∃ r : ℝ, (x4 i : EReal) = r) := by
  have e := congrFun h ix0
  unfold Cert.Pre_finite.fn Cert.Pre_finite.fn_part1 at e
  dsimp only at e
  obtain ⟨e, h4⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  exact ⟨all_real _ _ _ _ h0, all_real _ _ _ _ h1, all_real _ _ _ _ h2, all_real _ _ _ _ h3, all_real _ _ _ _ h4⟩

end Cert.Pre_finite.Fox

end
-- ==== Proof.Match.lean ====
/-
  Both programs' results are the gradients of one and the same argument arrays.
-/
module

public import proofs.«01_k».proof.Proof.Arrays
public import proofs.«01_k».proof.Proof.Ref
public import proofs.«01_k».proof.Proof.Finite

@[expose] public section

set_option maxRecDepth 16384

noncomputable section

namespace Cert.KernelIdeal.Fox

open Cert.KernelIdeal Cert.KernelIdeal.Gen Cert.Fox
open Idealize.ShloMosaic Idealize.ShloMosaic.TcCoe

/-- Finite arrays are arrays of reals. -/
theorem real_args (x0 x1 x2 x3 : FVec Ideal S8192x512 .bf16) (x4 : FVec Ideal S8x8192 .f32)
    (h : Cert.Pre_finite.fn (F := Ideal) x0 x1 x2 x3 x4 = fun _ => 1#1) : ∃ y : RArgs, args x0 x1 x2 x3 x4 = y.coe := by
  obtain ⟨h0, h1, h2, h3, h4⟩ := Cert.Pre_finite.Fox.reals x0 x1 x2 x3 x4 h
  choose r0 e0 using h0
  choose r1 e1 using h1
  choose r2 e2 using h2
  choose r3 e3 using h3
  choose r4 e4 using h4
  refine ⟨⟨fun b l => r0 (ix2 b l), fun b l => r1 (ix2 b l), fun b l => r2 (ix2 b l), fun b l => r3 (ix2 b l), fun h b => r4 (ix2 h b)⟩, ?_⟩
  unfold args RArgs.coe
  simp only [e0, e1, e2, e3, e4]

variable (m : (ℓ : Loc nD τ sig) → Buf (Elt Ideal) ℓ) (c : Dev nD)

/-- The precondition, at the kernel's argument arrays. -/
theorem real_ax (h : Cert.Pre_finite.fn (F := Ideal) (m (c, main_arg0)) (m (c, main_arg1)) (m (c, main_arg2)) (m (c, main_arg3)) (m (c, main_arg4)) = fun _ => 1#1) :
    ∃ y : RArgs, ax m c = y.coe :=
  real_args (m (c, main_arg0)) (m (c, main_arg1)) (m (c, main_arg2)) (m (c, main_arg3)) (m (c, main_arg4)) h

variable (x0 x1 x2 x3 : FVec Ideal S8192x512 .bf16) (x4 : FVec Ideal S8x8192 .f32)
variable (h0 : x0 = m (c, main_arg0)) (h1 : x1 = m (c, main_arg1)) (h2 : x2 = m (c, main_arg2)) (h3 : x3 = m (c, main_arg3)) (h4 : x4 = m (c, main_arg4))
include h0 h1 h2 h3 h4

theorem same_dq : Cert.ReferenceIdeal.Read.val_main_v83 (F := Ideal) x0 x1 x2 x3 x4 = outQ m c := by
  subst h0 h1 h2 h3 h4
  funext y
  rw [eq_ix4 y]
  exact Cert.ReferenceIdeal.Fox.res_dq (m (c, main_arg0)) (m (c, main_arg1)) (m (c, main_arg2)) (m (c, main_arg3)) (m (c, main_arg4)) (y 0) (y 1) (y 2) (y 3)

theorem same_dk : Cert.ReferenceIdeal.Read.val_main_v85 (F := Ideal) x0 x1 x2 x3 x4 = outK m c := by
  subst h0 h1 h2 h3 h4
  funext y
  rw [eq_ix2 y]
  exact Cert.ReferenceIdeal.Fox.res_dk (m (c, main_arg0)) (m (c, main_arg1)) (m (c, main_arg2)) (m (c, main_arg3)) (m (c, main_arg4)) (y 0) (y 1)

theorem same_dv : Cert.ReferenceIdeal.Read.val_main_v88 (F := Ideal) x0 x1 x3 x4 = outV m c := by
  subst h0 h1 h2 h3 h4
  funext y
  rw [eq_ix2 y]
  exact Cert.ReferenceIdeal.Fox.res_dv (m (c, main_arg0)) (m (c, main_arg1)) (m (c, main_arg2)) (m (c, main_arg3)) (m (c, main_arg4)) (y 0) (y 1)

theorem same_dck : Cert.ReferenceIdeal.Read.val_main_v90 (F := Ideal) x0 x1 x2 x3 x4 = outC m c := by
  subst h0 h1 h2 h3 h4
  funext y
  rw [eq_ix3 y]
  exact Cert.ReferenceIdeal.Fox.res_dck (m (c, main_arg0)) (m (c, main_arg1)) (m (c, main_arg2)) (m (c, main_arg3)) (m (c, main_arg4)) (y 0) (y 1) (y 2)

theorem same_dcq : Cert.ReferenceIdeal.Read.val_main_v92 (F := Ideal) x0 x1 x2 x3 x4 = outR m c := by
  subst h0 h1 h2 h3 h4
  funext y
  rw [eq_ix4 y]
  exact Cert.ReferenceIdeal.Fox.res_dcq (m (c, main_arg0)) (m (c, main_arg1)) (m (c, main_arg2)) (m (c, main_arg3)) (m (c, main_arg4)) (y 0) (y 1) (y 2) (y 3)

end Cert.KernelIdeal.Fox

end
-- ==== Proof.Tiles.lean ====
/-
  Sums over all rows, taken one block of rows after another.
-/
module

public import Idealize.ShloMosaic.PureOps.Ideal.Laws

@[expose] public section

noncomputable section

namespace Cert.Tiles

/-- A family over `Fin n`, continued by zero. -/
def pad {n : ℕ} (f : Fin n → EReal) (t : ℕ) : EReal := if h : t < n then f ⟨t, h⟩ else 0

/-- The sum of the first `k` blocks of `b` terms. -/
def upto {n : ℕ} (b : ℕ) (f : Fin n → EReal) (k : ℕ) : EReal := ∑ t ∈ Finset.range (b * k), pad f t

theorem upto_zero {n : ℕ} (b : ℕ) (f : Fin n → EReal) : upto b f 0 = 0 := by simp [upto]

/-- One block more. -/
theorem upto_succ {n b k : ℕ} (f : Fin n → EReal) (h : b * k + b ≤ n) :
    upto b f (k + 1) = upto b f k + ∑ r : Fin b, f ⟨b * k + r.val, by omega⟩ := by
  unfold upto
  rw [Nat.mul_succ, Finset.sum_range_add]
  congr 1
  rw [Finset.sum_range]
  refine Finset.sum_congr rfl fun r _ => ?_
  unfold pad
  rw [dif_pos]

/-- All blocks. -/
theorem upto_all {n b k : ℕ} (f : Fin n → EReal) (h : b * k = n) : upto b f k = ∑ t, f t := by
  unfold upto
  rw [h, Finset.sum_range]
  refine Finset.sum_congr rfl fun r _ => ?_
  unfold pad
  rw [dif_pos r.isLt]

end Cert.Tiles

end
-- ==== Proof.NormScalar.lean ====
/-
  The gradient through a root mean square norm, on extended reals. The reciprocal root is a real number that is not
  negative, even where an entry of the row is infinite, so a product with it distributes over every sum below: the
  kernel's formula and the differentiated one are equal with nothing assumed of the entries.
-/
module

public import Idealize.ShloMosaic.PureOps.Ideal.Laws
public import Idealize.ShloMosaic.Lib.IdealHost

@[expose] public section

noncomputable section

namespace Cert.NormScalar

open Idealize.ShloMosaic

/-! ## The constants -/

theorem size_bits : Ideal.ofBits .f32 0x44800000#32 = ((1024 : ℝ) : EReal) := by
  simp [Ideal.ofBits, Ideal.ieee, -EReal.coe_mul]; norm_num

theorem half_bits : Ideal.ofBits .f32 0xBF000000#32 = ((-(1 / 2) : ℝ) : EReal) := by
  simp [Ideal.ofBits, Ideal.ieee, -EReal.coe_mul]; norm_num

theorem eps_bits : (0 : EReal) < Ideal.ofBits .f32 0x358637BD#32 := by
  simp [Ideal.ofBits, Ideal.ieee, -EReal.coe_mul]

/-! ## The reciprocal root -/

theorem square_nonneg (x : EReal) : 0 ≤ x * x := by
  induction x with
  | bot => exact le_of_lt (by rw [EReal.bot_mul_bot]; exact EReal.zero_lt_top)
  | top => exact le_of_lt (by rw [EReal.top_mul_top]; exact EReal.zero_lt_top)
  | coe r => rw [← EReal.coe_mul]; exact EReal.coe_nonneg.2 (mul_self_nonneg r)

theorem div_size (x : EReal) : Ideal.div x ((1024 : ℝ) : EReal) = x * ((1024⁻¹ : ℝ) : EReal) := by
  unfold Ideal.div
  rw [if_neg (by rw [← EReal.coe_zero, EReal.coe_eq_coe_iff]; norm_num), ← EReal.coe_inv]

/-- The mean of the squares plus the small constant. -/
def v {n : ℕ} (x : Fin n → EReal) : EReal := Ideal.div (∑ k, x k * x k) (Ideal.ofBits .f32 0x44800000#32) + Ideal.ofBits .f32 0x358637BD#32

theorem v_pos {n : ℕ} (x : Fin n → EReal) : 0 < v x := by
  unfold v
  rw [size_bits, div_size]
  exact lt_of_lt_of_le eps_bits (le_add_of_nonneg_left (EReal.mul_nonneg (Finset.sum_nonneg fun k _ => square_nonneg _) (EReal.coe_nonneg.2 (by norm_num))))

theorem root (w : EReal) (h : 0 < w) : ∃ ρ : ℝ, 0 ≤ ρ ∧ Ideal.rsqrt w = (ρ : EReal) ∧ Ideal.div (Ideal.rsqrt w) w = ((ρ * ρ * ρ : ℝ) : EReal) := by
  induction w with
  | bot => exact absurd h (not_lt_of_ge bot_le)
  | top => exact ⟨0, le_refl _, rfl, by show Ideal.div 0 ⊤ = _; unfold Ideal.div; rw [if_neg EReal.top_ne_zero]; simp⟩
  | coe r =>
    have hr : 0 < r := EReal.coe_pos.1 h
    have hs : 0 < Real.sqrt r := Real.sqrt_pos.2 hr
    have e : Ideal.rsqrt (r : EReal) = (((Real.sqrt r)⁻¹ : ℝ) : EReal) := by
      show (if r < 0 then ⊥ else if r = 0 then ⊤ else (((Real.sqrt r)⁻¹ : ℝ) : EReal)) = _
      rw [if_neg (not_lt.2 hr.le), if_neg hr.ne']
    refine ⟨(Real.sqrt r)⁻¹, (inv_pos.2 hs).le, e, ?_⟩
    rw [e]
    unfold Ideal.div
    rw [if_neg (by rw [← EReal.coe_zero, EReal.coe_eq_coe_iff]; exact hr.ne'), ← EReal.coe_inv, ← EReal.coe_mul, EReal.coe_eq_coe_iff]
    have q : r⁻¹ = (Real.sqrt r)⁻¹ * (Real.sqrt r)⁻¹ := by rw [← mul_inv, Real.mul_self_sqrt hr.le]
    rw [q, mul_assoc]

/-! ## The two formulas -/

theorem sum_mul_real {n : ℕ} (f : Fin n → EReal) (ρ : ℝ) (h : 0 ≤ ρ) : (∑ k, f k) * (ρ : EReal) = ∑ k, f k * (ρ : EReal) := by
  induction (Finset.univ : Finset (Fin n)) using Finset.induction_on with
  | empty => simp
  | insert a s ha ih => rw [Finset.sum_insert ha, Finset.sum_insert ha, EReal.right_distrib_of_nonneg_of_ne_top (EReal.coe_nonneg.2 h) (EReal.coe_ne_top ρ), ih]

theorem twice (W : EReal) (t : ℝ) (h : 0 ≤ t) : -(W * (t : EReal)) = -(W * ((t / 2 : ℝ) : EReal)) + -(W * ((t / 2 : ℝ) : EReal)) := by
  have e : W * (t : EReal) = W * ((t / 2 : ℝ) : EReal) + W * ((t / 2 : ℝ) : EReal) := by
    rw [← EReal.left_distrib_of_nonneg (EReal.coe_nonneg.2 (by positivity)) (EReal.coe_nonneg.2 (by positivity)), ← EReal.coe_add]
    congr 2
    ring
  rw [e]
  generalize W * ((t / 2 : ℝ) : EReal) = u
  induction u with
  | bot => rfl
  | top => rfl
  | coe r => rw [← EReal.coe_add, ← EReal.coe_neg, ← EReal.coe_neg, ← EReal.coe_add]; congr 1; ring

/-- What the kernel computes of one entry: the gradient `d` of the residual, the gradients `y` of the normed row. -/
def kernel {n : ℕ} (x y : Fin n → EReal) (d : EReal) (j : Fin n) : EReal :=
  d + Ideal.rsqrt (v x) * (y j - x j * Ideal.rsqrt (v x) * Ideal.div (∑ k, y k * (x k * Ideal.rsqrt (v x))) (Ideal.ofBits .f32 0x44800000#32))

/-- The factor of the row in the differentiated formula. -/
def factor {n : ℕ} (x y : Fin n → EReal) : EReal :=
  Ideal.div ((∑ k, x k * y k) * (Ideal.ofBits .f32 0xBF000000#32 * Ideal.div (Ideal.rsqrt (v x)) (v x))) (Ideal.ofBits .f32 0x44800000#32)

/-- The two are equal. -/
theorem same {n : ℕ} (x y : Fin n → EReal) (d : EReal) (j : Fin n) :
    d + (y j * Ideal.rsqrt (v x) + x j * factor x y + factor x y * x j) = kernel x y d j := by
  obtain ⟨ρ, h, e1, e2⟩ := root (v x) (v_pos x)
  unfold kernel factor
  rw [e2, e1, size_bits, half_bits, div_size, div_size]
  have hS : (∑ k, y k * (x k * (ρ : EReal))) = (∑ k, x k * y k) * (ρ : EReal) := by
    rw [sum_mul_real _ _ h]
    exact Finset.sum_congr rfl fun k _ => by rw [← mul_assoc, mul_comm (y k) (x k)]
  rw [hS]
  generalize (∑ k, x k * y k) = S
  generalize y j = a
  generalize x j = b
  have ht : 0 ≤ ρ * ρ * ρ * 1024⁻¹ := by positivity
  have eL : b * (S * (((-(1 / 2) : ℝ) : EReal) * ((ρ * ρ * ρ : ℝ) : EReal)) * ((1024⁻¹ : ℝ) : EReal)) = -(b * S * ((ρ * ρ * ρ * 1024⁻¹ / 2 : ℝ) : EReal)) := by
    rw [← mul_neg, ← EReal.coe_neg, ← EReal.coe_mul, mul_assoc S, ← EReal.coe_mul, ← mul_assoc]
    congr 2
    ring
  have eR : (ρ : EReal) * (b * (ρ : EReal) * (S * (ρ : EReal) * ((1024⁻¹ : ℝ) : EReal))) = b * S * ((ρ * ρ * ρ * 1024⁻¹ : ℝ) : EReal) := by
    rw [EReal.coe_mul, EReal.coe_mul, EReal.coe_mul]
    ac_rfl
  rw [mul_comm _ b, eL, add_assoc (a * (ρ : EReal)), ← twice _ _ ht, ← eR, sub_eq_add_neg,
    EReal.left_distrib_of_nonneg_of_ne_top (EReal.coe_nonneg.2 h) (EReal.coe_ne_top ρ), mul_neg, mul_comm a]

end Cert.NormScalar

end
-- ==== Proof.NormBwd.lean ====
/-
  The step through the gate and up projections and the norm before them: the gradients of the two products, times the
  weights, transposed, and the sum taken through the norm. A block of 512 tokens takes two grid points, one a plane,
  the sum of the two kept in a scratch buffer; the gradient of the norm's gain is a sum over the sixteen blocks.
-/
module

public import proofs.«01_k».proof.Proof.Tiles
public import proofs.«01_k».proof.Proof.NormScalar
public import proofs.«01_k».proof.Proof.Gen.Kernel2Ideal.Value
public import Idealize.ShloMosaic.Lib.Pointwise
public import Idealize.ShloMosaic.Lib.Tactic
public import Idealize.ShloMosaic.Lib.Pipeline.ValueKit

@[expose] public section

noncomputable section

namespace Cert.Kernel2Ideal.Norm

open Cert.Kernel2Ideal Cert.Kernel2Ideal.Gen Cert.Kernel2Ideal.Value Cert.Tiles
open Idealize.ShloMosaic Idealize.ShloMosaic.TcCoe

theorem hz3 : (![0, 0, 0] : Fin 3 → Nat) = fun _ => 0 := funext fun a => by fin_cases a <;> rfl
theorem hz : (![0, 0] : Fin 2 → Nat) = fun _ => 0 := funext fun a => by fin_cases a <;> rfl

section Body
variable {F : FTy → Type} [FloatOps F]
variable (c : Dev nD) (i : grid0.Coords) (a2 : Memref sig .tc .vmem S1x512x2816 .bf16) (h2 : a2.IsWhole) (a3 : Memref sig .tc .vmem S1024x2816 .bf16) (h3 : a3.IsWhole)
  (a4 : Memref sig .tc .vmem S512x1024 .f32) (h4 : a4.IsWhole) (a5 : Memref sig .tc .vmem S1x1024 .f32) (h5 : a5.IsWhole) (a6 : Memref sig .tc .vmem S512x1024 .f32) (h6 : a6.IsWhole)
  (a7 : Memref sig .tc .vmem S512x1024 .f32) (h7 : a7.IsWhole) (a8 : Memref sig .tc .vmem S1x1024 .f32) (h8 : a8.IsWhole) (a9 : Memref sig .tc .vmem S512x1024 .f32) (h9 : a9.IsWhole)
  (x0 : Vec F S1x512x2816 .bf16) (x1 : Vec F S1024x2816 .bf16) (x2 : Vec F S512x1024 .f32) (x3 : Vec F S1x1024 .f32) (x4 : Vec F S512x1024 .f32) (o : Vec F S1x1024 .f32) (s : Vec F S512x1024 .f32)

/-- The first plane starts the sum. -/
theorem first (c0 : cond0_0 i) (c1 : ¬cond0_1 i) (c2 : ¬cond0_2 i) : sout0_A_0 c i a2 h2 a3 h3 a4 h4 a5 h5 a6 h6 a7 h7 a8 h8 a9 h9 c0 c1 c2 x0 x1 x2 x3 x4 = k0_pay1 x0 x1 := by
  unfold sout0_A_0
  rw [View.read_writes_eq_canon _ _ _ (scover0_A_0 c i a2 h2 a3 h3 a4 h4 a5 h5 a6 h6 a7 h7 a8 h8 a9 h9 c0 c1 c2 x0 x1 x2 x3 x4)]
  unfold kernelRun0_A
  dsimp only
  sl_unfold_words
  rw [View.canon_unit_zero hz]
  unfold k0_pay2
  simp only [View.readAt_eq_ld, h2.read_unread, h3.read_unread, h4.read_unread, h5.read_unread, h6.read_unread, h8.read_unread, h9.read_unread, View.ld_unit_zero (S := S1x512x2816) hz3, View.ld_unit_zero (S := S1024x2816) hz, View.ld_unit_zero (S := S512x1024) hz, View.ld_unit_zero (S := S1x1024) hz, shapeCast_self]

/-- The gradient of the norm's input: in the first block of tokens -/
theorem dx_B (c0 : ¬cond0_0 i) (c1 : cond0_1 i) (c2 : cond0_2 i) (c3 : cond0_3 i) (c4 : ¬cond0_4 i) : out0_B_5 c i a2 h2 a3 h3 a4 h4 a5 h5 a6 h6 a7 h7 a8 h8 a9 h9 c0 c1 c2 c3 c4 x0 x1 x2 x3 x4 s = k0_pay7 (addf s (k0_pay1 x0 x1)) x2 x3 x4 := by
  unfold out0_B_5
  rw [View.read_writes_eq_canon _ _ _ (cover0_B_5 c i a2 h2 a3 h3 a4 h4 a5 h5 a6 h6 a7 h7 a8 h8 a9 h9 c0 c1 c2 c3 c4 x0 x1 x2 x3 x4 s)]
  unfold kernelRun0_B
  dsimp only
  sl_unfold_words
  rw [View.canon_unit_zero hz, View.readCov_unit_zero (S := S512x1024) _ hz]
  unfold k0_pay3
  simp only [View.readAt_eq_ld, h2.read_unread, h3.read_unread, h4.read_unread, h5.read_unread, h6.read_unread, h8.read_unread, h9.read_unread, View.ld_unit_zero (S := S1x512x2816) hz3, View.ld_unit_zero (S := S1024x2816) hz, View.ld_unit_zero (S := S512x1024) hz, View.ld_unit_zero (S := S1x1024) hz, shapeCast_self]

/-- and in a later one. -/
theorem dx_C (c0 : ¬cond0_0 i) (c1 : cond0_1 i) (c2 : cond0_2 i) (c3 : ¬cond0_3 i) (c4 : cond0_4 i) : out0_C_5 c i a2 h2 a3 h3 a4 h4 a5 h5 a6 h6 a7 h7 a8 h8 a9 h9 c0 c1 c2 c3 c4 x0 x1 x2 x3 x4 o s = k0_pay7 (addf s (k0_pay1 x0 x1)) x2 x3 x4 := by
  unfold out0_C_5
  rw [View.read_writes_eq_canon _ _ _ (cover0_C_5 c i a2 h2 a3 h3 a4 h4 a5 h5 a6 h6 a7 h7 a8 h8 a9 h9 c0 c1 c2 c3 c4 x0 x1 x2 x3 x4 o s)]
  unfold kernelRun0_C
  dsimp only
  sl_unfold_words
  rw [View.canon_unit_zero hz, View.readCov_unit_zero (S := S512x1024) _ hz]
  unfold k0_pay3
  simp only [View.readAt_eq_ld, h2.read_unread, h3.read_unread, h4.read_unread, h5.read_unread, h6.read_unread, h8.read_unread, h9.read_unread, View.ld_unit_zero (S := S1x512x2816) hz3, View.ld_unit_zero (S := S1024x2816) hz, View.ld_unit_zero (S := S512x1024) hz, View.ld_unit_zero (S := S1x1024) hz, shapeCast_self]

/-- The gradient of the gain starts with the first block of tokens -/
theorem dg_B (c0 : ¬cond0_0 i) (c1 : cond0_1 i) (c2 : cond0_2 i) (c3 : cond0_3 i) (c4 : ¬cond0_4 i) : out0_B_6 c i a2 h2 a3 h3 a4 h4 a5 h5 a6 h6 a7 h7 a8 h8 a9 h9 c0 c1 c2 c3 c4 x0 x1 x2 x3 x4 s = k0_pay8 (addf s (k0_pay1 x0 x1)) x2 := by
  unfold out0_B_6
  rw [View.read_writes_eq_canon _ _ _ (cover0_B_6 c i a2 h2 a3 h3 a4 h4 a5 h5 a6 h6 a7 h7 a8 h8 a9 h9 c0 c1 c2 c3 c4 x0 x1 x2 x3 x4 s)]
  unfold kernelRun0_B
  dsimp only
  sl_unfold_words
  rw [View.canon_unit_zero hz, View.readCov_unit_zero (S := S512x1024) _ hz]
  unfold k0_pay3
  simp only [View.readAt_eq_ld, h2.read_unread, h3.read_unread, h4.read_unread, h5.read_unread, h6.read_unread, h8.read_unread, h9.read_unread, View.ld_unit_zero (S := S1x512x2816) hz3, View.ld_unit_zero (S := S1024x2816) hz, View.ld_unit_zero (S := S512x1024) hz, View.ld_unit_zero (S := S1x1024) hz, shapeCast_self]

/-- and a later one is added. -/
theorem dg_C (c0 : ¬cond0_0 i) (c1 : cond0_1 i) (c2 : cond0_2 i) (c3 : ¬cond0_3 i) (c4 : cond0_4 i) : out0_C_6 c i a2 h2 a3 h3 a4 h4 a5 h5 a6 h6 a7 h7 a8 h8 a9 h9 c0 c1 c2 c3 c4 x0 x1 x2 x3 x4 o s = addf o (k0_pay8 (addf s (k0_pay1 x0 x1)) x2) := by
  unfold out0_C_6
  rw [View.read_writes_eq_canon _ _ _ (cover0_C_6 c i a2 h2 a3 h3 a4 h4 a5 h5 a6 h6 a7 h7 a8 h8 a9 h9 c0 c1 c2 c3 c4 x0 x1 x2 x3 x4 o s)]
  unfold kernelRun0_C
  dsimp only
  sl_unfold_words
  rw [View.canon_unit_zero hz, View.readCov_unit_zero (S := S512x1024) _ hz]
  unfold k0_pay4 k0_pay3
  simp only [View.readAt_eq_ld, h2.read_unread, h3.read_unread, h4.read_unread, h5.read_unread, h6.read_unread, h8.read_unread, h9.read_unread, View.ld_unit_zero (S := S1x512x2816) hz3, View.ld_unit_zero (S := S1024x2816) hz, View.ld_unit_zero (S := S512x1024) hz, View.ld_unit_zero (S := S1x1024) hz, shapeCast_self]

end Body

/-! One entry of each, on extended reals. -/

theorem part_at (x : Vec Ideal S1x512x2816 .bf16) (w : Vec Ideal S1024x2816 .bf16) (a : Fin 512) (j : Fin 1024) :
    k0_pay1 (F := Ideal) x w (ix2 a j) = ∑ f, x (ix3 (0 : Fin 1) a f) * w (ix2 j f) := by
  pointwise [k0_pay1]

theorem root_at (h : Vec Ideal S512x1024 .f32) (a : Fin 512) (z : Fin 1) : k0_pay5 (F := Ideal) h (ix2 a z) = Ideal.rsqrt (NormScalar.v fun k : Fin 1024 => h (ix2 a k)) := by
  pointwise [k0_pay5]
  rfl

theorem normed_at (h : Vec Ideal S512x1024 .f32) (a : Fin 512) (j : Fin 1024) :
    k0_pay6 (F := Ideal) h (ix2 a j) = h (ix2 a j) * Ideal.rsqrt (NormScalar.v fun k : Fin 1024 => h (ix2 a k)) := by
  pointwise [k0_pay6, root_at]

theorem dx_at (d h : Vec Ideal S512x1024 .f32) (g : Vec Ideal S1x1024 .f32) (r : Vec Ideal S512x1024 .f32) (a : Fin 512) (j : Fin 1024) :
    k0_pay7 (F := Ideal) d h g r (ix2 a j)
      = NormScalar.kernel (fun k : Fin 1024 => h (ix2 a k)) (fun k => d (ix2 a k) * g (ix2 (0 : Fin 1) k)) (r (ix2 a j)) j := by
  pointwise [k0_pay7, normed_at, root_at]
  rfl

theorem dg_at (d h : Vec Ideal S512x1024 .f32) (z : Fin 1) (j : Fin 1024) :
    k0_pay8 (F := Ideal) d h (ix2 z j) = ∑ a : Fin 512, d (ix2 a j) * (h (ix2 a j) * Ideal.rsqrt (NormScalar.v fun k : Fin 1024 => h (ix2 a k))) := by
  obtain rfl : z = 0 := Subsingleton.elim _ _
  pointwise [k0_pay8, normed_at]

/-! What a grid point reads. -/

theorem ix_0 : ∀ t : Fin cfg0.N, win0_0.index t (0 : Fin 3) = t.val % 2 ∧ win0_0.index t (1 : Fin 3) = t.val / 2 ∧ win0_0.index t (2 : Fin 3) = 0 :=
  (by decide +kernel : ∀ t : Fin grid0.N, _)
theorem ix_1 : ∀ t : Fin cfg0.N, win0_1.index t (0 : Fin 2) = 0 ∧ win0_1.index t (1 : Fin 2) = t.val % 2 :=
  (by decide +kernel : ∀ t : Fin grid0.N, _)
theorem ix_2 : ∀ t : Fin cfg0.N, win0_2.index t (0 : Fin 2) = t.val / 2 ∧ win0_2.index t (1 : Fin 2) = 0 :=
  (by decide +kernel : ∀ t : Fin grid0.N, _)
theorem ix_3 : ∀ t : Fin cfg0.N, win0_3.index t (0 : Fin 2) = 0 ∧ win0_3.index t (1 : Fin 2) = 0 :=
  (by decide +kernel : ∀ t : Fin grid0.N, _)
theorem ix_4 : ∀ t : Fin cfg0.N, win0_4.index t (0 : Fin 2) = t.val / 2 ∧ win0_4.index t (1 : Fin 2) = 0 :=
  (by decide +kernel : ∀ t : Fin grid0.N, _)

variable (m : (ℓ : Loc nD τ sig) → Buf (Elt Ideal) ℓ) (c : Dev nD)

def dgu : FVec Ideal S2x8192x2816 .bf16 := m (c, main_arg0)
def w : FVec Ideal S1024x5632 .bf16 := m (c, main_arg1)
def h : FVec Ideal S8192x1024 .f32 := m (c, main_arg2)
def g : FVec Ideal S1024 .f32 := m (c, main_arg3)
def dres : FVec Ideal S8192x1024 .f32 := m (c, main_arg4)

theorem blk_0 (t : Fin cfg0.N) (a : Fin 512) (f : Fin 2816) (hp : t.val % 2 < 2) (ha : 512 * (t.val / 2) + a.val < 8192) :
    (iblk m c 0 t : Vec Ideal S1x512x2816 .bf16) (ix3 (0 : Fin 1) a f) = dgu m c (ix3 ⟨t.val % 2, hp⟩ ⟨512 * (t.val / 2) + a.val, ha⟩ f) := by
  unfold iblk
  rw [View.read_apply]
  show V m c main_arg0 _ = m (c, main_arg0) _
  rw [V_main_arg0 m c]
  show m (c, main_arg0) _ = m (c, main_arg0) _
  congr 1
  funext k
  apply Fin.ext
  match k with
  | ⟨0, _⟩ => show win0_0.index t (0 : Fin 3) * 1 + 1 * 0 = _; rw [(ix_0 t).1]; show _ = t.val % 2; omega
  | ⟨1, _⟩ => show win0_0.index t (1 : Fin 3) * 512 + 1 * a.val = _; rw [(ix_0 t).2.1]; show _ = 512 * (t.val / 2) + a.val; omega
  | ⟨2, _⟩ => show win0_0.index t (2 : Fin 3) * 2816 + 1 * f.val = _; rw [(ix_0 t).2.2]; show _ = f.val; omega

theorem blk_1 (t : Fin cfg0.N) (j : Fin 1024) (f : Fin 2816) (hf : 2816 * (t.val % 2) + f.val < 5632) :
    (iblk m c 1 t : Vec Ideal S1024x2816 .bf16) (ix2 j f) = w m c (ix2 j ⟨2816 * (t.val % 2) + f.val, hf⟩) := by
  unfold iblk
  rw [View.read_apply]
  show V m c main_arg1 _ = m (c, main_arg1) _
  rw [V_main_arg1 m c]
  show m (c, main_arg1) _ = m (c, main_arg1) _
  congr 1
  funext k
  apply Fin.ext
  match k with
  | ⟨0, _⟩ => show win0_1.index t (0 : Fin 2) * 1024 + 1 * j.val = _; rw [(ix_1 t).1]; show _ = j.val; omega
  | ⟨1, _⟩ => show win0_1.index t (1 : Fin 2) * 2816 + 1 * f.val = _; rw [(ix_1 t).2]; show _ = 2816 * (t.val % 2) + f.val; omega

theorem blk_2 (t : Fin cfg0.N) (a : Fin 512) (k : Fin 1024) (ha : 512 * (t.val / 2) + a.val < 8192) :
    (iblk m c 2 t : Vec Ideal S512x1024 .f32) (ix2 a k) = h m c (ix2 ⟨512 * (t.val / 2) + a.val, ha⟩ k) := by
  unfold iblk
  rw [View.read_apply]
  show V m c main_arg2 _ = m (c, main_arg2) _
  rw [V_main_arg2 m c]
  show m (c, main_arg2) _ = m (c, main_arg2) _
  congr 1
  funext l
  apply Fin.ext
  match l with
  | ⟨0, _⟩ => show win0_2.index t (0 : Fin 2) * 512 + 1 * a.val = _; rw [(ix_2 t).1]; show _ = 512 * (t.val / 2) + a.val; omega
  | ⟨1, _⟩ => show win0_2.index t (1 : Fin 2) * 1024 + 1 * k.val = _; rw [(ix_2 t).2]; show _ = k.val; omega

theorem blk_4 (t : Fin cfg0.N) (a : Fin 512) (k : Fin 1024) (ha : 512 * (t.val / 2) + a.val < 8192) :
    (iblk m c 4 t : Vec Ideal S512x1024 .f32) (ix2 a k) = dres m c (ix2 ⟨512 * (t.val / 2) + a.val, ha⟩ k) := by
  unfold iblk
  rw [View.read_apply]
  show V m c main_arg4 _ = m (c, main_arg4) _
  rw [V_main_arg4 m c]
  show m (c, main_arg4) _ = m (c, main_arg4) _
  congr 1
  funext l
  apply Fin.ext
  match l with
  | ⟨0, _⟩ => show win0_4.index t (0 : Fin 2) * 512 + 1 * a.val = _; rw [(ix_4 t).1]; show _ = 512 * (t.val / 2) + a.val; omega
  | ⟨1, _⟩ => show win0_4.index t (1 : Fin 2) * 1024 + 1 * k.val = _; rw [(ix_4 t).2]; show _ = k.val; omega

/-- The gain, as one row. -/
theorem V_gain : V m c main_v0 = shapeCast S1x1024 (g m c) shapeCasts_S1024_S1x1024 := by
  unfold V
  rw [StableHlo.after_cons, StableHlo.after_nil, StableHlo.reshape_result']
  rfl

theorem gain_row (k : Fin 1024) (x : FVec Ideal S1024 .f32) : shapeCast S1x1024 x shapeCasts_S1024_S1x1024 (ix2 (0 : Fin 1) k) = x (ix1 k) :=
  shapeCast_apply x shapeCasts_S1024_S1x1024 _ _ (by rewrite [Shape.rowMajor_val_one, Shape.rowMajor_val_two]; show k.val = 0 * 1024 + k.val; omega)

theorem blk_3 (t : Fin cfg0.N) (k : Fin 1024) : (iblk m c 3 t : Vec Ideal S1x1024 .f32) (ix2 (0 : Fin 1) k) = g m c (ix1 k) := by
  unfold iblk
  rw [View.read_apply]
  show V m c main_v0 _ = _
  rw [V_gain]
  refine Eq.trans (congrArg (shapeCast S1x1024 (g m c) shapeCasts_S1024_S1x1024) ?_) (gain_row k (g m c))
  funext l
  apply Fin.ext
  match l with
  | ⟨0, _⟩ => show win0_3.index t (0 : Fin 2) * 1 + 1 * 0 = _; rw [(ix_3 t).1]; rfl
  | ⟨1, _⟩ => show win0_3.index t (1 : Fin 2) * 1024 + 1 * k.val = _; rw [(ix_3 t).2]; show _ = k.val; omega

/-! The two gradients, of one token and one channel. -/

/-- One plane's share of the gradient of the normed activations. -/
def share (t : Fin 8192) (j : Fin 1024) (p : Fin 2) : EReal := ∑ f : Fin 2816, dgu m c (ix3 p t f) * w m c (ix2 j ⟨2816 * p.val + f.val, by omega⟩)

/-- The gradient of the normed activations, with the gain. -/
def dy (t : Fin 8192) (j : Fin 1024) : EReal := share m c t j 0 + share m c t j 1

def row (t : Fin 8192) (k : Fin 1024) : EReal := h m c (ix2 t k)

/-- The gradient of the normed activations, without the gain. -/
def gy (t : Fin 8192) (k : Fin 1024) : EReal := dy m c t k * g m c (ix1 k)

def dX : FVec Ideal S8192x1024 .f32 := fun y => NormScalar.kernel (row m c (y 0)) (gy m c (y 0)) (dres m c y) (y 1)

/-- One token's share of the gradient of the gain. -/
def term (j : Fin 1024) (t : Fin 8192) : EReal := dy m c t j * (row m c t j * Ideal.rsqrt (NormScalar.v (row m c t)))

def dG : FVec Ideal S1x1024 .f32 := fun y => ∑ t, term m c (y 1) t

theorem share_congr {t t' : Fin 8192} {j j' : Fin 1024} {p p' : Fin 2} (e0 : t = t') (e1 : j = j') (e2 : p = p') : share m c t j p = share m c t' j' p' := by
  subst e0 e1 e2; rfl

theorem part (t : Fin cfg0.N) (a : Fin 512) (j : Fin 1024) (hp : t.val % 2 < 2) (ha : 512 * (t.val / 2) + a.val < 8192) :
    k0_pay1 (F := Ideal) (iblk m c 0 t) (iblk m c 1 t) (ix2 a j) = share m c ⟨512 * (t.val / 2) + a.val, ha⟩ j ⟨t.val % 2, hp⟩ := by
  rw [part_at]
  exact Finset.sum_congr rfl fun f _ => congrArg₂ (· * ·) (blk_0 m c t a f hp ha) (blk_1 m c t j f _)

/-- The scratch buffer after the first plane. -/
theorem half (n : ℕ) (hn : n < cfg0.N) (h0 : n % 2 = 0) (a : Fin 512) (j : Fin 1024) (ha : 512 * (n / 2) + a.val < 8192) :
    (outsAt0 m c n hn).2.2 (ix2 a j) = share m c ⟨512 * (n / 2) + a.val, ha⟩ j 0 := by
  rw [outsAt0_A m c ⟨n, hn⟩ h0 (by dsimp only; omega) (by dsimp only; omega), first]
  exact (part m c ⟨n, hn⟩ a j (by dsimp only; omega) ha).trans (share_congr m c rfl rfl (Fin.ext h0))

/-- The scratch buffer after both planes. -/
theorem both (n : ℕ) (hn : n < cfg0.N) (h1 : n % 2 = 1) (hn' : n - 1 < cfg0.N) (a : Fin 512) (j : Fin 1024) (ha : 512 * (n / 2) + a.val < 8192) :
    (addf (outsAt0 m c (n - 1) hn').2.2 (k0_pay1 (F := Ideal) (iblk m c 0 ⟨n, hn⟩) (iblk m c 1 ⟨n, hn⟩)) : FVec Ideal S512x1024 .f32) (ix2 a j) = dy m c ⟨512 * (n / 2) + a.val, ha⟩ j := by
  have e : (n - 1) / 2 = n / 2 := by omega
  have ea : (⟨512 * ((n - 1) / 2) + a.val, by omega⟩ : Fin 8192) = ⟨512 * (n / 2) + a.val, ha⟩ := Fin.ext (by dsimp only; omega)
  exact congrArg₂ (· + ·) ((half m c (n - 1) hn' (by omega) a j (by omega)).trans (share_congr m c ea rfl rfl))
    ((part m c ⟨n, hn⟩ a j (by dsimp only; omega) ha).trans (share_congr m c rfl rfl (Fin.ext h1)))

section Finish
variable (s : FVec Ideal S512x1024 .f32) (t : Fin cfg0.N) (hs : ∀ (a : Fin 512) (j : Fin 1024) (ha : 512 * (t.val / 2) + a.val < 8192), s (ix2 a j) = dy m c ⟨512 * (t.val / 2) + a.val, ha⟩ j)
include hs

theorem finish_x (a : Fin 512) (j : Fin 1024) (ha : 512 * (t.val / 2) + a.val < 8192) :
    k0_pay7 (F := Ideal) s (iblk m c 2 t) (iblk m c 3 t) (iblk m c 4 t) (ix2 a j) = dX m c (ix2 ⟨512 * (t.val / 2) + a.val, ha⟩ j) := by
  rw [dx_at]
  have e1 : (fun k : Fin 1024 => (iblk m c 2 t : Vec Ideal S512x1024 .f32) (ix2 a k)) = row m c ⟨512 * (t.val / 2) + a.val, ha⟩ := funext fun k => blk_2 m c t a k ha
  have e2 : (fun k : Fin 1024 => s (ix2 a k) * (iblk m c 3 t : Vec Ideal S1x1024 .f32) (ix2 (0 : Fin 1) k)) = gy m c ⟨512 * (t.val / 2) + a.val, ha⟩ :=
    funext fun k => congrArg₂ (· * ·) (hs a k ha) (blk_3 m c t k)
  rw [e1, e2, blk_4 m c t a j ha]
  rfl

theorem finish_g (z : Fin 1) (j : Fin 1024) (hb : 512 * (t.val / 2) + 512 ≤ 8192) :
    k0_pay8 (F := Ideal) s (iblk m c 2 t) (ix2 z j) = ∑ r : Fin 512, term m c j ⟨512 * (t.val / 2) + r.val, by omega⟩ := by
  rw [dg_at]
  refine Finset.sum_congr rfl fun a _ => ?_
  have e1 : (fun k : Fin 1024 => (iblk m c 2 t : Vec Ideal S512x1024 .f32) (ix2 a k)) = row m c ⟨512 * (t.val / 2) + a.val, by omega⟩ := funext fun k => blk_2 m c t a k _
  rw [e1, hs a j (by omega), blk_2 m c t a j (by omega)]
  rfl

end Finish

/-- A block of the gradient of the norm's input. -/
theorem tile (n : ℕ) (hn : n < cfg0.N) (h1 : n % 2 = 1) (a : Fin 512) (j : Fin 1024) (ha : 512 * (n / 2) + a.val < 8192) :
    (outsAt0 m c n hn).1 (ix2 a j) = dX m c (ix2 ⟨512 * (n / 2) + a.val, ha⟩ j) := by
  by_cases h2 : n < 2
  · rw [outsAt0_B m c ⟨n, hn⟩ (by dsimp only; omega) h1 h1 h2 (by dsimp only; omega), dx_B]
    exact finish_x m c _ ⟨n, hn⟩ (fun a j ha => both m c n hn h1 _ a j ha) a j ha
  · rw [outsAt0_C m c ⟨n, hn⟩ (by dsimp only; omega) h1 h1 h2 (by dsimp only; omega), dx_C]
    exact finish_x m c _ ⟨n, hn⟩ (fun a j ha => both m c n hn h1 _ a j ha) a j ha

/-- The gradient of the gain after a block of tokens. -/
theorem sums : ∀ (n : ℕ) (hn : n < cfg0.N) (z : Fin 1) (j : Fin 1024), n % 2 = 1 → (outsAt0 m c n hn).2.1 (ix2 z j) = upto 512 (term m c j) (n / 2 + 1) := by
  intro n
  induction n using Nat.strong_induction_on with
  | _ n ih =>
    intro hn z j h1
    have hN : n < 32 := lt_of_lt_of_eq hn N_0
    rw [upto_succ _ (by omega)]
    by_cases h2 : n < 2
    · obtain rfl : n = 1 := by omega
      rw [outsAt0_B m c ⟨1, hn⟩ (by dsimp only; omega) h1 h1 h2 (by dsimp only; omega), dg_B]
      refine (finish_g m c _ ⟨1, hn⟩ (fun a j ha => both m c 1 hn h1 _ a j ha) z j (by dsimp only; omega)).trans ?_
      exact (zero_add _).symm.trans (congrArg (· + _) (upto_zero _ _).symm)
    · rw [outsAt0_C m c ⟨n, hn⟩ (by dsimp only; omega) h1 h1 h2 (by dsimp only; omega), dg_C]
      refine congrArg₂ (· + ·) ?_ (finish_g m c _ ⟨n, hn⟩ (fun a j ha => both m c n hn h1 _ a j ha) z j (by dsimp only; omega))
      have hp : n - 1 < cfg0.N := by omega
      have kept : (outsAt0 m c (n - 1) hp).2.1 = (outsAt0 m c (n - 1 - 1) (by omega)).2.1 := by
        rw [outsAt0_A m c ⟨n - 1, hp⟩ (by dsimp only; omega) (by dsimp only; omega) (by dsimp only; omega)]
        rfl
      refine (congrFun kept (ix2 z j)).trans ((ih (n - 1 - 1) (by omega) (by omega) z j (by omega)).trans ?_)
      congr 1
      omega

/-! The two arrays. -/

theorem arr5 : G5 m c = dX m c := by
  funext y
  unfold G5
  have h0 : (y 0).val < 8192 := (y 0).isLt
  have h1 : (y 1).val < 1024 := (y 1).isLt
  have hn : pt5Of y = 2 * ((y 0).val / 512) + 1 := by
    show 2 * (1 * ((y 0).val / 512 - 0) + 1 * ((y 1).val / 1024 - 0)) + 1 = _; omega
  have hp : pt5Of y < cfg0.N := lt_of_lt_of_eq (by rw [hn]; omega : pt5Of y < 32) N_0.symm
  rw [dif_pos hp, ← outsAt0_sweep m c _ hp]
  have el : loc5Of y = ix2 ⟨(y 0).val % 512, Nat.mod_lt _ (by decide)⟩ ⟨(y 1).val % 1024, Nat.mod_lt _ (by decide)⟩ := by
    funext k; match k with
    | ⟨0, _⟩ => rfl
    | ⟨1, _⟩ => rfl
  rw [el, tile m c _ hp (by rw [hn]; omega) _ _ (by rw [hn]; dsimp only; omega)]
  refine congrArg (dX m c) ?_
  funext k; match k with
  | ⟨0, _⟩ => exact Fin.ext (by show 512 * (pt5Of y / 2) + (y 0).val % 512 = (y 0).val; rw [hn]; omega)
  | ⟨1, _⟩ => exact Fin.ext (by show (y 1).val % 1024 = (y 1).val; omega)

theorem arr6 : G6 m c = dG m c := by
  rw [G6_last]
  have hp : 31 < cfg0.N := lt_of_lt_of_eq (by decide) N_0.symm
  rw [← outsAt0_sweep m c 31 hp]
  funext y
  have e : y = ix2 (y 0) (y 1) := by
    funext k; match k with
    | ⟨0, _⟩ => rfl
    | ⟨1, _⟩ => rfl
  refine (congrArg (outsAt0 m c 31 hp).2.1 e).trans ((sums m c 31 hp (y 0) (y 1) rfl).trans (upto_all _ (by decide)))

end Cert.Kernel2Ideal.Norm

end
-- ==== Proof.NormBwdSame.lean ====
/-
  The step through the gate and up projections and the norm before them, compared with the reference's, which
  differentiates the mean of the squares, the reciprocal root and the products one after the other.
-/
module

public import proofs.«01_k».proof.Proof.NormBwd
public import proofs.«01_k».proof.Proof.Gen.Reference2Ideal.Read
public import proofs.«01_k».proof.Defs

@[expose] public section

noncomputable section

namespace Cert.Kernel2Ideal.Norm

open Cert.Kernel2Ideal Idealize.ShloMosaic Idealize.ShloMosaic.TcCoe Cert.Reference2Ideal.Read

variable (m : (ℓ : Loc nD τ sig) → Buf (Elt Ideal) ℓ) (c : Dev nD)

theorem zero_bits : Ideal.ofBits .f32 0x00000000#32 = 0 := Ideal.ofBits_zero_f32

/-! ## The reference at an index -/

theorem gate_at (t : Fin 8192) (j : Fin 1024) : val_main_v27 (F := Ideal) (dgu m c) (w m c) (ix2 t j) = share m c t j 0 := by
  rw [val_main_v27_apply]
  refine Finset.sum_congr rfl fun f _ => ?_
  rw [val_main_v23_apply, val_main_v22_apply, val_main_v1_apply, val_main_v18_apply, val_main_v0_apply]
  refine congrArg₂ (· * ·) (congrArg (dgu m c) ?_) (congrArg (w m c) ?_)
  · funext k; match k with
    | ⟨0, _⟩ => rfl
    | ⟨1, _⟩ => exact Fin.ext (by show (t.val * 2816 + f.val) / 2816 % 8192 = t.val; omega)
    | ⟨2, _⟩ => exact Fin.ext (by show (t.val * 2816 + f.val) % 2816 = f.val; omega)
  · funext k; match k with
    | ⟨0, _⟩ => rfl
    | ⟨1, _⟩ => exact Fin.ext (by show f.val = 2816 * 0 + f.val; omega)

theorem up_at (t : Fin 8192) (j : Fin 1024) : val_main_v26 (F := Ideal) (dgu m c) (w m c) (ix2 t j) = share m c t j 1 := by
  rw [val_main_v26_apply]
  refine Finset.sum_congr rfl fun f _ => ?_
  rw [val_main_v25_apply, val_main_v24_apply, val_main_v1_apply, val_main_v20_apply, val_main_v0_apply]
  refine congrArg₂ (· * ·) (congrArg (dgu m c) ?_) (congrArg (w m c) ?_)
  · funext k; match k with
    | ⟨0, _⟩ => rfl
    | ⟨1, _⟩ => exact Fin.ext (by show (t.val * 2816 + f.val) / 2816 % 8192 = t.val; omega)
    | ⟨2, _⟩ => exact Fin.ext (by show (t.val * 2816 + f.val) % 2816 = f.val; omega)
  · funext k; match k with
    | ⟨0, _⟩ => rfl
    | ⟨1, _⟩ => exact Fin.ext (by show 2816 + f.val = 2816 * 1 + f.val; omega)

theorem dy_at (t : Fin 8192) (j : Fin 1024) : val_main_v28 (F := Ideal) (dgu m c) (w m c) (ix2 t j) = dy m c t j := by
  rw [val_main_v28_apply, gate_at, up_at]
  exact add_comm _ _

theorem v_at (t : Fin 8192) : val_main_v8 (F := Ideal) (h m c) (ix2 t (0 : Fin 1)) = NormScalar.v (row m c t) := by
  have e : val_main_v3 (F := Ideal) (h m c) (ix1 t) = ∑ k, row m c t k * row m c t k := by
    rw [val_main_v3_apply]
    refine (congrArg₂ (· + ·) zero_bits (Finset.sum_congr rfl fun k _ => ?_)).trans (zero_add _)
    rw [val_main_v2_apply]
    have ek : idx_main_v3 (ix1 t) k = ix2 t k := by
      funext l; match l with
      | ⟨0, _⟩ => rfl
      | ⟨1, _⟩ => rfl
    rw [ek]
    rfl
  have e4 : val_main_v4 (F := Ideal) (h m c) (ix2 t (0 : Fin 1)) = ∑ k, row m c t k * row m c t k := by
    rw [val_main_v4_apply]
    refine Eq.trans (congrArg (val_main_v3 (F := Ideal) (h m c)) ?_) e
    funext l; match l with
    | ⟨0, _⟩ => rfl
  rw [val_main_v8_apply, val_main_v6_apply, val_main_v5_apply, val_main_v7_apply, e4]
  rfl

theorem root_at' (t : Fin 8192) : val_main_v9 (F := Ideal) (h m c) (ix2 t (0 : Fin 1)) = Ideal.rsqrt (NormScalar.v (row m c t)) := by
  rw [val_main_v9_apply, v_at]
  rfl

theorem normed_at' (t : Fin 8192) (j : Fin 1024) : val_main_v14 (F := Ideal) (h m c) (ix2 t j) = row m c t j * Ideal.rsqrt (NormScalar.v (row m c t)) := by
  rw [val_main_v14_apply, val_main_v13_apply]
  refine congrArg₂ (· * ·) rfl (Eq.trans (congrArg (val_main_v9 (F := Ideal) (h m c)) ?_) (root_at' m c t))
  funext l; match l with
  | ⟨0, _⟩ => rfl
  | ⟨1, _⟩ => rfl

theorem gy_at (t : Fin 8192) (k : Fin 1024) : val_main_v33 (F := Ideal) (dgu m c) (w m c) (g m c) (ix2 t k) = gy m c t k := by
  rw [val_main_v33_apply, dy_at, val_main_v32_apply, val_main_v15_apply]
  refine congrArg₂ (· * ·) rfl (congrArg (g m c) ?_)
  funext l; match l with
  | ⟨0, _⟩ => rfl

theorem inner_at (t : Fin 8192) : val_main_v37 (F := Ideal) (dgu m c) (w m c) (h m c) (g m c) (ix2 t (0 : Fin 1)) = ∑ k, row m c t k * gy m c t k := by
  rw [val_main_v37_apply, val_main_v36_apply]
  refine (congrArg₂ (· + ·) zero_bits (Finset.sum_congr rfl fun k _ => ?_)).trans (zero_add _)
  have ek : idx_main_v36 (idx_main_v37 (ix2 t (0 : Fin 1))) k = ix2 t k := by
    funext l; match l with
    | ⟨0, _⟩ => exact Fin.ext (by show t.val * 1 + 0 = t.val; omega)
    | ⟨1, _⟩ => rfl
  rw [val_main_v35_apply, ek, gy_at]
  rfl

theorem factor_at (t : Fin 8192) (j : Fin 1024) : val_main_v44 (F := Ideal) (dgu m c) (w m c) (h m c) (g m c) (ix2 t j) = NormScalar.factor (row m c t) (gy m c t) := by
  rw [val_main_v44_apply, val_main_v43_apply]
  refine (congrArg₂ (· + ·) zero_bits ?_).trans (zero_add _)
  rw [Fin.sum_univ_one]
  have ek : idx_main_v43 (idx_main_v44 (ix2 t j)) 0 = ix2 t (0 : Fin 1) := by
    funext l; match l with
    | ⟨0, _⟩ => rfl
    | ⟨1, _⟩ => rfl
  rw [ek, val_main_v42_apply, val_main_v40_apply, val_main_v41_apply, inner_at, val_main_v12_apply, val_main_v11_apply, val_main_v10_apply, root_at', v_at]
  rfl

theorem dx_at' (t : Fin 8192) (j : Fin 1024) :
    val_main_v49 (F := Ideal) (dgu m c) (w m c) (h m c) (g m c) (dres m c) (ix2 t j) = dX m c (ix2 t j) := by
  rw [val_main_v49_apply, val_main_v48_apply, val_main_v46_apply, val_main_v47_apply, val_main_v45_apply, val_main_v39_apply, factor_at, gy_at, val_main_v38_apply]
  have e : idx_main_v38 (ix2 t j) = ix2 t (0 : Fin 1) := by
    funext l; match l with
    | ⟨0, _⟩ => rfl
    | ⟨1, _⟩ => rfl
  rw [e, root_at']
  exact NormScalar.same (row m c t) (gy m c t) (dres m c (ix2 t j)) j

theorem dg_at' (j : Fin 1024) : val_main_v34 (F := Ideal) (dgu m c) (w m c) (h m c) (ix1 j) = ∑ t, term m c j t := by
  rw [val_main_v34_apply]
  refine (congrArg₂ (· + ·) zero_bits ?_).trans (zero_add _)
  rw [Fin.sum_univ_one, val_main_v31_apply, val_main_v30_apply]
  refine (congrArg₂ (· + ·) zero_bits (Finset.sum_congr rfl fun t _ => ?_)).trans (zero_add _)
  have e : idx_main_v30 (idx_main_v31 (idx_main_v34 (ix1 j) 0)) t = ix2 t j := by
    funext l; match l with
    | ⟨0, _⟩ => rfl
    | ⟨1, _⟩ => exact Fin.ext (by show 0 * 1024 + j.val = j.val; omega)
  rw [e, val_main_v29_apply, normed_at', dy_at]
  exact mul_comm _ _

theorem same5 (x0 : FVec Ideal S2x8192x2816 .bf16) (x1 : FVec Ideal S1024x5632 .bf16) (x2 : FVec Ideal S8192x1024 .f32) (x3 : FVec Ideal S1024 .f32) (x4 : FVec Ideal S8192x1024 .f32)
    (e0 : x0 = dgu m c) (e1 : x1 = w m c) (e2 : x2 = h m c) (e3 : x3 = g m c) (e4 : x4 = dres m c) : val_main_v49 (F := Ideal) x0 x1 x2 x3 x4 = dX m c := by
  subst e0 e1 e2 e3 e4
  funext y
  have e : y = ix2 (y 0) (y 1) := by
    funext k; match k with
    | ⟨0, _⟩ => rfl
    | ⟨1, _⟩ => rfl
  exact (congrArg (val_main_v49 (F := Ideal) (dgu m c) (w m c) (h m c) (g m c) (dres m c)) e).trans ((dx_at' m c (y 0) (y 1)).trans (congrArg (dX m c) e.symm))

theorem same6 (x0 : FVec Ideal S2x8192x2816 .bf16) (x1 : FVec Ideal S1024x5632 .bf16) (x2 : FVec Ideal S8192x1024 .f32)
    (e0 : x0 = dgu m c) (e1 : x1 = w m c) (e2 : x2 = h m c) : val_main_v50 (F := Ideal) x0 x1 x2 = dG m c := by
  subst e0 e1 e2
  funext y
  rw [val_main_v50_apply]
  refine Eq.trans (congrArg (val_main_v34 (F := Ideal) (dgu m c) (w m c) (h m c)) ?_) (dg_at' m c (y 1))
  have h0 : (y 0).val < 1 := (y 0).isLt
  funext l; match l with
  | ⟨0, _⟩ => exact Fin.ext (by show (y 0).val * 1024 + (y 1).val = (y 1).val; omega)

theorem frame_reference (m : (ℓ : Loc Cert.Reference2Ideal.nD Cert.Reference2Ideal.τ Cert.Reference2Ideal.sig) → Buf (Elt Ideal) ℓ) (g : Dev Cert.Reference2Ideal.nD → PrngReg) :
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0) :=
  (θ_run _ _ _).mono (fun r h => ⟨fun c => (h c).2.2, sem_eq_zero_of_no_sems rfl r.2⟩) (Cert.Reference2Ideal.Value.run m g)

theorem algebraic : Cert.algebraic_Kernel2Ideal_Reference2Ideal (hKernel2Ideal := Cert.Kernel2Ideal.Gen.facts) (hReference2Ideal := Cert.Reference2Ideal.Gen.facts) := by
  intro m g m' g' _ hagree
  refine ⟨fun c => dX m c, fun c => dG m c, ?_, ?_⟩
  · refine (θ_run _ _ _).mono (fun r h c => ?_) (Cert.Kernel2Ideal.Value.run m g)
    exact ⟨(h c).1.trans (arr5 m c), (h c).2.1.trans (arr6 m c), (h c).2.2⟩
  · refine (θ_run _ _ _).mono (fun r h c => ?_) (Cert.Reference2Ideal.Value.run m' g')
    obtain ⟨a0, a1, a2, a3, a4⟩ := hagree c
    exact ⟨((h c).1.trans (val_main_v49_eq m' c)).trans (same5 m c (m' (c, Cert.Reference2Ideal.main_arg0)) (m' (c, Cert.Reference2Ideal.main_arg1)) (m' (c, Cert.Reference2Ideal.main_arg2)) (m' (c, Cert.Reference2Ideal.main_arg3)) (m' (c, Cert.Reference2Ideal.main_arg4)) a0 a1 a2 a3 a4),
      ((h c).2.1.trans (val_main_v50_eq (m' (c, Cert.Reference2Ideal.main_arg0)) (m' (c, Cert.Reference2Ideal.main_arg1)) (m' (c, Cert.Reference2Ideal.main_arg2)))).trans (same6 m c (m' (c, Cert.Reference2Ideal.main_arg0)) (m' (c, Cert.Reference2Ideal.main_arg1)) (m' (c, Cert.Reference2Ideal.main_arg2)) a0 a1 a2), (h c).2.2⟩

end Cert.Kernel2Ideal.Norm

end
-- ==== Proof.GateUpDw.lean ====
/-
  The gradient of the gate and up projections' weights: the normed activations, transposed, times the gradients of the
  two products, one plane each. One tile of the result is a sum over eight blocks of 1024 tokens, kept in a scratch
  buffer.
-/
module

public import proofs.«01_k».proof.Proof.Tiles
public import proofs.«01_k».proof.Proof.Gen.Kernel3Ideal.Value
public import Idealize.ShloMosaic.Lib.Pointwise
public import Idealize.ShloMosaic.Lib.Tactic
public import Idealize.ShloMosaic.Lib.Pipeline.ValueKit

@[expose] public section

noncomputable section

namespace Cert.Kernel3Ideal.Dw

open Cert.Kernel3Ideal Cert.Kernel3Ideal.Gen Cert.Kernel3Ideal.Value Cert.Tiles
open Idealize.ShloMosaic Idealize.ShloMosaic.TcCoe

theorem hz3 : (![0, 0, 0] : Fin 3 → Nat) = fun _ => 0 := funext fun a => by fin_cases a <;> rfl
theorem hz : (![0, 0] : Fin 2 → Nat) = fun _ => 0 := funext fun a => by fin_cases a <;> rfl

section Body
variable {F : FTy → Type} [FloatOps F]
variable (c : Dev nD) (i : grid0.Coords) (a4 : Memref sig .tc .vmem S1024x1024 .bf16) (h4 : a4.IsWhole) (a5 : Memref sig .tc .vmem S1x1024x1408 .bf16) (h5 : a5.IsWhole)
  (a6 : Memref sig .tc .vmem S1x1024x1408 .bf16) (h6 : a6.IsWhole) (a7 : Memref sig .tc .vmem S1024x1408 .f32) (h7 : a7.IsWhole)
  (x : Vec F S1024x1024 .bf16) (d : Vec F S1x1024x1408 .bf16) (s : Vec F S1024x1408 .f32)

/-- The first block of tokens starts the sum. -/
theorem first (c0 : cond0_0 i) (c1 : ¬cond0_1 i) (c2 : ¬cond0_2 i) : sout0_A_0 c i a4 h4 a5 h5 a6 h6 a7 h7 c0 c1 c2 x d = k0_pay1 x d := by
  unfold sout0_A_0
  rw [View.read_writes_eq_canon _ _ _ (scover0_A_0 c i a4 h4 a5 h5 a6 h6 a7 h7 c0 c1 c2 x d)]
  unfold kernelRun0_A
  dsimp only
  sl_unfold_words
  rw [View.canon_unit_zero hz]
  unfold k0_pay2
  simp only [View.readAt_eq_ld, h4.read_unread, h5.read_unread, View.ld_unit_zero (S := S1024x1024) hz, View.ld_unit_zero (S := S1x1024x1408) hz3, shapeCast_self]

/-- A later block is added. -/
theorem next (c0 : ¬cond0_0 i) (c1 : cond0_1 i) (c2 : ¬cond0_2 i) : sout0_B_0 c i a4 h4 a5 h5 a6 h6 a7 h7 c0 c1 c2 x d s = addf s (k0_pay1 x d) := by
  unfold sout0_B_0
  rw [View.read_writes_eq_canon _ _ _ (scover0_B_0 c i a4 h4 a5 h5 a6 h6 a7 h7 c0 c1 c2 x d s)]
  unfold kernelRun0_B
  dsimp only
  sl_unfold_words
  rw [View.canon_unit_zero hz]
  unfold k0_pay3
  simp only [View.readAt_eq_ld, h4.read_unread, h5.read_unread, h7.read_unread, View.ld_unit_zero (S := S1024x1024) hz, View.ld_unit_zero (S := S1x1024x1408) hz3, View.ld_unit_zero (S := S1024x1408) hz, shapeCast_self]

/-- The last block is added, and the sum is the result's tile. -/
theorem last (c0 : ¬cond0_0 i) (c1 : cond0_1 i) (c2 : cond0_2 i) : sout0_C_0 c i a4 h4 a5 h5 a6 h6 a7 h7 c0 c1 c2 x d s = addf s (k0_pay1 x d) := by
  unfold sout0_C_0
  rw [View.read_writes_eq_canon _ _ _ (scover0_C_0 c i a4 h4 a5 h5 a6 h6 a7 h7 c0 c1 c2 x d s)]
  unfold kernelRun0_C
  dsimp only
  sl_unfold_words
  rw [View.canon_unit_zero hz]
  unfold k0_pay3
  simp only [View.readAt_eq_ld, h4.read_unread, h5.read_unread, h7.read_unread, View.ld_unit_zero (S := S1024x1024) hz, View.ld_unit_zero (S := S1x1024x1408) hz3, View.ld_unit_zero (S := S1024x1408) hz, shapeCast_self]

theorem done (c0 : ¬cond0_0 i) (c1 : cond0_1 i) (c2 : cond0_2 i) : out0_C_2 c i a4 h4 a5 h5 a6 h6 a7 h7 c0 c1 c2 x d s = k0_pay4 (addf s (k0_pay1 x d)) := by
  unfold out0_C_2
  rw [View.read_writes_eq_canon _ _ _ (cover0_C_2 c i a4 h4 a5 h5 a6 h6 a7 h7 c0 c1 c2 x d s)]
  unfold kernelRun0_C
  dsimp only
  sl_unfold_words
  rw [View.canon_unit_zero hz3, View.readCov_unit_zero (S := S1024x1408) _ hz]
  unfold k0_pay3
  simp only [View.readAt_eq_ld, h4.read_unread, h5.read_unread, h7.read_unread, View.ld_unit_zero (S := S1024x1024) hz, View.ld_unit_zero (S := S1x1024x1408) hz3, View.ld_unit_zero (S := S1024x1408) hz, shapeCast_self]

end Body

/-- One block's share of one entry. -/
theorem part_at (x : Vec Ideal S1024x1024 .bf16) (d : Vec Ideal S1x1024x1408 .bf16) (a : Fin 1024) (b : Fin 1408) :
    k0_pay1 (F := Ideal) x d (ix2 a b) = ∑ r, x (ix2 r a) * d (ix3 (0 : Fin 1) r b) := by
  pointwise [k0_pay1]

theorem out_at (s : FVec Ideal S1024x1408 .f32) (z : Fin 1) (a : Fin 1024) (b : Fin 1408) : k0_pay4 (F := Ideal) s (ix3 z a b) = s (ix2 a b) := by
  obtain rfl : z = 0 := Subsingleton.elim _ _
  pointwise [k0_pay4]

/-! What a grid point reads. -/

theorem ix_0 : ∀ t : Fin cfg0.N, win0_0.index t (0 : Fin 2) = t.val % 8 ∧ win0_0.index t (1 : Fin 2) = 0 :=
  (by decide +kernel : ∀ t : Fin grid0.N, _)
theorem ix_1 : ∀ t : Fin cfg0.N, win0_1.index t (0 : Fin 3) = t.val / 16 ∧ win0_1.index t (1 : Fin 3) = t.val % 8 ∧ win0_1.index t (2 : Fin 3) = t.val / 8 % 2 :=
  (by decide +kernel : ∀ t : Fin grid0.N, _)

variable (m : (ℓ : Loc nD τ sig) → Buf (Elt Ideal) ℓ) (c : Dev nD)

def hn : FVec Ideal S8192x1024 .bf16 := m (c, main_arg0)
def dgu : FVec Ideal S2x8192x2816 .bf16 := m (c, main_arg1)

theorem blk_0 (t : Fin cfg0.N) (r a : Fin 1024) (h : 1024 * (t.val % 8) + r.val < 8192) :
    (iblk m c 0 t : Vec Ideal S1024x1024 .bf16) (ix2 r a) = hn m c (ix2 ⟨1024 * (t.val % 8) + r.val, h⟩ a) := by
  unfold iblk
  rw [View.read_apply]
  show V m c main_arg0 _ = m (c, main_arg0) _
  unfold V
  congr 1
  funext k
  apply Fin.ext
  match k with
  | ⟨0, _⟩ => show win0_0.index t (0 : Fin 2) * 1024 + 1 * r.val = _; rw [(ix_0 t).1]; show _ = 1024 * (t.val % 8) + r.val; omega
  | ⟨1, _⟩ => show win0_0.index t (1 : Fin 2) * 1024 + 1 * a.val = _; rw [(ix_0 t).2]; show _ = a.val; omega

theorem blk_1 (t : Fin cfg0.N) (r : Fin 1024) (b : Fin 1408) (hp : t.val / 16 < 2) (h : 1024 * (t.val % 8) + r.val < 8192) (h' : 1408 * (t.val / 8 % 2) + b.val < 2816) :
    (iblk m c 1 t : Vec Ideal S1x1024x1408 .bf16) (ix3 (0 : Fin 1) r b) = dgu m c (ix3 ⟨t.val / 16, hp⟩ ⟨1024 * (t.val % 8) + r.val, h⟩ ⟨1408 * (t.val / 8 % 2) + b.val, h'⟩) := by
  unfold iblk
  rw [View.read_apply]
  show V m c main_arg1 _ = m (c, main_arg1) _
  unfold V
  congr 1
  funext k
  apply Fin.ext
  match k with
  | ⟨0, _⟩ => show win0_1.index t (0 : Fin 3) * 1 + 1 * 0 = _; rw [(ix_1 t).1]; show _ = t.val / 16; omega
  | ⟨1, _⟩ => show win0_1.index t (1 : Fin 3) * 1024 + 1 * r.val = _; rw [(ix_1 t).2.1]; show _ = 1024 * (t.val % 8) + r.val; omega
  | ⟨2, _⟩ => show win0_1.index t (2 : Fin 3) * 1408 + 1 * b.val = _; rw [(ix_1 t).2.2]; show _ = 1408 * (t.val / 8 % 2) + b.val; omega

/-- One token's share of one entry of the gradient. -/
def term (p : Fin 2) (A : Fin 1024) (B : Fin 2816) (t : Fin 8192) : EReal := hn m c (ix2 t A) * dgu m c (ix3 p t B)

theorem block (t : Fin cfg0.N) (a : Fin 1024) (b : Fin 1408) (h : t.val / 16 < 2) (h' : 1408 * (t.val / 8 % 2) + b.val < 2816) :
    k0_pay1 (F := Ideal) (iblk m c 0 t) (iblk m c 1 t) (ix2 a b)
      = ∑ r : Fin 1024, term m c ⟨t.val / 16, h⟩ a ⟨1408 * (t.val / 8 % 2) + b.val, h'⟩ ⟨1024 * (t.val % 8) + r.val, by omega⟩ := by
  rw [part_at]
  exact Finset.sum_congr rfl fun r _ => congrArg₂ (· * ·) (blk_0 m c t r a _) (blk_1 m c t r b _ _ _)

/-- The scratch buffer after a grid point: the sum over the blocks of tokens met so far. -/
theorem sums : ∀ (n : ℕ) (hn : n < cfg0.N) (a : Fin 1024) (b : Fin 1408) (h : n / 16 < 2) (h' : 1408 * (n / 8 % 2) + b.val < 2816),
    (outsAt0 m c n hn).2 (ix2 a b) = upto 1024 (term m c ⟨n / 16, h⟩ a ⟨1408 * (n / 8 % 2) + b.val, h'⟩) (n % 8 + 1) := by
  intro n
  induction n with
  | zero =>
    intro hn a b h h'
    rw [outsAt0_A m c ⟨0, hn⟩ rfl (by show ¬1 ≤ 0 % 8; decide) (by show ¬0 % 8 = 7; decide), first, upto_succ _ (by decide), upto_zero, zero_add]
    exact block m c ⟨0, hn⟩ a b h h'
  | succ n ih =>
    intro hn a b h h'
    have hN : n + 1 < 32 := lt_of_lt_of_eq hn N_0
    rw [upto_succ _ (by omega)]
    refine Eq.trans ?_ (congrArg (_ + ·) (block m c ⟨n + 1, hn⟩ a b h h'))
    by_cases h0 : (n + 1) % 8 = 0
    · rw [outsAt0_A m c ⟨n + 1, hn⟩ h0 (by dsimp only; omega) (by dsimp only; omega), first]
      exact (zero_add _).symm.trans (congrArg (· + _) (by rw [h0, upto_zero]))
    · have e1 : (n + 1) / 16 = n / 16 := by omega
      have e2 : (n + 1) / 8 = n / 8 := by omega
      have e3 : (n + 1) % 8 = n % 8 + 1 := by omega
      have key := ih (Nat.lt_of_succ_lt hn) a b (by omega) (by omega)
      simp only [e1, e2, e3]
      rw [← key]
      by_cases h7 : (n + 1) % 8 = 7
      · rw [outsAt0_C m c ⟨n + 1, hn⟩ h0 (by dsimp only; omega) h7, last]; rfl
      · rw [outsAt0_B m c ⟨n + 1, hn⟩ h0 (by dsimp only; omega) h7, next]; rfl

/-- What is written out is the sum over all tokens. -/
theorem tile (n : ℕ) (hn : n < cfg0.N) (h7 : n % 8 = 7) (z : Fin 1) (a : Fin 1024) (b : Fin 1408) (h : n / 16 < 2) (h' : 1408 * (n / 8 % 2) + b.val < 2816) :
    (outsAt0 m c n hn).1 (ix3 z a b) = ∑ t, term m c ⟨n / 16, h⟩ a ⟨1408 * (n / 8 % 2) + b.val, h'⟩ t := by
  have e : (outsAt0 m c n hn).1 (ix3 z a b) = (outsAt0 m c n hn).2 (ix2 a b) := by
    rw [outsAt0_C m c ⟨n, hn⟩ (by dsimp only; omega) (by dsimp only; omega) h7, last, done]
    exact out_at _ z a b
  rw [e, sums m c n hn a b h h', h7, upto_all _ (by decide)]

theorem whole_congr {p p' : Fin 2} {A A' : Fin 1024} {B B' : Fin 2816} (e0 : p = p') (e1 : A = A') (e2 : B = B') : ∑ t, term m c p A B t = ∑ t, term m c p' A' B' t := by
  subst e0 e1 e2; rfl

/-- The gradient of the two weights. -/
def dW : FVec Ideal S2x1024x2816 .bf16 := fun y => ∑ t, term m c (y 0) (y 1) (y 2) t

theorem arr : G2 m c = dW m c := by
  funext y
  unfold G2
  have h0 : (y 0).val < 2 := (y 0).isLt
  have h1 : (y 1).val < 1024 := (y 1).isLt
  have h2 : (y 2).val < 2816 := (y 2).isLt
  have hn : pt2Of y = 16 * (y 0).val + 8 * ((y 2).val / 1408) + 7 := by
    show 8 * (2 * ((y 0).val / 1 - 0) + 2 * ((y 1).val / 1024 - 0) + 1 * ((y 2).val / 1408 - 0)) + 7 = _; omega
  have hp : pt2Of y < cfg0.N := lt_of_lt_of_eq (by rw [hn]; omega : pt2Of y < 32) N_0.symm
  rw [dif_pos hp, ← outsAt0_sweep m c _ hp]
  have el : loc2Of y = ix3 ⟨(y 0).val % 1, Nat.mod_lt _ (by decide)⟩ ⟨(y 1).val % 1024, Nat.mod_lt _ (by decide)⟩ ⟨(y 2).val % 1408, Nat.mod_lt _ (by decide)⟩ := by
    funext k; match k with
    | ⟨0, _⟩ => rfl
    | ⟨1, _⟩ => rfl
    | ⟨2, _⟩ => rfl
  rw [el, tile m c _ hp (by rw [hn]; omega) _ _ _ (by rw [hn]; omega) (by rw [hn]; dsimp only; omega)]
  have e0 : (⟨pt2Of y / 16, by rw [hn]; omega⟩ : Fin 2) = y 0 := Fin.ext (by show pt2Of y / 16 = _; rw [hn]; omega)
  have e1 : (⟨(y 1).val % 1024, Nat.mod_lt _ (by decide)⟩ : Fin 1024) = y 1 := Fin.ext (by show (y 1).val % 1024 = _; omega)
  have e2 : (⟨1408 * (pt2Of y / 8 % 2) + (y 2).val % 1408, by rw [hn]; omega⟩ : Fin 2816) = y 2 :=
    Fin.ext (by show 1408 * (pt2Of y / 8 % 2) + (y 2).val % 1408 = _; rw [hn]; omega)
  unfold dW
  exact whole_congr m c e0 e1 e2

end Cert.Kernel3Ideal.Dw

end
-- ==== Proof.GateUpDwSame.lean ====
/-
  The gradient of the gate and up projections' weights, compared with the reference's, which stacks the two planes.
-/
module

public import proofs.«01_k».proof.Proof.GateUpDw
public import proofs.«01_k».proof.Proof.Gen.Reference3Ideal.Read
public import proofs.«01_k».proof.Defs

@[expose] public section

noncomputable section

namespace Cert.Kernel3Ideal.Dw

open Cert.Kernel3Ideal Idealize.ShloMosaic Idealize.ShloMosaic.TcCoe Cert.Reference3Ideal.Read

variable (m : (ℓ : Loc nD τ sig) → Buf (Elt Ideal) ℓ) (c : Dev nD)

theorem gate_at (A : Fin 1024) (B : Fin 2816) : val_main_v12 (F := Ideal) (hn m c) (dgu m c) (ix2 A B) = ∑ t, term m c 0 A B t := by
  rw [val_main_v12_apply, val_main_v11_apply]
  refine Finset.sum_congr rfl fun t _ => ?_
  rw [val_main_v6_apply, val_main_v5_apply, mul_comm]
  refine congrArg₂ (· * ·) (congrArg (hn m c) ?_) (congrArg (dgu m c) ?_)
  · funext k; match k with
    | ⟨0, _⟩ => rfl
    | ⟨1, _⟩ => rfl
  · funext k; match k with
    | ⟨0, _⟩ => rfl
    | ⟨1, _⟩ => exact Fin.ext (by show (t.val * 2816 + B.val) / 2816 % 8192 = t.val; omega)
    | ⟨2, _⟩ => exact Fin.ext (by show (t.val * 2816 + B.val) % 2816 = B.val; omega)

theorem up_at (A : Fin 1024) (B : Fin 2816) : val_main_v10 (F := Ideal) (hn m c) (dgu m c) (ix2 A B) = ∑ t, term m c 1 A B t := by
  rw [val_main_v10_apply, val_main_v9_apply]
  refine Finset.sum_congr rfl fun t _ => ?_
  rw [val_main_v8_apply, val_main_v7_apply, mul_comm]
  refine congrArg₂ (· * ·) (congrArg (hn m c) ?_) (congrArg (dgu m c) ?_)
  · funext k; match k with
    | ⟨0, _⟩ => rfl
    | ⟨1, _⟩ => rfl
  · funext k; match k with
    | ⟨0, _⟩ => rfl
    | ⟨1, _⟩ => exact Fin.ext (by show (t.val * 2816 + B.val) / 2816 % 8192 = t.val; omega)
    | ⟨2, _⟩ => exact Fin.ext (by show (t.val * 2816 + B.val) % 2816 = B.val; omega)

theorem stacked (A : Fin 1024) (B : Fin 2816) : ∀ p : Fin 2, val_main_v15 (F := Ideal) (hn m c) (dgu m c) (ix3 p A B) = ∑ t, term m c p A B t
  | ⟨0, h⟩ => by
    have e := concatenate_pair_apply_left (t := S2x1024x2816) (s₁ := Cert.Reference3Ideal.S1x1024x2816) (s₂ := Cert.Reference3Ideal.S1x1024x2816) (0 : Fin 3)
      (val_main_v13 (F := Ideal) (hn m c) (dgu m c)) (val_main_v14 (F := Ideal) (hn m c) (dgu m c)) Cert.Reference3Ideal.Gen.concatenates_S1x1024x2816_S1x1024x2816_S2x1024x2816_d0
      (ix3 ⟨0, h⟩ A B) rfl (ix3 (0 : Fin 1) A B) (by intro b; fin_cases b <;> rfl)
    refine (e.trans (val_main_v13_apply _ _ _)).trans (Eq.trans (congrArg (val_main_v12 (F := Ideal) (hn m c) (dgu m c)) ?_) (gate_at m c A B))
    funext k; match k with
    | ⟨0, _⟩ => rfl
    | ⟨1, _⟩ => rfl
  | ⟨1, h⟩ => by
    have e := concatenate_pair_apply_right (t := S2x1024x2816) (s₁ := Cert.Reference3Ideal.S1x1024x2816) (s₂ := Cert.Reference3Ideal.S1x1024x2816) (0 : Fin 3)
      (val_main_v13 (F := Ideal) (hn m c) (dgu m c)) (val_main_v14 (F := Ideal) (hn m c) (dgu m c)) Cert.Reference3Ideal.Gen.concatenates_S1x1024x2816_S1x1024x2816_S2x1024x2816_d0
      (ix3 ⟨1, h⟩ A B) rfl rfl (ix3 (0 : Fin 1) A B) (by intro b hb; fin_cases b; exacts [absurd rfl hb, rfl, rfl]) rfl
    refine (e.trans (val_main_v14_apply _ _ _)).trans (Eq.trans (congrArg (val_main_v10 (F := Ideal) (hn m c) (dgu m c)) ?_) (up_at m c A B))
    funext k; match k with
    | ⟨0, _⟩ => rfl
    | ⟨1, _⟩ => rfl

theorem same (x0 : FVec Ideal S8192x1024 .bf16) (x1 : FVec Ideal S2x8192x2816 .bf16) (h0 : x0 = hn m c) (h1 : x1 = dgu m c) :
    val_main_v16 (F := Ideal) x0 x1 = dW m c := by
  subst h0 h1
  funext y
  rw [val_main_v16_apply]
  have e : y = ix3 (y 0) (y 1) (y 2) := by
    funext k; match k with
    | ⟨0, _⟩ => rfl
    | ⟨1, _⟩ => rfl
    | ⟨2, _⟩ => rfl
  exact (congrArg (val_main_v15 (F := Ideal) (hn m c) (dgu m c)) e).trans (stacked m c (y 1) (y 2) (y 0))

theorem frame_reference (m : (ℓ : Loc Cert.Reference3Ideal.nD Cert.Reference3Ideal.τ Cert.Reference3Ideal.sig) → Buf (Elt Ideal) ℓ) (g : Dev Cert.Reference3Ideal.nD → PrngReg) :
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0) :=
  (θ_run _ _ _).mono (fun r h => ⟨fun c => (h c).2, sem_eq_zero_of_no_sems rfl r.2⟩) (Cert.Reference3Ideal.Value.run m g)

theorem algebraic : Cert.algebraic_Kernel3Ideal_Reference3Ideal (hKernel3Ideal := Cert.Kernel3Ideal.Gen.facts) (hReference3Ideal := Cert.Reference3Ideal.Gen.facts) := by
  intro m g m' g' _ hagree
  refine ⟨fun c => dW m c, ?_, ?_⟩
  · refine (θ_run _ _ _).mono (fun r h c => ?_) (Cert.Kernel3Ideal.Value.run m g)
    exact ⟨(h c).1.trans (arr m c), (h c).2⟩
  · refine (θ_run _ _ _).mono (fun r h c => ?_) (Cert.Reference3Ideal.Value.run m' g')
    exact ⟨((h c).1.trans (val_main_v16_eq (m' (c, Cert.Reference3Ideal.main_arg0)) (m' (c, Cert.Reference3Ideal.main_arg1)))).trans
      (same m c (m' (c, Cert.Reference3Ideal.main_arg0)) (m' (c, Cert.Reference3Ideal.main_arg1)) (hagree c).1 (hagree c).2), (h c).2⟩

end Cert.Kernel3Ideal.Dw

end
-- ==== Proof.Swiglu.lean ====
/-
  The gradient through the SwiGLU mixer: the output's gradient times the down weight, transposed, and from it the
  gradients of the gate and of the up product. One tile of both planes is computed at each grid point.
-/
module

public import proofs.«01_k».proof.Proof.Gen.Kernel4Ideal.Value
public import Idealize.ShloMosaic.Lib.Pointwise
public import Idealize.ShloMosaic.Lib.Tactic
public import Idealize.ShloMosaic.Lib.Pipeline.ValueKit

@[expose] public section

set_option maxRecDepth 16384

noncomputable section

namespace Cert.Kernel4Ideal.Swiglu

open Cert.Kernel4Ideal Cert.Kernel4Ideal.Gen Cert.Kernel4Ideal.Value
open Idealize.ShloMosaic Idealize.ShloMosaic.TcCoe

theorem hz : (![0, 0] : Fin 2 → Nat) = fun _ => 0 := funext fun a => by fin_cases a <;> rfl

/-- The gate's gradient from the hidden activation's `a`, the gate `g` and the up product `u`, -/
def dGate (a g u : EReal) : EReal := a * u * (Ideal.logistic g + g * Ideal.logistic g * (1 - Ideal.logistic g))
/-- and the up product's. -/
def dUp (a g : EReal) : EReal := a * (g * Ideal.logistic g)

/-! One tile. -/

variable (x : Vec Ideal S1024x1024 .f32) (w : Vec Ideal S1408x1024 .bf16) (p q : Vec Ideal S1x1024x1408 .bf16)

theorem gate_tile (a : Fin 1024) (b : Fin 1408) :
    k0_pay5 (F := Ideal) x w p q (ix3 (0 : Fin 1) a b) = dGate (∑ r, x (ix2 a r) * w (ix2 b r)) (p (ix3 (0 : Fin 1) a b)) (q (ix3 (0 : Fin 1) a b)) := by
  pointwise [k0_pay5, k0_pay4, k0_pay3, k0_pay2, k0_pay1]
  rfl

theorem up_tile (a : Fin 1024) (b : Fin 1408) :
    k0_pay6 (F := Ideal) x w p (ix3 (0 : Fin 1) a b) = dUp (∑ r, x (ix2 a r) * w (ix2 b r)) (p (ix3 (0 : Fin 1) a b)) := by
  pointwise [k0_pay6, k0_pay4, k0_pay3, k0_pay2, k0_pay1]
  rfl

theorem emb_0 (a : Fin 1024) (b : Fin 1408) : r0_2.emb (ix3 (0 : Fin 1) a b) = (ix3 (0 : Fin 2) a b : S2x1024x1408.Idx) := by
  funext k; apply Fin.ext
  match k with
  | ⟨0, _⟩ => rfl
  | ⟨1, _⟩ => show 0 + 1 * a.val = a.val; omega
  | ⟨2, _⟩ => show 0 + 1 * b.val = b.val; omega

theorem emb_1 (a : Fin 1024) (b : Fin 1408) : r0_3.emb (ix3 (0 : Fin 1) a b) = (ix3 (1 : Fin 2) a b : S2x1024x1408.Idx) := by
  funext k; apply Fin.ext
  match k with
  | ⟨0, _⟩ => rfl
  | ⟨1, _⟩ => show 0 + 1 * a.val = a.val; omega
  | ⟨2, _⟩ => show 0 + 1 * b.val = b.val; omega

theorem off_1 (a : Fin 1024) (b : Fin 1408) : (ix3 (0 : Fin 2) a b : S2x1024x1408.Idx) ∉ r0_3.set := by
  intro h
  obtain ⟨z, hz⟩ := r0_3.exists_idx_of_mem h
  have := congrArg Fin.val (congrFun hz 0)
  have h1 : 1 + 1 * (z 0).val = 0 := this
  omega

/-- What a grid point leaves in the result's buffer: the two gradients, one plane each. -/
def tile (x : Vec Ideal S1024x1024 .f32) (w : Vec Ideal S1408x1024 .bf16) (gu : Vec Ideal S2x1024x1408 .bf16) (a : Fin 1024) (b : Fin 1408) : Fin 2 → EReal
  | 0 => dGate (∑ r, x (ix2 a r) * w (ix2 b r)) (gu (ix3 (0 : Fin 2) a b)) (gu (ix3 (1 : Fin 2) a b))
  | 1 => dUp (∑ r, x (ix2 a r) * w (ix2 b r)) (gu (ix3 (0 : Fin 2) a b))

theorem two_0 (P Q : Vec Ideal S1x1024x1408 .bf16) (a : Fin 1024) (b : Fin 1408) :
    View.canon [(⟨r0_3, P⟩ : View.Piece (Elt Ideal) S2x1024x1408 .bf16), ⟨r0_2, Q⟩] (ix3 (0 : Fin 2) a b) = Q (ix3 (0 : Fin 1) a b) := by
  have h := View.canon_cons_of_not_mem (⟨r0_3, P⟩ : View.Piece (Elt Ideal) S2x1024x1408 .bf16) [⟨r0_2, Q⟩] (y := ix3 (0 : Fin 2) a b) (off_1 a b)
  have h' := View.canon_cons_emb (Val := Elt Ideal) (e := .bf16) r0_2 Q [] (ix3 (0 : Fin 1) a b)
  rw [emb_0] at h'
  exact h.trans h'

theorem two_1 (P Q : Vec Ideal S1x1024x1408 .bf16) (a : Fin 1024) (b : Fin 1408) :
    View.canon [(⟨r0_3, P⟩ : View.Piece (Elt Ideal) S2x1024x1408 .bf16), ⟨r0_2, Q⟩] (ix3 (1 : Fin 2) a b) = P (ix3 (0 : Fin 1) a b) := by
  have h' := View.canon_cons_emb (Val := Elt Ideal) (e := .bf16) r0_3 P [⟨r0_2, Q⟩] (ix3 (0 : Fin 1) a b)
  rw [emb_1] at h'
  exact h'

theorem ld_0 (gu : Vec Ideal S2x1024x1408 .bf16) (a : Fin 1024) (b : Fin 1408) : View.ld gu r0_2 (ix3 (0 : Fin 1) a b) = gu (ix3 (0 : Fin 2) a b) :=
  congrArg gu (emb_0 a b)
theorem ld_1 (gu : Vec Ideal S2x1024x1408 .bf16) (a : Fin 1024) (b : Fin 1408) : View.ld gu r0_3 (ix3 (0 : Fin 1) a b) = gu (ix3 (1 : Fin 2) a b) :=
  congrArg gu (emb_1 a b)

theorem out_at (gu : Vec Ideal S2x1024x1408 .bf16) (a : Fin 1024) (b : Fin 1408) (h : Fin 2) : out0_3 (F := Ideal) x w gu (ix3 h a b) = tile x w gu a b h := by
  unfold out0_3
  rw [View.ld_unit_zero (S := S1024x1024) hz, View.ld_unit_zero (S := S1408x1024) hz]
  match h with
  | 0 => exact (two_0 _ _ a b).trans ((gate_tile _ _ _ _ a b).trans (congrArg₂ (dGate _) (ld_0 gu a b) (ld_1 gu a b)))
  | 1 => exact (two_1 _ _ a b).trans ((up_tile _ _ _ a b).trans (congrArg (dUp _) (ld_0 gu a b)))

/-! What a grid point reads. -/

theorem ix_0 : ∀ t : Fin cfg0.N, win0_0.index t (0 : Fin 2) = t.val / 2 ∧ win0_0.index t (1 : Fin 2) = 0 :=
  (by decide +kernel : ∀ t : Fin grid0.N, _)
theorem ix_1 : ∀ t : Fin cfg0.N, win0_1.index t (0 : Fin 2) = t.val % 2 ∧ win0_1.index t (1 : Fin 2) = 0 :=
  (by decide +kernel : ∀ t : Fin grid0.N, _)
theorem ix_2 : ∀ t : Fin cfg0.N, win0_2.index t (0 : Fin 3) = 0 ∧ win0_2.index t (1 : Fin 3) = t.val / 2 ∧ win0_2.index t (2 : Fin 3) = t.val % 2 :=
  (by decide +kernel : ∀ t : Fin grid0.N, _)
theorem ix_3 : ∀ t : Fin cfg0.N, win0_3.index t (0 : Fin 3) = 0 ∧ win0_3.index t (1 : Fin 3) = t.val / 2 ∧ win0_3.index t (2 : Fin 3) = t.val % 2 :=
  (by decide +kernel : ∀ t : Fin grid0.N, _)

variable (m : (ℓ : Loc nD τ sig) → Buf (Elt Ideal) ℓ) (c : Dev nD)

def dh : FVec Ideal S8192x1024 .f32 := m (c, main_arg0)
def down : FVec Ideal S2816x1024 .bf16 := m (c, main_arg1)
def gu : FVec Ideal S2x8192x2816 .bf16 := m (c, main_arg2)

theorem blk_0 (t : Fin cfg0.N) (a r : Fin 1024) (h : 1024 * (t.val / 2) + a.val < 8192) :
    (iblk m c 0 t : Vec Ideal S1024x1024 .f32) (ix2 a r) = dh m c (ix2 ⟨1024 * (t.val / 2) + a.val, h⟩ r) := by
  unfold iblk
  rw [View.read_apply]
  show V m c main_arg0 _ = m (c, main_arg0) _
  unfold V
  congr 1
  funext k
  apply Fin.ext
  match k with
  | ⟨0, _⟩ => show win0_0.index t (0 : Fin 2) * 1024 + 1 * a.val = _; rw [(ix_0 t).1]; show _ = 1024 * (t.val / 2) + a.val; omega
  | ⟨1, _⟩ => show win0_0.index t (1 : Fin 2) * 1024 + 1 * r.val = _; rw [(ix_0 t).2]; show _ = r.val; omega

theorem blk_1 (t : Fin cfg0.N) (b : Fin 1408) (r : Fin 1024) (h : 1408 * (t.val % 2) + b.val < 2816) :
    (iblk m c 1 t : Vec Ideal S1408x1024 .bf16) (ix2 b r) = down m c (ix2 ⟨1408 * (t.val % 2) + b.val, h⟩ r) := by
  unfold iblk
  rw [View.read_apply]
  show V m c main_arg1 _ = m (c, main_arg1) _
  unfold V
  congr 1
  funext k
  apply Fin.ext
  match k with
  | ⟨0, _⟩ => show win0_1.index t (0 : Fin 2) * 1408 + 1 * b.val = _; rw [(ix_1 t).1]; show _ = 1408 * (t.val % 2) + b.val; omega
  | ⟨1, _⟩ => show win0_1.index t (1 : Fin 2) * 1024 + 1 * r.val = _; rw [(ix_1 t).2]; show _ = r.val; omega

theorem blk_2 (t : Fin cfg0.N) (p : Fin 2) (a : Fin 1024) (b : Fin 1408) (h : 1024 * (t.val / 2) + a.val < 8192) (h' : 1408 * (t.val % 2) + b.val < 2816) :
    (iblk m c 2 t : Vec Ideal S2x1024x1408 .bf16) (ix3 p a b) = gu m c (ix3 p ⟨1024 * (t.val / 2) + a.val, h⟩ ⟨1408 * (t.val % 2) + b.val, h'⟩) := by
  unfold iblk
  rw [View.read_apply]
  show V m c main_arg2 _ = m (c, main_arg2) _
  unfold V
  congr 1
  funext k
  apply Fin.ext
  match k with
  | ⟨0, _⟩ => show win0_2.index t (0 : Fin 3) * 2 + 1 * p.val = _; rw [(ix_2 t).1]; show _ = p.val; omega
  | ⟨1, _⟩ => show win0_2.index t (1 : Fin 3) * 1024 + 1 * a.val = _; rw [(ix_2 t).2.1]; show _ = 1024 * (t.val / 2) + a.val; omega
  | ⟨2, _⟩ => show win0_2.index t (2 : Fin 3) * 1408 + 1 * b.val = _; rw [(ix_2 t).2.2]; show _ = 1408 * (t.val % 2) + b.val; omega

/-- The gradient of the mixer's hidden activation. -/
def da (t : Fin 8192) (f : Fin 2816) : EReal := ∑ r : Fin 1024, dh m c (ix2 t r) * down m c (ix2 f r)

/-- The two gradients, one plane each. -/
def plane (t : Fin 8192) (f : Fin 2816) : Fin 2 → EReal
  | 0 => dGate (da m c t f) (gu m c (ix3 (0 : Fin 2) t f)) (gu m c (ix3 (1 : Fin 2) t f))
  | 1 => dUp (da m c t f) (gu m c (ix3 (0 : Fin 2) t f))

def dgu : FVec Ideal S2x8192x2816 .bf16 := fun y => plane m c (y 1) (y 2) (y 0)

theorem tile_eq (t : Fin cfg0.N) (a : Fin 1024) (b : Fin 1408) (h : 1024 * (t.val / 2) + a.val < 8192) (h' : 1408 * (t.val % 2) + b.val < 2816) : ∀ p : Fin 2,
    tile (iblk m c 0 t) (iblk m c 1 t) (iblk m c 2 t) a b p = plane m c ⟨1024 * (t.val / 2) + a.val, h⟩ ⟨1408 * (t.val % 2) + b.val, h'⟩ p := by
  have e : ∀ (x : Vec Ideal S1024x1024 .f32) (w : Vec Ideal S1408x1024 .bf16), x = iblk m c 0 t → w = iblk m c 1 t → ∑ r : Fin 1024, x (ix2 a r) * w (ix2 b r)
      = da m c ⟨1024 * (t.val / 2) + a.val, h⟩ ⟨1408 * (t.val % 2) + b.val, h'⟩ := fun x w hx hw =>
    Finset.sum_congr rfl fun r _ => congrArg₂ (· * ·) ((congrFun hx _).trans (blk_0 m c t a r h)) ((congrFun hw _).trans (blk_1 m c t b r h'))
  intro p
  match p with
  | 0 => exact (congrArg (fun s => dGate s _ _) (e _ _ rfl rfl)).trans (congrArg₂ (dGate _) (blk_2 m c t 0 a b h h') (blk_2 m c t 1 a b h h'))
  | 1 => exact congrArg₂ dUp (e _ _ rfl rfl) (blk_2 m c t 0 a b h h')

theorem covers : (cfg0.win 3).Covers := by decide +kernel

theorem arr : (dats m 0 c).arrAt 3 cfg0.N = dgu m c := by
  refine (dats m 0 c).arrAt_eq_of_covers 3 (dgu m c) covers fun t hf z => ?_
  have ht : t.val < 16 := lt_of_lt_of_eq t.isLt N_0
  have h1 : (z 1).val < 1024 := (z 1).isLt
  have h2 : (z 2).val < 1408 := (z 2).isLt
  have e : ((cfg0.win 3).blk t).view.emb z = ix3 (z 0) ⟨1024 * (t.val / 2) + (z 1).val, by omega⟩ ⟨1408 * (t.val % 2) + (z 2).val, by omega⟩ := by
    refine funext fun a => Fin.ext ?_
    refine ((cfg0.win 3).rect_emb_val t z a).trans ?_
    match a with
    | ⟨0, _⟩ => show win0_3.index t (0 : Fin 3) * 2 + (z 0).val = (z 0).val; rw [(ix_3 t).1]; omega
    | ⟨1, _⟩ => show win0_3.index t (1 : Fin 3) * 1024 + (z 1).val = 1024 * (t.val / 2) + (z 1).val; rw [(ix_3 t).2.1]; omega
    | ⟨2, _⟩ => show win0_3.index t (2 : Fin 3) * 1408 + (z 2).val = 1408 * (t.val % 2) + (z 2).val; rw [(ix_3 t).2.2]; omega
  blk_simp
  rw [after0_3]
  refine Eq.trans ?_ (congrArg (dgu m c) e).symm
  have hz : (z : S2x1024x1408.Idx) = ix3 (z 0) (z 1) (z 2) := by funext a; fin_cases a <;> rfl
  refine (congrArg (out0_3 (F := Ideal) (iblk m c 0 t) (iblk m c 1 t) (iblk m c 2 t)) hz).trans ?_
  exact (out_at _ _ _ (z 1) (z 2) (z 0)).trans (tile_eq m c t (z 1) (z 2) (by omega) (by omega) (z 0))

end Cert.Kernel4Ideal.Swiglu

end
-- ==== Proof.SwigluSame.lean ====
/-
  The gradient through the SwiGLU mixer, compared with the reference's, which differentiates the logistic function and
  its product with the gate one after the other. The two agree where everything is finite.
-/
module

public import proofs.«01_k».proof.Proof.Swiglu
public import proofs.«01_k».proof.Proof.Finite
public import proofs.«01_k».proof.Proof.Gen.Pre_finite4
public import proofs.«01_k».proof.Proof.Gen.Reference4Ideal.Read
public import proofs.«01_k».proof.Defs
public import Idealize.ShloMosaic.Lib.IdealHost

@[expose] public section

noncomputable section

namespace Cert.Kernel4Ideal.Swiglu

open Cert.Kernel4Ideal Idealize.ShloMosaic Idealize.ShloMosaic.TcCoe Cert.Reference4Ideal.Read

/-! ## The scalar equation -/

theorem logistic_real (r : ℝ) : Ideal.logistic (r : EReal) = ((1 + Real.exp (-r))⁻¹ : ℝ) := by
  have h : (0 : ℝ) < 1 + Real.exp (-r) := by positivity
  have e : (1 : EReal) + Ideal.exp (-(r : EReal)) = ((1 + Real.exp (-r) : ℝ) : EReal) := by
    rw [← EReal.coe_neg]
    show (1 : EReal) + (Real.exp (-r) : EReal) = _
    rw [EReal.coe_add, EReal.coe_one]
  unfold Ideal.logistic Ideal.div
  rw [e, if_neg (by rw [← EReal.coe_zero, EReal.coe_eq_coe_iff]; exact h.ne'), one_mul, ← EReal.coe_inv]

theorem scalar (a g u : ℝ) : (a : EReal) * u * Ideal.logistic g + (g : EReal) * ((a : EReal) * u) * (Ideal.logistic g * (1 - Ideal.logistic g)) = dGate a g u := by
  unfold dGate
  rw [logistic_real]
  generalize (1 + Real.exp (-g))⁻¹ = s
  have h1 : (1 : EReal) = ((1 : ℝ) : EReal) := EReal.coe_one.symm
  rw [h1]
  simp only [← EReal.coe_mul, ← EReal.coe_sub, ← EReal.coe_add]
  rw [EReal.coe_eq_coe_iff]
  ring

/-! ## The reference at an index -/

variable (m : (ℓ : Loc nD τ sig) → Buf (Elt Ideal) ℓ) (c : Dev nD)

theorem one_bits : Ideal.ofBits .f32 0x3F800000#32 = 1 := Ideal.ofBits_one_f32

theorem da_at (t : Fin 8192) (f : Fin 2816) : val_main_v9 (F := Ideal) (dh m c) (down m c) (ix2 t f) = da m c t f := by
  rw [val_main_v9_apply]
  refine Finset.sum_congr rfl fun r _ => ?_
  rw [val_main_v0_apply]
  refine congrArg₂ (· * ·) (congrArg (dh m c) ?_) (congrArg (down m c) ?_)
  · funext k; match k with
    | ⟨0, _⟩ => rfl
    | ⟨1, _⟩ => rfl
  · funext k; match k with
    | ⟨0, _⟩ => rfl
    | ⟨1, _⟩ => rfl

theorem gate_at (t : Fin 8192) (f : Fin 2816) : val_main_v3 (F := Ideal) (gu m c) (ix2 t f) = gu m c (ix3 (0 : Fin 2) t f) := by
  rw [val_main_v3_apply, val_main_v2_apply, val_main_v1_apply]
  refine congrArg (gu m c) ?_
  funext k; match k with
  | ⟨0, _⟩ => rfl
  | ⟨1, _⟩ => exact Fin.ext (by show (t.val * 2816 + f.val) / 2816 % 8192 = t.val; omega)
  | ⟨2, _⟩ => exact Fin.ext (by show (t.val * 2816 + f.val) % 2816 = f.val; omega)

theorem up_at (t : Fin 8192) (f : Fin 2816) : val_main_v5 (F := Ideal) (gu m c) (ix2 t f) = gu m c (ix3 (1 : Fin 2) t f) := by
  rw [val_main_v5_apply, val_main_v4_apply, val_main_v1_apply]
  refine congrArg (gu m c) ?_
  funext k; match k with
  | ⟨0, _⟩ => rfl
  | ⟨1, _⟩ => exact Fin.ext (by show (t.val * 2816 + f.val) / 2816 % 8192 = t.val; omega)
  | ⟨2, _⟩ => exact Fin.ext (by show (t.val * 2816 + f.val) % 2816 = f.val; omega)

theorem sg_at (t : Fin 8192) (f : Fin 2816) : val_main_v6_2 (F := Ideal) (gu m c) (ix2 t f) = Ideal.logistic (gu m c (ix3 (0 : Fin 2) t f)) := by
  rw [val_main_v6_2_apply, val_main_call0_v4_apply, val_main_call0_cst_0_apply, val_main_call0_v3_apply, val_main_call0_v2_apply, val_main_call0_cst_apply,
    val_main_call0_v1_apply, val_main_call0_v0_apply, gate_at]
  show Ideal.div (Ideal.ofBits .f32 0x3F800000#32) (Ideal.ofBits .f32 0x3F800000#32 + Ideal.exp (-_)) = _
  rw [one_bits]
  rfl

theorem dsg_at (t : Fin 8192) (f : Fin 2816) : val_main_v6_1 (F := Ideal) (gu m c) (ix2 t f)
    = Ideal.logistic (gu m c (ix3 (0 : Fin 2) t f)) * (1 - Ideal.logistic (gu m c (ix3 (0 : Fin 2) t f))) := by
  rw [val_main_v6_1_apply, val_main_call0_v7_apply, val_main_call0_v6_apply, val_main_call0_cst_1_apply, sg_at]
  show _ * (Ideal.ofBits .f32 0x3F800000#32 - _) = _
  rw [one_bits]

theorem dUp_at (t : Fin 8192) (f : Fin 2816) : val_main_v10 (F := Ideal) (dh m c) (down m c) (gu m c) (ix2 t f) = plane m c t f 1 := by
  rw [val_main_v10_apply, val_main_v6_0_apply, gate_at, sg_at, da_at]
  exact mul_comm _ _

theorem dGate_at (h0 : ∀ i, ∃ r : ℝ, (dh m c i : EReal) = r) (h1 : ∀ i, ∃ r : ℝ, (down m c i : EReal) = r) (h2 : ∀ i, ∃ r : ℝ, (gu m c i : EReal) = r)
    (t : Fin 8192) (f : Fin 2816) : val_main_v12 (F := Ideal) (dh m c) (down m c) (gu m c) (ix2 t f) = plane m c t f 0 := by
  rw [val_main_v12_apply, val_main_call1_v1_apply, val_main_call1_v2_apply, val_main_call1_v0_apply, val_main_v11_apply, gate_at, up_at, sg_at, dsg_at, da_at]
  obtain ⟨x, hx⟩ : ∃ x : ℝ, da m c t f = x := by
    choose d hd using h0
    choose w hw using h1
    refine ⟨∑ r : Fin 1024, d (ix2 t r) * w (ix2 f r), ?_⟩
    rw [← Cert.Fox.sum_coe]
    exact Finset.sum_congr rfl fun r _ => (congrArg₂ (· * ·) (hd _) (hw _)).trans (EReal.coe_mul _ _).symm
  obtain ⟨g, hg⟩ := h2 (ix3 (0 : Fin 2) t f)
  obtain ⟨u, hu⟩ := h2 (ix3 (1 : Fin 2) t f)
  unfold plane
  dsimp only
  rw [hx, hg, hu]
  exact scalar x g u

variable (h0 : ∀ i, ∃ r : ℝ, (dh m c i : EReal) = r) (h1 : ∀ i, ∃ r : ℝ, (down m c i : EReal) = r) (h2 : ∀ i, ∃ r : ℝ, (gu m c i : EReal) = r)
include h0 h1 h2

theorem stacked (t : Fin 8192) (f : Fin 2816) : ∀ p : Fin 2, val_main_v15 (F := Ideal) (dh m c) (down m c) (gu m c) (ix3 p t f) = plane m c t f p
  | ⟨0, h⟩ => by
    have e := concatenate_pair_apply_left (t := S2x8192x2816) (s₁ := Cert.Reference4Ideal.S1x8192x2816) (s₂ := Cert.Reference4Ideal.S1x8192x2816) (0 : Fin 3)
      (val_main_v13 (F := Ideal) (dh m c) (down m c) (gu m c)) (val_main_v14 (F := Ideal) (dh m c) (down m c) (gu m c)) Cert.Reference4Ideal.Gen.concatenates_S1x8192x2816_S1x8192x2816_S2x8192x2816_d0
      (ix3 ⟨0, h⟩ t f) rfl (ix3 (0 : Fin 1) t f) (by intro b; fin_cases b <;> rfl)
    refine (e.trans (val_main_v13_apply _ _ _ _)).trans (Eq.trans (congrArg (val_main_v12 (F := Ideal) (dh m c) (down m c) (gu m c)) ?_) (dGate_at m c h0 h1 h2 t f))
    funext k; match k with
    | ⟨0, _⟩ => rfl
    | ⟨1, _⟩ => rfl
  | ⟨1, h⟩ => by
    have e := concatenate_pair_apply_right (t := S2x8192x2816) (s₁ := Cert.Reference4Ideal.S1x8192x2816) (s₂ := Cert.Reference4Ideal.S1x8192x2816) (0 : Fin 3)
      (val_main_v13 (F := Ideal) (dh m c) (down m c) (gu m c)) (val_main_v14 (F := Ideal) (dh m c) (down m c) (gu m c)) Cert.Reference4Ideal.Gen.concatenates_S1x8192x2816_S1x8192x2816_S2x8192x2816_d0
      (ix3 ⟨1, h⟩ t f) rfl rfl (ix3 (0 : Fin 1) t f) (by intro b hb; fin_cases b; exacts [absurd rfl hb, rfl, rfl]) rfl
    refine (e.trans (val_main_v14_apply _ _ _ _)).trans (Eq.trans (congrArg (val_main_v10 (F := Ideal) (dh m c) (down m c) (gu m c)) ?_) (dUp_at m c t f))
    funext k; match k with
    | ⟨0, _⟩ => rfl
    | ⟨1, _⟩ => rfl

theorem same (x0 : FVec Ideal S8192x1024 .f32) (x1 : FVec Ideal S2816x1024 .bf16) (x2 : FVec Ideal S2x8192x2816 .bf16) (e0 : x0 = dh m c) (e1 : x1 = down m c) (e2 : x2 = gu m c) :
    val_main_v16 (F := Ideal) x0 x1 x2 = dgu m c := by
  subst e0 e1 e2
  funext y
  rw [val_main_v16_apply]
  have e : y = ix3 (y 0) (y 1) (y 2) := by
    funext k; match k with
    | ⟨0, _⟩ => rfl
    | ⟨1, _⟩ => rfl
    | ⟨2, _⟩ => rfl
  exact (congrArg (val_main_v15 (F := Ideal) (dh m c) (down m c) (gu m c)) e).trans (stacked m c h0 h1 h2 (y 1) (y 2) (y 0))

omit h0 h1 h2

theorem reals (h : Cert.Pre_finite4.fn (F := Ideal) (dh m c) (down m c) (gu m c) = fun _ => 1#1) :
    (∀ i, ∃ r : ℝ, (dh m c i : EReal) = r) ∧ (∀ i, ∃ r : ℝ, (down m c i : EReal) = r) ∧ (∀ i, ∃ r : ℝ, (gu m c i : EReal) = r) := by
  have e := congrFun h ix0
  unfold Cert.Pre_finite4.fn at e
  dsimp only at e
  obtain ⟨e, h2⟩ := IntOp.andi_eq_one.1 e
  obtain ⟨h0, h1⟩ := IntOp.andi_eq_one.1 e
  exact ⟨Cert.Pre_finite.Fox.all_real _ _ _ _ h0, Cert.Pre_finite.Fox.all_real _ _ _ _ h1, Cert.Pre_finite.Fox.all_real _ _ _ _ h2⟩

theorem frame_reference (m : (ℓ : Loc Cert.Reference4Ideal.nD Cert.Reference4Ideal.τ Cert.Reference4Ideal.sig) → Buf (Elt Ideal) ℓ) (g : Dev Cert.Reference4Ideal.nD → PrngReg) :
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0) :=
  (θ_run _ _ _).mono (fun r h => ⟨fun c => (h c).2, sem_eq_zero_of_no_sems rfl r.2⟩) (Cert.Reference4Ideal.Value.run m g)

theorem algebraic : Cert.algebraic_Kernel4Ideal_Reference4Ideal_pre_finite4 (hKernel4Ideal := Cert.Kernel4Ideal.Gen.facts) (hReference4Ideal := Cert.Reference4Ideal.Gen.facts) (hPre_finite4 := Cert.Pre_finite4.Gen.facts) := by
  intro m g m' g' hpre hagree
  refine ⟨fun c => dgu m c, ?_, ?_⟩
  · refine (θ_run _ _ _).mono (fun r h c => ?_) (Cert.Kernel4Ideal.Value.run_blocks m g)
    exact ⟨(h c).1.trans (arr m c), (h c).2⟩
  · refine (θ_run _ _ _).mono (fun r h c => ?_) (Cert.Reference4Ideal.Value.run m' g')
    obtain ⟨h0, h1, h2⟩ := reals m c (hpre c)
    obtain ⟨a0, a1, a2⟩ := hagree c
    exact ⟨((h c).1.trans (val_main_v16_eq (m' (c, Cert.Reference4Ideal.main_arg0)) (m' (c, Cert.Reference4Ideal.main_arg1)) (m' (c, Cert.Reference4Ideal.main_arg2)))).trans
      (same m c h0 h1 h2 (m' (c, Cert.Reference4Ideal.main_arg0)) (m' (c, Cert.Reference4Ideal.main_arg1)) (m' (c, Cert.Reference4Ideal.main_arg2)) a0 a1 a2), (h c).2⟩

end Cert.Kernel4Ideal.Swiglu

end
-- ==== Proof.DownDw.lean ====
/-
  The gradient of the down projection's weight: the activations, transposed, times the gradient of the output. One
  tile of the result is a sum over eight blocks of 1024 tokens, kept in a scratch buffer.
-/
module

public import proofs.«01_k».proof.Proof.Tiles
public import proofs.«01_k».proof.Proof.Gen.Kernel5Ideal.Value
public import Idealize.ShloMosaic.Lib.Pointwise
public import Idealize.ShloMosaic.Lib.Tactic
public import Idealize.ShloMosaic.Lib.Pipeline.ValueKit

@[expose] public section

noncomputable section

namespace Cert.Kernel5Ideal.Dw

open Cert.Kernel5Ideal Cert.Kernel5Ideal.Gen Cert.Kernel5Ideal.Value Cert.Tiles
open Idealize.ShloMosaic Idealize.ShloMosaic.TcCoe

theorem hz : (![0, 0] : Fin 2 → Nat) = fun _ => 0 := funext fun a => by fin_cases a <;> rfl

section Body
variable {F : FTy → Type} [FloatOps F]
variable (c : Dev nD) (i : grid0.Coords) (a4 : Memref sig .tc .vmem S1024x1408 .bf16) (h4 : a4.IsWhole) (a5 : Memref sig .tc .vmem S1024x512 .f32) (h5 : a5.IsWhole)
  (a6 : Memref sig .tc .vmem S1408x512 .bf16) (h6 : a6.IsWhole) (a7 : Memref sig .tc .vmem S1408x512 .f32) (h7 : a7.IsWhole)
  (x : Vec F S1024x1408 .bf16) (d : Vec F S1024x512 .f32) (s : Vec F S1408x512 .f32)

/-- The first block of tokens starts the sum. -/
theorem first (c0 : cond0_0 i) (c1 : ¬cond0_1 i) (c2 : ¬cond0_2 i) : sout0_A_0 c i a4 h4 a5 h5 a6 h6 a7 h7 c0 c1 c2 x d = k0_pay1 x d := by
  unfold sout0_A_0
  rw [View.read_writes_eq_canon _ _ _ (scover0_A_0 c i a4 h4 a5 h5 a6 h6 a7 h7 c0 c1 c2 x d)]
  unfold kernelRun0_A
  dsimp only
  sl_unfold_words
  rw [View.canon_unit_zero hz]
  unfold k0_pay2
  simp only [View.readAt_eq_ld, h4.read_unread, h5.read_unread, View.ld_unit_zero (S := S1024x1408) hz, View.ld_unit_zero (S := S1024x512) hz, shapeCast_self]

/-- A later block is added. -/
theorem next (c0 : ¬cond0_0 i) (c1 : cond0_1 i) (c2 : ¬cond0_2 i) : sout0_B_0 c i a4 h4 a5 h5 a6 h6 a7 h7 c0 c1 c2 x d s = addf s (k0_pay1 x d) := by
  unfold sout0_B_0
  rw [View.read_writes_eq_canon _ _ _ (scover0_B_0 c i a4 h4 a5 h5 a6 h6 a7 h7 c0 c1 c2 x d s)]
  unfold kernelRun0_B
  dsimp only
  sl_unfold_words
  rw [View.canon_unit_zero hz]
  unfold k0_pay3
  simp only [View.readAt_eq_ld, h4.read_unread, h5.read_unread, h7.read_unread, View.ld_unit_zero (S := S1024x1408) hz, View.ld_unit_zero (S := S1024x512) hz, View.ld_unit_zero (S := S1408x512) hz, shapeCast_self]

/-- The last block is added, and the sum is the result's tile. -/
theorem last (c0 : ¬cond0_0 i) (c1 : cond0_1 i) (c2 : cond0_2 i) : sout0_C_0 c i a4 h4 a5 h5 a6 h6 a7 h7 c0 c1 c2 x d s = addf s (k0_pay1 x d) := by
  unfold sout0_C_0
  rw [View.read_writes_eq_canon _ _ _ (scover0_C_0 c i a4 h4 a5 h5 a6 h6 a7 h7 c0 c1 c2 x d s)]
  unfold kernelRun0_C
  dsimp only
  sl_unfold_words
  rw [View.canon_unit_zero hz]
  unfold k0_pay3
  simp only [View.readAt_eq_ld, h4.read_unread, h5.read_unread, h7.read_unread, View.ld_unit_zero (S := S1024x1408) hz, View.ld_unit_zero (S := S1024x512) hz, View.ld_unit_zero (S := S1408x512) hz, shapeCast_self]

theorem done (c0 : ¬cond0_0 i) (c1 : cond0_1 i) (c2 : cond0_2 i) : out0_C_2 c i a4 h4 a5 h5 a6 h6 a7 h7 c0 c1 c2 x d s = k0_pay4 (addf s (k0_pay1 x d)) := by
  unfold out0_C_2
  rw [View.read_writes_eq_canon _ _ _ (cover0_C_2 c i a4 h4 a5 h5 a6 h6 a7 h7 c0 c1 c2 x d s)]
  unfold kernelRun0_C
  dsimp only
  sl_unfold_words
  rw [View.canon_unit_zero hz, View.readCov_unit_zero (S := S1408x512) _ hz]
  unfold k0_pay3
  simp only [View.readAt_eq_ld, h4.read_unread, h5.read_unread, h7.read_unread, View.ld_unit_zero (S := S1024x1408) hz, View.ld_unit_zero (S := S1024x512) hz, View.ld_unit_zero (S := S1408x512) hz, shapeCast_self]

end Body

/-- One block's share of one entry. -/
theorem part_at (x : Vec Ideal S1024x1408 .bf16) (d : Vec Ideal S1024x512 .f32) (a : Fin 1408) (b : Fin 512) :
    k0_pay1 (F := Ideal) x d (ix2 a b) = ∑ r, x (ix2 r a) * d (ix2 r b) := by
  pointwise [k0_pay1]

/-! What a grid point reads. -/

theorem ix_0 : ∀ t : Fin cfg0.N, win0_0.index t (0 : Fin 2) = t.val % 8 ∧ win0_0.index t (1 : Fin 2) = t.val / 16 :=
  (by decide +kernel : ∀ t : Fin grid0.N, _)
theorem ix_1 : ∀ t : Fin cfg0.N, win0_1.index t (0 : Fin 2) = t.val % 8 ∧ win0_1.index t (1 : Fin 2) = t.val / 8 % 2 :=
  (by decide +kernel : ∀ t : Fin grid0.N, _)

variable (m : (ℓ : Loc nD τ sig) → Buf (Elt Ideal) ℓ) (c : Dev nD)

def act : FVec Ideal S8192x2816 .bf16 := m (c, main_arg0)
def dh : FVec Ideal S8192x1024 .f32 := m (c, main_arg1)

theorem blk_0 (t : Fin cfg0.N) (r : Fin 1024) (a : Fin 1408) (h : 1024 * (t.val % 8) + r.val < 8192) (h' : 1408 * (t.val / 16) + a.val < 2816) :
    (iblk m c 0 t : Vec Ideal S1024x1408 .bf16) (ix2 r a) = act m c (ix2 ⟨1024 * (t.val % 8) + r.val, h⟩ ⟨1408 * (t.val / 16) + a.val, h'⟩) := by
  unfold iblk
  rw [View.read_apply]
  show V m c main_arg0 _ = m (c, main_arg0) _
  unfold V
  congr 1
  funext k
  apply Fin.ext
  match k with
  | ⟨0, _⟩ => show win0_0.index t (0 : Fin 2) * 1024 + 1 * r.val = _; rw [(ix_0 t).1]; show _ = 1024 * (t.val % 8) + r.val; omega
  | ⟨1, _⟩ => show win0_0.index t (1 : Fin 2) * 1408 + 1 * a.val = _; rw [(ix_0 t).2]; show _ = 1408 * (t.val / 16) + a.val; omega

theorem blk_1 (t : Fin cfg0.N) (r : Fin 1024) (b : Fin 512) (h : 1024 * (t.val % 8) + r.val < 8192) (h' : 512 * (t.val / 8 % 2) + b.val < 1024) :
    (iblk m c 1 t : Vec Ideal S1024x512 .f32) (ix2 r b) = dh m c (ix2 ⟨1024 * (t.val % 8) + r.val, h⟩ ⟨512 * (t.val / 8 % 2) + b.val, h'⟩) := by
  unfold iblk
  rw [View.read_apply]
  show V m c main_arg1 _ = m (c, main_arg1) _
  unfold V
  congr 1
  funext k
  apply Fin.ext
  match k with
  | ⟨0, _⟩ => show win0_1.index t (0 : Fin 2) * 1024 + 1 * r.val = _; rw [(ix_1 t).1]; show _ = 1024 * (t.val % 8) + r.val; omega
  | ⟨1, _⟩ => show win0_1.index t (1 : Fin 2) * 512 + 1 * b.val = _; rw [(ix_1 t).2]; show _ = 512 * (t.val / 8 % 2) + b.val; omega

/-- One token's share of one entry of the gradient. -/
def term (A : Fin 2816) (B : Fin 1024) (t : Fin 8192) : EReal := act m c (ix2 t A) * dh m c (ix2 t B)

theorem block (t : Fin cfg0.N) (a : Fin 1408) (b : Fin 512) (h : 1408 * (t.val / 16) + a.val < 2816) (h' : 512 * (t.val / 8 % 2) + b.val < 1024) :
    k0_pay1 (F := Ideal) (iblk m c 0 t) (iblk m c 1 t) (ix2 a b)
      = ∑ r : Fin 1024, term m c ⟨1408 * (t.val / 16) + a.val, h⟩ ⟨512 * (t.val / 8 % 2) + b.val, h'⟩ ⟨1024 * (t.val % 8) + r.val, by omega⟩ := by
  rw [part_at]
  exact Finset.sum_congr rfl fun r _ => congrArg₂ (· * ·) (blk_0 m c t r a _ _) (blk_1 m c t r b _ _)

/-- The scratch buffer after a grid point: the sum over the blocks of tokens met so far. -/
theorem sums : ∀ (n : ℕ) (hn : n < cfg0.N) (a : Fin 1408) (b : Fin 512) (h : 1408 * (n / 16) + a.val < 2816) (h' : 512 * (n / 8 % 2) + b.val < 1024),
    (outsAt0 m c n hn).2 (ix2 a b) = upto 1024 (term m c ⟨1408 * (n / 16) + a.val, h⟩ ⟨512 * (n / 8 % 2) + b.val, h'⟩) (n % 8 + 1) := by
  intro n
  induction n with
  | zero =>
    intro hn a b h h'
    rw [outsAt0_A m c ⟨0, hn⟩ rfl (by show ¬1 ≤ 0 % 8; decide) (by show ¬0 % 8 = 7; decide), first, upto_succ _ (by decide), upto_zero, zero_add]
    exact block m c ⟨0, hn⟩ a b h h'
  | succ n ih =>
    intro hn a b h h'
    have hN : n + 1 < 32 := lt_of_lt_of_eq hn N_0
    rw [upto_succ _ (by omega)]
    refine Eq.trans ?_ (congrArg (_ + ·) (block m c ⟨n + 1, hn⟩ a b h h'))
    by_cases h0 : (n + 1) % 8 = 0
    · rw [outsAt0_A m c ⟨n + 1, hn⟩ h0 (by dsimp only; omega) (by dsimp only; omega), first]
      exact (zero_add _).symm.trans (congrArg (· + _) (by rw [h0, upto_zero]))
    · have e1 : (n + 1) / 16 = n / 16 := by omega
      have e2 : (n + 1) / 8 = n / 8 := by omega
      have e3 : (n + 1) % 8 = n % 8 + 1 := by omega
      have key := ih (Nat.lt_of_succ_lt hn) a b (by omega) (by omega)
      simp only [e1, e2, e3]
      rw [← key]
      by_cases h7 : (n + 1) % 8 = 7
      · rw [outsAt0_C m c ⟨n + 1, hn⟩ h0 (by dsimp only; omega) h7, last]; rfl
      · rw [outsAt0_B m c ⟨n + 1, hn⟩ h0 (by dsimp only; omega) h7, next]; rfl

/-- What is written out is the sum over all tokens. -/
theorem tile (n : ℕ) (hn : n < cfg0.N) (h7 : n % 8 = 7) (a : Fin 1408) (b : Fin 512) (h : 1408 * (n / 16) + a.val < 2816) (h' : 512 * (n / 8 % 2) + b.val < 1024) :
    (outsAt0 m c n hn).1 (ix2 a b) = ∑ t, term m c ⟨1408 * (n / 16) + a.val, h⟩ ⟨512 * (n / 8 % 2) + b.val, h'⟩ t := by
  have e : (outsAt0 m c n hn).1 (ix2 a b) = (outsAt0 m c n hn).2 (ix2 a b) := by
    rw [outsAt0_C m c ⟨n, hn⟩ (by dsimp only; omega) (by dsimp only; omega) h7, last, done]; rfl
  rw [e, sums m c n hn a b h h', h7, upto_all _ (by decide)]

/-- The gradient of the weight. -/
def dW : FVec Ideal S2816x1024 .bf16 := fun y => ∑ t, term m c (y 0) (y 1) t

theorem arr : G2 m c = dW m c := by
  funext y
  unfold G2
  have h0 : (y 0).val < 2816 := (y 0).isLt
  have h1 : (y 1).val < 1024 := (y 1).isLt
  have hp : pt2Of y < cfg0.N := lt_of_lt_of_eq (by show 8 * (2 * ((y 0).val / 1408 - 0) + 1 * ((y 1).val / 512 - 0)) + 7 < 32; omega) N_0.symm
  rw [dif_pos hp, ← outsAt0_sweep m c _ hp]
  have el : loc2Of y = ix2 ⟨(y 0).val % 1408, Nat.mod_lt _ (by decide)⟩ ⟨(y 1).val % 512, Nat.mod_lt _ (by decide)⟩ := by
    funext k; match k with
    | ⟨0, _⟩ => rfl
    | ⟨1, _⟩ => rfl
  rw [el, tile m c _ hp (by show (8 * (2 * ((y 0).val / 1408 - 0) + 1 * ((y 1).val / 512 - 0)) + 7) % 8 = 7; omega) _ _
    (by show 1408 * ((8 * (2 * ((y 0).val / 1408 - 0) + 1 * ((y 1).val / 512 - 0)) + 7) / 16) + (y 0).val % 1408 < 2816; omega)
    (by show 512 * ((8 * (2 * ((y 0).val / 1408 - 0) + 1 * ((y 1).val / 512 - 0)) + 7) / 8 % 2) + (y 1).val % 512 < 1024; omega)]
  unfold dW
  refine congrArg₂ (fun A B => ∑ t, term m c A B t) (Fin.ext ?_) (Fin.ext ?_)
  · show 1408 * ((8 * (2 * ((y 0).val / 1408 - 0) + 1 * ((y 1).val / 512 - 0)) + 7) / 16) + (y 0).val % 1408 = (y 0).val; omega
  · show 512 * ((8 * (2 * ((y 0).val / 1408 - 0) + 1 * ((y 1).val / 512 - 0)) + 7) / 8 % 2) + (y 1).val % 512 = (y 1).val; omega

end Cert.Kernel5Ideal.Dw

end
-- ==== Proof.DownDwSame.lean ====
/-
  The gradient of the down projection's weight, compared with the reference's.
-/
module

public import proofs.«01_k».proof.Proof.DownDw
public import proofs.«01_k».proof.Proof.Gen.Reference5Ideal.Read
public import proofs.«01_k».proof.Defs

@[expose] public section

noncomputable section

namespace Cert.Kernel5Ideal.Dw

open Cert.Kernel5Ideal Idealize.ShloMosaic Idealize.ShloMosaic.TcCoe Cert.Reference5Ideal.Read

theorem same (m : (ℓ : Loc nD τ sig) → Buf (Elt Ideal) ℓ) (c : Dev nD) (x0 : FVec Ideal S8192x2816 .bf16) (x1 : FVec Ideal S8192x1024 .f32)
    (h0 : x0 = act m c) (h1 : x1 = dh m c) : val_main_v5 (F := Ideal) x0 x1 = dW m c := by
  subst h0 h1
  funext y
  rw [val_main_v5_apply, val_main_v4_apply, val_main_v3_apply]
  refine Finset.sum_congr rfl fun t _ => ?_
  rw [mul_comm]
  refine congrArg₂ (· * ·) (congrArg (act m c) ?_) (congrArg (dh m c) ?_)
  · funext k; match k with
    | ⟨0, _⟩ => rfl
    | ⟨1, _⟩ => rfl
  · funext k; match k with
    | ⟨0, _⟩ => rfl
    | ⟨1, _⟩ => rfl

theorem frame_reference (m : (ℓ : Loc Cert.Reference5Ideal.nD Cert.Reference5Ideal.τ Cert.Reference5Ideal.sig) → Buf (Elt Ideal) ℓ) (g : Dev Cert.Reference5Ideal.nD → PrngReg) :
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0) :=
  (θ_run _ _ _).mono (fun r h => ⟨fun c => (h c).2, sem_eq_zero_of_no_sems rfl r.2⟩) (Cert.Reference5Ideal.Value.run m g)

theorem algebraic : Cert.algebraic_Kernel5Ideal_Reference5Ideal (hKernel5Ideal := Cert.Kernel5Ideal.Gen.facts) (hReference5Ideal := Cert.Reference5Ideal.Gen.facts) := by
  intro m g m' g' _ hagree
  refine ⟨fun c => dW m c, ?_, ?_⟩
  · refine (θ_run _ _ _).mono (fun r h c => ?_) (Cert.Kernel5Ideal.Value.run m g)
    exact ⟨(h c).1.trans (arr m c), (h c).2⟩
  · refine (θ_run _ _ _).mono (fun r h c => ?_) (Cert.Reference5Ideal.Value.run m' g')
    exact ⟨((h c).1.trans (val_main_v5_eq (m' (c, Cert.Reference5Ideal.main_arg0)) (m' (c, Cert.Reference5Ideal.main_arg1)))).trans
      (same m c (m' (c, Cert.Reference5Ideal.main_arg0)) (m' (c, Cert.Reference5Ideal.main_arg1)) (hagree c).1 (hagree c).2), (h c).2⟩

end Cert.Kernel5Ideal.Dw

end
-- ==== Proof.GateUpRun.lean ====
/-
  The norm before the mixer, the products of the normed activations with the gate's and the up weight, and the SwiGLU
  activation: one run of the body, and the whole run from it. The normed rows of a block are stored at the block's first
  point and read back at its second, where they are written out.
-/
module

public import proofs.«01_k».proof.Proof.Gen.Kernel6Ideal.Frame
public import proofs.«01_k».proof.Proof.Gen.Kernel6Ideal.Skeleton
public import Idealize.ShloMosaic.Lib.Claim
public import Idealize.ShloMosaic.Lib.Tactic
public import Idealize.ShloMosaic.Lib.Pipeline.Value
public import Idealize.ShloMosaic.Lib.Pipeline.TableIdle

@[expose] public section

set_option maxRecDepth 16384

noncomputable section

namespace Cert.Kernel6Ideal.GateUp

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-- A point is the first of its block of rows. -/
abbrev first (i : grid0.Coords) : Prop := k0_cond1 i = 1#1

theorem first_of : ∀ t : Fin cfg0.N, t.val % 2 = 0 → first (grid0.coords t) := (by decide +kernel : ∀ t : Fin grid0.N, t.val % 2 = 0 → first (grid0.coords t))
theorem second_of : ∀ t : Fin cfg0.N, t.val % 2 = 1 → ¬ first (grid0.coords t) := (by decide +kernel : ∀ t : Fin grid0.N, t.val % 2 = 1 → ¬ first (grid0.coords t))

/-- The two planes of the products, one piece each, -/
abbrev plane0 : Rect S2x512x1408 := Rect.unit (s := S2x512x1408) ![0, 0, 0] S1x512x1408.size inb_S2x512x1408_S1x512x1408_0_0_0
abbrev plane1 : Rect S2x512x1408 := Rect.unit (s := S2x512x1408) ![1, 0, 0] S1x512x1408.size inb_S2x512x1408_S1x512x1408_1_0_0

/-- and both together. -/
def planes (x6 : Vec F S512x1024 .bf16) (x2 x3 : Vec F S1024x1408 .bf16) : Vec F S2x512x1408 .bf16 :=
  View.canon (Val := Elt F) [(⟨plane1, k0_pay6 x6 x3⟩ : View.Piece (Elt F) S2x512x1408 .bf16), ⟨plane0, k0_pay5 x6 x2⟩]

section Body
variable (c : Dev nD) (i : grid0.Coords) (a2 : Memref sig .tc .vmem S512x1024 .f32) (h2 : a2.IsWhole) (a3 : Memref sig .tc .vmem S1x1024 .f32) (h3 : a3.IsWhole) (a4 : Memref sig .tc .vmem S1024x1408 .bf16) (h4 : a4.IsWhole) (a5 : Memref sig .tc .vmem S1024x1408 .bf16) (h5 : a5.IsWhole)
  (a6 : Memref sig .tc .vmem S512x1024 .bf16) (h6 : a6.IsWhole) (a7 : Memref sig .tc .vmem S2x512x1408 .bf16) (h7 : a7.IsWhole) (a8 : Memref sig .tc .vmem S512x1408 .bf16) (h8 : a8.IsWhole)

set_option maxHeartbeats 1000000 in
/-- The body at a block's first point. -/
noncomputable def runA (hc0 : first i) (x0 : Vec F S512x1024 .f32) (x1 : Vec F S1x1024 .f32) (x2 x3 : Vec F S1024x1408 .bf16) :
    Σ' (L4 : List (View.Piece (Elt F) S512x1024 .bf16)), Σ' (L5 : List (View.Piece (Elt F) S2x512x1408 .bf16)), { L6 : List (View.Piece (Elt F) S512x1408 .bf16) //
      ∀ (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ (∃ d, owns (c : Thread nD τ) a6 fullShare d) ∗ (∃ d, owns (c : Thread nD τ) a7 fullShare d) ∗ (∃ d, owns (c : Thread nD τ) a8 fullShare d)
            ∗ (iprop(owns (c : Thread nD τ) a2 fullShare x0 ∗ owns (c : Thread nD τ) a3 fullShare x1 ∗ owns (c : Thread nD τ) a4 fullShare x2 ∗ owns (c : Thread nD τ) a5 fullShare x3 ∗ (∃ f, a6.view.loc (c : Thread nD τ) ↦[a6.view.set]{fullShare} a6.view.writes (Elt F) f L4) ∗ (∃ f, a7.view.loc (c : Thread nD τ) ↦[a7.view.set]{fullShare} a7.view.writes (Elt F) f L5) ∗ (∃ f, a8.view.loc (c : Thread nD τ) ↦[a8.view.set]{fullShare} a8.view.writes (Elt F) f L6)) -∗ K ⟨⟩))
          ⊢ wp frame (wpE (defs₀ (F := F)) Variants.none c none) E (cc0_gate_up_swiglu_fwd i a2 h2 a3 h3 a4 h4 a5 h5 a6 h6 a7 h7 a8 h8) K } := by
  refine ⟨?_, ?_, ?_, fun E K => ?run⟩
  case run =>
    simp only [cc0_gate_up_swiglu_fwd_eq_skeleton]; unfold cc0_gate_up_swiglu_fwd_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := h2.eq_unread hf0; obtain rfl := h3.eq_unread hf1; obtain rfl := h4.eq_unread hf2; obtain rfl := h5.eq_unread hf3
    sl_exec (disch := first | sl_exact hc0)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]; · iexists _; iexact H4
    isplitl [H5]; · iexists _; iexact H5
    iexists _; iexact H6

set_option maxHeartbeats 1000000 in
/-- The body at a block's second point, where the normed rows are read. -/
noncomputable def runB (hc0 : ¬ first i) (x0 : Vec F S512x1024 .f32) (x1 : Vec F S1x1024 .f32) (x2 x3 : Vec F S1024x1408 .bf16) (x4 : Vec F S512x1024 .bf16) :
    Σ' (L5 : List (View.Piece (Elt F) S2x512x1408 .bf16)), { L6 : List (View.Piece (Elt F) S512x1408 .bf16) //
      ∀ (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ (∃ d, owns (c : Thread nD τ) a7 fullShare d) ∗ (∃ d, owns (c : Thread nD τ) a8 fullShare d)
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ (∃ f, a7.view.loc (c : Thread nD τ) ↦[a7.view.set]{fullShare} a7.view.writes (Elt F) f L5) ∗ (∃ f, a8.view.loc (c : Thread nD τ) ↦[a8.view.set]{fullShare} a8.view.writes (Elt F) f L6)) -∗ K ⟨⟩))
          ⊢ wp frame (wpE (defs₀ (F := F)) Variants.none c none) E (cc0_gate_up_swiglu_fwd i a2 h2 a3 h3 a4 h4 a5 h5 a6 h6 a7 h7 a8 h8) K } := by
  refine ⟨?_, ?_, fun E K => ?run⟩
  case run =>
    simp only [cc0_gate_up_swiglu_fwd_eq_skeleton]; unfold cc0_gate_up_swiglu_fwd_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := h2.eq_unread hf0; obtain rfl := h3.eq_unread hf1; obtain rfl := h4.eq_unread hf2; obtain rfl := h5.eq_unread hf3; obtain rfl := h6.eq_unread hf4
    sl_exec (disch := first | sl_exact hc0)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]; · iexists _; iexact H5
    iexists _; iexact H6

/-! What the pieces make. -/

variable (x0 : Vec F S512x1024 .f32) (x1 : Vec F S1x1024 .f32) (x2 x3 : Vec F S1024x1408 .bf16) (x4 : Vec F S512x1024 .bf16)

theorem readA_4 (hc0 : first i) (f) : a6.view.read (Elt F) (a6.view.writes (Elt F) f (runA c i a2 h2 a3 h3 a4 h4 a5 h5 a6 h6 a7 h7 a8 h8 hc0 x0 x1 x2 x3).1) = k0_pay1 x0 x1 := by
  rw [View.read_writes_eq_canon _ _ _ (View.cover_of_tiledL (runA c i a2 h2 a3 h3 a4 h4 a5 h5 a6 h6 a7 h7 a8 h8 hc0 x0 x1 x2 x3).1 S512x1024.size (by sl_kernel_rfl))]
  unfold runA
  dsimp only
  sl_unfold_words
  rw [View.canon_unit_zero hz]
  simp only [View.readAt_eq_ld, h2.read_unread, h3.read_unread, View.ld_unit_zero (S := S512x1024) hz, View.ld_unit_zero (S := S1x1024) hz]

theorem readA_5 (hc0 : first i) (f) : a7.view.read (Elt F) (a7.view.writes (Elt F) f (runA c i a2 h2 a3 h3 a4 h4 a5 h5 a6 h6 a7 h7 a8 h8 hc0 x0 x1 x2 x3).2.1) = planes (k0_pay1 x0 x1) x2 x3 := by
  rw [View.read_writes_eq_canon _ _ _ (View.cover_of_tiledL (runA c i a2 h2 a3 h3 a4 h4 a5 h5 a6 h6 a7 h7 a8 h8 hc0 x0 x1 x2 x3).2.1 S1x512x1408.size (by sl_kernel_rfl))]
  unfold runA
  dsimp only
  sl_unfold_words
  rw [View.readCov_unit_zero (S := S512x1024) _ hz]
  simp only [View.readAt_eq_ld, h2.read_unread, h3.read_unread, h4.read_unread, h5.read_unread, View.ld_unit_zero (S := S512x1024) hz, View.ld_unit_zero (S := S1x1024) hz, View.ld_unit_zero (S := S1024x1408) hz]
  rfl

theorem readA_6 (hc0 : first i) (f) : a8.view.read (Elt F) (a8.view.writes (Elt F) f (runA c i a2 h2 a3 h3 a4 h4 a5 h5 a6 h6 a7 h7 a8 h8 hc0 x0 x1 x2 x3).2.2.1) = k0_pay7 (k0_pay1 x0 x1) x2 x3 := by
  rw [View.read_writes_eq_canon _ _ _ (View.cover_of_tiledL (runA c i a2 h2 a3 h3 a4 h4 a5 h5 a6 h6 a7 h7 a8 h8 hc0 x0 x1 x2 x3).2.2.1 S512x1408.size (by sl_kernel_rfl))]
  unfold runA
  dsimp only
  sl_unfold_words
  rw [View.canon_unit_zero hz, View.readCov_unit_zero (S := S512x1024) _ hz]
  simp only [View.readAt_eq_ld, h2.read_unread, h3.read_unread, h4.read_unread, h5.read_unread, View.ld_unit_zero (S := S512x1024) hz, View.ld_unit_zero (S := S1x1024) hz, View.ld_unit_zero (S := S1024x1408) hz]

theorem readB_5 (hc0 : ¬ first i) (f) : a7.view.read (Elt F) (a7.view.writes (Elt F) f (runB c i a2 h2 a3 h3 a4 h4 a5 h5 a6 h6 a7 h7 a8 h8 hc0 x0 x1 x2 x3 x4).1) = planes x4 x2 x3 := by
  rw [View.read_writes_eq_canon _ _ _ (View.cover_of_tiledL (runB c i a2 h2 a3 h3 a4 h4 a5 h5 a6 h6 a7 h7 a8 h8 hc0 x0 x1 x2 x3 x4).1 S1x512x1408.size (by sl_kernel_rfl))]
  unfold runB
  dsimp only
  sl_unfold_words
  simp only [View.readAt_eq_ld, h4.read_unread, h5.read_unread, h6.read_unread, View.ld_unit_zero (S := S512x1024) hz, View.ld_unit_zero (S := S1024x1408) hz]
  rfl

theorem readB_6 (hc0 : ¬ first i) (f) : a8.view.read (Elt F) (a8.view.writes (Elt F) f (runB c i a2 h2 a3 h3 a4 h4 a5 h5 a6 h6 a7 h7 a8 h8 hc0 x0 x1 x2 x3 x4).2.1) = k0_pay7 x4 x2 x3 := by
  rw [View.read_writes_eq_canon _ _ _ (View.cover_of_tiledL (runB c i a2 h2 a3 h3 a4 h4 a5 h5 a6 h6 a7 h7 a8 h8 hc0 x0 x1 x2 x3 x4).2.1 S512x1408.size (by sl_kernel_rfl))]
  unfold runB
  dsimp only
  sl_unfold_words
  rw [View.canon_unit_zero hz]
  simp only [View.readAt_eq_ld, h4.read_unread, h5.read_unread, h6.read_unread, View.ld_unit_zero (S := S512x1024) hz, View.ld_unit_zero (S := S1024x1408) hz]

end Body

/-! ## What the windows hold -/

variable (m : (ℓ : Loc nD τ sig) → Buf (Elt F) ℓ) (ρ : Dev nD → PrngReg)

/-- The first point of a point's block of rows. -/
def base (t : Fin cfg0.N) : Fin cfg0.N := ⟨2 * (t.val / 2), by have := t.isLt; omega⟩

theorem base_first (t : Fin cfg0.N) (h : t.val % 2 = 0) : base t = t := Fin.ext (by show 2 * (t.val / 2) = t.val; omega)
theorem base_second (t : Fin cfg0.N) (h : t.val % 2 = 1) (h' : t.val - 1 < cfg0.N) : base t = base ⟨t.val - 1, h'⟩ := Fin.ext (by show 2 * (t.val / 2) = 2 * ((t.val - 1) / 2); omega)

/-- The normed rows of a point's block. -/
def rows (c : Dev nD) (t : Fin cfg0.N) : Vec F S512x1024 .bf16 := k0_pay1 (iblk m c 0 (base t)) (iblk m c 1 (base t))

/-- The pipeline's contents: an input's block, and what the body leaves in an output's buffer; the array two windows
    read is shared between them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => rows m c t
    | ⟨5, _⟩ => planes (rows m c t) (iblk m c 2 t) (iblk m c 3 t)
    | ⟨6, _⟩ => k0_pay7 (rows m c t) (iblk m c 2 t) (iblk m c 3 t)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = rows m c t := by dsimp only [dats]
theorem after_5 (c : Dev nD) (t : Fin cfg0.N) : (dats m 0 c).after 5 t = planes (rows m c t) (iblk m c 2 t) (iblk m c 3 t) := by dsimp only [dats]
theorem after_6 (c : Dev nD) (t : Fin cfg0.N) : (dats m 0 c).after 6 t = k0_pay7 (rows m c t) (iblk m c 2 t) (iblk m c 3 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

theorem idle_first : ∀ t : Fin cfg0.N, t.val % 2 = 0 → cfg0.idle 4 (grid0.coords t) = false := (by decide +kernel : ∀ t : Fin grid0.N, t.val % 2 = 0 → idle0 4 (grid0.coords t) = false)
theorem idle_second : ∀ t : Fin cfg0.N, t.val % 2 = 1 → cfg0.idle 4 (grid0.coords t) = true := (by decide +kernel : ∀ t : Fin grid0.N, t.val % 2 = 1 → idle0 4 (grid0.coords t) = true)

/-- At a block's second point the buffer holds the rows the first left. -/
theorem before_4 (c : Dev nD) (t : Fin cfg0.N) (h : t.val % 2 = 1) (d) : (dats m 0 c).before 4 t d = rows m c t := by
  have hp : t.val - 1 < cfg0.N := Nat.lt_of_le_of_lt (Nat.sub_le _ _) t.isLt
  have hfl : (cfg0.win 4).flush ⟨t.val - 1, hp⟩ = false := by
    rw [Bool.eq_false_iff]; intro hf
    have := (flush0_4 ⟨t.val - 1, hp⟩).mp hf
    dsimp only at this
    omega
  rw [(dats m 0 c).before_of_pos 4 t (by omega) ((cfg0.win 4).fetch_out rfl t), hfl, if_neg Bool.false_ne_true]
  unfold Dat.left
  rw [idle_first ⟨t.val - 1, hp⟩ (by dsimp only; omega)]
  dsimp only
  unfold Dat.kept
  rw [Pipeline.fill_of_clip_none 4 _ (fun _ => rfl) d ((dats m 0 c).after 4 ⟨t.val - 1, hp⟩), Window.fill_cut, after_4]
  unfold rows
  rw [base_second t h hp]

/-! ## The body's obligation -/

abbrev ms0_0 (t : Fin cfg0.N) : Memref sig .tc .vmem S512x1024 .f32 := win0_0.stage (cfg0.slots t 0)
abbrev ms0_1 (t : Fin cfg0.N) : Memref sig .tc .vmem S1x1024 .f32 := win0_1.stage (cfg0.slots t 1)
abbrev ms0_2 (t : Fin cfg0.N) : Memref sig .tc .vmem S1024x1408 .bf16 := win0_2.stage (cfg0.slots t 2)
abbrev ms0_3 (t : Fin cfg0.N) : Memref sig .tc .vmem S1024x1408 .bf16 := win0_3.stage (cfg0.slots t 3)
abbrev ms0_4 (t : Fin cfg0.N) : Memref sig .tc .vmem S512x1024 .bf16 := win0_4.stage (cfg0.slots t 4)
abbrev ms0_5 (t : Fin cfg0.N) : Memref sig .tc .vmem S2x512x1408 .bf16 := win0_5.stage (cfg0.slots t 5)
abbrev ms0_6 (t : Fin cfg0.N) : Memref sig .tc .vmem S512x1408 .bf16 := win0_6.stage (cfg0.slots t 6)

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

theorem leaves_4 (c : Dev nD) (t : Fin cfg0.N) : (dats m 0 c).leavesExact 4 t = owns (c : Thread nD τ) (ms0_4 t) fullShare (rows m c t) := by
  rcases Nat.mod_two_eq_zero_or_one t.val with h | h
  · unfold Dat.leavesExact; rw [idle_first t h]; dsimp only; rw [after_4]
  · unfold Dat.leavesExact; rw [idle_second t h, (flush0_4 t).mpr h]; dsimp only; rw [after_4]

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (ms0_0 t) fullShare ((dats m 0 c).after 0 t) from by
      unfold Dat.leavesExact; rfl, after_0]
  rw [show (dats m 0 c).leavesExact 1 t = owns (c : Thread nD τ) (ms0_1 t) fullShare ((dats m 0 c).after 1 t) from by
      unfold Dat.leavesExact; rfl, after_1]
  rw [show (dats m 0 c).leavesExact 2 t = owns (c : Thread nD τ) (ms0_2 t) fullShare ((dats m 0 c).after 2 t) from by
      unfold Dat.leavesExact; rfl, after_2]
  rw [show (dats m 0 c).leavesExact 3 t = owns (c : Thread nD τ) (ms0_3 t) fullShare ((dats m 0 c).after 3 t) from by
      unfold Dat.leavesExact; rfl, after_3]
  rw [show (dats m 0 c).leavesExact 5 t = owns (c : Thread nD τ) (ms0_5 t) fullShare ((dats m 0 c).after 5 t) from by
      unfold Dat.leavesExact; rfl, after_5]
  rw [show (dats m 0 c).leavesExact 6 t = owns (c : Thread nD τ) (ms0_6 t) fullShare ((dats m 0 c).after 6 t) from by
      unfold Dat.leavesExact; rfl, after_6]
  rw [leaves_4]
  rcases Nat.mod_two_eq_zero_or_one t.val with h | h
  · have e : rows m c t = k0_pay1 (iblk m c 0 t) (iblk m c 1 t) := by unfold rows; rw [base_first t h]
    rw [e]
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((runA c (grid0.coords t) _ _ _ _ _ _ _ _ _ _ _ _ _ _ (first_of t h) (iblk m c 0 t) (iblk m c 1 t) (iblk m c 2 t) (iblk m c 3 t)).2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact readA_4 c _ _ _ _ _ _ _ _ _ _ _ _ _ _ _ _ _ _ _ _ _
    isplitl [H5]
    · unfold owns; iexists _; isplitr
      swap; · iexact H5
      ipureintro; exact readA_5 c _ _ _ _ _ _ _ _ _ _ _ _ _ _ _ _ _ _ _ _ _
    unfold owns; iexists _; isplitr
    swap; · iexact H6
    ipureintro; exact readA_6 c _ _ _ _ _ _ _ _ _ _ _ _ _ _ _ _ _ _ _ _ _
  · simp only [before_4 m c t h]
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((runB c (grid0.coords t) _ _ _ _ _ _ _ _ _ _ _ _ _ _ (second_of t h) (iblk m c 0 t) (iblk m c 1 t) (iblk m c 2 t) (iblk m c 3 t) (rows m c t)).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact readB_5 c _ _ _ _ _ _ _ _ _ _ _ _ _ _ _ _ _ _ _ _ _ _
    unfold owns; iexists _; isplitr
    swap; · iexact H6
    ipureintro; exact readB_6 c _ _ _ _ _ _ _ _ _ _ _ _ _ _ _ _ _ _ _ _ _ _

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The arguments end as they were, and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel6Ideal.GateUp

end
-- ==== Proof.Twin.GateUpRun.lean ====
/-
  The frame of call 6 bit exact. The frame of the ideal kernel is proved for every reading of the floats, and the
  two kernels are the same text: equal as programs, so the frame of the one is that of the other.
-/
module

public import proofs.«01_k».proof.Proof.GateUpRun
public import proofs.«01_k».proof.Proof.Gen.Kernel6

@[expose] public section

set_option maxRecDepth 16384

noncomputable section

namespace Cert.Kernel6.GateUp

open Cert.Kernel6 Idealize.ShloMosaic Idealize.ShloMosaic.TcCoe

variable {F : FTy → Type} [FloatOps F]

theorem same_defs₀ : defs₀ (F := F) = Cert.Kernel6Ideal.defs₀ (F := F) := by
  refine congrArg Defs.onTc (funext fun l => funext fun a => ?_)
  match l, a with
  | 0, (t, s) => rfl

theorem same_defs : defs (F := F) = Cert.Kernel6Ideal.defs (F := F) := congrArg (Pipeline.defs (pcfgs (F := F))) same_defs₀

theorem frame (m : (ℓ : Loc nD τ sig) → Buf (Elt F) ℓ) (ρ : Dev nD → PrngReg) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  rw [same_defs]
  exact Cert.Kernel6Ideal.GateUp.frame m ρ

end Cert.Kernel6.GateUp

end
-- ==== Proof.GateUp.lean ====
/-
  The mixer's forward products, on extended reals: what each entry of the normed activations, of the two products and
  of the activation is, read off the blocks that are written out.
-/
module

public import proofs.«01_k».proof.Proof.NormScalar
public import proofs.«01_k».proof.Proof.GateUpRun
public import Idealize.ShloMosaic.Lib.Pointwise
public import Idealize.ShloMosaic.Lib.Tactic
public import Idealize.ShloMosaic.Lib.Pipeline.ValueKit

@[expose] public section

set_option maxRecDepth 16384

noncomputable section

namespace Cert.Kernel6Ideal.GateUp

open Cert.Kernel6Ideal Cert.Kernel6Ideal.Gen
open Idealize.ShloMosaic Idealize.ShloMosaic.TcCoe

/-! One entry of a tile. -/

theorem normed_at (h : Vec Ideal S512x1024 .f32) (g : Vec Ideal S1x1024 .f32) (a : Fin 512) (j : Fin 1024) :
    k0_pay1 (F := Ideal) h g (ix2 a j) = h (ix2 a j) * Ideal.rsqrt (NormScalar.v fun k : Fin 1024 => h (ix2 a k)) * g (ix2 (0 : Fin 1) j) := by
  pointwise [k0_pay1]
  rfl

variable (x : Vec Ideal S512x1024 .bf16) (p q : Vec Ideal S1024x1408 .bf16)

theorem gate_at (a : Fin 512) (b : Fin 1408) : k0_pay5 (F := Ideal) x p (ix3 (0 : Fin 1) a b) = ∑ r, x (ix2 a r) * p (ix2 r b) := by
  pointwise [k0_pay5, k0_pay3, k0_pay2]

theorem up_at (a : Fin 512) (b : Fin 1408) : k0_pay6 (F := Ideal) x q (ix3 (0 : Fin 1) a b) = ∑ r, x (ix2 a r) * q (ix2 r b) := by
  pointwise [k0_pay6, k0_pay4, k0_pay2]

theorem act_at (a : Fin 512) (b : Fin 1408) : k0_pay7 (F := Ideal) x p q (ix2 a b)
    = (∑ r, x (ix2 a r) * p (ix2 r b)) * Ideal.logistic (∑ r, x (ix2 a r) * p (ix2 r b)) * ∑ r, x (ix2 a r) * q (ix2 r b) := by
  pointwise [k0_pay7, k0_pay3, k0_pay4, k0_pay2]

theorem emb_0 (a : Fin 512) (b : Fin 1408) : plane0.emb (ix3 (0 : Fin 1) a b) = (ix3 (0 : Fin 2) a b : S2x512x1408.Idx) := by
  funext k; apply Fin.ext
  match k with
  | ⟨0, _⟩ => rfl
  | ⟨1, _⟩ => show 0 + 1 * a.val = a.val; omega
  | ⟨2, _⟩ => show 0 + 1 * b.val = b.val; omega

theorem emb_1 (a : Fin 512) (b : Fin 1408) : plane1.emb (ix3 (0 : Fin 1) a b) = (ix3 (1 : Fin 2) a b : S2x512x1408.Idx) := by
  funext k; apply Fin.ext
  match k with
  | ⟨0, _⟩ => rfl
  | ⟨1, _⟩ => show 0 + 1 * a.val = a.val; omega
  | ⟨2, _⟩ => show 0 + 1 * b.val = b.val; omega

theorem off_1 (a : Fin 512) (b : Fin 1408) : (ix3 (0 : Fin 2) a b : S2x512x1408.Idx) ∉ plane1.set := by
  intro h
  obtain ⟨z, hz⟩ := plane1.exists_idx_of_mem h
  have := congrArg Fin.val (congrFun hz 0)
  have h1 : 1 + 1 * (z 0).val = 0 := this
  omega

theorem planes_0 (a : Fin 512) (b : Fin 1408) : planes (F := Ideal) x p q (ix3 (0 : Fin 2) a b) = ∑ r, x (ix2 a r) * p (ix2 r b) := by
  unfold planes
  have h := View.canon_cons_of_not_mem (⟨plane1, k0_pay6 x q⟩ : View.Piece (Elt Ideal) S2x512x1408 .bf16) [⟨plane0, k0_pay5 x p⟩] (y := ix3 (0 : Fin 2) a b) (off_1 a b)
  have h' := View.canon_cons_emb (Val := Elt Ideal) (e := .bf16) plane0 (k0_pay5 x p) [] (ix3 (0 : Fin 1) a b)
  rw [emb_0] at h'
  exact (h.trans h').trans (gate_at x p a b)

theorem planes_1 (a : Fin 512) (b : Fin 1408) : planes (F := Ideal) x p q (ix3 (1 : Fin 2) a b) = ∑ r, x (ix2 a r) * q (ix2 r b) := by
  unfold planes
  have h' := View.canon_cons_emb (Val := Elt Ideal) (e := .bf16) plane1 (k0_pay6 x q) [⟨plane0, k0_pay5 x p⟩] (ix3 (0 : Fin 1) a b)
  rw [emb_1] at h'
  exact h'.trans (up_at x q a b)

/-! What a grid point reads. -/

theorem ix_0 : ∀ t : Fin cfg0.N, win0_0.index t (0 : Fin 2) = t.val / 2 ∧ win0_0.index t (1 : Fin 2) = 0 :=
  (by decide +kernel : ∀ t : Fin grid0.N, _)
theorem ix_1 : ∀ t : Fin cfg0.N, win0_1.index t (0 : Fin 2) = 0 ∧ win0_1.index t (1 : Fin 2) = 0 :=
  (by decide +kernel : ∀ t : Fin grid0.N, _)
theorem ix_2 : ∀ t : Fin cfg0.N, win0_2.index t (0 : Fin 2) = 0 ∧ win0_2.index t (1 : Fin 2) = t.val % 2 :=
  (by decide +kernel : ∀ t : Fin grid0.N, _)
theorem ix_3 : ∀ t : Fin cfg0.N, win0_3.index t (0 : Fin 2) = 0 ∧ win0_3.index t (1 : Fin 2) = 2 + t.val % 2 :=
  (by decide +kernel : ∀ t : Fin grid0.N, _)
theorem ix_4 : ∀ t : Fin cfg0.N, win0_4.index t (0 : Fin 2) = t.val / 2 ∧ win0_4.index t (1 : Fin 2) = 0 :=
  (by decide +kernel : ∀ t : Fin grid0.N, _)
theorem ix_5 : ∀ t : Fin cfg0.N, win0_5.index t (0 : Fin 3) = 0 ∧ win0_5.index t (1 : Fin 3) = t.val / 2 ∧ win0_5.index t (2 : Fin 3) = t.val % 2 :=
  (by decide +kernel : ∀ t : Fin grid0.N, _)
theorem ix_6 : ∀ t : Fin cfg0.N, win0_6.index t (0 : Fin 2) = t.val / 2 ∧ win0_6.index t (1 : Fin 2) = t.val % 2 :=
  (by decide +kernel : ∀ t : Fin grid0.N, _)

variable (m : (ℓ : Loc nD τ sig) → Buf (Elt Ideal) ℓ) (c : Dev nD)

def h : FVec Ideal S8192x1024 .f32 := m (c, main_arg0)
def g : FVec Ideal S1024 .f32 := m (c, main_arg1)
def w : FVec Ideal S1024x5632 .bf16 := m (c, main_arg2)

theorem blk_0 (t : Fin cfg0.N) (n : ℕ) (hn : t.val / 2 = n) (a : Fin 512) (k : Fin 1024) (ha : 512 * n + a.val < 8192) :
    (iblk m c 0 t : Vec Ideal S512x1024 .f32) (ix2 a k) = h m c (ix2 ⟨512 * n + a.val, ha⟩ k) := by
  subst hn
  unfold iblk
  rw [View.read_apply]
  show V m c main_arg0 _ = m (c, main_arg0) _
  rw [V_main_arg0 m c]
  show m (c, main_arg0) _ = m (c, main_arg0) _
  congr 1
  funext l
  apply Fin.ext
  match l with
  | ⟨0, _⟩ => show win0_0.index t (0 : Fin 2) * 512 + 1 * a.val = _; rw [(ix_0 t).1]; show _ = 512 * (t.val / 2) + a.val; omega
  | ⟨1, _⟩ => show win0_0.index t (1 : Fin 2) * 1024 + 1 * k.val = _; rw [(ix_0 t).2]; show _ = k.val; omega

/-- The gate's columns of the weight, -/
theorem blk_2 (t : Fin cfg0.N) (a : Fin 1024) (k : Fin 1408) (hk : 1408 * (t.val % 2) + k.val < 5632) :
    (iblk m c 2 t : Vec Ideal S1024x1408 .bf16) (ix2 a k) = w m c (ix2 a ⟨1408 * (t.val % 2) + k.val, hk⟩) := by
  unfold iblk
  rw [View.read_apply]
  show V m c main_arg2 _ = m (c, main_arg2) _
  rw [V_main_arg2 m c]
  show m (c, main_arg2) _ = m (c, main_arg2) _
  congr 1
  funext l
  apply Fin.ext
  match l with
  | ⟨0, _⟩ => show win0_2.index t (0 : Fin 2) * 1024 + 1 * a.val = _; rw [(ix_2 t).1]; show _ = a.val; omega
  | ⟨1, _⟩ => show win0_2.index t (1 : Fin 2) * 1408 + 1 * k.val = _; rw [(ix_2 t).2]; show _ = 1408 * (t.val % 2) + k.val; omega

/-- and the up product's. -/
theorem blk_3 (t : Fin cfg0.N) (a : Fin 1024) (k : Fin 1408) (hk : 2816 + (1408 * (t.val % 2) + k.val) < 5632) :
    (iblk m c 3 t : Vec Ideal S1024x1408 .bf16) (ix2 a k) = w m c (ix2 a ⟨2816 + (1408 * (t.val % 2) + k.val), hk⟩) := by
  unfold iblk
  rw [View.read_apply]
  show V m c main_arg2 _ = m (c, main_arg2) _
  rw [V_main_arg2 m c]
  show m (c, main_arg2) _ = m (c, main_arg2) _
  congr 1
  funext l
  apply Fin.ext
  match l with
  | ⟨0, _⟩ => show win0_3.index t (0 : Fin 2) * 1024 + 1 * a.val = _; rw [(ix_3 t).1]; show _ = a.val; omega
  | ⟨1, _⟩ => show win0_3.index t (1 : Fin 2) * 1408 + 1 * k.val = _; rw [(ix_3 t).2]; show _ = 2816 + (1408 * (t.val % 2) + k.val); omega

/-- The gain, as one row. -/
theorem V_gain : V m c main_v0 = shapeCast S1x1024 (g m c) shapeCasts_S1024_S1x1024 := by
  unfold V
  rw [StableHlo.after_cons, StableHlo.after_nil, StableHlo.reshape_result']
  rfl

theorem gain_row (k : Fin 1024) (x : FVec Ideal S1024 .f32) : shapeCast S1x1024 x shapeCasts_S1024_S1x1024 (ix2 (0 : Fin 1) k) = x (ix1 k) :=
  shapeCast_apply x shapeCasts_S1024_S1x1024 _ _ (by rewrite [Shape.rowMajor_val_one, Shape.rowMajor_val_two]; show k.val = 0 * 1024 + k.val; omega)

theorem blk_1 (t : Fin cfg0.N) (k : Fin 1024) : (iblk m c 1 t : Vec Ideal S1x1024 .f32) (ix2 (0 : Fin 1) k) = g m c (ix1 k) := by
  unfold iblk
  rw [View.read_apply]
  show V m c main_v0 _ = _
  rw [V_gain]
  refine Eq.trans (congrArg (shapeCast S1x1024 (g m c) shapeCasts_S1024_S1x1024) ?_) (gain_row k (g m c))
  funext l
  apply Fin.ext
  match l with
  | ⟨0, _⟩ => show win0_1.index t (0 : Fin 2) * 1 + 1 * 0 = _; rw [(ix_1 t).1]; rfl
  | ⟨1, _⟩ => show win0_1.index t (1 : Fin 2) * 1024 + 1 * k.val = _; rw [(ix_1 t).2]; show _ = k.val; omega

/-! The results, of one token and one channel. -/

def row (t : Fin 8192) (k : Fin 1024) : EReal := h m c (ix2 t k)

/-- The normed activations, with the gain. -/
def normed (t : Fin 8192) (k : Fin 1024) : EReal := row m c t k * Ideal.rsqrt (NormScalar.v (row m c t)) * g m c (ix1 k)

/-- Their products with the gate's weight and with the up weight. -/
def gate (t : Fin 8192) (f : Fin 2816) : EReal := ∑ r : Fin 1024, normed m c t r * w m c (ix2 r ⟨f.val, by omega⟩)
def up (t : Fin 8192) (f : Fin 2816) : EReal := ∑ r : Fin 1024, normed m c t r * w m c (ix2 r ⟨2816 + f.val, by omega⟩)

def plane (t : Fin 8192) (f : Fin 2816) : Fin 2 → EReal
  | 0 => gate m c t f
  | 1 => up m c t f

def swiglu (t : Fin 8192) (f : Fin 2816) : EReal := gate m c t f * Ideal.logistic (gate m c t f) * up m c t f

def hn : FVec Ideal S8192x1024 .bf16 := fun y => normed m c (y 0) (y 1)
def gu : FVec Ideal S2x8192x2816 .bf16 := fun y => plane m c (y 1) (y 2) (y 0)
def act : FVec Ideal S8192x2816 .bf16 := fun y => swiglu m c (y 0) (y 1)

theorem rows_tile (t : Fin cfg0.N) (a : Fin 512) (j : Fin 1024) (ha : 512 * (t.val / 2) + a.val < 8192) :
    rows (F := Ideal) m c t (ix2 a j) = normed m c ⟨512 * (t.val / 2) + a.val, ha⟩ j := by
  have hb : (base t).val / 2 = t.val / 2 := by show 2 * (t.val / 2) / 2 = t.val / 2; omega
  unfold rows
  rw [normed_at]
  have e1 : (fun k : Fin 1024 => (iblk m c 0 (base t) : Vec Ideal S512x1024 .f32) (ix2 a k)) = row m c ⟨512 * (t.val / 2) + a.val, ha⟩ := funext fun k => blk_0 m c (base t) _ hb a k ha
  rw [e1]
  exact congrArg₂ (· * ·) (congrArg (· * _) (blk_0 m c (base t) _ hb a j ha)) (blk_1 m c (base t) j)

theorem gate_tile (t : Fin cfg0.N) (v : Vec Ideal S1024x1408 .bf16) (hv : v = iblk m c 2 t) (a : Fin 512) (b : Fin 1408) (ha : 512 * (t.val / 2) + a.val < 8192) (hb : 1408 * (t.val % 2) + b.val < 2816) :
    ∑ r, rows (F := Ideal) m c t (ix2 a r) * v (ix2 r b) = gate m c ⟨512 * (t.val / 2) + a.val, ha⟩ ⟨1408 * (t.val % 2) + b.val, hb⟩ :=
  Finset.sum_congr rfl fun r _ => congrArg₂ (· * ·) (rows_tile m c t a r ha) ((congrFun hv _).trans (blk_2 m c t r b (by omega)))

theorem up_tile (t : Fin cfg0.N) (v : Vec Ideal S1024x1408 .bf16) (hv : v = iblk m c 3 t) (a : Fin 512) (b : Fin 1408) (ha : 512 * (t.val / 2) + a.val < 8192) (hb : 1408 * (t.val % 2) + b.val < 2816) :
    ∑ r, rows (F := Ideal) m c t (ix2 a r) * v (ix2 r b) = up m c ⟨512 * (t.val / 2) + a.val, ha⟩ ⟨1408 * (t.val % 2) + b.val, hb⟩ :=
  Finset.sum_congr rfl fun r _ => congrArg₂ (· * ·) (rows_tile m c t a r ha) ((congrFun hv _).trans (blk_3 m c t r b (by omega)))

theorem plane_tile (t : Fin cfg0.N) (a : Fin 512) (b : Fin 1408) (ha : 512 * (t.val / 2) + a.val < 8192) (hb : 1408 * (t.val % 2) + b.val < 2816) :
    ∀ s : Fin 2, planes (F := Ideal) (rows m c t) (iblk m c 2 t) (iblk m c 3 t) (ix3 s a b) = plane m c ⟨512 * (t.val / 2) + a.val, ha⟩ ⟨1408 * (t.val % 2) + b.val, hb⟩ s
  | 0 => (planes_0 _ _ _ a b).trans (gate_tile m c t _ rfl a b ha hb)
  | 1 => (planes_1 _ _ _ a b).trans (up_tile m c t _ rfl a b ha hb)

theorem act_tile (t : Fin cfg0.N) (a : Fin 512) (b : Fin 1408) (ha : 512 * (t.val / 2) + a.val < 8192) (hb : 1408 * (t.val % 2) + b.val < 2816) :
    k0_pay7 (F := Ideal) (rows m c t) (iblk m c 2 t) (iblk m c 3 t) (ix2 a b) = swiglu m c ⟨512 * (t.val / 2) + a.val, ha⟩ ⟨1408 * (t.val % 2) + b.val, hb⟩ := by
  have e1 := gate_tile m c t _ rfl a b ha hb
  have e2 := up_tile m c t _ rfl a b ha hb
  refine (act_at _ _ _ a b).trans ?_
  exact congrArg₂ (· * ·) (congrArg₂ (· * ·) e1 (congrArg Ideal.logistic e1)) e2

/-! The arrays. -/

theorem covers4 : (cfg0.win 4).Covers := by decide +kernel

theorem arr4 : (dats m 0 c).arrAt 4 cfg0.N = hn m c := by
  refine (dats m 0 c).arrAt_eq_of_covers 4 (hn m c) covers4 fun t hf p => ?_
  have ht : t.val < 32 := lt_of_lt_of_eq t.isLt N_0
  have h0 : (p 0).val < 512 := (p 0).isLt
  have h1 : (p 1).val < 1024 := (p 1).isLt
  have e : ((cfg0.win 4).blk t).view.emb p = ix2 ⟨512 * (t.val / 2) + (p 0).val, by omega⟩ (p 1) := by
    refine funext fun a => Fin.ext ?_
    refine ((cfg0.win 4).rect_emb_val t p a).trans ?_
    match a with
    | ⟨0, _⟩ => show win0_4.index t (0 : Fin 2) * 512 + (p 0).val = 512 * (t.val / 2) + (p 0).val; rw [(ix_4 t).1]; omega
    | ⟨1, _⟩ => show win0_4.index t (1 : Fin 2) * 1024 + (p 1).val = (p 1).val; rw [(ix_4 t).2]; omega
  blk_simp
  rw [after_4]
  refine Eq.trans ?_ (congrArg (hn m c) e).symm
  have hz : (p : S512x1024.Idx) = ix2 (p 0) (p 1) := by funext a; fin_cases a <;> rfl
  refine (congrArg (rows (F := Ideal) m c t) hz).trans ?_
  exact rows_tile m c t (p 0) (p 1) (by omega)

theorem covers5 : (cfg0.win 5).Covers := by decide +kernel

theorem arr5 : (dats m 0 c).arrAt 5 cfg0.N = gu m c := by
  refine (dats m 0 c).arrAt_eq_of_covers 5 (gu m c) covers5 fun t hf p => ?_
  have ht : t.val < 32 := lt_of_lt_of_eq t.isLt N_0
  have h0 : (p 0).val < 2 := (p 0).isLt
  have h1 : (p 1).val < 512 := (p 1).isLt
  have h2 : (p 2).val < 1408 := (p 2).isLt
  have e : ((cfg0.win 5).blk t).view.emb p = ix3 (p 0) ⟨512 * (t.val / 2) + (p 1).val, by omega⟩ ⟨1408 * (t.val % 2) + (p 2).val, by omega⟩ := by
    refine funext fun a => Fin.ext ?_
    refine ((cfg0.win 5).rect_emb_val t p a).trans ?_
    match a with
    | ⟨0, _⟩ => show win0_5.index t (0 : Fin 3) * 2 + (p 0).val = (p 0).val; rw [(ix_5 t).1]; omega
    | ⟨1, _⟩ => show win0_5.index t (1 : Fin 3) * 512 + (p 1).val = 512 * (t.val / 2) + (p 1).val; rw [(ix_5 t).2.1]; omega
    | ⟨2, _⟩ => show win0_5.index t (2 : Fin 3) * 1408 + (p 2).val = 1408 * (t.val % 2) + (p 2).val; rw [(ix_5 t).2.2]; omega
  blk_simp
  rw [after_5]
  refine Eq.trans ?_ (congrArg (gu m c) e).symm
  have hz : (p : S2x512x1408.Idx) = ix3 (p 0) (p 1) (p 2) := by funext a; fin_cases a <;> rfl
  refine (congrArg (planes (F := Ideal) (rows m c t) (iblk m c 2 t) (iblk m c 3 t)) hz).trans ?_
  exact plane_tile m c t (p 1) (p 2) (by omega) (by omega) (p 0)

theorem covers6 : (cfg0.win 6).Covers := by decide +kernel

theorem arr6 : (dats m 0 c).arrAt 6 cfg0.N = act m c := by
  refine (dats m 0 c).arrAt_eq_of_covers 6 (act m c) covers6 fun t hf p => ?_
  have ht : t.val < 32 := lt_of_lt_of_eq t.isLt N_0
  have h0 : (p 0).val < 512 := (p 0).isLt
  have h1 : (p 1).val < 1408 := (p 1).isLt
  have e : ((cfg0.win 6).blk t).view.emb p = ix2 ⟨512 * (t.val / 2) + (p 0).val, by omega⟩ ⟨1408 * (t.val % 2) + (p 1).val, by omega⟩ := by
    refine funext fun a => Fin.ext ?_
    refine ((cfg0.win 6).rect_emb_val t p a).trans ?_
    match a with
    | ⟨0, _⟩ => show win0_6.index t (0 : Fin 2) * 512 + (p 0).val = 512 * (t.val / 2) + (p 0).val; rw [(ix_6 t).1]; omega
    | ⟨1, _⟩ => show win0_6.index t (1 : Fin 2) * 1408 + (p 1).val = 1408 * (t.val % 2) + (p 1).val; rw [(ix_6 t).2]; omega
  blk_simp
  rw [after_6]
  refine Eq.trans ?_ (congrArg (act m c) e).symm
  have hz : (p : S512x1408.Idx) = ix2 (p 0) (p 1) := by funext a; fin_cases a <;> rfl
  refine (congrArg (k0_pay7 (F := Ideal) (rows m c t) (iblk m c 2 t) (iblk m c 3 t)) hz).trans ?_
  exact act_tile m c t (p 0) (p 1) (by omega) (by omega)

/-- The run, with each result named. -/
theorem run_blocks (ρ : Dev nD → PrngReg) : θ_run defs (onTc (τ := τ) (main (F := Ideal))) ⟨m, fun _ => 0, ρ⟩ fun r => ∀ c : Dev nD,
      r.2.mem ((c.tc : Thread nD τ).loc main_v1_0) = hn m c
      ∧ r.2.mem ((c.tc : Thread nD τ).loc main_v1_1) = gu m c
      ∧ r.2.mem ((c.tc : Thread nD τ).loc main_v1_2) = act m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h.1 c).1 4 |>.trans (arr4 m c), (h.1 c).1 5 |>.trans (arr5 m c), (h.1 c).1 6 |>.trans (arr6 m c), h.2 c⟩)
    (θ_run_and (run_main m ρ) (unchanged m ρ))

end Cert.Kernel6Ideal.GateUp

end
-- ==== Proof.GateUpSame.lean ====
/-
  The norm before the mixer, its two products and the SwiGLU activation, compared with the reference's.
-/
module

public import proofs.«01_k».proof.Proof.GateUp
public import proofs.«01_k».proof.Proof.Gen.Reference6Ideal.Read
public import proofs.«01_k».proof.Defs

@[expose] public section

noncomputable section

namespace Cert.Kernel6Ideal.GateUp

open Cert.Kernel6Ideal Idealize.ShloMosaic Idealize.ShloMosaic.TcCoe Cert.Reference6Ideal.Read

variable (m : (ℓ : Loc nD τ sig) → Buf (Elt Ideal) ℓ) (c : Dev nD)

theorem zero_bits : Ideal.ofBits .f32 0x00000000#32 = 0 := Ideal.ofBits_zero_f32

/-! ## The reference at an index -/

theorem v_at (t : Fin 8192) : val_main_v6 (F := Ideal) (h m c) (ix2 t (0 : Fin 1)) = NormScalar.v (row m c t) := by
  have e : val_main_v1 (F := Ideal) (h m c) (ix1 t) = ∑ k, row m c t k * row m c t k := by
    rw [val_main_v1_apply]
    refine (congrArg₂ (· + ·) zero_bits (Finset.sum_congr rfl fun k _ => ?_)).trans (zero_add _)
    rw [val_main_v0_apply]
    have ek : idx_main_v1 (ix1 t) k = ix2 t k := by
      funext l; match l with
      | ⟨0, _⟩ => rfl
      | ⟨1, _⟩ => rfl
    rw [ek]
    rfl
  have e4 : val_main_v2 (F := Ideal) (h m c) (ix2 t (0 : Fin 1)) = ∑ k, row m c t k * row m c t k := by
    rw [val_main_v2_apply]
    refine Eq.trans (congrArg (val_main_v1 (F := Ideal) (h m c)) ?_) e
    funext l; match l with
    | ⟨0, _⟩ => rfl
  rw [val_main_v6_apply, val_main_v4_apply, val_main_v3_apply, val_main_v5_apply, e4]
  rfl

theorem root_at' (t : Fin 8192) : val_main_v7 (F := Ideal) (h m c) (ix2 t (0 : Fin 1)) = Ideal.rsqrt (NormScalar.v (row m c t)) := by
  rw [val_main_v7_apply, v_at]
  rfl

theorem normed_at' (t : Fin 8192) (j : Fin 1024) : val_main_v12 (F := Ideal) (h m c) (g m c) (ix2 t j) = normed m c t j := by
  rw [val_main_v12_apply, val_main_v9_apply, val_main_v8_apply, val_main_v11_apply, val_main_v10_apply]
  refine congrArg₂ (· * ·) (congrArg₂ (· * ·) rfl (Eq.trans (congrArg (val_main_v7 (F := Ideal) (h m c)) ?_) (root_at' m c t))) (congrArg (g m c) ?_)
  · funext l; match l with
    | ⟨0, _⟩ => rfl
    | ⟨1, _⟩ => rfl
  · funext l; match l with
    | ⟨0, _⟩ => rfl

theorem gate_at' (t : Fin 8192) (f : Fin 2816) : val_main_v15 (F := Ideal) (h m c) (g m c) (w m c) (ix2 t f) = gate m c t f := by
  rw [val_main_v15_apply]
  refine Finset.sum_congr rfl fun r _ => ?_
  rw [val_main_v14_apply, val_main_v13_apply]
  refine congrArg₂ (· * ·) (Eq.trans (congrArg (val_main_v12 (F := Ideal) (h m c) (g m c)) ?_) (normed_at' m c t r)) (congrArg (w m c) ?_)
  · funext l; match l with
    | ⟨0, _⟩ => rfl
    | ⟨1, _⟩ => rfl
  · funext l; match l with
    | ⟨0, _⟩ => rfl
    | ⟨1, _⟩ => rfl

theorem up_at' (t : Fin 8192) (f : Fin 2816) : val_main_v17 (F := Ideal) (h m c) (g m c) (w m c) (ix2 t f) = up m c t f := by
  rw [val_main_v17_apply]
  refine Finset.sum_congr rfl fun r _ => ?_
  rw [val_main_v16_apply, val_main_v13_apply]
  refine congrArg₂ (· * ·) (Eq.trans (congrArg (val_main_v12 (F := Ideal) (h m c) (g m c)) ?_) (normed_at' m c t r)) (congrArg (w m c) ?_)
  · funext l; match l with
    | ⟨0, _⟩ => rfl
    | ⟨1, _⟩ => rfl
  · funext l; match l with
    | ⟨0, _⟩ => rfl
    | ⟨1, _⟩ => rfl

theorem one_bits : Ideal.ofBits .f32 0x3F800000#32 = 1 := Ideal.ofBits_one_f32

theorem silu_at (t : Fin 8192) (f : Fin 2816) : val_main_v23 (F := Ideal) (h m c) (g m c) (w m c) (ix2 t f) = gate m c t f * Ideal.logistic (gate m c t f) := by
  rw [val_main_v23_apply, val_main_call0_v5_apply, val_main_call0_v4_apply, val_main_call0_cst_0_apply, val_main_call0_v3_apply, val_main_call0_v2_apply, val_main_call0_cst_apply,
    val_main_call0_v1_apply, val_main_call0_v0_apply, gate_at']
  show _ * Ideal.div (Ideal.ofBits .f32 0x3F800000#32) (Ideal.ofBits .f32 0x3F800000#32 + Ideal.exp (-_)) = _
  rw [one_bits]
  rfl

theorem act_at' (t : Fin 8192) (f : Fin 2816) : val_main_v24 (F := Ideal) (h m c) (g m c) (w m c) (ix2 t f) = swiglu m c t f := by
  rw [val_main_v24_apply, silu_at, up_at']
  rfl

theorem stacked (t : Fin 8192) (f : Fin 2816) : ∀ p : Fin 2, val_main_v21 (F := Ideal) (h m c) (g m c) (w m c) (ix3 p t f) = plane m c t f p
  | ⟨0, h'⟩ => by
    have e := concatenate_pair_apply_left (t := S2x8192x2816) (s₁ := Cert.Reference6Ideal.S1x8192x2816) (s₂ := Cert.Reference6Ideal.S1x8192x2816) (0 : Fin 3)
      (val_main_v19 (F := Ideal) (h m c) (g m c) (w m c)) (val_main_v20 (F := Ideal) (h m c) (g m c) (w m c)) Cert.Reference6Ideal.Gen.concatenates_S1x8192x2816_S1x8192x2816_S2x8192x2816_d0
      (ix3 ⟨0, h'⟩ t f) rfl (ix3 (0 : Fin 1) t f) (by intro b; fin_cases b <;> rfl)
    refine (e.trans (val_main_v19_apply _ _ _ _)).trans (Eq.trans (congrArg (val_main_v15 (F := Ideal) (h m c) (g m c) (w m c)) ?_) (gate_at' m c t f))
    funext k; match k with
    | ⟨0, _⟩ => rfl
    | ⟨1, _⟩ => rfl
  | ⟨1, h'⟩ => by
    have e := concatenate_pair_apply_right (t := S2x8192x2816) (s₁ := Cert.Reference6Ideal.S1x8192x2816) (s₂ := Cert.Reference6Ideal.S1x8192x2816) (0 : Fin 3)
      (val_main_v19 (F := Ideal) (h m c) (g m c) (w m c)) (val_main_v20 (F := Ideal) (h m c) (g m c) (w m c)) Cert.Reference6Ideal.Gen.concatenates_S1x8192x2816_S1x8192x2816_S2x8192x2816_d0
      (ix3 ⟨1, h'⟩ t f) rfl rfl (ix3 (0 : Fin 1) t f) (by intro b hb; fin_cases b; exacts [absurd rfl hb, rfl, rfl]) rfl
    refine (e.trans (val_main_v20_apply _ _ _ _)).trans (Eq.trans (congrArg (val_main_v17 (F := Ideal) (h m c) (g m c) (w m c)) ?_) (up_at' m c t f))
    funext k; match k with
    | ⟨0, _⟩ => rfl
    | ⟨1, _⟩ => rfl

theorem same_hn (x0 : FVec Ideal S8192x1024 .f32) (x1 : FVec Ideal S1024 .f32) (e0 : x0 = h m c) (e1 : x1 = g m c) : val_main_v18 (F := Ideal) x0 x1 = hn m c := by
  subst e0 e1
  funext y
  rw [val_main_v18_apply]
  have e : y = ix2 (y 0) (y 1) := by
    funext k; match k with
    | ⟨0, _⟩ => rfl
    | ⟨1, _⟩ => rfl
  exact (congrArg (val_main_v12 (F := Ideal) (h m c) (g m c)) e).trans (normed_at' m c (y 0) (y 1))

theorem same_gu (x0 : FVec Ideal S8192x1024 .f32) (x1 : FVec Ideal S1024 .f32) (x2 : FVec Ideal S1024x5632 .bf16) (e0 : x0 = h m c) (e1 : x1 = g m c) (e2 : x2 = w m c) : val_main_v22 (F := Ideal) x0 x1 x2 = gu m c := by
  subst e0 e1 e2
  funext y
  rw [val_main_v22_apply]
  have e : y = ix3 (y 0) (y 1) (y 2) := by
    funext k; match k with
    | ⟨0, _⟩ => rfl
    | ⟨1, _⟩ => rfl
    | ⟨2, _⟩ => rfl
  exact (congrArg (val_main_v21 (F := Ideal) (h m c) (g m c) (w m c)) e).trans (stacked m c (y 1) (y 2) (y 0))

theorem same_act (x0 : FVec Ideal S8192x1024 .f32) (x1 : FVec Ideal S1024 .f32) (x2 : FVec Ideal S1024x5632 .bf16) (e0 : x0 = h m c) (e1 : x1 = g m c) (e2 : x2 = w m c) : val_main_v25 (F := Ideal) x0 x1 x2 = act m c := by
  subst e0 e1 e2
  funext y
  rw [val_main_v25_apply]
  have e : y = ix2 (y 0) (y 1) := by
    funext k; match k with
    | ⟨0, _⟩ => rfl
    | ⟨1, _⟩ => rfl
  exact (congrArg (val_main_v24 (F := Ideal) (h m c) (g m c) (w m c)) e).trans (act_at' m c (y 0) (y 1))

theorem frame_reference (m : (ℓ : Loc Cert.Reference6Ideal.nD Cert.Reference6Ideal.τ Cert.Reference6Ideal.sig) → Buf (Elt Ideal) ℓ) (g : Dev Cert.Reference6Ideal.nD → PrngReg) :
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0) :=
  (θ_run _ _ _).mono (fun r h => ⟨fun c => (h c).2.2.2, sem_eq_zero_of_no_sems rfl r.2⟩) (Cert.Reference6Ideal.Value.run m g)

theorem algebraic : Cert.algebraic_Kernel6Ideal_Reference6Ideal (hKernel6Ideal := Cert.Kernel6Ideal.Gen.facts) (hReference6Ideal := Cert.Reference6Ideal.Gen.facts) := by
  intro m g m' g' _ hagree
  refine ⟨fun c => hn m c, fun c => gu m c, fun c => act m c, ?_, ?_⟩
  · exact run_blocks m g
  · refine (θ_run _ _ _).mono (fun r h c => ?_) (Cert.Reference6Ideal.Value.run m' g')
    obtain ⟨a0, a1, a2⟩ := hagree c
    exact ⟨((h c).1.trans (val_main_v18_eq (m' (c, Cert.Reference6Ideal.main_arg0)) (m' (c, Cert.Reference6Ideal.main_arg1)))).trans (same_hn m c (m' (c, Cert.Reference6Ideal.main_arg0)) (m' (c, Cert.Reference6Ideal.main_arg1)) a0 a1),
      ((h c).2.1.trans (val_main_v22_eq (m' (c, Cert.Reference6Ideal.main_arg0)) (m' (c, Cert.Reference6Ideal.main_arg1)) (m' (c, Cert.Reference6Ideal.main_arg2)))).trans (same_gu m c (m' (c, Cert.Reference6Ideal.main_arg0)) (m' (c, Cert.Reference6Ideal.main_arg1)) (m' (c, Cert.Reference6Ideal.main_arg2)) a0 a1 a2),
      ((h c).2.2.1.trans (val_main_v25_eq (m' (c, Cert.Reference6Ideal.main_arg0)) (m' (c, Cert.Reference6Ideal.main_arg1)) (m' (c, Cert.Reference6Ideal.main_arg2)))).trans (same_act m c (m' (c, Cert.Reference6Ideal.main_arg0)) (m' (c, Cert.Reference6Ideal.main_arg1)) (m' (c, Cert.Reference6Ideal.main_arg2)) a0 a1 a2), (h c).2.2.2⟩

end Cert.Kernel6Ideal.GateUp

end
-- ==== Proof.Down.lean ====
/-
  The down projection of the SwiGLU mixer and the residual added to it. One tile is computed at each grid point.
-/
module

public import proofs.«01_k».proof.Proof.Gen.Kernel7Ideal.Value
public import Idealize.ShloMosaic.Lib.Pointwise
public import Idealize.ShloMosaic.Lib.Tactic
public import Idealize.ShloMosaic.Lib.Pipeline.ValueKit

@[expose] public section

set_option maxRecDepth 16384

noncomputable section

namespace Cert.Kernel7Ideal.Mul

open Cert.Kernel7Ideal Cert.Kernel7Ideal.Gen Cert.Kernel7Ideal.Value
open Idealize.ShloMosaic Idealize.ShloMosaic.TcCoe

theorem hz : (![0, 0] : Fin 2 → Nat) = fun _ => 0 := funext fun a => by fin_cases a <;> rfl

/-! One tile. -/

variable (x : Vec Ideal S1024x2816 .bf16) (w : Vec Ideal S2816x512 .bf16) (h : Vec Ideal S1024x512 .f32)

theorem pay_at (a : Fin 1024) (b : Fin 512) : k0_pay1 (F := Ideal) x w h (ix2 a b) = (∑ r, x (ix2 a r) * w (ix2 r b)) + h (ix2 a b) := by
  pointwise [k0_pay1]

theorem out_at (a : Fin 1024) (b : Fin 512) : out0_3 (F := Ideal) x w h (ix2 a b) = (∑ r, x (ix2 a r) * w (ix2 r b)) + h (ix2 a b) := by
  unfold out0_3
  rw [View.canon_unit_zero hz, View.ld_unit_zero (S := S1024x2816) hz, View.ld_unit_zero (S := S2816x512) hz, View.ld_unit_zero (S := S1024x512) hz]
  exact pay_at x w h a b

/-! What a grid point reads. -/

theorem ix_0 : ∀ t : Fin cfg0.N, win0_0.index t (0 : Fin 2) = t.val / 2 ∧ win0_0.index t (1 : Fin 2) = 0 :=
  (by decide +kernel : ∀ t : Fin grid0.N, _)
theorem ix_1 : ∀ t : Fin cfg0.N, win0_1.index t (0 : Fin 2) = 0 ∧ win0_1.index t (1 : Fin 2) = t.val % 2 :=
  (by decide +kernel : ∀ t : Fin grid0.N, _)
theorem ix_2 : ∀ t : Fin cfg0.N, win0_2.index t (0 : Fin 2) = t.val / 2 ∧ win0_2.index t (1 : Fin 2) = t.val % 2 :=
  (by decide +kernel : ∀ t : Fin grid0.N, _)
theorem ix_3 : ∀ t : Fin cfg0.N, win0_3.index t (0 : Fin 2) = t.val / 2 ∧ win0_3.index t (1 : Fin 2) = t.val % 2 :=
  (by decide +kernel : ∀ t : Fin grid0.N, _)

variable (m : (ℓ : Loc nD τ sig) → Buf (Elt Ideal) ℓ) (c : Dev nD)

def act : FVec Ideal S8192x2816 .bf16 := m (c, main_arg0)
def down : FVec Ideal S2816x1024 .bf16 := m (c, main_arg1)
def residual : FVec Ideal S8192x1024 .f32 := m (c, main_arg2)

theorem blk_0 (t : Fin cfg0.N) (a : Fin 1024) (r : Fin 2816) (h : 1024 * (t.val / 2) + a.val < 8192) :
    (iblk m c 0 t : Vec Ideal S1024x2816 .bf16) (ix2 a r) = act m c (ix2 ⟨1024 * (t.val / 2) + a.val, h⟩ r) := by
  unfold iblk
  rw [View.read_apply]
  show V m c main_arg0 _ = m (c, main_arg0) _
  unfold V
  congr 1
  funext k
  apply Fin.ext
  match k with
  | ⟨0, _⟩ => show win0_0.index t (0 : Fin 2) * 1024 + 1 * a.val = _; rw [(ix_0 t).1]; show _ = 1024 * (t.val / 2) + a.val; omega
  | ⟨1, _⟩ => show win0_0.index t (1 : Fin 2) * 2816 + 1 * r.val = _; rw [(ix_0 t).2]; show _ = r.val; omega

theorem blk_1 (t : Fin cfg0.N) (r : Fin 2816) (b : Fin 512) (h' : 512 * (t.val % 2) + b.val < 1024) :
    (iblk m c 1 t : Vec Ideal S2816x512 .bf16) (ix2 r b) = down m c (ix2 r ⟨512 * (t.val % 2) + b.val, h'⟩) := by
  unfold iblk
  rw [View.read_apply]
  show V m c main_arg1 _ = m (c, main_arg1) _
  unfold V
  congr 1
  funext k
  apply Fin.ext
  match k with
  | ⟨0, _⟩ => show win0_1.index t (0 : Fin 2) * 2816 + 1 * r.val = _; rw [(ix_1 t).1]; show _ = r.val; omega
  | ⟨1, _⟩ => show win0_1.index t (1 : Fin 2) * 512 + 1 * b.val = _; rw [(ix_1 t).2]; show _ = 512 * (t.val % 2) + b.val; omega

theorem blk_2 (t : Fin cfg0.N) (a : Fin 1024) (b : Fin 512) (h : 1024 * (t.val / 2) + a.val < 8192) (h' : 512 * (t.val % 2) + b.val < 1024) :
    (iblk m c 2 t : Vec Ideal S1024x512 .f32) (ix2 a b) = residual m c (ix2 ⟨1024 * (t.val / 2) + a.val, h⟩ ⟨512 * (t.val % 2) + b.val, h'⟩) := by
  unfold iblk
  rw [View.read_apply]
  show V m c main_arg2 _ = m (c, main_arg2) _
  unfold V
  congr 1
  funext k
  apply Fin.ext
  match k with
  | ⟨0, _⟩ => show win0_2.index t (0 : Fin 2) * 1024 + 1 * a.val = _; rw [(ix_2 t).1]; show _ = 1024 * (t.val / 2) + a.val; omega
  | ⟨1, _⟩ => show win0_2.index t (1 : Fin 2) * 512 + 1 * b.val = _; rw [(ix_2 t).2]; show _ = 512 * (t.val % 2) + b.val; omega

/-- The product and the residual, at every index. -/
def result : FVec Ideal S8192x1024 .f32 := fun y => (∑ r : Fin 2816, act m c (ix2 (y 0) r) * down m c (ix2 r (y 1))) + residual m c (ix2 (y 0) (y 1))

theorem tile_eq (t : Fin cfg0.N) (a : Fin 1024) (b : Fin 512) (h : 1024 * (t.val / 2) + a.val < 8192) (h' : 512 * (t.val % 2) + b.val < 1024) :
    out0_3 (F := Ideal) (iblk m c 0 t) (iblk m c 1 t) (iblk m c 2 t) (ix2 a b) = result m c (ix2 ⟨1024 * (t.val / 2) + a.val, h⟩ ⟨512 * (t.val % 2) + b.val, h'⟩) := by
  refine (out_at _ _ _ a b).trans ?_
  exact congrArg₂ (· + ·) (Finset.sum_congr rfl fun r _ => congrArg₂ (· * ·) (blk_0 m c t a r h) (blk_1 m c t r b h')) (blk_2 m c t a b h h')

theorem covers : (cfg0.win 3).Covers := by decide +kernel

theorem arr : (dats m 0 c).arrAt 3 cfg0.N = result m c := by
  refine (dats m 0 c).arrAt_eq_of_covers 3 (result m c) covers fun t hf z => ?_
  have ht : t.val < 16 := lt_of_lt_of_eq t.isLt N_0
  have h0 : (z 0).val < 1024 := (z 0).isLt
  have h1 : (z 1).val < 512 := (z 1).isLt
  have e : ((cfg0.win 3).blk t).view.emb z = ix2 ⟨1024 * (t.val / 2) + (z 0).val, by omega⟩ ⟨512 * (t.val % 2) + (z 1).val, by omega⟩ := by
    refine funext fun a => Fin.ext ?_
    refine ((cfg0.win 3).rect_emb_val t z a).trans ?_
    match a with
    | ⟨0, _⟩ => show win0_3.index t (0 : Fin 2) * 1024 + (z 0).val = 1024 * (t.val / 2) + (z 0).val; rw [(ix_3 t).1]; omega
    | ⟨1, _⟩ => show win0_3.index t (1 : Fin 2) * 512 + (z 1).val = 512 * (t.val % 2) + (z 1).val; rw [(ix_3 t).2]; omega
  blk_simp
  rw [after0_3]
  refine Eq.trans ?_ (congrArg (result m c) e).symm
  have hz : (z : S1024x512.Idx) = ix2 (z 0) (z 1) := by funext a; fin_cases a <;> rfl
  refine (congrArg (out0_3 (F := Ideal) (iblk m c 0 t) (iblk m c 1 t) (iblk m c 2 t)) hz).trans ?_
  exact tile_eq m c t (z 0) (z 1) (by omega) (by omega)

end Cert.Kernel7Ideal.Mul

end
-- ==== Proof.DownSame.lean ====
/-
  The down projection of the SwiGLU mixer and the residual added to it; compared with the reference's.
-/
module

public import proofs.«01_k».proof.Proof.Down
public import proofs.«01_k».proof.Proof.Gen.Reference7Ideal.Read
public import proofs.«01_k».proof.Defs

@[expose] public section

noncomputable section

namespace Cert.Kernel7Ideal.Mul

open Cert.Kernel7Ideal Idealize.ShloMosaic Idealize.ShloMosaic.TcCoe Cert.Reference7Ideal.Read

theorem same (m : (ℓ : Loc nD τ sig) → Buf (Elt Ideal) ℓ) (c : Dev nD) (x0 : FVec Ideal S8192x2816 .bf16) (x1 : FVec Ideal S2816x1024 .bf16) (x2 : FVec Ideal S8192x1024 .f32)
    (h0 : x0 = act m c) (h1 : x1 = down m c) (h2 : x2 = residual m c) : val_main_v3 (F := Ideal) x0 x1 x2 = result m c := by
  subst h0 h1 h2
  funext y
  rw [val_main_v3_apply, val_main_v2_apply]
  refine (add_comm _ _).trans (congrArg₂ (· + ·) (Finset.sum_congr rfl fun r _ => ?_) (congrArg (residual m c) ?_))
  · rw [val_main_v0_apply, val_main_v1_apply]
    refine congrArg₂ (· * ·) (congrArg (act m c) ?_) (congrArg (down m c) ?_)
    · funext k; match k with
      | ⟨0, _⟩ => rfl
      | ⟨1, _⟩ => rfl
    · funext k; match k with
      | ⟨0, _⟩ => rfl
      | ⟨1, _⟩ => rfl
  · funext k; match k with
    | ⟨0, _⟩ => rfl
    | ⟨1, _⟩ => rfl

theorem frame_reference (m : (ℓ : Loc Cert.Reference7Ideal.nD Cert.Reference7Ideal.τ Cert.Reference7Ideal.sig) → Buf (Elt Ideal) ℓ) (g : Dev Cert.Reference7Ideal.nD → PrngReg) :
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0) :=
  (θ_run _ _ _).mono (fun r h => ⟨fun c => (h c).2, sem_eq_zero_of_no_sems rfl r.2⟩) (Cert.Reference7Ideal.Value.run m g)

theorem algebraic : Cert.algebraic_Kernel7Ideal_Reference7Ideal (hKernel7Ideal := Cert.Kernel7Ideal.Gen.facts) (hReference7Ideal := Cert.Reference7Ideal.Gen.facts) := by
  intro m g m' g' _ hagree
  refine ⟨fun c => result m c, ?_, ?_⟩
  · refine (θ_run _ _ _).mono (fun r h c => ?_) (Cert.Kernel7Ideal.Value.run_blocks m g)
    exact ⟨(h c).1.trans (arr m c), (h c).2⟩
  · refine (θ_run _ _ _).mono (fun r h c => ?_) (Cert.Reference7Ideal.Value.run m' g')
    exact ⟨((h c).1.trans (val_main_v3_eq (m' (c, Cert.Reference7Ideal.main_arg0)) (m' (c, Cert.Reference7Ideal.main_arg1)) (m' (c, Cert.Reference7Ideal.main_arg2)))).trans
      (same m c (m' (c, Cert.Reference7Ideal.main_arg0)) (m' (c, Cert.Reference7Ideal.main_arg1)) (m' (c, Cert.Reference7Ideal.main_arg2)) (hagree c).1 (hagree c).2.1 (hagree c).2.2), (h c).2⟩

end Cert.Kernel7Ideal.Mul

end
-- ==== Proof.InDw.lean ====
/-
  The gradient of the input projection's weight: the normed activations, transposed, times the gradient of the
  projection. One tile of the result is a sum over eight blocks of 1024 tokens, kept in a scratch buffer.
-/
module

public import proofs.«01_k».proof.Proof.Tiles
public import proofs.«01_k».proof.Proof.Gen.Kernel8Ideal.Value
public import Idealize.ShloMosaic.Lib.Pointwise
public import Idealize.ShloMosaic.Lib.Tactic
public import Idealize.ShloMosaic.Lib.Pipeline.ValueKit

@[expose] public section

noncomputable section

namespace Cert.Kernel8Ideal.Dw

open Cert.Kernel8Ideal Cert.Kernel8Ideal.Gen Cert.Kernel8Ideal.Value Cert.Tiles
open Idealize.ShloMosaic Idealize.ShloMosaic.TcCoe

theorem hz : (![0, 0] : Fin 2 → Nat) = fun _ => 0 := funext fun a => by fin_cases a <;> rfl

section Body
variable {F : FTy → Type} [FloatOps F]
variable (c : Dev nD) (i : grid0.Coords) (a4 : Memref sig .tc .vmem S1024x512 .bf16) (h4 : a4.IsWhole) (a5 : Memref sig .tc .vmem S1024x2176 .bf16) (h5 : a5.IsWhole)
  (a6 : Memref sig .tc .vmem S512x2176 .bf16) (h6 : a6.IsWhole) (a7 : Memref sig .tc .vmem S512x2176 .f32) (h7 : a7.IsWhole)
  (x : Vec F S1024x512 .bf16) (d : Vec F S1024x2176 .bf16) (s : Vec F S512x2176 .f32)

/-- The first block of tokens starts the sum. -/
theorem first (c0 : cond0_0 i) (c1 : ¬cond0_1 i) (c2 : ¬cond0_2 i) : sout0_A_0 c i a4 h4 a5 h5 a6 h6 a7 h7 c0 c1 c2 x d = k0_pay1 x d := by
  unfold sout0_A_0
  rw [View.read_writes_eq_canon _ _ _ (scover0_A_0 c i a4 h4 a5 h5 a6 h6 a7 h7 c0 c1 c2 x d)]
  unfold kernelRun0_A
  dsimp only
  sl_unfold_words
  rw [View.canon_unit_zero hz]
  unfold k0_pay2
  simp only [View.readAt_eq_ld, h4.read_unread, h5.read_unread, View.ld_unit_zero (S := S1024x512) hz, View.ld_unit_zero (S := S1024x2176) hz, shapeCast_self]

/-- A later block is added. -/
theorem next (c0 : ¬cond0_0 i) (c1 : cond0_1 i) (c2 : ¬cond0_2 i) : sout0_B_0 c i a4 h4 a5 h5 a6 h6 a7 h7 c0 c1 c2 x d s = addf s (k0_pay1 x d) := by
  unfold sout0_B_0
  rw [View.read_writes_eq_canon _ _ _ (scover0_B_0 c i a4 h4 a5 h5 a6 h6 a7 h7 c0 c1 c2 x d s)]
  unfold kernelRun0_B
  dsimp only
  sl_unfold_words
  rw [View.canon_unit_zero hz]
  unfold k0_pay3
  simp only [View.readAt_eq_ld, h4.read_unread, h5.read_unread, h7.read_unread, View.ld_unit_zero (S := S1024x512) hz, View.ld_unit_zero (S := S1024x2176) hz, View.ld_unit_zero (S := S512x2176) hz, shapeCast_self]

/-- The last block is added, and the sum is the result's tile. -/
theorem last (c0 : ¬cond0_0 i) (c1 : cond0_1 i) (c2 : cond0_2 i) : sout0_C_0 c i a4 h4 a5 h5 a6 h6 a7 h7 c0 c1 c2 x d s = addf s (k0_pay1 x d) := by
  unfold sout0_C_0
  rw [View.read_writes_eq_canon _ _ _ (scover0_C_0 c i a4 h4 a5 h5 a6 h6 a7 h7 c0 c1 c2 x d s)]
  unfold kernelRun0_C
  dsimp only
  sl_unfold_words
  rw [View.canon_unit_zero hz]
  unfold k0_pay3
  simp only [View.readAt_eq_ld, h4.read_unread, h5.read_unread, h7.read_unread, View.ld_unit_zero (S := S1024x512) hz, View.ld_unit_zero (S := S1024x2176) hz, View.ld_unit_zero (S := S512x2176) hz, shapeCast_self]

theorem done (c0 : ¬cond0_0 i) (c1 : cond0_1 i) (c2 : cond0_2 i) : out0_C_2 c i a4 h4 a5 h5 a6 h6 a7 h7 c0 c1 c2 x d s = k0_pay4 (addf s (k0_pay1 x d)) := by
  unfold out0_C_2
  rw [View.read_writes_eq_canon _ _ _ (cover0_C_2 c i a4 h4 a5 h5 a6 h6 a7 h7 c0 c1 c2 x d s)]
  unfold kernelRun0_C
  dsimp only
  sl_unfold_words
  rw [View.canon_unit_zero hz, View.readCov_unit_zero (S := S512x2176) _ hz]
  unfold k0_pay3
  simp only [View.readAt_eq_ld, h4.read_unread, h5.read_unread, h7.read_unread, View.ld_unit_zero (S := S1024x512) hz, View.ld_unit_zero (S := S1024x2176) hz, View.ld_unit_zero (S := S512x2176) hz, shapeCast_self]

end Body

/-- One block's share of one entry. -/
theorem part_at (x : Vec Ideal S1024x512 .bf16) (d : Vec Ideal S1024x2176 .bf16) (a : Fin 512) (b : Fin 2176) :
    k0_pay1 (F := Ideal) x d (ix2 a b) = ∑ r, x (ix2 r a) * d (ix2 r b) := by
  pointwise [k0_pay1]

/-! What a grid point reads. -/

theorem ix_0 : ∀ t : Fin cfg0.N, win0_0.index t (0 : Fin 2) = t.val % 8 ∧ win0_0.index t (1 : Fin 2) = t.val / 8 :=
  (by decide +kernel : ∀ t : Fin grid0.N, _)
theorem ix_1 : ∀ t : Fin cfg0.N, win0_1.index t (0 : Fin 2) = t.val % 8 ∧ win0_1.index t (1 : Fin 2) = t.val / 8 % 1 :=
  (by decide +kernel : ∀ t : Fin grid0.N, _)

variable (m : (ℓ : Loc nD τ sig) → Buf (Elt Ideal) ℓ) (c : Dev nD)

def xn : FVec Ideal S8192x1024 .bf16 := m (c, main_arg0)
def dz : FVec Ideal S8192x2176 .bf16 := m (c, main_arg1)

theorem blk_0 (t : Fin cfg0.N) (r : Fin 1024) (a : Fin 512) (h : 1024 * (t.val % 8) + r.val < 8192) (h' : 512 * (t.val / 8) + a.val < 1024) :
    (iblk m c 0 t : Vec Ideal S1024x512 .bf16) (ix2 r a) = xn m c (ix2 ⟨1024 * (t.val % 8) + r.val, h⟩ ⟨512 * (t.val / 8) + a.val, h'⟩) := by
  unfold iblk
  rw [View.read_apply]
  show V m c main_arg0 _ = m (c, main_arg0) _
  unfold V
  congr 1
  funext k
  apply Fin.ext
  match k with
  | ⟨0, _⟩ => show win0_0.index t (0 : Fin 2) * 1024 + 1 * r.val = _; rw [(ix_0 t).1]; show _ = 1024 * (t.val % 8) + r.val; omega
  | ⟨1, _⟩ => show win0_0.index t (1 : Fin 2) * 512 + 1 * a.val = _; rw [(ix_0 t).2]; show _ = 512 * (t.val / 8) + a.val; omega

theorem blk_1 (t : Fin cfg0.N) (r : Fin 1024) (b : Fin 2176) (h : 1024 * (t.val % 8) + r.val < 8192) (h' : 2176 * (t.val / 8 % 1) + b.val < 2176) :
    (iblk m c 1 t : Vec Ideal S1024x2176 .bf16) (ix2 r b) = dz m c (ix2 ⟨1024 * (t.val % 8) + r.val, h⟩ ⟨2176 * (t.val / 8 % 1) + b.val, h'⟩) := by
  unfold iblk
  rw [View.read_apply]
  show V m c main_arg1 _ = m (c, main_arg1) _
  unfold V
  congr 1
  funext k
  apply Fin.ext
  match k with
  | ⟨0, _⟩ => show win0_1.index t (0 : Fin 2) * 1024 + 1 * r.val = _; rw [(ix_1 t).1]; show _ = 1024 * (t.val % 8) + r.val; omega
  | ⟨1, _⟩ => show win0_1.index t (1 : Fin 2) * 2176 + 1 * b.val = _; rw [(ix_1 t).2]; show _ = 2176 * (t.val / 8 % 1) + b.val; omega

/-- One token's share of one entry of the gradient. -/
def term (A : Fin 1024) (B : Fin 2176) (t : Fin 8192) : EReal := xn m c (ix2 t A) * dz m c (ix2 t B)

theorem block (t : Fin cfg0.N) (a : Fin 512) (b : Fin 2176) (h : 512 * (t.val / 8) + a.val < 1024) (h' : 2176 * (t.val / 8 % 1) + b.val < 2176) :
    k0_pay1 (F := Ideal) (iblk m c 0 t) (iblk m c 1 t) (ix2 a b)
      = ∑ r : Fin 1024, term m c ⟨512 * (t.val / 8) + a.val, h⟩ ⟨2176 * (t.val / 8 % 1) + b.val, h'⟩ ⟨1024 * (t.val % 8) + r.val, by omega⟩ := by
  rw [part_at]
  exact Finset.sum_congr rfl fun r _ => congrArg₂ (· * ·) (blk_0 m c t r a _ _) (blk_1 m c t r b _ _)

/-- The scratch buffer after a grid point: the sum over the blocks of tokens met so far. -/
theorem sums : ∀ (n : ℕ) (hn : n < cfg0.N) (a : Fin 512) (b : Fin 2176) (h : 512 * (n / 8) + a.val < 1024) (h' : 2176 * (n / 8 % 1) + b.val < 2176),
    (outsAt0 m c n hn).2 (ix2 a b) = upto 1024 (term m c ⟨512 * (n / 8) + a.val, h⟩ ⟨2176 * (n / 8 % 1) + b.val, h'⟩) (n % 8 + 1) := by
  intro n
  induction n with
  | zero =>
    intro hn a b h h'
    rw [outsAt0_A m c ⟨0, hn⟩ rfl (by show ¬1 ≤ 0 % 8; decide) (by show ¬0 % 8 = 7; decide), first, upto_succ _ (by decide), upto_zero, zero_add]
    exact block m c ⟨0, hn⟩ a b h h'
  | succ n ih =>
    intro hn a b h h'
    have hN : n + 1 < 16 := lt_of_lt_of_eq hn N_0
    rw [upto_succ _ (by omega)]
    refine Eq.trans ?_ (congrArg (_ + ·) (block m c ⟨n + 1, hn⟩ a b h h'))
    by_cases h0 : (n + 1) % 8 = 0
    · rw [outsAt0_A m c ⟨n + 1, hn⟩ h0 (by dsimp only; omega) (by dsimp only; omega), first]
      exact (zero_add _).symm.trans (congrArg (· + _) (by rw [h0, upto_zero]))
    · have e1 : (n + 1) / 8 = n / 8 := by omega
      have e2 : (n + 1) / 8 = n / 8 := by omega
      have e3 : (n + 1) % 8 = n % 8 + 1 := by omega
      have key := ih (Nat.lt_of_succ_lt hn) a b (by omega) (by omega)
      simp only [e1, e2, e3]
      rw [← key]
      by_cases h7 : (n + 1) % 8 = 7
      · rw [outsAt0_C m c ⟨n + 1, hn⟩ h0 (by dsimp only; omega) h7, last]; rfl
      · rw [outsAt0_B m c ⟨n + 1, hn⟩ h0 (by dsimp only; omega) h7, next]; rfl

/-- What is written out is the sum over all tokens. -/
theorem tile (n : ℕ) (hn : n < cfg0.N) (h7 : n % 8 = 7) (a : Fin 512) (b : Fin 2176) (h : 512 * (n / 8) + a.val < 1024) (h' : 2176 * (n / 8 % 1) + b.val < 2176) :
    (outsAt0 m c n hn).1 (ix2 a b) = ∑ t, term m c ⟨512 * (n / 8) + a.val, h⟩ ⟨2176 * (n / 8 % 1) + b.val, h'⟩ t := by
  have e : (outsAt0 m c n hn).1 (ix2 a b) = (outsAt0 m c n hn).2 (ix2 a b) := by
    rw [outsAt0_C m c ⟨n, hn⟩ (by dsimp only; omega) (by dsimp only; omega) h7, last, done]; rfl
  rw [e, sums m c n hn a b h h', h7, upto_all _ (by decide)]

/-- The gradient of the weight. -/
def dW : FVec Ideal S1024x2176 .bf16 := fun y => ∑ t, term m c (y 0) (y 1) t

theorem arr : G2 m c = dW m c := by
  funext y
  unfold G2
  have h0 : (y 0).val < 1024 := (y 0).isLt
  have h1 : (y 1).val < 2176 := (y 1).isLt
  have hp : pt2Of y < cfg0.N := lt_of_lt_of_eq (by show 8 * (1 * ((y 0).val / 512 - 0) + 1 * ((y 1).val / 2176 - 0)) + 7 < 16; omega) N_0.symm
  rw [dif_pos hp, ← outsAt0_sweep m c _ hp]
  have el : loc2Of y = ix2 ⟨(y 0).val % 512, Nat.mod_lt _ (by decide)⟩ ⟨(y 1).val % 2176, Nat.mod_lt _ (by decide)⟩ := by
    funext k; match k with
    | ⟨0, _⟩ => rfl
    | ⟨1, _⟩ => rfl
  rw [el, tile m c _ hp (by show (8 * (1 * ((y 0).val / 512 - 0) + 1 * ((y 1).val / 2176 - 0)) + 7) % 8 = 7; omega) _ _
    (by show 512 * ((8 * (1 * ((y 0).val / 512 - 0) + 1 * ((y 1).val / 2176 - 0)) + 7) / 8) + (y 0).val % 512 < 1024; omega)
    (by show 2176 * ((8 * (1 * ((y 0).val / 512 - 0) + 1 * ((y 1).val / 2176 - 0)) + 7) / 8 % 1) + (y 1).val % 2176 < 2176; omega)]
  unfold dW
  refine congrArg₂ (fun A B => ∑ t, term m c A B t) (Fin.ext ?_) (Fin.ext ?_)
  · show 512 * ((8 * (1 * ((y 0).val / 512 - 0) + 1 * ((y 1).val / 2176 - 0)) + 7) / 8) + (y 0).val % 512 = (y 0).val; omega
  · show 2176 * ((8 * (1 * ((y 0).val / 512 - 0) + 1 * ((y 1).val / 2176 - 0)) + 7) / 8 % 1) + (y 1).val % 2176 = (y 1).val; omega

end Cert.Kernel8Ideal.Dw

end
-- ==== Proof.InDwSame.lean ====
/-
  The gradient of the input projection's weight, compared with the reference's.
-/
module

public import proofs.«01_k».proof.Proof.InDw
public import proofs.«01_k».proof.Proof.Gen.Reference8Ideal.Read
public import proofs.«01_k».proof.Defs

@[expose] public section

noncomputable section

namespace Cert.Kernel8Ideal.Dw

open Cert.Kernel8Ideal Idealize.ShloMosaic Idealize.ShloMosaic.TcCoe Cert.Reference8Ideal.Read

theorem same (m : (ℓ : Loc nD τ sig) → Buf (Elt Ideal) ℓ) (c : Dev nD) (x0 : FVec Ideal S8192x1024 .bf16) (x1 : FVec Ideal S8192x2176 .bf16)
    (h0 : x0 = xn m c) (h1 : x1 = dz m c) : val_main_v6 (F := Ideal) x0 x1 = dW m c := by
  subst h0 h1
  funext y
  rw [val_main_v6_apply, val_main_v5_apply, val_main_v4_apply]
  refine Finset.sum_congr rfl fun t _ => ?_
  rw [mul_comm]
  refine congrArg₂ (· * ·) (congrArg (xn m c) ?_) (congrArg (dz m c) ?_)
  · funext k; match k with
    | ⟨0, _⟩ => rfl
    | ⟨1, _⟩ => rfl
  · funext k; match k with
    | ⟨0, _⟩ => rfl
    | ⟨1, _⟩ => rfl

theorem frame_reference (m : (ℓ : Loc Cert.Reference8Ideal.nD Cert.Reference8Ideal.τ Cert.Reference8Ideal.sig) → Buf (Elt Ideal) ℓ) (g : Dev Cert.Reference8Ideal.nD → PrngReg) :
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0) :=
  (θ_run _ _ _).mono (fun r h => ⟨fun c => (h c).2, sem_eq_zero_of_no_sems rfl r.2⟩) (Cert.Reference8Ideal.Value.run m g)

theorem algebraic : Cert.algebraic_Kernel8Ideal_Reference8Ideal (hKernel8Ideal := Cert.Kernel8Ideal.Gen.facts) (hReference8Ideal := Cert.Reference8Ideal.Gen.facts) := by
  intro m g m' g' _ hagree
  refine ⟨fun c => dW m c, ?_, ?_⟩
  · refine (θ_run _ _ _).mono (fun r h c => ?_) (Cert.Kernel8Ideal.Value.run m g)
    exact ⟨(h c).1.trans (arr m c), (h c).2⟩
  · refine (θ_run _ _ _).mono (fun r h c => ?_) (Cert.Reference8Ideal.Value.run m' g')
    exact ⟨((h c).1.trans (val_main_v6_eq (m' (c, Cert.Reference8Ideal.main_arg0)) (m' (c, Cert.Reference8Ideal.main_arg1)))).trans
      (same m c (m' (c, Cert.Reference8Ideal.main_arg0)) (m' (c, Cert.Reference8Ideal.main_arg1)) (hagree c).1 (hagree c).2), (h c).2⟩

end Cert.Kernel8Ideal.Dw

end
-- ==== Proof.InNormBwd.lean ====
/-
  The step back through the attention layer's input projection and the norm before it: the gradient of the product
  times the weight, transposed, taken through the norm. The gradient of the norm's gain is a sum over the sixteen
  blocks of 512 tokens.
-/
module

public import proofs.«01_k».proof.Proof.Tiles
public import proofs.«01_k».proof.Proof.NormScalar
public import proofs.«01_k».proof.Proof.Gen.Kernel9Ideal.Value
public import Idealize.ShloMosaic.Lib.Pointwise
public import Idealize.ShloMosaic.Lib.Tactic
public import Idealize.ShloMosaic.Lib.Pipeline.ValueKit

@[expose] public section

noncomputable section

namespace Cert.Kernel9Ideal.Norm

open Cert.Kernel9Ideal Cert.Kernel9Ideal.Gen Cert.Kernel9Ideal.Value Cert.Tiles
open Idealize.ShloMosaic Idealize.ShloMosaic.TcCoe

theorem hz : (![0, 0] : Fin 2 → Nat) = fun _ => 0 := funext fun a => by fin_cases a <;> rfl

section Body
variable {F : FTy → Type} [FloatOps F]
variable (c : Dev nD) (i : grid0.Coords) (a2 : Memref sig .tc .vmem S512x2176 .bf16) (h2 : a2.IsWhole) (a3 : Memref sig .tc .vmem S1024x2176 .bf16) (h3 : a3.IsWhole)
  (a4 : Memref sig .tc .vmem S512x1024 .f32) (h4 : a4.IsWhole) (a5 : Memref sig .tc .vmem S1x1024 .f32) (h5 : a5.IsWhole) (a6 : Memref sig .tc .vmem S512x1024 .f32) (h6 : a6.IsWhole)
  (a7 : Memref sig .tc .vmem S512x1024 .f32) (h7 : a7.IsWhole) (a8 : Memref sig .tc .vmem S1x1024 .f32) (h8 : a8.IsWhole)
  (x0 : Vec F S512x2176 .bf16) (x1 : Vec F S1024x2176 .bf16) (x2 : Vec F S512x1024 .f32) (x3 : Vec F S1x1024 .f32) (x4 : Vec F S512x1024 .f32) (o : Vec F S1x1024 .f32)

/-- The gradient of the norm's input: in the first block of tokens -/
theorem dx_A (c0 : cond0_0 i) (c1 : ¬cond0_1 i) : out0_A_5 c i a2 h2 a3 h3 a4 h4 a5 h5 a6 h6 a7 h7 a8 h8 c0 c1 x0 x1 x2 x3 x4 = k0_pay5 x0 x1 x2 x3 x4 := by
  unfold out0_A_5
  rw [View.read_writes_eq_canon _ _ _ (cover0_A_5 c i a2 h2 a3 h3 a4 h4 a5 h5 a6 h6 a7 h7 a8 h8 c0 c1 x0 x1 x2 x3 x4)]
  unfold kernelRun0_A
  dsimp only
  sl_unfold_words
  rw [View.canon_unit_zero hz]
  simp only [View.readAt_eq_ld, h2.read_unread, h3.read_unread, h4.read_unread, h5.read_unread, h6.read_unread, h8.read_unread, View.ld_unit_zero (S := S512x2176) hz, View.ld_unit_zero (S := S1024x2176) hz, View.ld_unit_zero (S := S512x1024) hz, View.ld_unit_zero (S := S1x1024) hz, shapeCast_self]

/-- and in a later one. -/
theorem dx_B (c0 : ¬cond0_0 i) (c1 : cond0_1 i) : out0_B_5 c i a2 h2 a3 h3 a4 h4 a5 h5 a6 h6 a7 h7 a8 h8 c0 c1 x0 x1 x2 x3 x4 o = k0_pay5 x0 x1 x2 x3 x4 := by
  unfold out0_B_5
  rw [View.read_writes_eq_canon _ _ _ (cover0_B_5 c i a2 h2 a3 h3 a4 h4 a5 h5 a6 h6 a7 h7 a8 h8 c0 c1 x0 x1 x2 x3 x4 o)]
  unfold kernelRun0_B
  dsimp only
  sl_unfold_words
  rw [View.canon_unit_zero hz]
  simp only [View.readAt_eq_ld, h2.read_unread, h3.read_unread, h4.read_unread, h5.read_unread, h6.read_unread, h8.read_unread, View.ld_unit_zero (S := S512x2176) hz, View.ld_unit_zero (S := S1024x2176) hz, View.ld_unit_zero (S := S512x1024) hz, View.ld_unit_zero (S := S1x1024) hz, shapeCast_self]

/-- The gradient of the gain starts with the first block of tokens -/
theorem dg_A (c0 : cond0_0 i) (c1 : ¬cond0_1 i) : out0_A_6 c i a2 h2 a3 h3 a4 h4 a5 h5 a6 h6 a7 h7 a8 h8 c0 c1 x0 x1 x2 x3 x4 = k0_pay6 x0 x1 x2 := by
  unfold out0_A_6
  rw [View.read_writes_eq_canon _ _ _ (cover0_A_6 c i a2 h2 a3 h3 a4 h4 a5 h5 a6 h6 a7 h7 a8 h8 c0 c1 x0 x1 x2 x3 x4)]
  unfold kernelRun0_A
  dsimp only
  sl_unfold_words
  rw [View.canon_unit_zero hz]
  simp only [View.readAt_eq_ld, h2.read_unread, h3.read_unread, h4.read_unread, h5.read_unread, h6.read_unread, h8.read_unread, View.ld_unit_zero (S := S512x2176) hz, View.ld_unit_zero (S := S1024x2176) hz, View.ld_unit_zero (S := S512x1024) hz, View.ld_unit_zero (S := S1x1024) hz, shapeCast_self]

/-- and a later one is added. -/
theorem dg_B (c0 : ¬cond0_0 i) (c1 : cond0_1 i) : out0_B_6 c i a2 h2 a3 h3 a4 h4 a5 h5 a6 h6 a7 h7 a8 h8 c0 c1 x0 x1 x2 x3 x4 o = addf o (k0_pay6 x0 x1 x2) := by
  unfold out0_B_6
  rw [View.read_writes_eq_canon _ _ _ (cover0_B_6 c i a2 h2 a3 h3 a4 h4 a5 h5 a6 h6 a7 h7 a8 h8 c0 c1 x0 x1 x2 x3 x4 o)]
  unfold kernelRun0_B
  dsimp only
  sl_unfold_words
  rw [View.canon_unit_zero hz]
  unfold k0_pay1
  simp only [View.readAt_eq_ld, h2.read_unread, h3.read_unread, h4.read_unread, h5.read_unread, h6.read_unread, h8.read_unread, View.ld_unit_zero (S := S512x2176) hz, View.ld_unit_zero (S := S1024x2176) hz, View.ld_unit_zero (S := S512x1024) hz, View.ld_unit_zero (S := S1x1024) hz, shapeCast_self]

end Body

/-! One entry of each, on extended reals. -/

theorem part_at (x : Vec Ideal S512x2176 .bf16) (w : Vec Ideal S1024x2176 .bf16) (a : Fin 512) (j : Fin 1024) :
    k0_pay2 (F := Ideal) x w (ix2 a j) = ∑ f, x (ix2 a f) * w (ix2 j f) := by
  pointwise [k0_pay2]

theorem root_at (h : Vec Ideal S512x1024 .f32) (a : Fin 512) (z : Fin 1) : k0_pay3 (F := Ideal) h (ix2 a z) = Ideal.rsqrt (NormScalar.v fun k : Fin 1024 => h (ix2 a k)) := by
  pointwise [k0_pay3]
  rfl

theorem normed_at (h : Vec Ideal S512x1024 .f32) (a : Fin 512) (j : Fin 1024) :
    k0_pay4 (F := Ideal) h (ix2 a j) = h (ix2 a j) * Ideal.rsqrt (NormScalar.v fun k : Fin 1024 => h (ix2 a k)) := by
  pointwise [k0_pay4, root_at]

theorem dx_at (x : Vec Ideal S512x2176 .bf16) (w : Vec Ideal S1024x2176 .bf16) (h : Vec Ideal S512x1024 .f32) (g : Vec Ideal S1x1024 .f32) (r : Vec Ideal S512x1024 .f32) (a : Fin 512) (j : Fin 1024) :
    k0_pay5 (F := Ideal) x w h g r (ix2 a j)
      = NormScalar.kernel (fun k : Fin 1024 => h (ix2 a k)) (fun k => (∑ f, x (ix2 a f) * w (ix2 k f)) * g (ix2 (0 : Fin 1) k)) (r (ix2 a j)) j := by
  pointwise [k0_pay5, part_at, normed_at, root_at]
  rfl

theorem dg_at (x : Vec Ideal S512x2176 .bf16) (w : Vec Ideal S1024x2176 .bf16) (h : Vec Ideal S512x1024 .f32) (z : Fin 1) (j : Fin 1024) :
    k0_pay6 (F := Ideal) x w h (ix2 z j) = ∑ a : Fin 512, (∑ f, x (ix2 a f) * w (ix2 j f)) * (h (ix2 a j) * Ideal.rsqrt (NormScalar.v fun k : Fin 1024 => h (ix2 a k))) := by
  obtain rfl : z = 0 := Subsingleton.elim _ _
  pointwise [k0_pay6, part_at, normed_at]

/-! What a grid point reads. -/

theorem ix_0 : ∀ t : Fin cfg0.N, win0_0.index t (0 : Fin 2) = t.val ∧ win0_0.index t (1 : Fin 2) = 0 :=
  (by decide +kernel : ∀ t : Fin grid0.N, _)
theorem ix_1 : ∀ t : Fin cfg0.N, win0_1.index t (0 : Fin 2) = 0 ∧ win0_1.index t (1 : Fin 2) = 0 :=
  (by decide +kernel : ∀ t : Fin grid0.N, _)
theorem ix_2 : ∀ t : Fin cfg0.N, win0_2.index t (0 : Fin 2) = t.val ∧ win0_2.index t (1 : Fin 2) = 0 :=
  (by decide +kernel : ∀ t : Fin grid0.N, _)
theorem ix_3 : ∀ t : Fin cfg0.N, win0_3.index t (0 : Fin 2) = 0 ∧ win0_3.index t (1 : Fin 2) = 0 :=
  (by decide +kernel : ∀ t : Fin grid0.N, _)
theorem ix_4 : ∀ t : Fin cfg0.N, win0_4.index t (0 : Fin 2) = t.val ∧ win0_4.index t (1 : Fin 2) = 0 :=
  (by decide +kernel : ∀ t : Fin grid0.N, _)
theorem ix_5 : ∀ t : Fin cfg0.N, win0_5.index t (0 : Fin 2) = t.val ∧ win0_5.index t (1 : Fin 2) = 0 :=
  (by decide +kernel : ∀ t : Fin grid0.N, _)
theorem ix_6 : ∀ t : Fin cfg0.N, win0_6.index t (0 : Fin 2) = 0 ∧ win0_6.index t (1 : Fin 2) = 0 :=
  (by decide +kernel : ∀ t : Fin grid0.N, _)

variable (m : (ℓ : Loc nD τ sig) → Buf (Elt Ideal) ℓ) (c : Dev nD)

def dz : FVec Ideal S8192x2176 .bf16 := m (c, main_arg0)
def w : FVec Ideal S1024x2176 .bf16 := m (c, main_arg1)
def h : FVec Ideal S8192x1024 .f32 := m (c, main_arg2)
def g : FVec Ideal S1024 .f32 := m (c, main_arg3)
def dres : FVec Ideal S8192x1024 .f32 := m (c, main_arg4)

theorem blk_0 (t : Fin cfg0.N) (a : Fin 512) (k : Fin 2176) (ha : 512 * t.val + a.val < 8192) :
    (iblk m c 0 t : Vec Ideal S512x2176 .bf16) (ix2 a k) = dz m c (ix2 ⟨512 * t.val + a.val, ha⟩ k) := by
  unfold iblk
  rw [View.read_apply]
  show V m c main_arg0 _ = m (c, main_arg0) _
  rw [V_main_arg0 m c]
  show m (c, main_arg0) _ = m (c, main_arg0) _
  congr 1
  funext l
  apply Fin.ext
  match l with
  | ⟨0, _⟩ => show win0_0.index t (0 : Fin 2) * 512 + 1 * a.val = _; rw [(ix_0 t).1]; show _ = 512 * t.val + a.val; omega
  | ⟨1, _⟩ => show win0_0.index t (1 : Fin 2) * 2176 + 1 * k.val = _; rw [(ix_0 t).2]; show _ = k.val; omega

theorem blk_1 (t : Fin cfg0.N) (a : Fin 1024) (k : Fin 2176) :
    (iblk m c 1 t : Vec Ideal S1024x2176 .bf16) (ix2 a k) = w m c (ix2 a k) := by
  unfold iblk
  rw [View.read_apply]
  show V m c main_arg1 _ = m (c, main_arg1) _
  rw [V_main_arg1 m c]
  show m (c, main_arg1) _ = m (c, main_arg1) _
  congr 1
  funext l
  apply Fin.ext
  match l with
  | ⟨0, _⟩ => show win0_1.index t (0 : Fin 2) * 1024 + 1 * a.val = _; rw [(ix_1 t).1]; show _ = a.val; omega
  | ⟨1, _⟩ => show win0_1.index t (1 : Fin 2) * 2176 + 1 * k.val = _; rw [(ix_1 t).2]; show _ = k.val; omega

theorem blk_2 (t : Fin cfg0.N) (a : Fin 512) (k : Fin 1024) (ha : 512 * t.val + a.val < 8192) :
    (iblk m c 2 t : Vec Ideal S512x1024 .f32) (ix2 a k) = h m c (ix2 ⟨512 * t.val + a.val, ha⟩ k) := by
  unfold iblk
  rw [View.read_apply]
  show V m c main_arg2 _ = m (c, main_arg2) _
  rw [V_main_arg2 m c]
  show m (c, main_arg2) _ = m (c, main_arg2) _
  congr 1
  funext l
  apply Fin.ext
  match l with
  | ⟨0, _⟩ => show win0_2.index t (0 : Fin 2) * 512 + 1 * a.val = _; rw [(ix_2 t).1]; show _ = 512 * t.val + a.val; omega
  | ⟨1, _⟩ => show win0_2.index t (1 : Fin 2) * 1024 + 1 * k.val = _; rw [(ix_2 t).2]; show _ = k.val; omega

theorem blk_4 (t : Fin cfg0.N) (a : Fin 512) (k : Fin 1024) (ha : 512 * t.val + a.val < 8192) :
    (iblk m c 4 t : Vec Ideal S512x1024 .f32) (ix2 a k) = dres m c (ix2 ⟨512 * t.val + a.val, ha⟩ k) := by
  unfold iblk
  rw [View.read_apply]
  show V m c main_arg4 _ = m (c, main_arg4) _
  rw [V_main_arg4 m c]
  show m (c, main_arg4) _ = m (c, main_arg4) _
  congr 1
  funext l
  apply Fin.ext
  match l with
  | ⟨0, _⟩ => show win0_4.index t (0 : Fin 2) * 512 + 1 * a.val = _; rw [(ix_4 t).1]; show _ = 512 * t.val + a.val; omega
  | ⟨1, _⟩ => show win0_4.index t (1 : Fin 2) * 1024 + 1 * k.val = _; rw [(ix_4 t).2]; show _ = k.val; omega

/-- The gain, as one row. -/
theorem V_gain : V m c main_v0 = shapeCast S1x1024 (g m c) shapeCasts_S1024_S1x1024 := by
  unfold V
  rw [StableHlo.after_cons, StableHlo.after_nil, StableHlo.reshape_result']
  rfl

theorem gain_row (k : Fin 1024) (x : FVec Ideal S1024 .f32) : shapeCast S1x1024 x shapeCasts_S1024_S1x1024 (ix2 (0 : Fin 1) k) = x (ix1 k) :=
  shapeCast_apply x shapeCasts_S1024_S1x1024 _ _ (by rewrite [Shape.rowMajor_val_one, Shape.rowMajor_val_two]; show k.val = 0 * 1024 + k.val; omega)

theorem blk_3 (t : Fin cfg0.N) (k : Fin 1024) : (iblk m c 3 t : Vec Ideal S1x1024 .f32) (ix2 (0 : Fin 1) k) = g m c (ix1 k) := by
  unfold iblk
  rw [View.read_apply]
  show V m c main_v0 _ = _
  rw [V_gain]
  refine Eq.trans (congrArg (shapeCast S1x1024 (g m c) shapeCasts_S1024_S1x1024) ?_) (gain_row k (g m c))
  funext l
  apply Fin.ext
  match l with
  | ⟨0, _⟩ => show win0_3.index t (0 : Fin 2) * 1 + 1 * 0 = _; rw [(ix_3 t).1]; rfl
  | ⟨1, _⟩ => show win0_3.index t (1 : Fin 2) * 1024 + 1 * k.val = _; rw [(ix_3 t).2]; show _ = k.val; omega

/-! The two gradients, of one token and one channel. -/

/-- The gradient of the normed activations, with the gain. -/
def dy (t : Fin 8192) (j : Fin 1024) : EReal := ∑ f : Fin 2176, dz m c (ix2 t f) * w m c (ix2 j f)

def row (t : Fin 8192) (k : Fin 1024) : EReal := h m c (ix2 t k)

/-- The gradient of the normed activations, without the gain. -/
def gy (t : Fin 8192) (k : Fin 1024) : EReal := dy m c t k * g m c (ix1 k)

def dX : FVec Ideal S8192x1024 .f32 := fun y => NormScalar.kernel (row m c (y 0)) (gy m c (y 0)) (dres m c y) (y 1)

/-- One token's share of the gradient of the gain. -/
def term (j : Fin 1024) (t : Fin 8192) : EReal := dy m c t j * (row m c t j * Ideal.rsqrt (NormScalar.v (row m c t)))

def dG : FVec Ideal S1x1024 .f32 := fun y => ∑ t, term m c (y 1) t

theorem part (t : Fin cfg0.N) (x : Vec Ideal S512x2176 .bf16) (v : Vec Ideal S1024x2176 .bf16) (hx : x = iblk m c 0 t) (hv : v = iblk m c 1 t) (a : Fin 512) (j : Fin 1024) (ha : 512 * t.val + a.val < 8192) :
    ∑ f, x (ix2 a f) * v (ix2 j f) = dy m c ⟨512 * t.val + a.val, ha⟩ j :=
  Finset.sum_congr rfl fun f _ => congrArg₂ (· * ·) ((congrFun hx _).trans (blk_0 m c t a f ha)) ((congrFun hv _).trans (blk_1 m c t j f))

theorem gy_tile (t : Fin cfg0.N) (x : Vec Ideal S512x2176 .bf16) (v : Vec Ideal S1024x2176 .bf16) (u : Vec Ideal S1x1024 .f32) (hx : x = iblk m c 0 t) (hv : v = iblk m c 1 t) (hu : u = iblk m c 3 t)
    (a : Fin 512) (ha : 512 * t.val + a.val < 8192) :
    (fun k : Fin 1024 => (∑ f, x (ix2 a f) * v (ix2 k f)) * u (ix2 (0 : Fin 1) k)) = gy m c ⟨512 * t.val + a.val, ha⟩ :=
  funext fun k => congrArg₂ (· * ·) (part m c t x v hx hv a k ha) ((congrFun hu _).trans (blk_3 m c t k))

theorem finish_x (t : Fin cfg0.N) (a : Fin 512) (j : Fin 1024) (ha : 512 * t.val + a.val < 8192) :
    k0_pay5 (F := Ideal) (iblk m c 0 t) (iblk m c 1 t) (iblk m c 2 t) (iblk m c 3 t) (iblk m c 4 t) (ix2 a j) = dX m c (ix2 ⟨512 * t.val + a.val, ha⟩ j) := by
  rw [dx_at]
  have e1 : (fun k : Fin 1024 => (iblk m c 2 t : Vec Ideal S512x1024 .f32) (ix2 a k)) = row m c ⟨512 * t.val + a.val, ha⟩ := funext fun k => blk_2 m c t a k ha
  rw [e1, gy_tile m c t (iblk m c 0 t) (iblk m c 1 t) (iblk m c 3 t) rfl rfl rfl a ha, blk_4 m c t a j ha]
  rfl

theorem finish_g (t : Fin cfg0.N) (z : Fin 1) (j : Fin 1024) (hb : 512 * t.val + 512 ≤ 8192) :
    k0_pay6 (F := Ideal) (iblk m c 0 t) (iblk m c 1 t) (iblk m c 2 t) (ix2 z j) = ∑ r : Fin 512, term m c j ⟨512 * t.val + r.val, by omega⟩ := by
  rw [dg_at]
  refine Finset.sum_congr rfl fun a _ => ?_
  have e1 : (fun k : Fin 1024 => (iblk m c 2 t : Vec Ideal S512x1024 .f32) (ix2 a k)) = row m c ⟨512 * t.val + a.val, by omega⟩ := funext fun k => blk_2 m c t a k _
  rw [e1]
  exact congrArg₂ (· * ·) (part m c t _ _ rfl rfl a j (by omega)) (congrArg (· * _) (blk_2 m c t a j (by omega)))

/-- A block of the gradient of the norm's input. -/
theorem tile (n : ℕ) (hn : n < cfg0.N) (a : Fin 512) (j : Fin 1024) (ha : 512 * n + a.val < 8192) :
    (outsAt0 m c n hn).1 (ix2 a j) = dX m c (ix2 ⟨512 * n + a.val, ha⟩ j) := by
  have hN : n < 16 := lt_of_lt_of_eq hn N_0
  by_cases h : n = 0
  · rw [outsAt0_A m c ⟨n, hn⟩ (by dsimp only; omega) (by dsimp only; omega), dx_A]
    exact finish_x m c ⟨n, hn⟩ a j ha
  · rw [outsAt0_B m c ⟨n, hn⟩ (by dsimp only; omega) (by dsimp only; omega), dx_B]
    exact finish_x m c ⟨n, hn⟩ a j ha

/-- The gradient of the gain after a block of tokens. -/
theorem sums : ∀ (n : ℕ) (hn : n < cfg0.N) (z : Fin 1) (j : Fin 1024), (outsAt0 m c n hn).2 (ix2 z j) = upto 512 (term m c j) (n + 1)
  | 0, hn, z, j => by
    rw [upto_succ _ (by omega), outsAt0_A m c ⟨0, hn⟩ (by dsimp only) (by dsimp only; omega), dg_A]
    refine (finish_g m c ⟨0, hn⟩ z j (by dsimp only; omega)).trans ?_
    exact (zero_add _).symm.trans (congrArg (· + _) (upto_zero _ _).symm)
  | n + 1, hn, z, j => by
    have hN : n + 1 < 16 := lt_of_lt_of_eq hn N_0
    rw [upto_succ _ (by omega), outsAt0_B m c ⟨n + 1, hn⟩ (by dsimp only; omega) (by dsimp only; omega), dg_B]
    exact congrArg₂ (· + ·) (sums n (by omega) z j) (finish_g m c ⟨n + 1, hn⟩ z j (by dsimp only; omega))

/-! The two arrays. -/

theorem covers5 : (cfg0.win 5).Covers := by decide +kernel
theorem covers6 : (cfg0.win 6).Covers := by decide +kernel
theorem last : ∀ t : Fin cfg0.N, (cfg0.win 6).flush t = true → t.val = 15 :=
  (by decide +kernel : ∀ t : Fin grid0.N, _)

theorem arr5 : (dats m 0 c).arrAt 5 cfg0.N = dX m c := by
  refine (dats m 0 c).arrAt_eq_of_covers 5 (dX m c) covers5 fun t hf z => ?_
  have ht : t.val < 16 := lt_of_lt_of_eq t.isLt N_0
  have h0 : (z 0).val < 512 := (z 0).isLt
  have h1 : (z 1).val < 1024 := (z 1).isLt
  have e : ((cfg0.win 5).blk t).view.emb z = ix2 ⟨512 * t.val + (z 0).val, by omega⟩ (z 1) := by
    refine funext fun a => Fin.ext ?_
    refine ((cfg0.win 5).rect_emb_val t z a).trans ?_
    match a with
    | ⟨0, _⟩ => show win0_5.index t (0 : Fin 2) * 512 + (z 0).val = 512 * t.val + (z 0).val; rw [(ix_5 t).1]; omega
    | ⟨1, _⟩ => show win0_5.index t (1 : Fin 2) * 1024 + (z 1).val = (z 1).val; rw [(ix_5 t).2]; omega
  blk_simp
  rw [after0_5]
  refine Eq.trans ?_ (congrArg (dX m c) e).symm
  have hz : (z : S512x1024.Idx) = ix2 (z 0) (z 1) := by funext a; fin_cases a <;> rfl
  exact (congrArg (outsAt0 m c t.val t.isLt).1 hz).trans (tile m c t.val t.isLt (z 0) (z 1) (by omega))

theorem whole (n : ℕ) (hn : n < cfg0.N) (e : n = 15) (z : S1x1024.Idx) : (outsAt0 m c n hn).2 z = dG m c z := by
  subst e
  have hz : z = ix2 (z 0) (z 1) := by funext a; fin_cases a <;> rfl
  exact (congrArg (outsAt0 m c 15 hn).2 hz).trans ((sums m c 15 hn (z 0) (z 1)).trans (upto_all _ (by decide)))

theorem arr6 : (dats m 0 c).arrAt 6 cfg0.N = dG m c := by
  refine (dats m 0 c).arrAt_eq_of_covers 6 (dG m c) covers6 fun t hf z => ?_
  have e : ((cfg0.win 6).blk t).view.emb z = (z : S1x1024.Idx) := by
    refine funext fun a => Fin.ext ?_
    refine ((cfg0.win 6).rect_emb_val t z a).trans ?_
    match a with
    | ⟨0, _⟩ => show win0_6.index t (0 : Fin 2) * 1 + (z 0).val = (z 0).val; rw [(ix_6 t).1]; omega
    | ⟨1, _⟩ => show win0_6.index t (1 : Fin 2) * 1024 + (z 1).val = (z 1).val; rw [(ix_6 t).2]; omega
  blk_simp
  rw [after0_6]
  exact (whole m c t.val t.isLt (last t hf) z).trans (congrArg (dG m c) e).symm

end Cert.Kernel9Ideal.Norm

end
-- ==== Proof.InNormBwdSame.lean ====
/-
  The step back through the attention layer's input projection and the norm before it, compared with the
  reference's, which differentiates the mean of the squares, the reciprocal root and the products one after the other.
-/
module

public import proofs.«01_k».proof.Proof.InNormBwd
public import proofs.«01_k».proof.Proof.Gen.Reference9Ideal.Read
public import proofs.«01_k».proof.Defs

@[expose] public section

noncomputable section

namespace Cert.Kernel9Ideal.Norm

open Cert.Kernel9Ideal Idealize.ShloMosaic Idealize.ShloMosaic.TcCoe Cert.Reference9Ideal.Read

variable (m : (ℓ : Loc nD τ sig) → Buf (Elt Ideal) ℓ) (c : Dev nD)

theorem zero_bits : Ideal.ofBits .f32 0x00000000#32 = 0 := Ideal.ofBits_zero_f32

/-! ## The reference at an index -/

theorem dy_at (t : Fin 8192) (j : Fin 1024) : val_main_v19 (F := Ideal) (dz m c) (w m c) (ix2 t j) = dy m c t j := by
  rw [val_main_v19_apply]
  refine Finset.sum_congr rfl fun f _ => ?_
  rw [val_main_v18_apply, val_main_v16_apply]
  refine congrArg₂ (· * ·) (congrArg (dz m c) ?_) (congrArg (w m c) ?_)
  · funext k; match k with
    | ⟨0, _⟩ => rfl
    | ⟨1, _⟩ => rfl
  · funext k; match k with
    | ⟨0, _⟩ => rfl
    | ⟨1, _⟩ => rfl

theorem v_at (t : Fin 8192) : val_main_v6 (F := Ideal) (h m c) (ix2 t (0 : Fin 1)) = NormScalar.v (row m c t) := by
  have e : val_main_v1 (F := Ideal) (h m c) (ix1 t) = ∑ k, row m c t k * row m c t k := by
    rw [val_main_v1_apply]
    refine (congrArg₂ (· + ·) zero_bits (Finset.sum_congr rfl fun k _ => ?_)).trans (zero_add _)
    rw [val_main_v0_apply]
    have ek : idx_main_v1 (ix1 t) k = ix2 t k := by
      funext l; match l with
      | ⟨0, _⟩ => rfl
      | ⟨1, _⟩ => rfl
    rw [ek]
    rfl
  have e4 : val_main_v2 (F := Ideal) (h m c) (ix2 t (0 : Fin 1)) = ∑ k, row m c t k * row m c t k := by
    rw [val_main_v2_apply]
    refine Eq.trans (congrArg (val_main_v1 (F := Ideal) (h m c)) ?_) e
    funext l; match l with
    | ⟨0, _⟩ => rfl
  rw [val_main_v6_apply, val_main_v4_apply, val_main_v3_apply, val_main_v5_apply, e4]
  rfl

theorem root_at' (t : Fin 8192) : val_main_v7 (F := Ideal) (h m c) (ix2 t (0 : Fin 1)) = Ideal.rsqrt (NormScalar.v (row m c t)) := by
  rw [val_main_v7_apply, v_at]
  rfl

theorem normed_at' (t : Fin 8192) (j : Fin 1024) : val_main_v12 (F := Ideal) (h m c) (ix2 t j) = row m c t j * Ideal.rsqrt (NormScalar.v (row m c t)) := by
  rw [val_main_v12_apply, val_main_v11_apply]
  refine congrArg₂ (· * ·) rfl (Eq.trans (congrArg (val_main_v7 (F := Ideal) (h m c)) ?_) (root_at' m c t))
  funext l; match l with
  | ⟨0, _⟩ => rfl
  | ⟨1, _⟩ => rfl

theorem gy_at (t : Fin 8192) (k : Fin 1024) : val_main_v24 (F := Ideal) (dz m c) (w m c) (g m c) (ix2 t k) = gy m c t k := by
  rw [val_main_v24_apply, dy_at, val_main_v23_apply, val_main_v13_apply]
  refine congrArg₂ (· * ·) rfl (congrArg (g m c) ?_)
  funext l; match l with
  | ⟨0, _⟩ => rfl

theorem inner_at (t : Fin 8192) : val_main_v28 (F := Ideal) (dz m c) (w m c) (h m c) (g m c) (ix2 t (0 : Fin 1)) = ∑ k, row m c t k * gy m c t k := by
  rw [val_main_v28_apply, val_main_v27_apply]
  refine (congrArg₂ (· + ·) zero_bits (Finset.sum_congr rfl fun k _ => ?_)).trans (zero_add _)
  have ek : idx_main_v27 (idx_main_v28 (ix2 t (0 : Fin 1))) k = ix2 t k := by
    funext l; match l with
    | ⟨0, _⟩ => exact Fin.ext (by show t.val * 1 + 0 = t.val; omega)
    | ⟨1, _⟩ => rfl
  rw [val_main_v26_apply, ek, gy_at]
  rfl

theorem factor_at (t : Fin 8192) (j : Fin 1024) : val_main_v35 (F := Ideal) (dz m c) (w m c) (h m c) (g m c) (ix2 t j) = NormScalar.factor (row m c t) (gy m c t) := by
  rw [val_main_v35_apply, val_main_v34_apply]
  refine (congrArg₂ (· + ·) zero_bits ?_).trans (zero_add _)
  rw [Fin.sum_univ_one]
  have ek : idx_main_v34 (idx_main_v35 (ix2 t j)) 0 = ix2 t (0 : Fin 1) := by
    funext l; match l with
    | ⟨0, _⟩ => rfl
    | ⟨1, _⟩ => rfl
  rw [ek, val_main_v33_apply, val_main_v31_apply, val_main_v32_apply, inner_at, val_main_v10_apply, val_main_v9_apply, val_main_v8_apply, root_at', v_at]
  rfl

theorem dx_at' (t : Fin 8192) (j : Fin 1024) :
    val_main_v40 (F := Ideal) (dz m c) (w m c) (h m c) (g m c) (dres m c) (ix2 t j) = dX m c (ix2 t j) := by
  rw [val_main_v40_apply, val_main_v39_apply, val_main_v37_apply, val_main_v38_apply, val_main_v36_apply, val_main_v30_apply, factor_at, gy_at, val_main_v29_apply]
  have e : idx_main_v29 (ix2 t j) = ix2 t (0 : Fin 1) := by
    funext l; match l with
    | ⟨0, _⟩ => rfl
    | ⟨1, _⟩ => rfl
  rw [e, root_at']
  exact NormScalar.same (row m c t) (gy m c t) (dres m c (ix2 t j)) j

theorem dg_at' (j : Fin 1024) : val_main_v25 (F := Ideal) (dz m c) (w m c) (h m c) (ix1 j) = ∑ t, term m c j t := by
  rw [val_main_v25_apply]
  refine (congrArg₂ (· + ·) zero_bits ?_).trans (zero_add _)
  rw [Fin.sum_univ_one, val_main_v22_apply, val_main_v21_apply]
  refine (congrArg₂ (· + ·) zero_bits (Finset.sum_congr rfl fun t _ => ?_)).trans (zero_add _)
  have e : idx_main_v21 (idx_main_v22 (idx_main_v25 (ix1 j) 0)) t = ix2 t j := by
    funext l; match l with
    | ⟨0, _⟩ => rfl
    | ⟨1, _⟩ => exact Fin.ext (by show 0 * 1024 + j.val = j.val; omega)
  rw [e, val_main_v20_apply, normed_at', dy_at]
  exact mul_comm _ _

theorem same5 (x0 : FVec Ideal S8192x2176 .bf16) (x1 : FVec Ideal S1024x2176 .bf16) (x2 : FVec Ideal S8192x1024 .f32) (x3 : FVec Ideal S1024 .f32) (x4 : FVec Ideal S8192x1024 .f32)
    (e0 : x0 = dz m c) (e1 : x1 = w m c) (e2 : x2 = h m c) (e3 : x3 = g m c) (e4 : x4 = dres m c) : val_main_v40 (F := Ideal) x0 x1 x2 x3 x4 = dX m c := by
  subst e0 e1 e2 e3 e4
  funext y
  have e : y = ix2 (y 0) (y 1) := by
    funext k; match k with
    | ⟨0, _⟩ => rfl
    | ⟨1, _⟩ => rfl
  exact (congrArg (val_main_v40 (F := Ideal) (dz m c) (w m c) (h m c) (g m c) (dres m c)) e).trans ((dx_at' m c (y 0) (y 1)).trans (congrArg (dX m c) e.symm))

theorem same6 (x0 : FVec Ideal S8192x2176 .bf16) (x1 : FVec Ideal S1024x2176 .bf16) (x2 : FVec Ideal S8192x1024 .f32)
    (e0 : x0 = dz m c) (e1 : x1 = w m c) (e2 : x2 = h m c) : val_main_v41 (F := Ideal) x0 x1 x2 = dG m c := by
  subst e0 e1 e2
  funext y
  rw [val_main_v41_apply]
  refine Eq.trans (congrArg (val_main_v25 (F := Ideal) (dz m c) (w m c) (h m c)) ?_) (dg_at' m c (y 1))
  have h0 : (y 0).val < 1 := (y 0).isLt
  funext l; match l with
  | ⟨0, _⟩ => exact Fin.ext (by show (y 0).val * 1024 + (y 1).val = (y 1).val; omega)

theorem frame_reference (m : (ℓ : Loc Cert.Reference9Ideal.nD Cert.Reference9Ideal.τ Cert.Reference9Ideal.sig) → Buf (Elt Ideal) ℓ) (g : Dev Cert.Reference9Ideal.nD → PrngReg) :
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0) :=
  (θ_run _ _ _).mono (fun r h => ⟨fun c => (h c).2.2, sem_eq_zero_of_no_sems rfl r.2⟩) (Cert.Reference9Ideal.Value.run m g)

theorem algebraic : Cert.algebraic_Kernel9Ideal_Reference9Ideal (hKernel9Ideal := Cert.Kernel9Ideal.Gen.facts) (hReference9Ideal := Cert.Reference9Ideal.Gen.facts) := by
  intro m g m' g' _ hagree
  refine ⟨fun c => dX m c, fun c => dG m c, ?_, ?_⟩
  · refine (θ_run _ _ _).mono (fun r h c => ?_) (Cert.Kernel9Ideal.Value.run_blocks m g)
    exact ⟨(h c).1.trans (arr5 m c), (h c).2.1.trans (arr6 m c), (h c).2.2⟩
  · refine (θ_run _ _ _).mono (fun r h c => ?_) (Cert.Reference9Ideal.Value.run m' g')
    obtain ⟨a0, a1, a2, a3, a4⟩ := hagree c
    exact ⟨((h c).1.trans (val_main_v40_eq m' c)).trans (same5 m c (m' (c, Cert.Reference9Ideal.main_arg0)) (m' (c, Cert.Reference9Ideal.main_arg1)) (m' (c, Cert.Reference9Ideal.main_arg2)) (m' (c, Cert.Reference9Ideal.main_arg3)) (m' (c, Cert.Reference9Ideal.main_arg4)) a0 a1 a2 a3 a4),
      ((h c).2.1.trans (val_main_v41_eq (m' (c, Cert.Reference9Ideal.main_arg0)) (m' (c, Cert.Reference9Ideal.main_arg1)) (m' (c, Cert.Reference9Ideal.main_arg2)))).trans (same6 m c (m' (c, Cert.Reference9Ideal.main_arg0)) (m' (c, Cert.Reference9Ideal.main_arg1)) (m' (c, Cert.Reference9Ideal.main_arg2)) a0 a1 a2), (h c).2.2⟩

end Cert.Kernel9Ideal.Norm

end
-- ==== Proof.NormIn.lean ====
/-
  The norm before the attention layer's input projection, and the product of the normed activations with the weight.
  A block of 1024 tokens is taken at each grid point.
-/
module

public import proofs.«01_k».proof.Proof.NormScalar
public import proofs.«01_k».proof.Proof.Gen.Kernel10Ideal.Value
public import Idealize.ShloMosaic.Lib.Pointwise
public import Idealize.ShloMosaic.Lib.Tactic
public import Idealize.ShloMosaic.Lib.Pipeline.ValueKit

@[expose] public section

noncomputable section

namespace Cert.Kernel10Ideal.NormMul

open Cert.Kernel10Ideal Cert.Kernel10Ideal.Gen Cert.Kernel10Ideal.Value
open Idealize.ShloMosaic Idealize.ShloMosaic.TcCoe

theorem hz : (![0, 0] : Fin 2 → Nat) = fun _ => 0 := funext fun a => by fin_cases a <;> rfl

section Body
variable {F : FTy → Type} [FloatOps F]
variable (c : Dev nD) (i : grid0.Coords) (a2 : Memref sig .tc .vmem S1024x1024 .f32) (h2 : a2.IsWhole) (a3 : Memref sig .tc .vmem S1x1024 .f32) (h3 : a3.IsWhole) (a4 : Memref sig .tc .vmem S1024x2176 .bf16) (h4 : a4.IsWhole)
  (a5 : Memref sig .tc .vmem S1024x1024 .bf16) (h5 : a5.IsWhole) (a6 : Memref sig .tc .vmem S1024x2048 .f32) (h6 : a6.IsWhole) (a7 : Memref sig .tc .vmem S1024x128 .f32) (h7 : a7.IsWhole)
  (x0 : Vec F S1024x1024 .f32) (x1 : Vec F S1x1024 .f32) (x2 : Vec F S1024x2176 .bf16)

/-- The normed activations, -/
theorem xn_A (c0 : cond0_0 i) : out0_A_3 c i a2 h2 a3 h3 a4 h4 a5 h5 a6 h6 a7 h7 c0 x0 x1 x2 = k0_pay1 x0 x1 := by
  unfold out0_A_3
  rw [View.read_writes_eq_canon _ _ _ (cover0_A_3 c i a2 h2 a3 h3 a4 h4 a5 h5 a6 h6 a7 h7 c0 x0 x1 x2)]
  unfold kernelRun0_A
  dsimp only
  sl_unfold_words
  rw [View.canon_unit_zero hz]
  simp only [View.readAt_eq_ld, h2.read_unread, h3.read_unread, h4.read_unread, View.ld_unit_zero (S := S1024x1024) hz, View.ld_unit_zero (S := S1024x2176) hz, View.ld_unit_zero (S := S1x1024) hz, shapeCast_self]

/-- the first columns of their product with the weight, -/
theorem z_A (c0 : cond0_0 i) : out0_A_4 c i a2 h2 a3 h3 a4 h4 a5 h5 a6 h6 a7 h7 c0 x0 x1 x2 = k0_pay3 (k0_pay1 x0 x1) x2 := by
  unfold out0_A_4
  rw [View.read_writes_eq_canon _ _ _ (cover0_A_4 c i a2 h2 a3 h3 a4 h4 a5 h5 a6 h6 a7 h7 c0 x0 x1 x2)]
  unfold kernelRun0_A
  dsimp only
  sl_unfold_words
  rw [View.canon_unit_zero hz, View.readCov_unit_zero (S := S1024x1024) _ hz]
  simp only [View.readAt_eq_ld, h2.read_unread, h3.read_unread, h4.read_unread, View.ld_unit_zero (S := S1024x1024) hz, View.ld_unit_zero (S := S1024x2176) hz, View.ld_unit_zero (S := S1x1024) hz, shapeCast_self]

/-- and its last ones. -/
theorem tail_A (c0 : cond0_0 i) : out0_A_5 c i a2 h2 a3 h3 a4 h4 a5 h5 a6 h6 a7 h7 c0 x0 x1 x2 = k0_pay4 (k0_pay1 x0 x1) x2 := by
  unfold out0_A_5
  rw [View.read_writes_eq_canon _ _ _ (cover0_A_5 c i a2 h2 a3 h3 a4 h4 a5 h5 a6 h6 a7 h7 c0 x0 x1 x2)]
  unfold kernelRun0_A
  dsimp only
  sl_unfold_words
  rw [View.canon_unit_zero hz, View.readCov_unit_zero (S := S1024x1024) _ hz]
  simp only [View.readAt_eq_ld, h2.read_unread, h3.read_unread, h4.read_unread, View.ld_unit_zero (S := S1024x1024) hz, View.ld_unit_zero (S := S1024x2176) hz, View.ld_unit_zero (S := S1x1024) hz, shapeCast_self]

end Body

/-! One entry of each, on extended reals. -/

theorem normed_at (h : Vec Ideal S1024x1024 .f32) (g : Vec Ideal S1x1024 .f32) (a : Fin 1024) (j : Fin 1024) :
    k0_pay1 (F := Ideal) h g (ix2 a j) = h (ix2 a j) * Ideal.rsqrt (NormScalar.v fun k : Fin 1024 => h (ix2 a k)) * g (ix2 (0 : Fin 1) j) := by
  pointwise [k0_pay1]
  rfl

theorem mul_at (x : Vec Ideal S1024x1024 .bf16) (w : Vec Ideal S1024x2176 .bf16) (a : Fin 1024) (j : Fin 2176) :
    k0_pay2 (F := Ideal) x w (ix2 a j) = ∑ r, x (ix2 a r) * w (ix2 r j) := by
  pointwise [k0_pay2]

theorem z_at (x : Vec Ideal S1024x1024 .bf16) (w : Vec Ideal S1024x2176 .bf16) (a : Fin 1024) (j : Fin 2048) :
    k0_pay3 (F := Ideal) x w (ix2 a j) = ∑ r, x (ix2 a r) * w (ix2 r ⟨j.val, by omega⟩) := by
  unfold k0_pay3
  refine Eq.trans (congrArg (k0_pay2 (F := Ideal) x w) ?_) (mul_at x w a ⟨j.val, by omega⟩)
  funext k; match k with
  | ⟨0, _⟩ => exact Fin.ext (by show 0 + a.val = a.val; omega)
  | ⟨1, _⟩ => exact Fin.ext (by show 0 + j.val = j.val; omega)

theorem tail_at (x : Vec Ideal S1024x1024 .bf16) (w : Vec Ideal S1024x2176 .bf16) (a : Fin 1024) (j : Fin 128) :
    k0_pay4 (F := Ideal) x w (ix2 a j) = ∑ r, x (ix2 a r) * w (ix2 r ⟨2048 + j.val, by omega⟩) := by
  unfold k0_pay4
  refine Eq.trans (congrArg (k0_pay2 (F := Ideal) x w) ?_) (mul_at x w a ⟨2048 + j.val, by omega⟩)
  funext k; match k with
  | ⟨0, _⟩ => exact Fin.ext (by show 0 + a.val = a.val; omega)
  | ⟨1, _⟩ => rfl

/-! What a grid point reads. -/

theorem ix_0 : ∀ t : Fin cfg0.N, win0_0.index t (0 : Fin 2) = t.val ∧ win0_0.index t (1 : Fin 2) = 0 :=
  (by decide +kernel : ∀ t : Fin grid0.N, _)
theorem ix_1 : ∀ t : Fin cfg0.N, win0_1.index t (0 : Fin 2) = 0 ∧ win0_1.index t (1 : Fin 2) = 0 :=
  (by decide +kernel : ∀ t : Fin grid0.N, _)
theorem ix_2 : ∀ t : Fin cfg0.N, win0_2.index t (0 : Fin 2) = 0 ∧ win0_2.index t (1 : Fin 2) = 0 :=
  (by decide +kernel : ∀ t : Fin grid0.N, _)
theorem ix_3 : ∀ t : Fin cfg0.N, win0_3.index t (0 : Fin 2) = t.val ∧ win0_3.index t (1 : Fin 2) = 0 :=
  (by decide +kernel : ∀ t : Fin grid0.N, _)
theorem ix_4 : ∀ t : Fin cfg0.N, win0_4.index t (0 : Fin 2) = t.val ∧ win0_4.index t (1 : Fin 2) = 0 :=
  (by decide +kernel : ∀ t : Fin grid0.N, _)
theorem ix_5 : ∀ t : Fin cfg0.N, win0_5.index t (0 : Fin 2) = t.val ∧ win0_5.index t (1 : Fin 2) = 0 :=
  (by decide +kernel : ∀ t : Fin grid0.N, _)

variable (m : (ℓ : Loc nD τ sig) → Buf (Elt Ideal) ℓ) (c : Dev nD)

def h : FVec Ideal S8192x1024 .f32 := m (c, main_arg0)
def g : FVec Ideal S1024 .f32 := m (c, main_arg1)
def w : FVec Ideal S1024x2176 .bf16 := m (c, main_arg2)

theorem blk_0 (t : Fin cfg0.N) (a : Fin 1024) (k : Fin 1024) (ha : 1024 * t.val + a.val < 8192) :
    (iblk m c 0 t : Vec Ideal S1024x1024 .f32) (ix2 a k) = h m c (ix2 ⟨1024 * t.val + a.val, ha⟩ k) := by
  unfold iblk
  rw [View.read_apply]
  show V m c main_arg0 _ = m (c, main_arg0) _
  rw [V_main_arg0 m c]
  show m (c, main_arg0) _ = m (c, main_arg0) _
  congr 1
  funext l
  apply Fin.ext
  match l with
  | ⟨0, _⟩ => show win0_0.index t (0 : Fin 2) * 1024 + 1 * a.val = _; rw [(ix_0 t).1]; show _ = 1024 * t.val + a.val; omega
  | ⟨1, _⟩ => show win0_0.index t (1 : Fin 2) * 1024 + 1 * k.val = _; rw [(ix_0 t).2]; show _ = k.val; omega

theorem blk_2 (t : Fin cfg0.N) (a : Fin 1024) (k : Fin 2176) :
    (iblk m c 2 t : Vec Ideal S1024x2176 .bf16) (ix2 a k) = w m c (ix2 a k) := by
  unfold iblk
  rw [View.read_apply]
  show V m c main_arg2 _ = m (c, main_arg2) _
  rw [V_main_arg2 m c]
  show m (c, main_arg2) _ = m (c, main_arg2) _
  congr 1
  funext l
  apply Fin.ext
  match l with
  | ⟨0, _⟩ => show win0_2.index t (0 : Fin 2) * 1024 + 1 * a.val = _; rw [(ix_2 t).1]; show _ = a.val; omega
  | ⟨1, _⟩ => show win0_2.index t (1 : Fin 2) * 2176 + 1 * k.val = _; rw [(ix_2 t).2]; show _ = k.val; omega

/-- The gain, as one row. -/
theorem V_gain : V m c main_v0 = shapeCast S1x1024 (g m c) shapeCasts_S1024_S1x1024 := by
  unfold V
  rw [StableHlo.after_cons, StableHlo.after_nil, StableHlo.reshape_result']
  rfl

theorem gain_row (k : Fin 1024) (x : FVec Ideal S1024 .f32) : shapeCast S1x1024 x shapeCasts_S1024_S1x1024 (ix2 (0 : Fin 1) k) = x (ix1 k) :=
  shapeCast_apply x shapeCasts_S1024_S1x1024 _ _ (by rewrite [Shape.rowMajor_val_one, Shape.rowMajor_val_two]; show k.val = 0 * 1024 + k.val; omega)

theorem blk_1 (t : Fin cfg0.N) (k : Fin 1024) : (iblk m c 1 t : Vec Ideal S1x1024 .f32) (ix2 (0 : Fin 1) k) = g m c (ix1 k) := by
  unfold iblk
  rw [View.read_apply]
  show V m c main_v0 _ = _
  rw [V_gain]
  refine Eq.trans (congrArg (shapeCast S1x1024 (g m c) shapeCasts_S1024_S1x1024) ?_) (gain_row k (g m c))
  funext l
  apply Fin.ext
  match l with
  | ⟨0, _⟩ => show win0_1.index t (0 : Fin 2) * 1 + 1 * 0 = _; rw [(ix_1 t).1]; rfl
  | ⟨1, _⟩ => show win0_1.index t (1 : Fin 2) * 1024 + 1 * k.val = _; rw [(ix_1 t).2]; show _ = k.val; omega

/-! The results, of one token and one channel. -/

def row (t : Fin 8192) (k : Fin 1024) : EReal := h m c (ix2 t k)

/-- The normed activations, with the gain. -/
def normed (t : Fin 8192) (k : Fin 1024) : EReal := row m c t k * Ideal.rsqrt (NormScalar.v (row m c t)) * g m c (ix1 k)

/-- Their product with the weight. -/
def prod (t : Fin 8192) (j : Fin 2176) : EReal := ∑ r : Fin 1024, normed m c t r * w m c (ix2 r j)

def xn : FVec Ideal S8192x1024 .bf16 := fun y => normed m c (y 0) (y 1)

def first (t : Fin 8192) (j : Fin 2048) : EReal := prod m c t ⟨j.val, by omega⟩
def rest (t : Fin 8192) (j : Fin 128) : EReal := prod m c t ⟨2048 + j.val, by omega⟩
def z : FVec Ideal S8192x2048 .f32 := fun y => first m c (y 0) (y 1)
def tail : FVec Ideal S8192x128 .f32 := fun y => rest m c (y 0) (y 1)

theorem xn_tile (t : Fin cfg0.N) (a : Fin 1024) (j : Fin 1024) (ha : 1024 * t.val + a.val < 8192) :
    k0_pay1 (F := Ideal) (iblk m c 0 t) (iblk m c 1 t) (ix2 a j) = normed m c ⟨1024 * t.val + a.val, ha⟩ j := by
  rw [normed_at]
  have e1 : (fun k : Fin 1024 => (iblk m c 0 t : Vec Ideal S1024x1024 .f32) (ix2 a k)) = row m c ⟨1024 * t.val + a.val, ha⟩ := funext fun k => blk_0 m c t a k ha
  rw [e1]
  exact congrArg₂ (· * ·) (congrArg (· * _) (blk_0 m c t a j ha)) (blk_1 m c t j)

theorem prod_tile (t : Fin cfg0.N) (v : Vec Ideal S1024x2176 .bf16) (hv : v = iblk m c 2 t) (a : Fin 1024) (j : Fin 2176) (ha : 1024 * t.val + a.val < 8192) :
    ∑ r, k0_pay1 (F := Ideal) (iblk m c 0 t) (iblk m c 1 t) (ix2 a r) * v (ix2 r j) = prod m c ⟨1024 * t.val + a.val, ha⟩ j :=
  Finset.sum_congr rfl fun r _ => congrArg₂ (· * ·) (xn_tile m c t a r ha) ((congrFun hv _).trans (blk_2 m c t r j))

/-! The arrays. -/

theorem covers3 : (cfg0.win 3).Covers := by decide +kernel

theorem arr3 : (dats m 0 c).arrAt 3 cfg0.N = xn m c := by
  refine (dats m 0 c).arrAt_eq_of_covers 3 (xn m c) covers3 fun t hf p => ?_
  have ht : t.val < 8 := lt_of_lt_of_eq t.isLt N_0
  have h0 : (p 0).val < 1024 := (p 0).isLt
  have h1 : (p 1).val < 1024 := (p 1).isLt
  have e : ((cfg0.win 3).blk t).view.emb p = ix2 ⟨1024 * t.val + (p 0).val, by omega⟩ (p 1) := by
    refine funext fun a => Fin.ext ?_
    refine ((cfg0.win 3).rect_emb_val t p a).trans ?_
    match a with
    | ⟨0, _⟩ => show win0_3.index t (0 : Fin 2) * 1024 + (p 0).val = 1024 * t.val + (p 0).val; rw [(ix_3 t).1]; omega
    | ⟨1, _⟩ => show win0_3.index t (1 : Fin 2) * 1024 + (p 1).val = (p 1).val; rw [(ix_3 t).2]; omega
  blk_simp
  rw [after0_3]
  refine Eq.trans ?_ (congrArg (xn m c) e).symm
  have hz : (p : S1024x1024.Idx) = ix2 (p 0) (p 1) := by funext a; fin_cases a <;> rfl
  have eo : (outsAt0 m c t).1 = k0_pay1 (F := Ideal) (iblk m c 0 t) (iblk m c 1 t) := by
    unfold outsAt0
    dsimp only
    rw [xn_A]
  rw [eo]
  refine (congrArg (k0_pay1 (F := Ideal) (iblk m c 0 t) (iblk m c 1 t)) hz).trans ?_
  exact xn_tile m c t (p 0) (p 1) (by omega)

theorem covers4 : (cfg0.win 4).Covers := by decide +kernel

theorem arr4 : (dats m 0 c).arrAt 4 cfg0.N = z m c := by
  refine (dats m 0 c).arrAt_eq_of_covers 4 (z m c) covers4 fun t hf p => ?_
  have ht : t.val < 8 := lt_of_lt_of_eq t.isLt N_0
  have h0 : (p 0).val < 1024 := (p 0).isLt
  have h1 : (p 1).val < 2048 := (p 1).isLt
  have e : ((cfg0.win 4).blk t).view.emb p = ix2 ⟨1024 * t.val + (p 0).val, by omega⟩ (p 1) := by
    refine funext fun a => Fin.ext ?_
    refine ((cfg0.win 4).rect_emb_val t p a).trans ?_
    match a with
    | ⟨0, _⟩ => show win0_4.index t (0 : Fin 2) * 1024 + (p 0).val = 1024 * t.val + (p 0).val; rw [(ix_4 t).1]; omega
    | ⟨1, _⟩ => show win0_4.index t (1 : Fin 2) * 2048 + (p 1).val = (p 1).val; rw [(ix_4 t).2]; omega
  blk_simp
  rw [after0_4]
  refine Eq.trans ?_ (congrArg (z m c) e).symm
  have hz : (p : S1024x2048.Idx) = ix2 (p 0) (p 1) := by funext a; fin_cases a <;> rfl
  have eo : (outsAt0 m c t).2.1 = k0_pay3 (F := Ideal) (k0_pay1 (iblk m c 0 t) (iblk m c 1 t)) (iblk m c 2 t) := by
    unfold outsAt0
    dsimp only
    rw [z_A]
  rw [eo]
  refine (congrArg (k0_pay3 (F := Ideal) (k0_pay1 (iblk m c 0 t) (iblk m c 1 t)) (iblk m c 2 t)) hz).trans ?_
  exact (z_at _ _ (p 0) (p 1)).trans (prod_tile m c t _ rfl (p 0) ⟨(p 1).val, by omega⟩ (by omega))

theorem covers5 : (cfg0.win 5).Covers := by decide +kernel

theorem arr5 : (dats m 0 c).arrAt 5 cfg0.N = tail m c := by
  refine (dats m 0 c).arrAt_eq_of_covers 5 (tail m c) covers5 fun t hf p => ?_
  have ht : t.val < 8 := lt_of_lt_of_eq t.isLt N_0
  have h0 : (p 0).val < 1024 := (p 0).isLt
  have h1 : (p 1).val < 128 := (p 1).isLt
  have e : ((cfg0.win 5).blk t).view.emb p = ix2 ⟨1024 * t.val + (p 0).val, by omega⟩ (p 1) := by
    refine funext fun a => Fin.ext ?_
    refine ((cfg0.win 5).rect_emb_val t p a).trans ?_
    match a with
    | ⟨0, _⟩ => show win0_5.index t (0 : Fin 2) * 1024 + (p 0).val = 1024 * t.val + (p 0).val; rw [(ix_5 t).1]; omega
    | ⟨1, _⟩ => show win0_5.index t (1 : Fin 2) * 128 + (p 1).val = (p 1).val; rw [(ix_5 t).2]; omega
  blk_simp
  rw [after0_5]
  refine Eq.trans ?_ (congrArg (tail m c) e).symm
  have hz : (p : S1024x128.Idx) = ix2 (p 0) (p 1) := by funext a; fin_cases a <;> rfl
  have eo : (outsAt0 m c t).2.2 = k0_pay4 (F := Ideal) (k0_pay1 (iblk m c 0 t) (iblk m c 1 t)) (iblk m c 2 t) := by
    unfold outsAt0
    dsimp only
    rw [tail_A]
  rw [eo]
  refine (congrArg (k0_pay4 (F := Ideal) (k0_pay1 (iblk m c 0 t) (iblk m c 1 t)) (iblk m c 2 t)) hz).trans ?_
  exact (tail_at _ _ (p 0) (p 1)).trans (prod_tile m c t _ rfl (p 0) ⟨2048 + (p 1).val, by omega⟩ (by omega))

end Cert.Kernel10Ideal.NormMul

end
-- ==== Proof.NormInSame.lean ====
/-
  The norm before the attention layer's input projection and the product, compared with the reference's.
-/
module

public import proofs.«01_k».proof.Proof.NormIn
public import proofs.«01_k».proof.Proof.Gen.Reference10Ideal.Read
public import proofs.«01_k».proof.Defs

@[expose] public section

noncomputable section

namespace Cert.Kernel10Ideal.NormMul

open Cert.Kernel10Ideal Idealize.ShloMosaic Idealize.ShloMosaic.TcCoe Cert.Reference10Ideal.Read

variable (m : (ℓ : Loc nD τ sig) → Buf (Elt Ideal) ℓ) (c : Dev nD)

theorem zero_bits : Ideal.ofBits .f32 0x00000000#32 = 0 := Ideal.ofBits_zero_f32

/-! ## The reference at an index -/

theorem v_at (t : Fin 8192) : val_main_v6 (F := Ideal) (h m c) (ix2 t (0 : Fin 1)) = NormScalar.v (row m c t) := by
  have e : val_main_v1 (F := Ideal) (h m c) (ix1 t) = ∑ k, row m c t k * row m c t k := by
    rw [val_main_v1_apply]
    refine (congrArg₂ (· + ·) zero_bits (Finset.sum_congr rfl fun k _ => ?_)).trans (zero_add _)
    rw [val_main_v0_apply]
    have ek : idx_main_v1 (ix1 t) k = ix2 t k := by
      funext l; match l with
      | ⟨0, _⟩ => rfl
      | ⟨1, _⟩ => rfl
    rw [ek]
    rfl
  have e4 : val_main_v2 (F := Ideal) (h m c) (ix2 t (0 : Fin 1)) = ∑ k, row m c t k * row m c t k := by
    rw [val_main_v2_apply]
    refine Eq.trans (congrArg (val_main_v1 (F := Ideal) (h m c)) ?_) e
    funext l; match l with
    | ⟨0, _⟩ => rfl
  rw [val_main_v6_apply, val_main_v4_apply, val_main_v3_apply, val_main_v5_apply, e4]
  rfl

theorem root_at' (t : Fin 8192) : val_main_v7 (F := Ideal) (h m c) (ix2 t (0 : Fin 1)) = Ideal.rsqrt (NormScalar.v (row m c t)) := by
  rw [val_main_v7_apply, v_at]
  rfl

theorem normed_at' (t : Fin 8192) (j : Fin 1024) : val_main_v12 (F := Ideal) (h m c) (g m c) (ix2 t j) = normed m c t j := by
  rw [val_main_v12_apply, val_main_v9_apply, val_main_v8_apply, val_main_v11_apply, val_main_v10_apply]
  refine congrArg₂ (· * ·) (congrArg₂ (· * ·) rfl (Eq.trans (congrArg (val_main_v7 (F := Ideal) (h m c)) ?_) (root_at' m c t))) (congrArg (g m c) ?_)
  · funext l; match l with
    | ⟨0, _⟩ => rfl
    | ⟨1, _⟩ => rfl
  · funext l; match l with
    | ⟨0, _⟩ => rfl

theorem prod_at (t : Fin 8192) (j : Fin 2176) : val_main_v14 (F := Ideal) (h m c) (g m c) (w m c) (ix2 t j) = prod m c t j := by
  rw [val_main_v14_apply]
  refine Finset.sum_congr rfl fun r _ => ?_
  rw [val_main_v13_apply]
  refine congrArg₂ (· * ·) (Eq.trans (congrArg (val_main_v12 (F := Ideal) (h m c) (g m c)) ?_) (normed_at' m c t r)) (congrArg (w m c) ?_)
  · funext l; match l with
    | ⟨0, _⟩ => rfl
    | ⟨1, _⟩ => rfl
  · funext l; match l with
    | ⟨0, _⟩ => rfl
    | ⟨1, _⟩ => rfl

theorem same_xn (x0 : FVec Ideal S8192x1024 .f32) (x1 : FVec Ideal S1024 .f32) (e0 : x0 = h m c) (e1 : x1 = g m c) : val_main_v15 (F := Ideal) x0 x1 = xn m c := by
  subst e0 e1
  funext y
  rw [val_main_v15_apply]
  have e : y = ix2 (y 0) (y 1) := by
    funext k; match k with
    | ⟨0, _⟩ => rfl
    | ⟨1, _⟩ => rfl
  exact (congrArg (val_main_v12 (F := Ideal) (h m c) (g m c)) e).trans (normed_at' m c (y 0) (y 1))

theorem same_z (x0 : FVec Ideal S8192x1024 .f32) (x1 : FVec Ideal S1024 .f32) (x2 : FVec Ideal S1024x2176 .bf16) (e0 : x0 = h m c) (e1 : x1 = g m c) (e2 : x2 = w m c) : val_main_v16 (F := Ideal) x0 x1 x2 = z m c := by
  subst e0 e1 e2
  funext y
  have h1 : (y 1).val < 2048 := (y 1).isLt
  rw [val_main_v16_apply]
  refine Eq.trans (congrArg (val_main_v14 (F := Ideal) (h m c) (g m c) (w m c)) ?_) (prod_at m c (y 0) ⟨(y 1).val, by omega⟩)
  funext k; match k with
  | ⟨0, _⟩ => rfl
  | ⟨1, _⟩ => rfl

theorem same_tail (x0 : FVec Ideal S8192x1024 .f32) (x1 : FVec Ideal S1024 .f32) (x2 : FVec Ideal S1024x2176 .bf16) (e0 : x0 = h m c) (e1 : x1 = g m c) (e2 : x2 = w m c) : val_main_v17 (F := Ideal) x0 x1 x2 = tail m c := by
  subst e0 e1 e2
  funext y
  have h1 : (y 1).val < 128 := (y 1).isLt
  rw [val_main_v17_apply]
  refine Eq.trans (congrArg (val_main_v14 (F := Ideal) (h m c) (g m c) (w m c)) ?_) (prod_at m c (y 0) ⟨2048 + (y 1).val, by omega⟩)
  funext k; match k with
  | ⟨0, _⟩ => rfl
  | ⟨1, _⟩ => rfl

theorem frame_reference (m : (ℓ : Loc Cert.Reference10Ideal.nD Cert.Reference10Ideal.τ Cert.Reference10Ideal.sig) → Buf (Elt Ideal) ℓ) (g : Dev Cert.Reference10Ideal.nD → PrngReg) :
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0) :=
  (θ_run _ _ _).mono (fun r h => ⟨fun c => (h c).2.2.2, sem_eq_zero_of_no_sems rfl r.2⟩) (Cert.Reference10Ideal.Value.run m g)

theorem algebraic : Cert.algebraic_Kernel10Ideal_Reference10Ideal (hKernel10Ideal := Cert.Kernel10Ideal.Gen.facts) (hReference10Ideal := Cert.Reference10Ideal.Gen.facts) := by
  intro m g m' g' _ hagree
  refine ⟨fun c => xn m c, fun c => z m c, fun c => tail m c, ?_, ?_⟩
  · refine (θ_run _ _ _).mono (fun r h c => ?_) (Cert.Kernel10Ideal.Value.run_blocks m g)
    exact ⟨(h c).1.trans (arr3 m c), (h c).2.1.trans (arr4 m c), (h c).2.2.1.trans (arr5 m c), (h c).2.2.2⟩
  · refine (θ_run _ _ _).mono (fun r h c => ?_) (Cert.Reference10Ideal.Value.run m' g')
    obtain ⟨a0, a1, a2⟩ := hagree c
    exact ⟨((h c).1.trans (val_main_v15_eq (m' (c, Cert.Reference10Ideal.main_arg0)) (m' (c, Cert.Reference10Ideal.main_arg1)))).trans (same_xn m c (m' (c, Cert.Reference10Ideal.main_arg0)) (m' (c, Cert.Reference10Ideal.main_arg1)) a0 a1),
      ((h c).2.1.trans (val_main_v16_eq (m' (c, Cert.Reference10Ideal.main_arg0)) (m' (c, Cert.Reference10Ideal.main_arg1)) (m' (c, Cert.Reference10Ideal.main_arg2)))).trans (same_z m c (m' (c, Cert.Reference10Ideal.main_arg0)) (m' (c, Cert.Reference10Ideal.main_arg1)) (m' (c, Cert.Reference10Ideal.main_arg2)) a0 a1 a2),
      ((h c).2.2.1.trans (val_main_v17_eq (m' (c, Cert.Reference10Ideal.main_arg0)) (m' (c, Cert.Reference10Ideal.main_arg1)) (m' (c, Cert.Reference10Ideal.main_arg2)))).trans (same_tail m c (m' (c, Cert.Reference10Ideal.main_arg0)) (m' (c, Cert.Reference10Ideal.main_arg1)) (m' (c, Cert.Reference10Ideal.main_arg2)) a0 a1 a2), (h c).2.2.2⟩

end Cert.Kernel10Ideal.NormMul

end
-- ==== Proof.Out.lean ====
/-
  The output projection of the attention layer and the residual added to it. One tile is computed at each grid point.
-/
module

public import proofs.«01_k».proof.Proof.Gen.Kernel11Ideal.Value
public import Idealize.ShloMosaic.Lib.Pointwise
public import Idealize.ShloMosaic.Lib.Tactic
public import Idealize.ShloMosaic.Lib.Pipeline.ValueKit

@[expose] public section

set_option maxRecDepth 16384

noncomputable section

namespace Cert.Kernel11Ideal.Mul

open Cert.Kernel11Ideal Cert.Kernel11Ideal.Gen Cert.Kernel11Ideal.Value
open Idealize.ShloMosaic Idealize.ShloMosaic.TcCoe

theorem hz : (![0, 0] : Fin 2 → Nat) = fun _ => 0 := funext fun a => by fin_cases a <;> rfl

/-! One tile. -/

variable (x : Vec Ideal S1024x1024 .bf16) (w : Vec Ideal S1024x512 .bf16) (h : Vec Ideal S1024x512 .f32)

theorem pay_at (a : Fin 1024) (b : Fin 512) : k0_pay1 (F := Ideal) x w h (ix2 a b) = (∑ r, x (ix2 a r) * w (ix2 r b)) + h (ix2 a b) := by
  pointwise [k0_pay1]

theorem out_at (a : Fin 1024) (b : Fin 512) : out0_3 (F := Ideal) x w h (ix2 a b) = (∑ r, x (ix2 a r) * w (ix2 r b)) + h (ix2 a b) := by
  unfold out0_3
  rw [View.canon_unit_zero hz, View.ld_unit_zero (S := S1024x1024) hz, View.ld_unit_zero (S := S1024x512) hz, View.ld_unit_zero (S := S1024x512) hz]
  exact pay_at x w h a b

/-! What a grid point reads. -/

theorem ix_0 : ∀ t : Fin cfg0.N, win0_0.index t (0 : Fin 2) = t.val / 2 ∧ win0_0.index t (1 : Fin 2) = 0 :=
  (by decide +kernel : ∀ t : Fin grid0.N, _)
theorem ix_1 : ∀ t : Fin cfg0.N, win0_1.index t (0 : Fin 2) = 0 ∧ win0_1.index t (1 : Fin 2) = t.val % 2 :=
  (by decide +kernel : ∀ t : Fin grid0.N, _)
theorem ix_2 : ∀ t : Fin cfg0.N, win0_2.index t (0 : Fin 2) = t.val / 2 ∧ win0_2.index t (1 : Fin 2) = t.val % 2 :=
  (by decide +kernel : ∀ t : Fin grid0.N, _)
theorem ix_3 : ∀ t : Fin cfg0.N, win0_3.index t (0 : Fin 2) = t.val / 2 ∧ win0_3.index t (1 : Fin 2) = t.val % 2 :=
  (by decide +kernel : ∀ t : Fin grid0.N, _)

variable (m : (ℓ : Loc nD τ sig) → Buf (Elt Ideal) ℓ) (c : Dev nD)

def cat : FVec Ideal S8192x1024 .bf16 := m (c, main_arg0)
def out : FVec Ideal S1024x1024 .bf16 := m (c, main_arg1)
def residual : FVec Ideal S8192x1024 .f32 := m (c, main_arg2)

theorem blk_0 (t : Fin cfg0.N) (a : Fin 1024) (r : Fin 1024) (h : 1024 * (t.val / 2) + a.val < 8192) :
    (iblk m c 0 t : Vec Ideal S1024x1024 .bf16) (ix2 a r) = cat m c (ix2 ⟨1024 * (t.val / 2) + a.val, h⟩ r) := by
  unfold iblk
  rw [View.read_apply]
  show V m c main_arg0 _ = m (c, main_arg0) _
  unfold V
  congr 1
  funext k
  apply Fin.ext
  match k with
  | ⟨0, _⟩ => show win0_0.index t (0 : Fin 2) * 1024 + 1 * a.val = _; rw [(ix_0 t).1]; show _ = 1024 * (t.val / 2) + a.val; omega
  | ⟨1, _⟩ => show win0_0.index t (1 : Fin 2) * 1024 + 1 * r.val = _; rw [(ix_0 t).2]; show _ = r.val; omega

theorem blk_1 (t : Fin cfg0.N) (r : Fin 1024) (b : Fin 512) (h' : 512 * (t.val % 2) + b.val < 1024) :
    (iblk m c 1 t : Vec Ideal S1024x512 .bf16) (ix2 r b) = out m c (ix2 r ⟨512 * (t.val % 2) + b.val, h'⟩) := by
  unfold iblk
  rw [View.read_apply]
  show V m c main_arg1 _ = m (c, main_arg1) _
  unfold V
  congr 1
  funext k
  apply Fin.ext
  match k with
  | ⟨0, _⟩ => show win0_1.index t (0 : Fin 2) * 1024 + 1 * r.val = _; rw [(ix_1 t).1]; show _ = r.val; omega
  | ⟨1, _⟩ => show win0_1.index t (1 : Fin 2) * 512 + 1 * b.val = _; rw [(ix_1 t).2]; show _ = 512 * (t.val % 2) + b.val; omega

theorem blk_2 (t : Fin cfg0.N) (a : Fin 1024) (b : Fin 512) (h : 1024 * (t.val / 2) + a.val < 8192) (h' : 512 * (t.val % 2) + b.val < 1024) :
    (iblk m c 2 t : Vec Ideal S1024x512 .f32) (ix2 a b) = residual m c (ix2 ⟨1024 * (t.val / 2) + a.val, h⟩ ⟨512 * (t.val % 2) + b.val, h'⟩) := by
  unfold iblk
  rw [View.read_apply]
  show V m c main_arg2 _ = m (c, main_arg2) _
  unfold V
  congr 1
  funext k
  apply Fin.ext
  match k with
  | ⟨0, _⟩ => show win0_2.index t (0 : Fin 2) * 1024 + 1 * a.val = _; rw [(ix_2 t).1]; show _ = 1024 * (t.val / 2) + a.val; omega
  | ⟨1, _⟩ => show win0_2.index t (1 : Fin 2) * 512 + 1 * b.val = _; rw [(ix_2 t).2]; show _ = 512 * (t.val % 2) + b.val; omega

/-- The product and the residual, at every index. -/
def result : FVec Ideal S8192x1024 .f32 := fun y => (∑ r : Fin 1024, cat m c (ix2 (y 0) r) * out m c (ix2 r (y 1))) + residual m c (ix2 (y 0) (y 1))

theorem tile_eq (t : Fin cfg0.N) (a : Fin 1024) (b : Fin 512) (h : 1024 * (t.val / 2) + a.val < 8192) (h' : 512 * (t.val % 2) + b.val < 1024) :
    out0_3 (F := Ideal) (iblk m c 0 t) (iblk m c 1 t) (iblk m c 2 t) (ix2 a b) = result m c (ix2 ⟨1024 * (t.val / 2) + a.val, h⟩ ⟨512 * (t.val % 2) + b.val, h'⟩) := by
  refine (out_at _ _ _ a b).trans ?_
  exact congrArg₂ (· + ·) (Finset.sum_congr rfl fun r _ => congrArg₂ (· * ·) (blk_0 m c t a r h) (blk_1 m c t r b h')) (blk_2 m c t a b h h')

theorem covers : (cfg0.win 3).Covers := by decide +kernel

theorem arr : (dats m 0 c).arrAt 3 cfg0.N = result m c := by
  refine (dats m 0 c).arrAt_eq_of_covers 3 (result m c) covers fun t hf z => ?_
  have ht : t.val < 16 := lt_of_lt_of_eq t.isLt N_0
  have h0 : (z 0).val < 1024 := (z 0).isLt
  have h1 : (z 1).val < 512 := (z 1).isLt
  have e : ((cfg0.win 3).blk t).view.emb z = ix2 ⟨1024 * (t.val / 2) + (z 0).val, by omega⟩ ⟨512 * (t.val % 2) + (z 1).val, by omega⟩ := by
    refine funext fun a => Fin.ext ?_
    refine ((cfg0.win 3).rect_emb_val t z a).trans ?_
    match a with
    | ⟨0, _⟩ => show win0_3.index t (0 : Fin 2) * 1024 + (z 0).val = 1024 * (t.val / 2) + (z 0).val; rw [(ix_3 t).1]; omega
    | ⟨1, _⟩ => show win0_3.index t (1 : Fin 2) * 512 + (z 1).val = 512 * (t.val % 2) + (z 1).val; rw [(ix_3 t).2]; omega
  blk_simp
  rw [after0_3]
  refine Eq.trans ?_ (congrArg (result m c) e).symm
  have hz : (z : S1024x512.Idx) = ix2 (z 0) (z 1) := by funext a; fin_cases a <;> rfl
  refine (congrArg (out0_3 (F := Ideal) (iblk m c 0 t) (iblk m c 1 t) (iblk m c 2 t)) hz).trans ?_
  exact tile_eq m c t (z 0) (z 1) (by omega) (by omega)

end Cert.Kernel11Ideal.Mul

end
-- ==== Proof.OutSame.lean ====
/-
  The output projection of the attention layer and the residual added to it; compared with the reference's.
-/
module

public import proofs.«01_k».proof.Proof.Out
public import proofs.«01_k».proof.Proof.Gen.Reference11Ideal.Read
public import proofs.«01_k».proof.Defs

@[expose] public section

noncomputable section

namespace Cert.Kernel11Ideal.Mul

open Cert.Kernel11Ideal Idealize.ShloMosaic Idealize.ShloMosaic.TcCoe Cert.Reference11Ideal.Read

theorem same (m : (ℓ : Loc nD τ sig) → Buf (Elt Ideal) ℓ) (c : Dev nD) (x0 : FVec Ideal S8192x1024 .bf16) (x1 : FVec Ideal S1024x1024 .bf16) (x2 : FVec Ideal S8192x1024 .f32)
    (h0 : x0 = cat m c) (h1 : x1 = out m c) (h2 : x2 = residual m c) : val_main_v3 (F := Ideal) x0 x1 x2 = result m c := by
  subst h0 h1 h2
  funext y
  rw [val_main_v3_apply, val_main_v2_apply]
  refine (add_comm _ _).trans (congrArg₂ (· + ·) (Finset.sum_congr rfl fun r _ => ?_) (congrArg (residual m c) ?_))
  · rw [val_main_v0_apply, val_main_v1_apply]
    refine congrArg₂ (· * ·) (congrArg (cat m c) ?_) (congrArg (out m c) ?_)
    · funext k; match k with
      | ⟨0, _⟩ => rfl
      | ⟨1, _⟩ => rfl
    · funext k; match k with
      | ⟨0, _⟩ => rfl
      | ⟨1, _⟩ => rfl
  · funext k; match k with
    | ⟨0, _⟩ => rfl
    | ⟨1, _⟩ => rfl

theorem frame_reference (m : (ℓ : Loc Cert.Reference11Ideal.nD Cert.Reference11Ideal.τ Cert.Reference11Ideal.sig) → Buf (Elt Ideal) ℓ) (g : Dev Cert.Reference11Ideal.nD → PrngReg) :
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0) :=
  (θ_run _ _ _).mono (fun r h => ⟨fun c => (h c).2, sem_eq_zero_of_no_sems rfl r.2⟩) (Cert.Reference11Ideal.Value.run m g)

theorem algebraic : Cert.algebraic_Kernel11Ideal_Reference11Ideal (hKernel11Ideal := Cert.Kernel11Ideal.Gen.facts) (hReference11Ideal := Cert.Reference11Ideal.Gen.facts) := by
  intro m g m' g' _ hagree
  refine ⟨fun c => result m c, ?_, ?_⟩
  · refine (θ_run _ _ _).mono (fun r h c => ?_) (Cert.Kernel11Ideal.Value.run_blocks m g)
    exact ⟨(h c).1.trans (arr m c), (h c).2⟩
  · refine (θ_run _ _ _).mono (fun r h c => ?_) (Cert.Reference11Ideal.Value.run m' g')
    exact ⟨((h c).1.trans (val_main_v3_eq (m' (c, Cert.Reference11Ideal.main_arg0)) (m' (c, Cert.Reference11Ideal.main_arg1)) (m' (c, Cert.Reference11Ideal.main_arg2)))).trans
      (same m c (m' (c, Cert.Reference11Ideal.main_arg0)) (m' (c, Cert.Reference11Ideal.main_arg1)) (m' (c, Cert.Reference11Ideal.main_arg2)) (hagree c).1 (hagree c).2.1 (hagree c).2.2), (h c).2⟩

end Cert.Kernel11Ideal.Mul

end
-- ==== Proof.OutDw.lean ====
/-
  The gradient of the output projection's weight: the two head groups' outputs, transposed, times the gradient of the
  output. One tile of the result is a sum over eight blocks of 1024 tokens, kept in a scratch buffer.
-/
module

public import proofs.«01_k».proof.Proof.Tiles
public import proofs.«01_k».proof.Proof.Gen.Kernel12Ideal.Value
public import Idealize.ShloMosaic.Lib.Pointwise
public import Idealize.ShloMosaic.Lib.Tactic
public import Idealize.ShloMosaic.Lib.Pipeline.ValueKit

@[expose] public section

noncomputable section

namespace Cert.Kernel12Ideal.Dw

open Cert.Kernel12Ideal Cert.Kernel12Ideal.Gen Cert.Kernel12Ideal.Value Cert.Tiles
open Idealize.ShloMosaic Idealize.ShloMosaic.TcCoe

theorem hz : (![0, 0] : Fin 2 → Nat) = fun _ => 0 := funext fun a => by fin_cases a <;> rfl

section Body
variable {F : FTy → Type} [FloatOps F]
variable (c : Dev nD) (i : grid0.Coords) (a4 : Memref sig .tc .vmem S1024x1024 .bf16) (h4 : a4.IsWhole) (a5 : Memref sig .tc .vmem S1024x512 .f32) (h5 : a5.IsWhole)
  (a6 : Memref sig .tc .vmem S1024x512 .bf16) (h6 : a6.IsWhole) (a7 : Memref sig .tc .vmem S1024x512 .f32) (h7 : a7.IsWhole)
  (x : Vec F S1024x1024 .bf16) (d : Vec F S1024x512 .f32) (s : Vec F S1024x512 .f32)

/-- The first block of tokens starts the sum. -/
theorem first (c0 : cond0_0 i) (c1 : ¬cond0_1 i) (c2 : ¬cond0_2 i) : sout0_A_0 c i a4 h4 a5 h5 a6 h6 a7 h7 c0 c1 c2 x d = k0_pay1 x d := by
  unfold sout0_A_0
  rw [View.read_writes_eq_canon _ _ _ (scover0_A_0 c i a4 h4 a5 h5 a6 h6 a7 h7 c0 c1 c2 x d)]
  unfold kernelRun0_A
  dsimp only
  sl_unfold_words
  rw [View.canon_unit_zero hz]
  unfold k0_pay2
  simp only [View.readAt_eq_ld, h4.read_unread, h5.read_unread, View.ld_unit_zero (S := S1024x1024) hz, View.ld_unit_zero (S := S1024x512) hz, shapeCast_self]

/-- A later block is added. -/
theorem next (c0 : ¬cond0_0 i) (c1 : cond0_1 i) (c2 : ¬cond0_2 i) : sout0_B_0 c i a4 h4 a5 h5 a6 h6 a7 h7 c0 c1 c2 x d s = addf s (k0_pay1 x d) := by
  unfold sout0_B_0
  rw [View.read_writes_eq_canon _ _ _ (scover0_B_0 c i a4 h4 a5 h5 a6 h6 a7 h7 c0 c1 c2 x d s)]
  unfold kernelRun0_B
  dsimp only
  sl_unfold_words
  rw [View.canon_unit_zero hz]
  unfold k0_pay3
  simp only [View.readAt_eq_ld, h4.read_unread, h5.read_unread, h7.read_unread, View.ld_unit_zero (S := S1024x1024) hz, View.ld_unit_zero (S := S1024x512) hz, View.ld_unit_zero (S := S1024x512) hz, shapeCast_self]

/-- The last block is added, and the sum is the result's tile. -/
theorem last (c0 : ¬cond0_0 i) (c1 : cond0_1 i) (c2 : cond0_2 i) : sout0_C_0 c i a4 h4 a5 h5 a6 h6 a7 h7 c0 c1 c2 x d s = addf s (k0_pay1 x d) := by
  unfold sout0_C_0
  rw [View.read_writes_eq_canon _ _ _ (scover0_C_0 c i a4 h4 a5 h5 a6 h6 a7 h7 c0 c1 c2 x d s)]
  unfold kernelRun0_C
  dsimp only
  sl_unfold_words
  rw [View.canon_unit_zero hz]
  unfold k0_pay3
  simp only [View.readAt_eq_ld, h4.read_unread, h5.read_unread, h7.read_unread, View.ld_unit_zero (S := S1024x1024) hz, View.ld_unit_zero (S := S1024x512) hz, View.ld_unit_zero (S := S1024x512) hz, shapeCast_self]

theorem done (c0 : ¬cond0_0 i) (c1 : cond0_1 i) (c2 : cond0_2 i) : out0_C_2 c i a4 h4 a5 h5 a6 h6 a7 h7 c0 c1 c2 x d s = k0_pay4 (addf s (k0_pay1 x d)) := by
  unfold out0_C_2
  rw [View.read_writes_eq_canon _ _ _ (cover0_C_2 c i a4 h4 a5 h5 a6 h6 a7 h7 c0 c1 c2 x d s)]
  unfold kernelRun0_C
  dsimp only
  sl_unfold_words
  rw [View.canon_unit_zero hz, View.readCov_unit_zero (S := S1024x512) _ hz]
  unfold k0_pay3
  simp only [View.readAt_eq_ld, h4.read_unread, h5.read_unread, h7.read_unread, View.ld_unit_zero (S := S1024x1024) hz, View.ld_unit_zero (S := S1024x512) hz, View.ld_unit_zero (S := S1024x512) hz, shapeCast_self]

end Body

/-- One block's share of one entry. -/
theorem part_at (x : Vec Ideal S1024x1024 .bf16) (d : Vec Ideal S1024x512 .f32) (a : Fin 1024) (b : Fin 512) :
    k0_pay1 (F := Ideal) x d (ix2 a b) = ∑ r, x (ix2 r a) * d (ix2 r b) := by
  pointwise [k0_pay1]

/-! What a grid point reads. -/

theorem ix_0 : ∀ t : Fin cfg0.N, win0_0.index t (0 : Fin 2) = t.val % 8 ∧ win0_0.index t (1 : Fin 2) = t.val / 16 :=
  (by decide +kernel : ∀ t : Fin grid0.N, _)
theorem ix_1 : ∀ t : Fin cfg0.N, win0_1.index t (0 : Fin 2) = t.val % 8 ∧ win0_1.index t (1 : Fin 2) = t.val / 8 % 2 :=
  (by decide +kernel : ∀ t : Fin grid0.N, _)

variable (m : (ℓ : Loc nD τ sig) → Buf (Elt Ideal) ℓ) (c : Dev nD)

def cat : FVec Ideal S8192x1024 .bf16 := m (c, main_arg0)
def dh : FVec Ideal S8192x1024 .f32 := m (c, main_arg1)

theorem blk_0 (t : Fin cfg0.N) (r : Fin 1024) (a : Fin 1024) (h : 1024 * (t.val % 8) + r.val < 8192) (h' : 1024 * (t.val / 16) + a.val < 1024) :
    (iblk m c 0 t : Vec Ideal S1024x1024 .bf16) (ix2 r a) = cat m c (ix2 ⟨1024 * (t.val % 8) + r.val, h⟩ ⟨1024 * (t.val / 16) + a.val, h'⟩) := by
  unfold iblk
  rw [View.read_apply]
  show V m c main_arg0 _ = m (c, main_arg0) _
  unfold V
  congr 1
  funext k
  apply Fin.ext
  match k with
  | ⟨0, _⟩ => show win0_0.index t (0 : Fin 2) * 1024 + 1 * r.val = _; rw [(ix_0 t).1]; show _ = 1024 * (t.val % 8) + r.val; omega
  | ⟨1, _⟩ => show win0_0.index t (1 : Fin 2) * 1024 + 1 * a.val = _; rw [(ix_0 t).2]; show _ = 1024 * (t.val / 16) + a.val; omega

theorem blk_1 (t : Fin cfg0.N) (r : Fin 1024) (b : Fin 512) (h : 1024 * (t.val % 8) + r.val < 8192) (h' : 512 * (t.val / 8 % 2) + b.val < 1024) :
    (iblk m c 1 t : Vec Ideal S1024x512 .f32) (ix2 r b) = dh m c (ix2 ⟨1024 * (t.val % 8) + r.val, h⟩ ⟨512 * (t.val / 8 % 2) + b.val, h'⟩) := by
  unfold iblk
  rw [View.read_apply]
  show V m c main_arg1 _ = m (c, main_arg1) _
  unfold V
  congr 1
  funext k
  apply Fin.ext
  match k with
  | ⟨0, _⟩ => show win0_1.index t (0 : Fin 2) * 1024 + 1 * r.val = _; rw [(ix_1 t).1]; show _ = 1024 * (t.val % 8) + r.val; omega
  | ⟨1, _⟩ => show win0_1.index t (1 : Fin 2) * 512 + 1 * b.val = _; rw [(ix_1 t).2]; show _ = 512 * (t.val / 8 % 2) + b.val; omega

/-- One token's share of one entry of the gradient. -/
def term (A : Fin 1024) (B : Fin 1024) (t : Fin 8192) : EReal := cat m c (ix2 t A) * dh m c (ix2 t B)

theorem block (t : Fin cfg0.N) (a : Fin 1024) (b : Fin 512) (h : 1024 * (t.val / 16) + a.val < 1024) (h' : 512 * (t.val / 8 % 2) + b.val < 1024) :
    k0_pay1 (F := Ideal) (iblk m c 0 t) (iblk m c 1 t) (ix2 a b)
      = ∑ r : Fin 1024, term m c ⟨1024 * (t.val / 16) + a.val, h⟩ ⟨512 * (t.val / 8 % 2) + b.val, h'⟩ ⟨1024 * (t.val % 8) + r.val, by omega⟩ := by
  rw [part_at]
  exact Finset.sum_congr rfl fun r _ => congrArg₂ (· * ·) (blk_0 m c t r a _ _) (blk_1 m c t r b _ _)

/-- The scratch buffer after a grid point: the sum over the blocks of tokens met so far. -/
theorem sums : ∀ (n : ℕ) (hn : n < cfg0.N) (a : Fin 1024) (b : Fin 512) (h : 1024 * (n / 16) + a.val < 1024) (h' : 512 * (n / 8 % 2) + b.val < 1024),
    (outsAt0 m c n hn).2 (ix2 a b) = upto 1024 (term m c ⟨1024 * (n / 16) + a.val, h⟩ ⟨512 * (n / 8 % 2) + b.val, h'⟩) (n % 8 + 1) := by
  intro n
  induction n with
  | zero =>
    intro hn a b h h'
    rw [outsAt0_A m c ⟨0, hn⟩ rfl (by show ¬1 ≤ 0 % 8; decide) (by show ¬0 % 8 = 7; decide), first, upto_succ _ (by decide), upto_zero, zero_add]
    exact block m c ⟨0, hn⟩ a b h h'
  | succ n ih =>
    intro hn a b h h'
    have hN : n + 1 < 16 := lt_of_lt_of_eq hn N_0
    rw [upto_succ _ (by omega)]
    refine Eq.trans ?_ (congrArg (_ + ·) (block m c ⟨n + 1, hn⟩ a b h h'))
    by_cases h0 : (n + 1) % 8 = 0
    · rw [outsAt0_A m c ⟨n + 1, hn⟩ h0 (by dsimp only; omega) (by dsimp only; omega), first]
      exact (zero_add _).symm.trans (congrArg (· + _) (by rw [h0, upto_zero]))
    · have e1 : (n + 1) / 16 = n / 16 := by omega
      have e2 : (n + 1) / 8 = n / 8 := by omega
      have e3 : (n + 1) % 8 = n % 8 + 1 := by omega
      have key := ih (Nat.lt_of_succ_lt hn) a b (by omega) (by omega)
      simp only [e1, e2, e3]
      rw [← key]
      by_cases h7 : (n + 1) % 8 = 7
      · rw [outsAt0_C m c ⟨n + 1, hn⟩ h0 (by dsimp only; omega) h7, last]; rfl
      · rw [outsAt0_B m c ⟨n + 1, hn⟩ h0 (by dsimp only; omega) h7, next]; rfl

/-- What is written out is the sum over all tokens. -/
theorem tile (n : ℕ) (hn : n < cfg0.N) (h7 : n % 8 = 7) (a : Fin 1024) (b : Fin 512) (h : 1024 * (n / 16) + a.val < 1024) (h' : 512 * (n / 8 % 2) + b.val < 1024) :
    (outsAt0 m c n hn).1 (ix2 a b) = ∑ t, term m c ⟨1024 * (n / 16) + a.val, h⟩ ⟨512 * (n / 8 % 2) + b.val, h'⟩ t := by
  have e : (outsAt0 m c n hn).1 (ix2 a b) = (outsAt0 m c n hn).2 (ix2 a b) := by
    rw [outsAt0_C m c ⟨n, hn⟩ (by dsimp only; omega) (by dsimp only; omega) h7, last, done]; rfl
  rw [e, sums m c n hn a b h h', h7, upto_all _ (by decide)]

/-- The gradient of the weight. -/
def dW : FVec Ideal S1024x1024 .bf16 := fun y => ∑ t, term m c (y 0) (y 1) t

theorem arr : G2 m c = dW m c := by
  funext y
  unfold G2
  have h0 : (y 0).val < 1024 := (y 0).isLt
  have h1 : (y 1).val < 1024 := (y 1).isLt
  have hp : pt2Of y < cfg0.N := lt_of_lt_of_eq (by show 8 * (2 * ((y 0).val / 1024 - 0) + 1 * ((y 1).val / 512 - 0)) + 7 < 16; omega) N_0.symm
  rw [dif_pos hp, ← outsAt0_sweep m c _ hp]
  have el : loc2Of y = ix2 ⟨(y 0).val % 1024, Nat.mod_lt _ (by decide)⟩ ⟨(y 1).val % 512, Nat.mod_lt _ (by decide)⟩ := by
    funext k; match k with
    | ⟨0, _⟩ => rfl
    | ⟨1, _⟩ => rfl
  rw [el, tile m c _ hp (by show (8 * (2 * ((y 0).val / 1024 - 0) + 1 * ((y 1).val / 512 - 0)) + 7) % 8 = 7; omega) _ _
    (by show 1024 * ((8 * (2 * ((y 0).val / 1024 - 0) + 1 * ((y 1).val / 512 - 0)) + 7) / 16) + (y 0).val % 1024 < 1024; omega)
    (by show 512 * ((8 * (2 * ((y 0).val / 1024 - 0) + 1 * ((y 1).val / 512 - 0)) + 7) / 8 % 2) + (y 1).val % 512 < 1024; omega)]
  unfold dW
  refine congrArg₂ (fun A B => ∑ t, term m c A B t) (Fin.ext ?_) (Fin.ext ?_)
  · show 1024 * ((8 * (2 * ((y 0).val / 1024 - 0) + 1 * ((y 1).val / 512 - 0)) + 7) / 16) + (y 0).val % 1024 = (y 0).val; omega
  · show 512 * ((8 * (2 * ((y 0).val / 1024 - 0) + 1 * ((y 1).val / 512 - 0)) + 7) / 8 % 2) + (y 1).val % 512 = (y 1).val; omega

end Cert.Kernel12Ideal.Dw

end
-- ==== Proof.OutDwSame.lean ====
/-
  The gradient of the output projection's weight, compared with the reference's.
-/
module

public import proofs.«01_k».proof.Proof.OutDw
public import proofs.«01_k».proof.Proof.Gen.Reference12Ideal.Read
public import proofs.«01_k».proof.Defs

@[expose] public section

noncomputable section

namespace Cert.Kernel12Ideal.Dw

open Cert.Kernel12Ideal Idealize.ShloMosaic Idealize.ShloMosaic.TcCoe Cert.Reference12Ideal.Read

theorem same (m : (ℓ : Loc nD τ sig) → Buf (Elt Ideal) ℓ) (c : Dev nD) (x0 : FVec Ideal S8192x1024 .bf16) (x1 : FVec Ideal S8192x1024 .f32)
    (h0 : x0 = cat m c) (h1 : x1 = dh m c) : val_main_v5 (F := Ideal) x0 x1 = dW m c := by
  subst h0 h1
  funext y
  rw [val_main_v5_apply, val_main_v4_apply, val_main_v3_apply]
  refine Finset.sum_congr rfl fun t _ => ?_
  rw [mul_comm]
  refine congrArg₂ (· * ·) (congrArg (cat m c) ?_) (congrArg (dh m c) ?_)
  · funext k; match k with
    | ⟨0, _⟩ => rfl
    | ⟨1, _⟩ => rfl
  · funext k; match k with
    | ⟨0, _⟩ => rfl
    | ⟨1, _⟩ => rfl

theorem frame_reference (m : (ℓ : Loc Cert.Reference12Ideal.nD Cert.Reference12Ideal.τ Cert.Reference12Ideal.sig) → Buf (Elt Ideal) ℓ) (g : Dev Cert.Reference12Ideal.nD → PrngReg) :
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0) :=
  (θ_run _ _ _).mono (fun r h => ⟨fun c => (h c).2, sem_eq_zero_of_no_sems rfl r.2⟩) (Cert.Reference12Ideal.Value.run m g)

theorem algebraic : Cert.algebraic_Kernel12Ideal_Reference12Ideal (hKernel12Ideal := Cert.Kernel12Ideal.Gen.facts) (hReference12Ideal := Cert.Reference12Ideal.Gen.facts) := by
  intro m g m' g' _ hagree
  refine ⟨fun c => dW m c, ?_, ?_⟩
  · refine (θ_run _ _ _).mono (fun r h c => ?_) (Cert.Kernel12Ideal.Value.run m g)
    exact ⟨(h c).1.trans (arr m c), (h c).2⟩
  · refine (θ_run _ _ _).mono (fun r h c => ?_) (Cert.Reference12Ideal.Value.run m' g')
    exact ⟨((h c).1.trans (val_main_v5_eq (m' (c, Cert.Reference12Ideal.main_arg0)) (m' (c, Cert.Reference12Ideal.main_arg1)))).trans
      (same m c (m' (c, Cert.Reference12Ideal.main_arg0)) (m' (c, Cert.Reference12Ideal.main_arg1)) (hagree c).1 (hagree c).2), (h c).2⟩

end Cert.Kernel12Ideal.Dw

end
-- ==== Proof.OutDx.lean ====
/-
  The step back through the attention layer's output projection: the gradient times the weight, transposed. One tile is computed at each grid point.
-/
module

public import proofs.«01_k».proof.Proof.Gen.Kernel13Ideal.Value
public import Idealize.ShloMosaic.Lib.Pointwise
public import Idealize.ShloMosaic.Lib.Tactic
public import Idealize.ShloMosaic.Lib.Pipeline.ValueKit

@[expose] public section

set_option maxRecDepth 16384

noncomputable section

namespace Cert.Kernel13Ideal.Mul

open Cert.Kernel13Ideal Cert.Kernel13Ideal.Gen Cert.Kernel13Ideal.Value
open Idealize.ShloMosaic Idealize.ShloMosaic.TcCoe

theorem hz : (![0, 0] : Fin 2 → Nat) = fun _ => 0 := funext fun a => by fin_cases a <;> rfl

/-! One tile. -/

variable (x : Vec Ideal S1024x1024 .f32) (w : Vec Ideal S1024x1024 .bf16)

theorem pay_at (a : Fin 1024) (b : Fin 1024) : k0_pay1 (F := Ideal) x w (ix2 a b) = ∑ r, x (ix2 a r) * w (ix2 b r) := by
  pointwise [k0_pay1]

theorem out_at (a : Fin 1024) (b : Fin 1024) : out0_2 (F := Ideal) x w (ix2 a b) = ∑ r, x (ix2 a r) * w (ix2 b r) := by
  unfold out0_2
  rw [View.canon_unit_zero hz, View.ld_unit_zero (S := S1024x1024) hz, View.ld_unit_zero (S := S1024x1024) hz]
  exact pay_at x w a b

/-! What a grid point reads. -/

theorem ix_0 : ∀ t : Fin cfg0.N, win0_0.index t (0 : Fin 2) = t.val ∧ win0_0.index t (1 : Fin 2) = 0 :=
  (by decide +kernel : ∀ t : Fin grid0.N, _)
theorem ix_1 : ∀ t : Fin cfg0.N, win0_1.index t (0 : Fin 2) = 0 ∧ win0_1.index t (1 : Fin 2) = 0 :=
  (by decide +kernel : ∀ t : Fin grid0.N, _)
theorem ix_2 : ∀ t : Fin cfg0.N, win0_2.index t (0 : Fin 2) = t.val ∧ win0_2.index t (1 : Fin 2) = 0 :=
  (by decide +kernel : ∀ t : Fin grid0.N, _)

variable (m : (ℓ : Loc nD τ sig) → Buf (Elt Ideal) ℓ) (c : Dev nD)

def dh : FVec Ideal S8192x1024 .f32 := m (c, main_arg0)
def out : FVec Ideal S1024x1024 .bf16 := m (c, main_arg1)

theorem blk_0 (t : Fin cfg0.N) (a : Fin 1024) (r : Fin 1024) (h : 1024 * t.val + a.val < 8192) :
    (iblk m c 0 t : Vec Ideal S1024x1024 .f32) (ix2 a r) = dh m c (ix2 ⟨1024 * t.val + a.val, h⟩ r) := by
  unfold iblk
  rw [View.read_apply]
  show V m c main_arg0 _ = m (c, main_arg0) _
  unfold V
  congr 1
  funext k
  apply Fin.ext
  match k with
  | ⟨0, _⟩ => show win0_0.index t (0 : Fin 2) * 1024 + 1 * a.val = _; rw [(ix_0 t).1]; show _ = 1024 * t.val + a.val; omega
  | ⟨1, _⟩ => show win0_0.index t (1 : Fin 2) * 1024 + 1 * r.val = _; rw [(ix_0 t).2]; show _ = r.val; omega

theorem blk_1 (t : Fin cfg0.N) (b : Fin 1024) (r : Fin 1024) :
    (iblk m c 1 t : Vec Ideal S1024x1024 .bf16) (ix2 b r) = out m c (ix2 b r) := by
  unfold iblk
  rw [View.read_apply]
  show V m c main_arg1 _ = m (c, main_arg1) _
  unfold V
  congr 1
  funext k
  apply Fin.ext
  match k with
  | ⟨0, _⟩ => show win0_1.index t (0 : Fin 2) * 1024 + 1 * b.val = _; rw [(ix_1 t).1]; show _ = b.val; omega
  | ⟨1, _⟩ => show win0_1.index t (1 : Fin 2) * 1024 + 1 * r.val = _; rw [(ix_1 t).2]; show _ = r.val; omega

/-- The product, at every index. -/
def result : FVec Ideal S8192x1024 .f32 := fun y => ∑ r : Fin 1024, dh m c (ix2 (y 0) r) * out m c (ix2 (y 1) r)

theorem tile_eq (t : Fin cfg0.N) (a : Fin 1024) (b : Fin 1024) (h : 1024 * t.val + a.val < 8192) :
    out0_2 (F := Ideal) (iblk m c 0 t) (iblk m c 1 t) (ix2 a b) = result m c (ix2 ⟨1024 * t.val + a.val, h⟩ b) := by
  refine (out_at _ _ a b).trans ?_
  exact Finset.sum_congr rfl fun r _ => congrArg₂ (· * ·) (blk_0 m c t a r h) (blk_1 m c t b r)

theorem covers : (cfg0.win 2).Covers := by decide +kernel

theorem arr : (dats m 0 c).arrAt 2 cfg0.N = result m c := by
  refine (dats m 0 c).arrAt_eq_of_covers 2 (result m c) covers fun t hf z => ?_
  have ht : t.val < 8 := lt_of_lt_of_eq t.isLt N_0
  have h0 : (z 0).val < 1024 := (z 0).isLt
  have h1 : (z 1).val < 1024 := (z 1).isLt
  have e : ((cfg0.win 2).blk t).view.emb z = ix2 ⟨1024 * t.val + (z 0).val, by omega⟩ (z 1) := by
    refine funext fun a => Fin.ext ?_
    refine ((cfg0.win 2).rect_emb_val t z a).trans ?_
    match a with
    | ⟨0, _⟩ => show win0_2.index t (0 : Fin 2) * 1024 + (z 0).val = 1024 * t.val + (z 0).val; rw [(ix_2 t).1]; omega
    | ⟨1, _⟩ => show win0_2.index t (1 : Fin 2) * 1024 + (z 1).val = (z 1).val; rw [(ix_2 t).2]; omega
  blk_simp
  rw [after0_2]
  refine Eq.trans ?_ (congrArg (result m c) e).symm
  have hz : (z : S1024x1024.Idx) = ix2 (z 0) (z 1) := by funext a; fin_cases a <;> rfl
  refine (congrArg (out0_2 (F := Ideal) (iblk m c 0 t) (iblk m c 1 t)) hz).trans ?_
  exact tile_eq m c t (z 0) (z 1) (by omega)

end Cert.Kernel13Ideal.Mul

end
-- ==== Proof.OutDxSame.lean ====
/-
  The step back through the attention layer's output projection: the gradient times the weight, transposed; compared with the reference's.
-/
module

public import proofs.«01_k».proof.Proof.OutDx
public import proofs.«01_k».proof.Proof.Gen.Reference13Ideal.Read
public import proofs.«01_k».proof.Defs

@[expose] public section

noncomputable section

namespace Cert.Kernel13Ideal.Mul

open Cert.Kernel13Ideal Idealize.ShloMosaic Idealize.ShloMosaic.TcCoe Cert.Reference13Ideal.Read

theorem same (m : (ℓ : Loc nD τ sig) → Buf (Elt Ideal) ℓ) (c : Dev nD) (x0 : FVec Ideal S8192x1024 .f32) (x1 : FVec Ideal S1024x1024 .bf16)
    (h0 : x0 = dh m c) (h1 : x1 = out m c) : val_main_v3 (F := Ideal) x0 x1 = result m c := by
  subst h0 h1
  funext y
  rw [val_main_v3_apply]
  refine Finset.sum_congr rfl fun r _ => ?_
  rw [val_main_v1_apply]
  refine congrArg₂ (· * ·) (congrArg (dh m c) ?_) (congrArg (out m c) ?_)
  · funext k; match k with
    | ⟨0, _⟩ => rfl
    | ⟨1, _⟩ => rfl
  · funext k; match k with
    | ⟨0, _⟩ => rfl
    | ⟨1, _⟩ => rfl

theorem frame_reference (m : (ℓ : Loc Cert.Reference13Ideal.nD Cert.Reference13Ideal.τ Cert.Reference13Ideal.sig) → Buf (Elt Ideal) ℓ) (g : Dev Cert.Reference13Ideal.nD → PrngReg) :
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0) :=
  (θ_run _ _ _).mono (fun r h => ⟨fun c => (h c).2, sem_eq_zero_of_no_sems rfl r.2⟩) (Cert.Reference13Ideal.Value.run m g)

theorem algebraic : Cert.algebraic_Kernel13Ideal_Reference13Ideal (hKernel13Ideal := Cert.Kernel13Ideal.Gen.facts) (hReference13Ideal := Cert.Reference13Ideal.Gen.facts) := by
  intro m g m' g' _ hagree
  refine ⟨fun c => result m c, ?_, ?_⟩
  · refine (θ_run _ _ _).mono (fun r h c => ?_) (Cert.Kernel13Ideal.Value.run_blocks m g)
    exact ⟨(h c).1.trans (arr m c), (h c).2⟩
  · refine (θ_run _ _ _).mono (fun r h c => ?_) (Cert.Reference13Ideal.Value.run m' g')
    exact ⟨((h c).1.trans (val_main_v3_eq (m' (c, Cert.Reference13Ideal.main_arg0)) (m' (c, Cert.Reference13Ideal.main_arg1)))).trans
      (same m c (m' (c, Cert.Reference13Ideal.main_arg0)) (m' (c, Cert.Reference13Ideal.main_arg1)) (hagree c).1 (hagree c).2), (h c).2⟩

end Cert.Kernel13Ideal.Mul

end
-- ==== Proof.MemOut.lean ====
/-
  The memory readout's output projection and the residual added to it. One tile is computed at each grid point.
-/
module

public import proofs.«01_k».proof.Proof.Gen.Kernel14Ideal.Value
public import Idealize.ShloMosaic.Lib.Pointwise
public import Idealize.ShloMosaic.Lib.Tactic
public import Idealize.ShloMosaic.Lib.Pipeline.ValueKit

@[expose] public section

set_option maxRecDepth 16384

noncomputable section

namespace Cert.Kernel14Ideal.Mul

open Cert.Kernel14Ideal Cert.Kernel14Ideal.Gen Cert.Kernel14Ideal.Value
open Idealize.ShloMosaic Idealize.ShloMosaic.TcCoe

theorem hz : (![0, 0] : Fin 2 → Nat) = fun _ => 0 := funext fun a => by fin_cases a <;> rfl

/-! One tile. -/

variable (x : Vec Ideal S1024x512 .bf16) (w : Vec Ideal S512x512 .bf16) (h : Vec Ideal S1024x512 .f32)

theorem pay_at (a : Fin 1024) (b : Fin 512) : k0_pay1 (F := Ideal) x w h (ix2 a b) = (∑ r, x (ix2 a r) * w (ix2 r b)) + h (ix2 a b) := by
  pointwise [k0_pay1]

theorem out_at (a : Fin 1024) (b : Fin 512) : out0_3 (F := Ideal) x w h (ix2 a b) = (∑ r, x (ix2 a r) * w (ix2 r b)) + h (ix2 a b) := by
  unfold out0_3
  rw [View.canon_unit_zero hz, View.ld_unit_zero (S := S1024x512) hz, View.ld_unit_zero (S := S512x512) hz, View.ld_unit_zero (S := S1024x512) hz]
  exact pay_at x w h a b

/-! What a grid point reads. -/

theorem ix_0 : ∀ t : Fin cfg0.N, win0_0.index t (0 : Fin 2) = t.val / 2 ∧ win0_0.index t (1 : Fin 2) = 0 :=
  (by decide +kernel : ∀ t : Fin grid0.N, _)
theorem ix_1 : ∀ t : Fin cfg0.N, win0_1.index t (0 : Fin 2) = 0 ∧ win0_1.index t (1 : Fin 2) = t.val % 2 :=
  (by decide +kernel : ∀ t : Fin grid0.N, _)
theorem ix_2 : ∀ t : Fin cfg0.N, win0_2.index t (0 : Fin 2) = t.val / 2 ∧ win0_2.index t (1 : Fin 2) = t.val % 2 :=
  (by decide +kernel : ∀ t : Fin grid0.N, _)
theorem ix_3 : ∀ t : Fin cfg0.N, win0_3.index t (0 : Fin 2) = t.val / 2 ∧ win0_3.index t (1 : Fin 2) = t.val % 2 :=
  (by decide +kernel : ∀ t : Fin grid0.N, _)

variable (m : (ℓ : Loc nD τ sig) → Buf (Elt Ideal) ℓ) (c : Dev nD)

def mo : FVec Ideal S8192x512 .bf16 := m (c, main_arg0)
def memOut : FVec Ideal S512x1024 .bf16 := m (c, main_arg1)
def residual : FVec Ideal S8192x1024 .f32 := m (c, main_arg2)

theorem blk_0 (t : Fin cfg0.N) (a : Fin 1024) (r : Fin 512) (h : 1024 * (t.val / 2) + a.val < 8192) :
    (iblk m c 0 t : Vec Ideal S1024x512 .bf16) (ix2 a r) = mo m c (ix2 ⟨1024 * (t.val / 2) + a.val, h⟩ r) := by
  unfold iblk
  rw [View.read_apply]
  show V m c main_arg0 _ = m (c, main_arg0) _
  unfold V
  congr 1
  funext k
  apply Fin.ext
  match k with
  | ⟨0, _⟩ => show win0_0.index t (0 : Fin 2) * 1024 + 1 * a.val = _; rw [(ix_0 t).1]; show _ = 1024 * (t.val / 2) + a.val; omega
  | ⟨1, _⟩ => show win0_0.index t (1 : Fin 2) * 512 + 1 * r.val = _; rw [(ix_0 t).2]; show _ = r.val; omega

theorem blk_1 (t : Fin cfg0.N) (r : Fin 512) (b : Fin 512) (h' : 512 * (t.val % 2) + b.val < 1024) :
    (iblk m c 1 t : Vec Ideal S512x512 .bf16) (ix2 r b) = memOut m c (ix2 r ⟨512 * (t.val % 2) + b.val, h'⟩) := by
  unfold iblk
  rw [View.read_apply]
  show V m c main_arg1 _ = m (c, main_arg1) _
  unfold V
  congr 1
  funext k
  apply Fin.ext
  match k with
  | ⟨0, _⟩ => show win0_1.index t (0 : Fin 2) * 512 + 1 * r.val = _; rw [(ix_1 t).1]; show _ = r.val; omega
  | ⟨1, _⟩ => show win0_1.index t (1 : Fin 2) * 512 + 1 * b.val = _; rw [(ix_1 t).2]; show _ = 512 * (t.val % 2) + b.val; omega

theorem blk_2 (t : Fin cfg0.N) (a : Fin 1024) (b : Fin 512) (h : 1024 * (t.val / 2) + a.val < 8192) (h' : 512 * (t.val % 2) + b.val < 1024) :
    (iblk m c 2 t : Vec Ideal S1024x512 .f32) (ix2 a b) = residual m c (ix2 ⟨1024 * (t.val / 2) + a.val, h⟩ ⟨512 * (t.val % 2) + b.val, h'⟩) := by
  unfold iblk
  rw [View.read_apply]
  show V m c main_arg2 _ = m (c, main_arg2) _
  unfold V
  congr 1
  funext k
  apply Fin.ext
  match k with
  | ⟨0, _⟩ => show win0_2.index t (0 : Fin 2) * 1024 + 1 * a.val = _; rw [(ix_2 t).1]; show _ = 1024 * (t.val / 2) + a.val; omega
  | ⟨1, _⟩ => show win0_2.index t (1 : Fin 2) * 512 + 1 * b.val = _; rw [(ix_2 t).2]; show _ = 512 * (t.val % 2) + b.val; omega

/-- The product and the residual, at every index. -/
def result : FVec Ideal S8192x1024 .f32 := fun y => (∑ r : Fin 512, mo m c (ix2 (y 0) r) * memOut m c (ix2 r (y 1))) + residual m c (ix2 (y 0) (y 1))

theorem tile_eq (t : Fin cfg0.N) (a : Fin 1024) (b : Fin 512) (h : 1024 * (t.val / 2) + a.val < 8192) (h' : 512 * (t.val % 2) + b.val < 1024) :
    out0_3 (F := Ideal) (iblk m c 0 t) (iblk m c 1 t) (iblk m c 2 t) (ix2 a b) = result m c (ix2 ⟨1024 * (t.val / 2) + a.val, h⟩ ⟨512 * (t.val % 2) + b.val, h'⟩) := by
  refine (out_at _ _ _ a b).trans ?_
  exact congrArg₂ (· + ·) (Finset.sum_congr rfl fun r _ => congrArg₂ (· * ·) (blk_0 m c t a r h) (blk_1 m c t r b h')) (blk_2 m c t a b h h')

theorem covers : (cfg0.win 3).Covers := by decide +kernel

theorem arr : (dats m 0 c).arrAt 3 cfg0.N = result m c := by
  refine (dats m 0 c).arrAt_eq_of_covers 3 (result m c) covers fun t hf z => ?_
  have ht : t.val < 16 := lt_of_lt_of_eq t.isLt N_0
  have h0 : (z 0).val < 1024 := (z 0).isLt
  have h1 : (z 1).val < 512 := (z 1).isLt
  have e : ((cfg0.win 3).blk t).view.emb z = ix2 ⟨1024 * (t.val / 2) + (z 0).val, by omega⟩ ⟨512 * (t.val % 2) + (z 1).val, by omega⟩ := by
    refine funext fun a => Fin.ext ?_
    refine ((cfg0.win 3).rect_emb_val t z a).trans ?_
    match a with
    | ⟨0, _⟩ => show win0_3.index t (0 : Fin 2) * 1024 + (z 0).val = 1024 * (t.val / 2) + (z 0).val; rw [(ix_3 t).1]; omega
    | ⟨1, _⟩ => show win0_3.index t (1 : Fin 2) * 512 + (z 1).val = 512 * (t.val % 2) + (z 1).val; rw [(ix_3 t).2]; omega
  blk_simp
  rw [after0_3]
  refine Eq.trans ?_ (congrArg (result m c) e).symm
  have hz : (z : S1024x512.Idx) = ix2 (z 0) (z 1) := by funext a; fin_cases a <;> rfl
  refine (congrArg (out0_3 (F := Ideal) (iblk m c 0 t) (iblk m c 1 t) (iblk m c 2 t)) hz).trans ?_
  exact tile_eq m c t (z 0) (z 1) (by omega) (by omega)

end Cert.Kernel14Ideal.Mul

end
-- ==== Proof.MemOutSame.lean ====
/-
  The memory readout's output projection and the residual added to it; compared with the reference's.
-/
module

public import proofs.«01_k».proof.Proof.MemOut
public import proofs.«01_k».proof.Proof.Gen.Reference14Ideal.Read
public import proofs.«01_k».proof.Defs

@[expose] public section

noncomputable section

namespace Cert.Kernel14Ideal.Mul

open Cert.Kernel14Ideal Idealize.ShloMosaic Idealize.ShloMosaic.TcCoe Cert.Reference14Ideal.Read

theorem same (m : (ℓ : Loc nD τ sig) → Buf (Elt Ideal) ℓ) (c : Dev nD) (x0 : FVec Ideal S8192x512 .bf16) (x1 : FVec Ideal S512x1024 .bf16) (x2 : FVec Ideal S8192x1024 .f32)
    (h0 : x0 = mo m c) (h1 : x1 = memOut m c) (h2 : x2 = residual m c) : val_main_v3 (F := Ideal) x0 x1 x2 = result m c := by
  subst h0 h1 h2
  funext y
  rw [val_main_v3_apply, val_main_v2_apply]
  refine (add_comm _ _).trans (congrArg₂ (· + ·) (Finset.sum_congr rfl fun r _ => ?_) (congrArg (residual m c) ?_))
  · rw [val_main_v0_apply, val_main_v1_apply]
    refine congrArg₂ (· * ·) (congrArg (mo m c) ?_) (congrArg (memOut m c) ?_)
    · funext k; match k with
      | ⟨0, _⟩ => rfl
      | ⟨1, _⟩ => rfl
    · funext k; match k with
      | ⟨0, _⟩ => rfl
      | ⟨1, _⟩ => rfl
  · funext k; match k with
    | ⟨0, _⟩ => rfl
    | ⟨1, _⟩ => rfl

theorem frame_reference (m : (ℓ : Loc Cert.Reference14Ideal.nD Cert.Reference14Ideal.τ Cert.Reference14Ideal.sig) → Buf (Elt Ideal) ℓ) (g : Dev Cert.Reference14Ideal.nD → PrngReg) :
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0) :=
  (θ_run _ _ _).mono (fun r h => ⟨fun c => (h c).2, sem_eq_zero_of_no_sems rfl r.2⟩) (Cert.Reference14Ideal.Value.run m g)

theorem algebraic : Cert.algebraic_Kernel14Ideal_Reference14Ideal (hKernel14Ideal := Cert.Kernel14Ideal.Gen.facts) (hReference14Ideal := Cert.Reference14Ideal.Gen.facts) := by
  intro m g m' g' _ hagree
  refine ⟨fun c => result m c, ?_, ?_⟩
  · refine (θ_run _ _ _).mono (fun r h c => ?_) (Cert.Kernel14Ideal.Value.run_blocks m g)
    exact ⟨(h c).1.trans (arr m c), (h c).2⟩
  · refine (θ_run _ _ _).mono (fun r h c => ?_) (Cert.Reference14Ideal.Value.run m' g')
    exact ⟨((h c).1.trans (val_main_v3_eq (m' (c, Cert.Reference14Ideal.main_arg0)) (m' (c, Cert.Reference14Ideal.main_arg1)) (m' (c, Cert.Reference14Ideal.main_arg2)))).trans
      (same m c (m' (c, Cert.Reference14Ideal.main_arg0)) (m' (c, Cert.Reference14Ideal.main_arg1)) (m' (c, Cert.Reference14Ideal.main_arg2)) (hagree c).1 (hagree c).2.1 (hagree c).2.2), (h c).2⟩

end Cert.Kernel14Ideal.Mul

end
-- ==== Proof.MemOutDw.lean ====
/-
  The gradient of the memory attention's output weight: the attention's output, transposed, times the gradient of the
  output. One tile of the result is a sum over eight blocks of 1024 tokens, kept in a scratch buffer.
-/
module

public import proofs.«01_k».proof.Proof.Tiles
public import proofs.«01_k».proof.Proof.Gen.Kernel15Ideal.Value
public import Idealize.ShloMosaic.Lib.Pointwise
public import Idealize.ShloMosaic.Lib.Tactic
public import Idealize.ShloMosaic.Lib.Pipeline.ValueKit

@[expose] public section

noncomputable section

namespace Cert.Kernel15Ideal.Dw

open Cert.Kernel15Ideal Cert.Kernel15Ideal.Gen Cert.Kernel15Ideal.Value Cert.Tiles
open Idealize.ShloMosaic Idealize.ShloMosaic.TcCoe

theorem hz : (![0, 0] : Fin 2 → Nat) = fun _ => 0 := funext fun a => by fin_cases a <;> rfl

section Body
variable {F : FTy → Type} [FloatOps F]
variable (c : Dev nD) (i : grid0.Coords) (a4 : Memref sig .tc .vmem S1024x512 .bf16) (h4 : a4.IsWhole) (a5 : Memref sig .tc .vmem S1024x1024 .f32) (h5 : a5.IsWhole)
  (a6 : Memref sig .tc .vmem S512x1024 .bf16) (h6 : a6.IsWhole) (a7 : Memref sig .tc .vmem S512x1024 .f32) (h7 : a7.IsWhole)
  (x : Vec F S1024x512 .bf16) (d : Vec F S1024x1024 .f32) (s : Vec F S512x1024 .f32)

/-- The first block of tokens starts the sum. -/
theorem first (c0 : cond0_0 i) (c1 : ¬cond0_1 i) (c2 : ¬cond0_2 i) : sout0_A_0 c i a4 h4 a5 h5 a6 h6 a7 h7 c0 c1 c2 x d = k0_pay1 x d := by
  unfold sout0_A_0
  rw [View.read_writes_eq_canon _ _ _ (scover0_A_0 c i a4 h4 a5 h5 a6 h6 a7 h7 c0 c1 c2 x d)]
  unfold kernelRun0_A
  dsimp only
  sl_unfold_words
  rw [View.canon_unit_zero hz]
  unfold k0_pay2
  simp only [View.readAt_eq_ld, h4.read_unread, h5.read_unread, View.ld_unit_zero (S := S1024x512) hz, View.ld_unit_zero (S := S1024x1024) hz, shapeCast_self]

/-- A later block is added. -/
theorem next (c0 : ¬cond0_0 i) (c1 : cond0_1 i) (c2 : ¬cond0_2 i) : sout0_B_0 c i a4 h4 a5 h5 a6 h6 a7 h7 c0 c1 c2 x d s = addf s (k0_pay1 x d) := by
  unfold sout0_B_0
  rw [View.read_writes_eq_canon _ _ _ (scover0_B_0 c i a4 h4 a5 h5 a6 h6 a7 h7 c0 c1 c2 x d s)]
  unfold kernelRun0_B
  dsimp only
  sl_unfold_words
  rw [View.canon_unit_zero hz]
  unfold k0_pay3
  simp only [View.readAt_eq_ld, h4.read_unread, h5.read_unread, h7.read_unread, View.ld_unit_zero (S := S1024x512) hz, View.ld_unit_zero (S := S1024x1024) hz, View.ld_unit_zero (S := S512x1024) hz, shapeCast_self]

/-- The last block is added, and the sum is the result's tile. -/
theorem last (c0 : ¬cond0_0 i) (c1 : cond0_1 i) (c2 : cond0_2 i) : sout0_C_0 c i a4 h4 a5 h5 a6 h6 a7 h7 c0 c1 c2 x d s = addf s (k0_pay1 x d) := by
  unfold sout0_C_0
  rw [View.read_writes_eq_canon _ _ _ (scover0_C_0 c i a4 h4 a5 h5 a6 h6 a7 h7 c0 c1 c2 x d s)]
  unfold kernelRun0_C
  dsimp only
  sl_unfold_words
  rw [View.canon_unit_zero hz]
  unfold k0_pay3
  simp only [View.readAt_eq_ld, h4.read_unread, h5.read_unread, h7.read_unread, View.ld_unit_zero (S := S1024x512) hz, View.ld_unit_zero (S := S1024x1024) hz, View.ld_unit_zero (S := S512x1024) hz, shapeCast_self]

theorem done (c0 : ¬cond0_0 i) (c1 : cond0_1 i) (c2 : cond0_2 i) : out0_C_2 c i a4 h4 a5 h5 a6 h6 a7 h7 c0 c1 c2 x d s = k0_pay4 (addf s (k0_pay1 x d)) := by
  unfold out0_C_2
  rw [View.read_writes_eq_canon _ _ _ (cover0_C_2 c i a4 h4 a5 h5 a6 h6 a7 h7 c0 c1 c2 x d s)]
  unfold kernelRun0_C
  dsimp only
  sl_unfold_words
  rw [View.canon_unit_zero hz, View.readCov_unit_zero (S := S512x1024) _ hz]
  unfold k0_pay3
  simp only [View.readAt_eq_ld, h4.read_unread, h5.read_unread, h7.read_unread, View.ld_unit_zero (S := S1024x512) hz, View.ld_unit_zero (S := S1024x1024) hz, View.ld_unit_zero (S := S512x1024) hz, shapeCast_self]

end Body

/-- One block's share of one entry. -/
theorem part_at (x : Vec Ideal S1024x512 .bf16) (d : Vec Ideal S1024x1024 .f32) (a : Fin 512) (b : Fin 1024) :
    k0_pay1 (F := Ideal) x d (ix2 a b) = ∑ r, x (ix2 r a) * d (ix2 r b) := by
  pointwise [k0_pay1]

/-! What a grid point reads. -/

theorem ix_0 : ∀ t : Fin cfg0.N, win0_0.index t (0 : Fin 2) = t.val % 8 ∧ win0_0.index t (1 : Fin 2) = t.val / 8 :=
  (by decide +kernel : ∀ t : Fin grid0.N, _)
theorem ix_1 : ∀ t : Fin cfg0.N, win0_1.index t (0 : Fin 2) = t.val % 8 ∧ win0_1.index t (1 : Fin 2) = t.val / 8 % 1 :=
  (by decide +kernel : ∀ t : Fin grid0.N, _)

variable (m : (ℓ : Loc nD τ sig) → Buf (Elt Ideal) ℓ) (c : Dev nD)

def mo : FVec Ideal S8192x512 .bf16 := m (c, main_arg0)
def dh : FVec Ideal S8192x1024 .f32 := m (c, main_arg1)

theorem blk_0 (t : Fin cfg0.N) (r : Fin 1024) (a : Fin 512) (h : 1024 * (t.val % 8) + r.val < 8192) (h' : 512 * (t.val / 8) + a.val < 512) :
    (iblk m c 0 t : Vec Ideal S1024x512 .bf16) (ix2 r a) = mo m c (ix2 ⟨1024 * (t.val % 8) + r.val, h⟩ ⟨512 * (t.val / 8) + a.val, h'⟩) := by
  unfold iblk
  rw [View.read_apply]
  show V m c main_arg0 _ = m (c, main_arg0) _
  unfold V
  congr 1
  funext k
  apply Fin.ext
  match k with
  | ⟨0, _⟩ => show win0_0.index t (0 : Fin 2) * 1024 + 1 * r.val = _; rw [(ix_0 t).1]; show _ = 1024 * (t.val % 8) + r.val; omega
  | ⟨1, _⟩ => show win0_0.index t (1 : Fin 2) * 512 + 1 * a.val = _; rw [(ix_0 t).2]; show _ = 512 * (t.val / 8) + a.val; omega

theorem blk_1 (t : Fin cfg0.N) (r : Fin 1024) (b : Fin 1024) (h : 1024 * (t.val % 8) + r.val < 8192) (h' : 1024 * (t.val / 8 % 1) + b.val < 1024) :
    (iblk m c 1 t : Vec Ideal S1024x1024 .f32) (ix2 r b) = dh m c (ix2 ⟨1024 * (t.val % 8) + r.val, h⟩ ⟨1024 * (t.val / 8 % 1) + b.val, h'⟩) := by
  unfold iblk
  rw [View.read_apply]
  show V m c main_arg1 _ = m (c, main_arg1) _
  unfold V
  congr 1
  funext k
  apply Fin.ext
  match k with
  | ⟨0, _⟩ => show win0_1.index t (0 : Fin 2) * 1024 + 1 * r.val = _; rw [(ix_1 t).1]; show _ = 1024 * (t.val % 8) + r.val; omega
  | ⟨1, _⟩ => show win0_1.index t (1 : Fin 2) * 1024 + 1 * b.val = _; rw [(ix_1 t).2]; show _ = 1024 * (t.val / 8 % 1) + b.val; omega

/-- One token's share of one entry of the gradient. -/
def term (A : Fin 512) (B : Fin 1024) (t : Fin 8192) : EReal := mo m c (ix2 t A) * dh m c (ix2 t B)

theorem block (t : Fin cfg0.N) (a : Fin 512) (b : Fin 1024) (h : 512 * (t.val / 8) + a.val < 512) (h' : 1024 * (t.val / 8 % 1) + b.val < 1024) :
    k0_pay1 (F := Ideal) (iblk m c 0 t) (iblk m c 1 t) (ix2 a b)
      = ∑ r : Fin 1024, term m c ⟨512 * (t.val / 8) + a.val, h⟩ ⟨1024 * (t.val / 8 % 1) + b.val, h'⟩ ⟨1024 * (t.val % 8) + r.val, by omega⟩ := by
  rw [part_at]
  exact Finset.sum_congr rfl fun r _ => congrArg₂ (· * ·) (blk_0 m c t r a _ _) (blk_1 m c t r b _ _)

/-- The scratch buffer after a grid point: the sum over the blocks of tokens met so far. -/
theorem sums : ∀ (n : ℕ) (hn : n < cfg0.N) (a : Fin 512) (b : Fin 1024) (h : 512 * (n / 8) + a.val < 512) (h' : 1024 * (n / 8 % 1) + b.val < 1024),
    (outsAt0 m c n hn).2 (ix2 a b) = upto 1024 (term m c ⟨512 * (n / 8) + a.val, h⟩ ⟨1024 * (n / 8 % 1) + b.val, h'⟩) (n % 8 + 1) := by
  intro n
  induction n with
  | zero =>
    intro hn a b h h'
    rw [outsAt0_A m c ⟨0, hn⟩ rfl (by show ¬1 ≤ 0 % 8; decide) (by show ¬0 % 8 = 7; decide), first, upto_succ _ (by decide), upto_zero, zero_add]
    exact block m c ⟨0, hn⟩ a b h h'
  | succ n ih =>
    intro hn a b h h'
    have hN : n + 1 < 8 := lt_of_lt_of_eq hn N_0
    rw [upto_succ _ (by omega)]
    refine Eq.trans ?_ (congrArg (_ + ·) (block m c ⟨n + 1, hn⟩ a b h h'))
    by_cases h0 : (n + 1) % 8 = 0
    · rw [outsAt0_A m c ⟨n + 1, hn⟩ h0 (by dsimp only; omega) (by dsimp only; omega), first]
      exact (zero_add _).symm.trans (congrArg (· + _) (by rw [h0, upto_zero]))
    · have e1 : (n + 1) / 8 = n / 8 := by omega
      have e2 : (n + 1) / 8 = n / 8 := by omega
      have e3 : (n + 1) % 8 = n % 8 + 1 := by omega
      have key := ih (Nat.lt_of_succ_lt hn) a b (by omega) (by omega)
      simp only [e1, e2, e3]
      rw [← key]
      by_cases h7 : (n + 1) % 8 = 7
      · rw [outsAt0_C m c ⟨n + 1, hn⟩ h0 (by dsimp only; omega) h7, last]; rfl
      · rw [outsAt0_B m c ⟨n + 1, hn⟩ h0 (by dsimp only; omega) h7, next]; rfl

/-- What is written out is the sum over all tokens. -/
theorem tile (n : ℕ) (hn : n < cfg0.N) (h7 : n % 8 = 7) (a : Fin 512) (b : Fin 1024) (h : 512 * (n / 8) + a.val < 512) (h' : 1024 * (n / 8 % 1) + b.val < 1024) :
    (outsAt0 m c n hn).1 (ix2 a b) = ∑ t, term m c ⟨512 * (n / 8) + a.val, h⟩ ⟨1024 * (n / 8 % 1) + b.val, h'⟩ t := by
  have e : (outsAt0 m c n hn).1 (ix2 a b) = (outsAt0 m c n hn).2 (ix2 a b) := by
    rw [outsAt0_C m c ⟨n, hn⟩ (by dsimp only; omega) (by dsimp only; omega) h7, last, done]; rfl
  rw [e, sums m c n hn a b h h', h7, upto_all _ (by decide)]

/-- The gradient of the weight. -/
def dW : FVec Ideal S512x1024 .bf16 := fun y => ∑ t, term m c (y 0) (y 1) t

theorem arr : G2 m c = dW m c := by
  funext y
  unfold G2
  have h0 : (y 0).val < 512 := (y 0).isLt
  have h1 : (y 1).val < 1024 := (y 1).isLt
  have hp : pt2Of y < cfg0.N := lt_of_lt_of_eq (by show 8 * (1 * ((y 0).val / 512 - 0) + 1 * ((y 1).val / 1024 - 0)) + 7 < 8; omega) N_0.symm
  rw [dif_pos hp, ← outsAt0_sweep m c _ hp]
  have el : loc2Of y = ix2 ⟨(y 0).val % 512, Nat.mod_lt _ (by decide)⟩ ⟨(y 1).val % 1024, Nat.mod_lt _ (by decide)⟩ := by
    funext k; match k with
    | ⟨0, _⟩ => rfl
    | ⟨1, _⟩ => rfl
  rw [el, tile m c _ hp (by show (8 * (1 * ((y 0).val / 512 - 0) + 1 * ((y 1).val / 1024 - 0)) + 7) % 8 = 7; omega) _ _
    (by show 512 * ((8 * (1 * ((y 0).val / 512 - 0) + 1 * ((y 1).val / 1024 - 0)) + 7) / 8) + (y 0).val % 512 < 512; omega)
    (by show 1024 * ((8 * (1 * ((y 0).val / 512 - 0) + 1 * ((y 1).val / 1024 - 0)) + 7) / 8 % 1) + (y 1).val % 1024 < 1024; omega)]
  unfold dW
  refine congrArg₂ (fun A B => ∑ t, term m c A B t) (Fin.ext ?_) (Fin.ext ?_)
  · show 512 * ((8 * (1 * ((y 0).val / 512 - 0) + 1 * ((y 1).val / 1024 - 0)) + 7) / 8) + (y 0).val % 512 = (y 0).val; omega
  · show 1024 * ((8 * (1 * ((y 0).val / 512 - 0) + 1 * ((y 1).val / 1024 - 0)) + 7) / 8 % 1) + (y 1).val % 1024 = (y 1).val; omega

end Cert.Kernel15Ideal.Dw

end
-- ==== Proof.MemOutDwSame.lean ====
/-
  The gradient of the memory attention's output weight, compared with the reference's.
-/
module

public import proofs.«01_k».proof.Proof.MemOutDw
public import proofs.«01_k».proof.Proof.Gen.Reference15Ideal.Read
public import proofs.«01_k».proof.Defs

@[expose] public section

noncomputable section

namespace Cert.Kernel15Ideal.Dw

open Cert.Kernel15Ideal Idealize.ShloMosaic Idealize.ShloMosaic.TcCoe Cert.Reference15Ideal.Read

theorem same (m : (ℓ : Loc nD τ sig) → Buf (Elt Ideal) ℓ) (c : Dev nD) (x0 : FVec Ideal S8192x512 .bf16) (x1 : FVec Ideal S8192x1024 .f32)
    (h0 : x0 = mo m c) (h1 : x1 = dh m c) : val_main_v5 (F := Ideal) x0 x1 = dW m c := by
  subst h0 h1
  funext y
  rw [val_main_v5_apply, val_main_v4_apply, val_main_v3_apply]
  refine Finset.sum_congr rfl fun t _ => ?_
  rw [mul_comm]
  refine congrArg₂ (· * ·) (congrArg (mo m c) ?_) (congrArg (dh m c) ?_)
  · funext k; match k with
    | ⟨0, _⟩ => rfl
    | ⟨1, _⟩ => rfl
  · funext k; match k with
    | ⟨0, _⟩ => rfl
    | ⟨1, _⟩ => rfl

theorem frame_reference (m : (ℓ : Loc Cert.Reference15Ideal.nD Cert.Reference15Ideal.τ Cert.Reference15Ideal.sig) → Buf (Elt Ideal) ℓ) (g : Dev Cert.Reference15Ideal.nD → PrngReg) :
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0) :=
  (θ_run _ _ _).mono (fun r h => ⟨fun c => (h c).2, sem_eq_zero_of_no_sems rfl r.2⟩) (Cert.Reference15Ideal.Value.run m g)

theorem algebraic : Cert.algebraic_Kernel15Ideal_Reference15Ideal (hKernel15Ideal := Cert.Kernel15Ideal.Gen.facts) (hReference15Ideal := Cert.Reference15Ideal.Gen.facts) := by
  intro m g m' g' _ hagree
  refine ⟨fun c => dW m c, ?_, ?_⟩
  · refine (θ_run _ _ _).mono (fun r h c => ?_) (Cert.Kernel15Ideal.Value.run m g)
    exact ⟨(h c).1.trans (arr m c), (h c).2⟩
  · refine (θ_run _ _ _).mono (fun r h c => ?_) (Cert.Reference15Ideal.Value.run m' g')
    exact ⟨((h c).1.trans (val_main_v5_eq (m' (c, Cert.Reference15Ideal.main_arg0)) (m' (c, Cert.Reference15Ideal.main_arg1)))).trans
      (same m c (m' (c, Cert.Reference15Ideal.main_arg0)) (m' (c, Cert.Reference15Ideal.main_arg1)) (hagree c).1 (hagree c).2), (h c).2⟩

end Cert.Kernel15Ideal.Dw

end
-- ==== Proof.MemOutDx.lean ====
/-
  The step back through the memory readout's output projection: the gradient times the weight, transposed. One tile is computed at each grid point.
-/
module

public import proofs.«01_k».proof.Proof.Gen.Kernel16Ideal.Value
public import Idealize.ShloMosaic.Lib.Pointwise
public import Idealize.ShloMosaic.Lib.Tactic
public import Idealize.ShloMosaic.Lib.Pipeline.ValueKit

@[expose] public section

set_option maxRecDepth 16384

noncomputable section

namespace Cert.Kernel16Ideal.Mul

open Cert.Kernel16Ideal Cert.Kernel16Ideal.Gen Cert.Kernel16Ideal.Value
open Idealize.ShloMosaic Idealize.ShloMosaic.TcCoe

theorem hz : (![0, 0] : Fin 2 → Nat) = fun _ => 0 := funext fun a => by fin_cases a <;> rfl

/-! One tile. -/

variable (x : Vec Ideal S1024x1024 .f32) (w : Vec Ideal S512x1024 .bf16)

theorem pay_at (a : Fin 1024) (b : Fin 512) : k0_pay1 (F := Ideal) x w (ix2 a b) = ∑ r, x (ix2 a r) * w (ix2 b r) := by
  pointwise [k0_pay1]

theorem out_at (a : Fin 1024) (b : Fin 512) : out0_2 (F := Ideal) x w (ix2 a b) = ∑ r, x (ix2 a r) * w (ix2 b r) := by
  unfold out0_2
  rw [View.canon_unit_zero hz, View.ld_unit_zero (S := S1024x1024) hz, View.ld_unit_zero (S := S512x1024) hz]
  exact pay_at x w a b

/-! What a grid point reads. -/

theorem ix_0 : ∀ t : Fin cfg0.N, win0_0.index t (0 : Fin 2) = t.val ∧ win0_0.index t (1 : Fin 2) = 0 :=
  (by decide +kernel : ∀ t : Fin grid0.N, _)
theorem ix_1 : ∀ t : Fin cfg0.N, win0_1.index t (0 : Fin 2) = 0 ∧ win0_1.index t (1 : Fin 2) = 0 :=
  (by decide +kernel : ∀ t : Fin grid0.N, _)
theorem ix_2 : ∀ t : Fin cfg0.N, win0_2.index t (0 : Fin 2) = t.val ∧ win0_2.index t (1 : Fin 2) = 0 :=
  (by decide +kernel : ∀ t : Fin grid0.N, _)

variable (m : (ℓ : Loc nD τ sig) → Buf (Elt Ideal) ℓ) (c : Dev nD)

def dh : FVec Ideal S8192x1024 .f32 := m (c, main_arg0)
def memOut : FVec Ideal S512x1024 .bf16 := m (c, main_arg1)

theorem blk_0 (t : Fin cfg0.N) (a : Fin 1024) (r : Fin 1024) (h : 1024 * t.val + a.val < 8192) :
    (iblk m c 0 t : Vec Ideal S1024x1024 .f32) (ix2 a r) = dh m c (ix2 ⟨1024 * t.val + a.val, h⟩ r) := by
  unfold iblk
  rw [View.read_apply]
  show V m c main_arg0 _ = m (c, main_arg0) _
  unfold V
  congr 1
  funext k
  apply Fin.ext
  match k with
  | ⟨0, _⟩ => show win0_0.index t (0 : Fin 2) * 1024 + 1 * a.val = _; rw [(ix_0 t).1]; show _ = 1024 * t.val + a.val; omega
  | ⟨1, _⟩ => show win0_0.index t (1 : Fin 2) * 1024 + 1 * r.val = _; rw [(ix_0 t).2]; show _ = r.val; omega

theorem blk_1 (t : Fin cfg0.N) (b : Fin 512) (r : Fin 1024) :
    (iblk m c 1 t : Vec Ideal S512x1024 .bf16) (ix2 b r) = memOut m c (ix2 b r) := by
  unfold iblk
  rw [View.read_apply]
  show V m c main_arg1 _ = m (c, main_arg1) _
  unfold V
  congr 1
  funext k
  apply Fin.ext
  match k with
  | ⟨0, _⟩ => show win0_1.index t (0 : Fin 2) * 512 + 1 * b.val = _; rw [(ix_1 t).1]; show _ = b.val; omega
  | ⟨1, _⟩ => show win0_1.index t (1 : Fin 2) * 1024 + 1 * r.val = _; rw [(ix_1 t).2]; show _ = r.val; omega

/-- The product, at every index. -/
def result : FVec Ideal S8192x512 .bf16 := fun y => ∑ r : Fin 1024, dh m c (ix2 (y 0) r) * memOut m c (ix2 (y 1) r)

theorem tile_eq (t : Fin cfg0.N) (a : Fin 1024) (b : Fin 512) (h : 1024 * t.val + a.val < 8192) :
    out0_2 (F := Ideal) (iblk m c 0 t) (iblk m c 1 t) (ix2 a b) = result m c (ix2 ⟨1024 * t.val + a.val, h⟩ b) := by
  refine (out_at _ _ a b).trans ?_
  exact Finset.sum_congr rfl fun r _ => congrArg₂ (· * ·) (blk_0 m c t a r h) (blk_1 m c t b r)

theorem covers : (cfg0.win 2).Covers := by decide +kernel

theorem arr : (dats m 0 c).arrAt 2 cfg0.N = result m c := by
  refine (dats m 0 c).arrAt_eq_of_covers 2 (result m c) covers fun t hf z => ?_
  have ht : t.val < 8 := lt_of_lt_of_eq t.isLt N_0
  have h0 : (z 0).val < 1024 := (z 0).isLt
  have h1 : (z 1).val < 512 := (z 1).isLt
  have e : ((cfg0.win 2).blk t).view.emb z = ix2 ⟨1024 * t.val + (z 0).val, by omega⟩ (z 1) := by
    refine funext fun a => Fin.ext ?_
    refine ((cfg0.win 2).rect_emb_val t z a).trans ?_
    match a with
    | ⟨0, _⟩ => show win0_2.index t (0 : Fin 2) * 1024 + (z 0).val = 1024 * t.val + (z 0).val; rw [(ix_2 t).1]; omega
    | ⟨1, _⟩ => show win0_2.index t (1 : Fin 2) * 512 + (z 1).val = (z 1).val; rw [(ix_2 t).2]; omega
  blk_simp
  rw [after0_2]
  refine Eq.trans ?_ (congrArg (result m c) e).symm
  have hz : (z : S1024x512.Idx) = ix2 (z 0) (z 1) := by funext a; fin_cases a <;> rfl
  refine (congrArg (out0_2 (F := Ideal) (iblk m c 0 t) (iblk m c 1 t)) hz).trans ?_
  exact tile_eq m c t (z 0) (z 1) (by omega)

end Cert.Kernel16Ideal.Mul

end
-- ==== Proof.MemOutDxSame.lean ====
/-
  The step back through the memory readout's output projection: the gradient times the weight, transposed; compared with the reference's.
-/
module

public import proofs.«01_k».proof.Proof.MemOutDx
public import proofs.«01_k».proof.Proof.Gen.Reference16Ideal.Read
public import proofs.«01_k».proof.Defs

@[expose] public section

noncomputable section

namespace Cert.Kernel16Ideal.Mul

open Cert.Kernel16Ideal Idealize.ShloMosaic Idealize.ShloMosaic.TcCoe Cert.Reference16Ideal.Read

theorem same (m : (ℓ : Loc nD τ sig) → Buf (Elt Ideal) ℓ) (c : Dev nD) (x0 : FVec Ideal S8192x1024 .f32) (x1 : FVec Ideal S512x1024 .bf16)
    (h0 : x0 = dh m c) (h1 : x1 = memOut m c) : val_main_v4 (F := Ideal) x0 x1 = result m c := by
  subst h0 h1
  funext y
  rw [val_main_v4_apply, val_main_v3_apply]
  refine Finset.sum_congr rfl fun r _ => ?_
  rw [val_main_v1_apply]
  refine congrArg₂ (· * ·) (congrArg (dh m c) ?_) (congrArg (memOut m c) ?_)
  · funext k; match k with
    | ⟨0, _⟩ => rfl
    | ⟨1, _⟩ => rfl
  · funext k; match k with
    | ⟨0, _⟩ => rfl
    | ⟨1, _⟩ => rfl

theorem frame_reference (m : (ℓ : Loc Cert.Reference16Ideal.nD Cert.Reference16Ideal.τ Cert.Reference16Ideal.sig) → Buf (Elt Ideal) ℓ) (g : Dev Cert.Reference16Ideal.nD → PrngReg) :
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0) :=
  (θ_run _ _ _).mono (fun r h => ⟨fun c => (h c).2, sem_eq_zero_of_no_sems rfl r.2⟩) (Cert.Reference16Ideal.Value.run m g)

theorem algebraic : Cert.algebraic_Kernel16Ideal_Reference16Ideal (hKernel16Ideal := Cert.Kernel16Ideal.Gen.facts) (hReference16Ideal := Cert.Reference16Ideal.Gen.facts) := by
  intro m g m' g' _ hagree
  refine ⟨fun c => result m c, ?_, ?_⟩
  · refine (θ_run _ _ _).mono (fun r h c => ?_) (Cert.Kernel16Ideal.Value.run_blocks m g)
    exact ⟨(h c).1.trans (arr m c), (h c).2⟩
  · refine (θ_run _ _ _).mono (fun r h c => ?_) (Cert.Reference16Ideal.Value.run m' g')
    exact ⟨((h c).1.trans (val_main_v4_eq (m' (c, Cert.Reference16Ideal.main_arg0)) (m' (c, Cert.Reference16Ideal.main_arg1)))).trans
      (same m c (m' (c, Cert.Reference16Ideal.main_arg0)) (m' (c, Cert.Reference16Ideal.main_arg1)) (hagree c).1 (hagree c).2), (h c).2⟩

end Cert.Kernel16Ideal.Mul

end
-- ==== Proof.MemQDw.lean ====
/-
  The gradient of the memory attention's query weight: the normed activations, transposed, times the gradient of the
  queries. One tile of the result is a sum over eight blocks of 1024 tokens, kept in a scratch buffer.
-/
module

public import proofs.«01_k».proof.Proof.Tiles
public import proofs.«01_k».proof.Proof.Gen.Kernel17Ideal.Value
public import Idealize.ShloMosaic.Lib.Pointwise
public import Idealize.ShloMosaic.Lib.Tactic
public import Idealize.ShloMosaic.Lib.Pipeline.ValueKit

@[expose] public section

noncomputable section

namespace Cert.Kernel17Ideal.Dw

open Cert.Kernel17Ideal Cert.Kernel17Ideal.Gen Cert.Kernel17Ideal.Value Cert.Tiles
open Idealize.ShloMosaic Idealize.ShloMosaic.TcCoe

theorem hz : (![0, 0] : Fin 2 → Nat) = fun _ => 0 := funext fun a => by fin_cases a <;> rfl

section Body
variable {F : FTy → Type} [FloatOps F]
variable (c : Dev nD) (i : grid0.Coords) (a4 : Memref sig .tc .vmem S1024x1024 .bf16) (h4 : a4.IsWhole) (a5 : Memref sig .tc .vmem S1024x512 .bf16) (h5 : a5.IsWhole)
  (a6 : Memref sig .tc .vmem S1024x512 .bf16) (h6 : a6.IsWhole) (a7 : Memref sig .tc .vmem S1024x512 .f32) (h7 : a7.IsWhole)
  (x : Vec F S1024x1024 .bf16) (d : Vec F S1024x512 .bf16) (s : Vec F S1024x512 .f32)

/-- The first block of tokens starts the sum. -/
theorem first (c0 : cond0_0 i) (c1 : ¬cond0_1 i) (c2 : ¬cond0_2 i) : sout0_A_0 c i a4 h4 a5 h5 a6 h6 a7 h7 c0 c1 c2 x d = k0_pay1 x d := by
  unfold sout0_A_0
  rw [View.read_writes_eq_canon _ _ _ (scover0_A_0 c i a4 h4 a5 h5 a6 h6 a7 h7 c0 c1 c2 x d)]
  unfold kernelRun0_A
  dsimp only
  sl_unfold_words
  rw [View.canon_unit_zero hz]
  unfold k0_pay2
  simp only [View.readAt_eq_ld, h4.read_unread, h5.read_unread, View.ld_unit_zero (S := S1024x1024) hz, View.ld_unit_zero (S := S1024x512) hz, shapeCast_self]

/-- A later block is added. -/
theorem next (c0 : ¬cond0_0 i) (c1 : cond0_1 i) (c2 : ¬cond0_2 i) : sout0_B_0 c i a4 h4 a5 h5 a6 h6 a7 h7 c0 c1 c2 x d s = addf s (k0_pay1 x d) := by
  unfold sout0_B_0
  rw [View.read_writes_eq_canon _ _ _ (scover0_B_0 c i a4 h4 a5 h5 a6 h6 a7 h7 c0 c1 c2 x d s)]
  unfold kernelRun0_B
  dsimp only
  sl_unfold_words
  rw [View.canon_unit_zero hz]
  unfold k0_pay3
  simp only [View.readAt_eq_ld, h4.read_unread, h5.read_unread, h7.read_unread, View.ld_unit_zero (S := S1024x1024) hz, View.ld_unit_zero (S := S1024x512) hz, View.ld_unit_zero (S := S1024x512) hz, shapeCast_self]

/-- The last block is added, and the sum is the result's tile. -/
theorem last (c0 : ¬cond0_0 i) (c1 : cond0_1 i) (c2 : cond0_2 i) : sout0_C_0 c i a4 h4 a5 h5 a6 h6 a7 h7 c0 c1 c2 x d s = addf s (k0_pay1 x d) := by
  unfold sout0_C_0
  rw [View.read_writes_eq_canon _ _ _ (scover0_C_0 c i a4 h4 a5 h5 a6 h6 a7 h7 c0 c1 c2 x d s)]
  unfold kernelRun0_C
  dsimp only
  sl_unfold_words
  rw [View.canon_unit_zero hz]
  unfold k0_pay3
  simp only [View.readAt_eq_ld, h4.read_unread, h5.read_unread, h7.read_unread, View.ld_unit_zero (S := S1024x1024) hz, View.ld_unit_zero (S := S1024x512) hz, View.ld_unit_zero (S := S1024x512) hz, shapeCast_self]

theorem done (c0 : ¬cond0_0 i) (c1 : cond0_1 i) (c2 : cond0_2 i) : out0_C_2 c i a4 h4 a5 h5 a6 h6 a7 h7 c0 c1 c2 x d s = k0_pay4 (addf s (k0_pay1 x d)) := by
  unfold out0_C_2
  rw [View.read_writes_eq_canon _ _ _ (cover0_C_2 c i a4 h4 a5 h5 a6 h6 a7 h7 c0 c1 c2 x d s)]
  unfold kernelRun0_C
  dsimp only
  sl_unfold_words
  rw [View.canon_unit_zero hz, View.readCov_unit_zero (S := S1024x512) _ hz]
  unfold k0_pay3
  simp only [View.readAt_eq_ld, h4.read_unread, h5.read_unread, h7.read_unread, View.ld_unit_zero (S := S1024x1024) hz, View.ld_unit_zero (S := S1024x512) hz, View.ld_unit_zero (S := S1024x512) hz, shapeCast_self]

end Body

/-- One block's share of one entry. -/
theorem part_at (x : Vec Ideal S1024x1024 .bf16) (d : Vec Ideal S1024x512 .bf16) (a : Fin 1024) (b : Fin 512) :
    k0_pay1 (F := Ideal) x d (ix2 a b) = ∑ r, x (ix2 r a) * d (ix2 r b) := by
  pointwise [k0_pay1]

/-! What a grid point reads. -/

theorem ix_0 : ∀ t : Fin cfg0.N, win0_0.index t (0 : Fin 2) = t.val % 8 ∧ win0_0.index t (1 : Fin 2) = t.val / 8 :=
  (by decide +kernel : ∀ t : Fin grid0.N, _)
theorem ix_1 : ∀ t : Fin cfg0.N, win0_1.index t (0 : Fin 2) = t.val % 8 ∧ win0_1.index t (1 : Fin 2) = t.val / 8 % 1 :=
  (by decide +kernel : ∀ t : Fin grid0.N, _)

variable (m : (ℓ : Loc nD τ sig) → Buf (Elt Ideal) ℓ) (c : Dev nD)

def hn : FVec Ideal S8192x1024 .bf16 := m (c, main_arg0)
def dmq : FVec Ideal S8192x512 .bf16 := m (c, main_arg1)

theorem blk_0 (t : Fin cfg0.N) (r : Fin 1024) (a : Fin 1024) (h : 1024 * (t.val % 8) + r.val < 8192) (h' : 1024 * (t.val / 8) + a.val < 1024) :
    (iblk m c 0 t : Vec Ideal S1024x1024 .bf16) (ix2 r a) = hn m c (ix2 ⟨1024 * (t.val % 8) + r.val, h⟩ ⟨1024 * (t.val / 8) + a.val, h'⟩) := by
  unfold iblk
  rw [View.read_apply]
  show V m c main_arg0 _ = m (c, main_arg0) _
  unfold V
  congr 1
  funext k
  apply Fin.ext
  match k with
  | ⟨0, _⟩ => show win0_0.index t (0 : Fin 2) * 1024 + 1 * r.val = _; rw [(ix_0 t).1]; show _ = 1024 * (t.val % 8) + r.val; omega
  | ⟨1, _⟩ => show win0_0.index t (1 : Fin 2) * 1024 + 1 * a.val = _; rw [(ix_0 t).2]; show _ = 1024 * (t.val / 8) + a.val; omega

theorem blk_1 (t : Fin cfg0.N) (r : Fin 1024) (b : Fin 512) (h : 1024 * (t.val % 8) + r.val < 8192) (h' : 512 * (t.val / 8 % 1) + b.val < 512) :
    (iblk m c 1 t : Vec Ideal S1024x512 .bf16) (ix2 r b) = dmq m c (ix2 ⟨1024 * (t.val % 8) + r.val, h⟩ ⟨512 * (t.val / 8 % 1) + b.val, h'⟩) := by
  unfold iblk
  rw [View.read_apply]
  show V m c main_arg1 _ = m (c, main_arg1) _
  unfold V
  congr 1
  funext k
  apply Fin.ext
  match k with
  | ⟨0, _⟩ => show win0_1.index t (0 : Fin 2) * 1024 + 1 * r.val = _; rw [(ix_1 t).1]; show _ = 1024 * (t.val % 8) + r.val; omega
  | ⟨1, _⟩ => show win0_1.index t (1 : Fin 2) * 512 + 1 * b.val = _; rw [(ix_1 t).2]; show _ = 512 * (t.val / 8 % 1) + b.val; omega

/-- One token's share of one entry of the gradient. -/
def term (A : Fin 1024) (B : Fin 512) (t : Fin 8192) : EReal := hn m c (ix2 t A) * dmq m c (ix2 t B)

theorem block (t : Fin cfg0.N) (a : Fin 1024) (b : Fin 512) (h : 1024 * (t.val / 8) + a.val < 1024) (h' : 512 * (t.val / 8 % 1) + b.val < 512) :
    k0_pay1 (F := Ideal) (iblk m c 0 t) (iblk m c 1 t) (ix2 a b)
      = ∑ r : Fin 1024, term m c ⟨1024 * (t.val / 8) + a.val, h⟩ ⟨512 * (t.val / 8 % 1) + b.val, h'⟩ ⟨1024 * (t.val % 8) + r.val, by omega⟩ := by
  rw [part_at]
  exact Finset.sum_congr rfl fun r _ => congrArg₂ (· * ·) (blk_0 m c t r a _ _) (blk_1 m c t r b _ _)

/-- The scratch buffer after a grid point: the sum over the blocks of tokens met so far. -/
theorem sums : ∀ (n : ℕ) (hn : n < cfg0.N) (a : Fin 1024) (b : Fin 512) (h : 1024 * (n / 8) + a.val < 1024) (h' : 512 * (n / 8 % 1) + b.val < 512),
    (outsAt0 m c n hn).2 (ix2 a b) = upto 1024 (term m c ⟨1024 * (n / 8) + a.val, h⟩ ⟨512 * (n / 8 % 1) + b.val, h'⟩) (n % 8 + 1) := by
  intro n
  induction n with
  | zero =>
    intro hn a b h h'
    rw [outsAt0_A m c ⟨0, hn⟩ rfl (by show ¬1 ≤ 0 % 8; decide) (by show ¬0 % 8 = 7; decide), first, upto_succ _ (by decide), upto_zero, zero_add]
    exact block m c ⟨0, hn⟩ a b h h'
  | succ n ih =>
    intro hn a b h h'
    have hN : n + 1 < 8 := lt_of_lt_of_eq hn N_0
    rw [upto_succ _ (by omega)]
    refine Eq.trans ?_ (congrArg (_ + ·) (block m c ⟨n + 1, hn⟩ a b h h'))
    by_cases h0 : (n + 1) % 8 = 0
    · rw [outsAt0_A m c ⟨n + 1, hn⟩ h0 (by dsimp only; omega) (by dsimp only; omega), first]
      exact (zero_add _).symm.trans (congrArg (· + _) (by rw [h0, upto_zero]))
    · have e1 : (n + 1) / 8 = n / 8 := by omega
      have e2 : (n + 1) / 8 = n / 8 := by omega
      have e3 : (n + 1) % 8 = n % 8 + 1 := by omega
      have key := ih (Nat.lt_of_succ_lt hn) a b (by omega) (by omega)
      simp only [e1, e2, e3]
      rw [← key]
      by_cases h7 : (n + 1) % 8 = 7
      · rw [outsAt0_C m c ⟨n + 1, hn⟩ h0 (by dsimp only; omega) h7, last]; rfl
      · rw [outsAt0_B m c ⟨n + 1, hn⟩ h0 (by dsimp only; omega) h7, next]; rfl

/-- What is written out is the sum over all tokens. -/
theorem tile (n : ℕ) (hn : n < cfg0.N) (h7 : n % 8 = 7) (a : Fin 1024) (b : Fin 512) (h : 1024 * (n / 8) + a.val < 1024) (h' : 512 * (n / 8 % 1) + b.val < 512) :
    (outsAt0 m c n hn).1 (ix2 a b) = ∑ t, term m c ⟨1024 * (n / 8) + a.val, h⟩ ⟨512 * (n / 8 % 1) + b.val, h'⟩ t := by
  have e : (outsAt0 m c n hn).1 (ix2 a b) = (outsAt0 m c n hn).2 (ix2 a b) := by
    rw [outsAt0_C m c ⟨n, hn⟩ (by dsimp only; omega) (by dsimp only; omega) h7, last, done]; rfl
  rw [e, sums m c n hn a b h h', h7, upto_all _ (by decide)]

/-- The gradient of the weight. -/
def dW : FVec Ideal S1024x512 .bf16 := fun y => ∑ t, term m c (y 0) (y 1) t

theorem arr : G2 m c = dW m c := by
  funext y
  unfold G2
  have h0 : (y 0).val < 1024 := (y 0).isLt
  have h1 : (y 1).val < 512 := (y 1).isLt
  have hp : pt2Of y < cfg0.N := lt_of_lt_of_eq (by show 8 * (1 * ((y 0).val / 1024 - 0) + 1 * ((y 1).val / 512 - 0)) + 7 < 8; omega) N_0.symm
  rw [dif_pos hp, ← outsAt0_sweep m c _ hp]
  have el : loc2Of y = ix2 ⟨(y 0).val % 1024, Nat.mod_lt _ (by decide)⟩ ⟨(y 1).val % 512, Nat.mod_lt _ (by decide)⟩ := by
    funext k; match k with
    | ⟨0, _⟩ => rfl
    | ⟨1, _⟩ => rfl
  rw [el, tile m c _ hp (by show (8 * (1 * ((y 0).val / 1024 - 0) + 1 * ((y 1).val / 512 - 0)) + 7) % 8 = 7; omega) _ _
    (by show 1024 * ((8 * (1 * ((y 0).val / 1024 - 0) + 1 * ((y 1).val / 512 - 0)) + 7) / 8) + (y 0).val % 1024 < 1024; omega)
    (by show 512 * ((8 * (1 * ((y 0).val / 1024 - 0) + 1 * ((y 1).val / 512 - 0)) + 7) / 8 % 1) + (y 1).val % 512 < 512; omega)]
  unfold dW
  refine congrArg₂ (fun A B => ∑ t, term m c A B t) (Fin.ext ?_) (Fin.ext ?_)
  · show 1024 * ((8 * (1 * ((y 0).val / 1024 - 0) + 1 * ((y 1).val / 512 - 0)) + 7) / 8) + (y 0).val % 1024 = (y 0).val; omega
  · show 512 * ((8 * (1 * ((y 0).val / 1024 - 0) + 1 * ((y 1).val / 512 - 0)) + 7) / 8 % 1) + (y 1).val % 512 = (y 1).val; omega

end Cert.Kernel17Ideal.Dw

end
-- ==== Proof.MemQDwSame.lean ====
/-
  The gradient of the memory attention's query weight, compared with the reference's.
-/
module

public import proofs.«01_k».proof.Proof.MemQDw
public import proofs.«01_k».proof.Proof.Gen.Reference17Ideal.Read
public import proofs.«01_k».proof.Defs

@[expose] public section

noncomputable section

namespace Cert.Kernel17Ideal.Dw

open Cert.Kernel17Ideal Idealize.ShloMosaic Idealize.ShloMosaic.TcCoe Cert.Reference17Ideal.Read

theorem same (m : (ℓ : Loc nD τ sig) → Buf (Elt Ideal) ℓ) (c : Dev nD) (x0 : FVec Ideal S8192x1024 .bf16) (x1 : FVec Ideal S8192x512 .bf16)
    (h0 : x0 = hn m c) (h1 : x1 = dmq m c) : val_main_v6 (F := Ideal) x0 x1 = dW m c := by
  subst h0 h1
  funext y
  rw [val_main_v6_apply, val_main_v5_apply, val_main_v4_apply]
  refine Finset.sum_congr rfl fun t _ => ?_
  rw [mul_comm]
  refine congrArg₂ (· * ·) (congrArg (hn m c) ?_) (congrArg (dmq m c) ?_)
  · funext k; match k with
    | ⟨0, _⟩ => rfl
    | ⟨1, _⟩ => rfl
  · funext k; match k with
    | ⟨0, _⟩ => rfl
    | ⟨1, _⟩ => rfl

theorem frame_reference (m : (ℓ : Loc Cert.Reference17Ideal.nD Cert.Reference17Ideal.τ Cert.Reference17Ideal.sig) → Buf (Elt Ideal) ℓ) (g : Dev Cert.Reference17Ideal.nD → PrngReg) :
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0) :=
  (θ_run _ _ _).mono (fun r h => ⟨fun c => (h c).2, sem_eq_zero_of_no_sems rfl r.2⟩) (Cert.Reference17Ideal.Value.run m g)

theorem algebraic : Cert.algebraic_Kernel17Ideal_Reference17Ideal (hKernel17Ideal := Cert.Kernel17Ideal.Gen.facts) (hReference17Ideal := Cert.Reference17Ideal.Gen.facts) := by
  intro m g m' g' _ hagree
  refine ⟨fun c => dW m c, ?_, ?_⟩
  · refine (θ_run _ _ _).mono (fun r h c => ?_) (Cert.Kernel17Ideal.Value.run m g)
    exact ⟨(h c).1.trans (arr m c), (h c).2⟩
  · refine (θ_run _ _ _).mono (fun r h c => ?_) (Cert.Reference17Ideal.Value.run m' g')
    exact ⟨((h c).1.trans (val_main_v6_eq (m' (c, Cert.Reference17Ideal.main_arg0)) (m' (c, Cert.Reference17Ideal.main_arg1)))).trans
      (same m c (m' (c, Cert.Reference17Ideal.main_arg0)) (m' (c, Cert.Reference17Ideal.main_arg1)) (hagree c).1 (hagree c).2), (h c).2⟩

end Cert.Kernel17Ideal.Dw

end
-- ==== Proof.MemQNormBwd.lean ====
/-
  The step back through the memory readout's query projection and the norm before it: the gradient of the product
  times the weight, transposed, taken through the norm. The gradient of the norm's gain is a sum over the sixteen
  blocks of 512 tokens.
-/
module

public import proofs.«01_k».proof.Proof.Tiles
public import proofs.«01_k».proof.Proof.NormScalar
public import proofs.«01_k».proof.Proof.Gen.Kernel18Ideal.Value
public import Idealize.ShloMosaic.Lib.Pointwise
public import Idealize.ShloMosaic.Lib.Tactic
public import Idealize.ShloMosaic.Lib.Pipeline.ValueKit

@[expose] public section

noncomputable section

namespace Cert.Kernel18Ideal.Norm

open Cert.Kernel18Ideal Cert.Kernel18Ideal.Gen Cert.Kernel18Ideal.Value Cert.Tiles
open Idealize.ShloMosaic Idealize.ShloMosaic.TcCoe

theorem hz : (![0, 0] : Fin 2 → Nat) = fun _ => 0 := funext fun a => by fin_cases a <;> rfl

section Body
variable {F : FTy → Type} [FloatOps F]
variable (c : Dev nD) (i : grid0.Coords) (a2 : Memref sig .tc .vmem S512x512 .bf16) (h2 : a2.IsWhole) (a3 : Memref sig .tc .vmem S1024x512 .bf16) (h3 : a3.IsWhole)
  (a4 : Memref sig .tc .vmem S512x1024 .f32) (h4 : a4.IsWhole) (a5 : Memref sig .tc .vmem S1x1024 .f32) (h5 : a5.IsWhole) (a6 : Memref sig .tc .vmem S512x1024 .f32) (h6 : a6.IsWhole)
  (a7 : Memref sig .tc .vmem S512x1024 .f32) (h7 : a7.IsWhole) (a8 : Memref sig .tc .vmem S1x1024 .f32) (h8 : a8.IsWhole)
  (x0 : Vec F S512x512 .bf16) (x1 : Vec F S1024x512 .bf16) (x2 : Vec F S512x1024 .f32) (x3 : Vec F S1x1024 .f32) (x4 : Vec F S512x1024 .f32) (o : Vec F S1x1024 .f32)

/-- The gradient of the norm's input: in the first block of tokens -/
theorem dx_A (c0 : cond0_0 i) (c1 : ¬cond0_1 i) : out0_A_5 c i a2 h2 a3 h3 a4 h4 a5 h5 a6 h6 a7 h7 a8 h8 c0 c1 x0 x1 x2 x3 x4 = k0_pay5 x0 x1 x2 x3 x4 := by
  unfold out0_A_5
  rw [View.read_writes_eq_canon _ _ _ (cover0_A_5 c i a2 h2 a3 h3 a4 h4 a5 h5 a6 h6 a7 h7 a8 h8 c0 c1 x0 x1 x2 x3 x4)]
  unfold kernelRun0_A
  dsimp only
  sl_unfold_words
  rw [View.canon_unit_zero hz]
  simp only [View.readAt_eq_ld, h2.read_unread, h3.read_unread, h4.read_unread, h5.read_unread, h6.read_unread, h8.read_unread, View.ld_unit_zero (S := S512x512) hz, View.ld_unit_zero (S := S1024x512) hz, View.ld_unit_zero (S := S512x1024) hz, View.ld_unit_zero (S := S1x1024) hz, shapeCast_self]

/-- and in a later one. -/
theorem dx_B (c0 : ¬cond0_0 i) (c1 : cond0_1 i) : out0_B_5 c i a2 h2 a3 h3 a4 h4 a5 h5 a6 h6 a7 h7 a8 h8 c0 c1 x0 x1 x2 x3 x4 o = k0_pay5 x0 x1 x2 x3 x4 := by
  unfold out0_B_5
  rw [View.read_writes_eq_canon _ _ _ (cover0_B_5 c i a2 h2 a3 h3 a4 h4 a5 h5 a6 h6 a7 h7 a8 h8 c0 c1 x0 x1 x2 x3 x4 o)]
  unfold kernelRun0_B
  dsimp only
  sl_unfold_words
  rw [View.canon_unit_zero hz]
  simp only [View.readAt_eq_ld, h2.read_unread, h3.read_unread, h4.read_unread, h5.read_unread, h6.read_unread, h8.read_unread, View.ld_unit_zero (S := S512x512) hz, View.ld_unit_zero (S := S1024x512) hz, View.ld_unit_zero (S := S512x1024) hz, View.ld_unit_zero (S := S1x1024) hz, shapeCast_self]

/-- The gradient of the gain starts with the first block of tokens -/
theorem dg_A (c0 : cond0_0 i) (c1 : ¬cond0_1 i) : out0_A_6 c i a2 h2 a3 h3 a4 h4 a5 h5 a6 h6 a7 h7 a8 h8 c0 c1 x0 x1 x2 x3 x4 = k0_pay6 x0 x1 x2 := by
  unfold out0_A_6
  rw [View.read_writes_eq_canon _ _ _ (cover0_A_6 c i a2 h2 a3 h3 a4 h4 a5 h5 a6 h6 a7 h7 a8 h8 c0 c1 x0 x1 x2 x3 x4)]
  unfold kernelRun0_A
  dsimp only
  sl_unfold_words
  rw [View.canon_unit_zero hz]
  simp only [View.readAt_eq_ld, h2.read_unread, h3.read_unread, h4.read_unread, h5.read_unread, h6.read_unread, h8.read_unread, View.ld_unit_zero (S := S512x512) hz, View.ld_unit_zero (S := S1024x512) hz, View.ld_unit_zero (S := S512x1024) hz, View.ld_unit_zero (S := S1x1024) hz, shapeCast_self]

/-- and a later one is added. -/
theorem dg_B (c0 : ¬cond0_0 i) (c1 : cond0_1 i) : out0_B_6 c i a2 h2 a3 h3 a4 h4 a5 h5 a6 h6 a7 h7 a8 h8 c0 c1 x0 x1 x2 x3 x4 o = addf o (k0_pay6 x0 x1 x2) := by
  unfold out0_B_6
  rw [View.read_writes_eq_canon _ _ _ (cover0_B_6 c i a2 h2 a3 h3 a4 h4 a5 h5 a6 h6 a7 h7 a8 h8 c0 c1 x0 x1 x2 x3 x4 o)]
  unfold kernelRun0_B
  dsimp only
  sl_unfold_words
  rw [View.canon_unit_zero hz]
  unfold k0_pay1
  simp only [View.readAt_eq_ld, h2.read_unread, h3.read_unread, h4.read_unread, h5.read_unread, h6.read_unread, h8.read_unread, View.ld_unit_zero (S := S512x512) hz, View.ld_unit_zero (S := S1024x512) hz, View.ld_unit_zero (S := S512x1024) hz, View.ld_unit_zero (S := S1x1024) hz, shapeCast_self]

end Body

/-! One entry of each, on extended reals. -/

theorem part_at (x : Vec Ideal S512x512 .bf16) (w : Vec Ideal S1024x512 .bf16) (a : Fin 512) (j : Fin 1024) :
    k0_pay2 (F := Ideal) x w (ix2 a j) = ∑ f, x (ix2 a f) * w (ix2 j f) := by
  pointwise [k0_pay2]

theorem root_at (h : Vec Ideal S512x1024 .f32) (a : Fin 512) (z : Fin 1) : k0_pay3 (F := Ideal) h (ix2 a z) = Ideal.rsqrt (NormScalar.v fun k : Fin 1024 => h (ix2 a k)) := by
  pointwise [k0_pay3]
  rfl

theorem normed_at (h : Vec Ideal S512x1024 .f32) (a : Fin 512) (j : Fin 1024) :
    k0_pay4 (F := Ideal) h (ix2 a j) = h (ix2 a j) * Ideal.rsqrt (NormScalar.v fun k : Fin 1024 => h (ix2 a k)) := by
  pointwise [k0_pay4, root_at]

theorem dx_at (x : Vec Ideal S512x512 .bf16) (w : Vec Ideal S1024x512 .bf16) (h : Vec Ideal S512x1024 .f32) (g : Vec Ideal S1x1024 .f32) (r : Vec Ideal S512x1024 .f32) (a : Fin 512) (j : Fin 1024) :
    k0_pay5 (F := Ideal) x w h g r (ix2 a j)
      = NormScalar.kernel (fun k : Fin 1024 => h (ix2 a k)) (fun k => (∑ f, x (ix2 a f) * w (ix2 k f)) * g (ix2 (0 : Fin 1) k)) (r (ix2 a j)) j := by
  pointwise [k0_pay5, part_at, normed_at, root_at]
  rfl

theorem dg_at (x : Vec Ideal S512x512 .bf16) (w : Vec Ideal S1024x512 .bf16) (h : Vec Ideal S512x1024 .f32) (z : Fin 1) (j : Fin 1024) :
    k0_pay6 (F := Ideal) x w h (ix2 z j) = ∑ a : Fin 512, (∑ f, x (ix2 a f) * w (ix2 j f)) * (h (ix2 a j) * Ideal.rsqrt (NormScalar.v fun k : Fin 1024 => h (ix2 a k))) := by
  obtain rfl : z = 0 := Subsingleton.elim _ _
  pointwise [k0_pay6, part_at, normed_at]

/-! What a grid point reads. -/

theorem ix_0 : ∀ t : Fin cfg0.N, win0_0.index t (0 : Fin 2) = t.val ∧ win0_0.index t (1 : Fin 2) = 0 :=
  (by decide +kernel : ∀ t : Fin grid0.N, _)
theorem ix_1 : ∀ t : Fin cfg0.N, win0_1.index t (0 : Fin 2) = 0 ∧ win0_1.index t (1 : Fin 2) = 0 :=
  (by decide +kernel : ∀ t : Fin grid0.N, _)
theorem ix_2 : ∀ t : Fin cfg0.N, win0_2.index t (0 : Fin 2) = t.val ∧ win0_2.index t (1 : Fin 2) = 0 :=
  (by decide +kernel : ∀ t : Fin grid0.N, _)
theorem ix_3 : ∀ t : Fin cfg0.N, win0_3.index t (0 : Fin 2) = 0 ∧ win0_3.index t (1 : Fin 2) = 0 :=
  (by decide +kernel : ∀ t : Fin grid0.N, _)
theorem ix_4 : ∀ t : Fin cfg0.N, win0_4.index t (0 : Fin 2) = t.val ∧ win0_4.index t (1 : Fin 2) = 0 :=
  (by decide +kernel : ∀ t : Fin grid0.N, _)
theorem ix_5 : ∀ t : Fin cfg0.N, win0_5.index t (0 : Fin 2) = t.val ∧ win0_5.index t (1 : Fin 2) = 0 :=
  (by decide +kernel : ∀ t : Fin grid0.N, _)
theorem ix_6 : ∀ t : Fin cfg0.N, win0_6.index t (0 : Fin 2) = 0 ∧ win0_6.index t (1 : Fin 2) = 0 :=
  (by decide +kernel : ∀ t : Fin grid0.N, _)

variable (m : (ℓ : Loc nD τ sig) → Buf (Elt Ideal) ℓ) (c : Dev nD)

def dz : FVec Ideal S8192x512 .bf16 := m (c, main_arg0)
def w : FVec Ideal S1024x512 .bf16 := m (c, main_arg1)
def h : FVec Ideal S8192x1024 .f32 := m (c, main_arg2)
def g : FVec Ideal S1024 .f32 := m (c, main_arg3)
def dres : FVec Ideal S8192x1024 .f32 := m (c, main_arg4)

theorem blk_0 (t : Fin cfg0.N) (a : Fin 512) (k : Fin 512) (ha : 512 * t.val + a.val < 8192) :
    (iblk m c 0 t : Vec Ideal S512x512 .bf16) (ix2 a k) = dz m c (ix2 ⟨512 * t.val + a.val, ha⟩ k) := by
  unfold iblk
  rw [View.read_apply]
  show V m c main_arg0 _ = m (c, main_arg0) _
  rw [V_main_arg0 m c]
  show m (c, main_arg0) _ = m (c, main_arg0) _
  congr 1
  funext l
  apply Fin.ext
  match l with
  | ⟨0, _⟩ => show win0_0.index t (0 : Fin 2) * 512 + 1 * a.val = _; rw [(ix_0 t).1]; show _ = 512 * t.val + a.val; omega
  | ⟨1, _⟩ => show win0_0.index t (1 : Fin 2) * 512 + 1 * k.val = _; rw [(ix_0 t).2]; show _ = k.val; omega

theorem blk_1 (t : Fin cfg0.N) (a : Fin 1024) (k : Fin 512) :
    (iblk m c 1 t : Vec Ideal S1024x512 .bf16) (ix2 a k) = w m c (ix2 a k) := by
  unfold iblk
  rw [View.read_apply]
  show V m c main_arg1 _ = m (c, main_arg1) _
  rw [V_main_arg1 m c]
  show m (c, main_arg1) _ = m (c, main_arg1) _
  congr 1
  funext l
  apply Fin.ext
  match l with
  | ⟨0, _⟩ => show win0_1.index t (0 : Fin 2) * 1024 + 1 * a.val = _; rw [(ix_1 t).1]; show _ = a.val; omega
  | ⟨1, _⟩ => show win0_1.index t (1 : Fin 2) * 512 + 1 * k.val = _; rw [(ix_1 t).2]; show _ = k.val; omega

theorem blk_2 (t : Fin cfg0.N) (a : Fin 512) (k : Fin 1024) (ha : 512 * t.val + a.val < 8192) :
    (iblk m c 2 t : Vec Ideal S512x1024 .f32) (ix2 a k) = h m c (ix2 ⟨512 * t.val + a.val, ha⟩ k) := by
  unfold iblk
  rw [View.read_apply]
  show V m c main_arg2 _ = m (c, main_arg2) _
  rw [V_main_arg2 m c]
  show m (c, main_arg2) _ = m (c, main_arg2) _
  congr 1
  funext l
  apply Fin.ext
  match l with
  | ⟨0, _⟩ => show win0_2.index t (0 : Fin 2) * 512 + 1 * a.val = _; rw [(ix_2 t).1]; show _ = 512 * t.val + a.val; omega
  | ⟨1, _⟩ => show win0_2.index t (1 : Fin 2) * 1024 + 1 * k.val = _; rw [(ix_2 t).2]; show _ = k.val; omega

theorem blk_4 (t : Fin cfg0.N) (a : Fin 512) (k : Fin 1024) (ha : 512 * t.val + a.val < 8192) :
    (iblk m c 4 t : Vec Ideal S512x1024 .f32) (ix2 a k) = dres m c (ix2 ⟨512 * t.val + a.val, ha⟩ k) := by
  unfold iblk
  rw [View.read_apply]
  show V m c main_arg4 _ = m (c, main_arg4) _
  rw [V_main_arg4 m c]
  show m (c, main_arg4) _ = m (c, main_arg4) _
  congr 1
  funext l
  apply Fin.ext
  match l with
  | ⟨0, _⟩ => show win0_4.index t (0 : Fin 2) * 512 + 1 * a.val = _; rw [(ix_4 t).1]; show _ = 512 * t.val + a.val; omega
  | ⟨1, _⟩ => show win0_4.index t (1 : Fin 2) * 1024 + 1 * k.val = _; rw [(ix_4 t).2]; show _ = k.val; omega

/-- The gain, as one row. -/
theorem V_gain : V m c main_v0 = shapeCast S1x1024 (g m c) shapeCasts_S1024_S1x1024 := by
  unfold V
  rw [StableHlo.after_cons, StableHlo.after_nil, StableHlo.reshape_result']
  rfl

theorem gain_row (k : Fin 1024) (x : FVec Ideal S1024 .f32) : shapeCast S1x1024 x shapeCasts_S1024_S1x1024 (ix2 (0 : Fin 1) k) = x (ix1 k) :=
  shapeCast_apply x shapeCasts_S1024_S1x1024 _ _ (by rewrite [Shape.rowMajor_val_one, Shape.rowMajor_val_two]; show k.val = 0 * 1024 + k.val; omega)

theorem blk_3 (t : Fin cfg0.N) (k : Fin 1024) : (iblk m c 3 t : Vec Ideal S1x1024 .f32) (ix2 (0 : Fin 1) k) = g m c (ix1 k) := by
  unfold iblk
  rw [View.read_apply]
  show V m c main_v0 _ = _
  rw [V_gain]
  refine Eq.trans (congrArg (shapeCast S1x1024 (g m c) shapeCasts_S1024_S1x1024) ?_) (gain_row k (g m c))
  funext l
  apply Fin.ext
  match l with
  | ⟨0, _⟩ => show win0_3.index t (0 : Fin 2) * 1 + 1 * 0 = _; rw [(ix_3 t).1]; rfl
  | ⟨1, _⟩ => show win0_3.index t (1 : Fin 2) * 1024 + 1 * k.val = _; rw [(ix_3 t).2]; show _ = k.val; omega

/-! The two gradients, of one token and one channel. -/

/-- The gradient of the normed activations, with the gain. -/
def dy (t : Fin 8192) (j : Fin 1024) : EReal := ∑ f : Fin 512, dz m c (ix2 t f) * w m c (ix2 j f)

def row (t : Fin 8192) (k : Fin 1024) : EReal := h m c (ix2 t k)

/-- The gradient of the normed activations, without the gain. -/
def gy (t : Fin 8192) (k : Fin 1024) : EReal := dy m c t k * g m c (ix1 k)

def dX : FVec Ideal S8192x1024 .f32 := fun y => NormScalar.kernel (row m c (y 0)) (gy m c (y 0)) (dres m c y) (y 1)

/-- One token's share of the gradient of the gain. -/
def term (j : Fin 1024) (t : Fin 8192) : EReal := dy m c t j * (row m c t j * Ideal.rsqrt (NormScalar.v (row m c t)))

def dG : FVec Ideal S1x1024 .f32 := fun y => ∑ t, term m c (y 1) t

theorem part (t : Fin cfg0.N) (x : Vec Ideal S512x512 .bf16) (v : Vec Ideal S1024x512 .bf16) (hx : x = iblk m c 0 t) (hv : v = iblk m c 1 t) (a : Fin 512) (j : Fin 1024) (ha : 512 * t.val + a.val < 8192) :
    ∑ f, x (ix2 a f) * v (ix2 j f) = dy m c ⟨512 * t.val + a.val, ha⟩ j :=
  Finset.sum_congr rfl fun f _ => congrArg₂ (· * ·) ((congrFun hx _).trans (blk_0 m c t a f ha)) ((congrFun hv _).trans (blk_1 m c t j f))

theorem gy_tile (t : Fin cfg0.N) (x : Vec Ideal S512x512 .bf16) (v : Vec Ideal S1024x512 .bf16) (u : Vec Ideal S1x1024 .f32) (hx : x = iblk m c 0 t) (hv : v = iblk m c 1 t) (hu : u = iblk m c 3 t)
    (a : Fin 512) (ha : 512 * t.val + a.val < 8192) :
    (fun k : Fin 1024 => (∑ f, x (ix2 a f) * v (ix2 k f)) * u (ix2 (0 : Fin 1) k)) = gy m c ⟨512 * t.val + a.val, ha⟩ :=
  funext fun k => congrArg₂ (· * ·) (part m c t x v hx hv a k ha) ((congrFun hu _).trans (blk_3 m c t k))

theorem finish_x (t : Fin cfg0.N) (a : Fin 512) (j : Fin 1024) (ha : 512 * t.val + a.val < 8192) :
    k0_pay5 (F := Ideal) (iblk m c 0 t) (iblk m c 1 t) (iblk m c 2 t) (iblk m c 3 t) (iblk m c 4 t) (ix2 a j) = dX m c (ix2 ⟨512 * t.val + a.val, ha⟩ j) := by
  rw [dx_at]
  have e1 : (fun k : Fin 1024 => (iblk m c 2 t : Vec Ideal S512x1024 .f32) (ix2 a k)) = row m c ⟨512 * t.val + a.val, ha⟩ := funext fun k => blk_2 m c t a k ha
  rw [e1, gy_tile m c t (iblk m c 0 t) (iblk m c 1 t) (iblk m c 3 t) rfl rfl rfl a ha, blk_4 m c t a j ha]
  rfl

theorem finish_g (t : Fin cfg0.N) (z : Fin 1) (j : Fin 1024) (hb : 512 * t.val + 512 ≤ 8192) :
    k0_pay6 (F := Ideal) (iblk m c 0 t) (iblk m c 1 t) (iblk m c 2 t) (ix2 z j) = ∑ r : Fin 512, term m c j ⟨512 * t.val + r.val, by omega⟩ := by
  rw [dg_at]
  refine Finset.sum_congr rfl fun a _ => ?_
  have e1 : (fun k : Fin 1024 => (iblk m c 2 t : Vec Ideal S512x1024 .f32) (ix2 a k)) = row m c ⟨512 * t.val + a.val, by omega⟩ := funext fun k => blk_2 m c t a k _
  rw [e1]
  exact congrArg₂ (· * ·) (part m c t _ _ rfl rfl a j (by omega)) (congrArg (· * _) (blk_2 m c t a j (by omega)))

/-- A block of the gradient of the norm's input. -/
theorem tile (n : ℕ) (hn : n < cfg0.N) (a : Fin 512) (j : Fin 1024) (ha : 512 * n + a.val < 8192) :
    (outsAt0 m c n hn).1 (ix2 a j) = dX m c (ix2 ⟨512 * n + a.val, ha⟩ j) := by
  have hN : n < 16 := lt_of_lt_of_eq hn N_0
  by_cases h : n = 0
  · rw [outsAt0_A m c ⟨n, hn⟩ (by dsimp only; omega) (by dsimp only; omega), dx_A]
    exact finish_x m c ⟨n, hn⟩ a j ha
  · rw [outsAt0_B m c ⟨n, hn⟩ (by dsimp only; omega) (by dsimp only; omega), dx_B]
    exact finish_x m c ⟨n, hn⟩ a j ha

/-- The gradient of the gain after a block of tokens. -/
theorem sums : ∀ (n : ℕ) (hn : n < cfg0.N) (z : Fin 1) (j : Fin 1024), (outsAt0 m c n hn).2 (ix2 z j) = upto 512 (term m c j) (n + 1)
  | 0, hn, z, j => by
    rw [upto_succ _ (by omega), outsAt0_A m c ⟨0, hn⟩ (by dsimp only) (by dsimp only; omega), dg_A]
    refine (finish_g m c ⟨0, hn⟩ z j (by dsimp only; omega)).trans ?_
    exact (zero_add _).symm.trans (congrArg (· + _) (upto_zero _ _).symm)
  | n + 1, hn, z, j => by
    have hN : n + 1 < 16 := lt_of_lt_of_eq hn N_0
    rw [upto_succ _ (by omega), outsAt0_B m c ⟨n + 1, hn⟩ (by dsimp only; omega) (by dsimp only; omega), dg_B]
    exact congrArg₂ (· + ·) (sums n (by omega) z j) (finish_g m c ⟨n + 1, hn⟩ z j (by dsimp only; omega))

/-! The two arrays. -/

theorem covers5 : (cfg0.win 5).Covers := by decide +kernel
theorem covers6 : (cfg0.win 6).Covers := by decide +kernel
theorem last : ∀ t : Fin cfg0.N, (cfg0.win 6).flush t = true → t.val = 15 :=
  (by decide +kernel : ∀ t : Fin grid0.N, _)

theorem arr5 : (dats m 0 c).arrAt 5 cfg0.N = dX m c := by
  refine (dats m 0 c).arrAt_eq_of_covers 5 (dX m c) covers5 fun t hf z => ?_
  have ht : t.val < 16 := lt_of_lt_of_eq t.isLt N_0
  have h0 : (z 0).val < 512 := (z 0).isLt
  have h1 : (z 1).val < 1024 := (z 1).isLt
  have e : ((cfg0.win 5).blk t).view.emb z = ix2 ⟨512 * t.val + (z 0).val, by omega⟩ (z 1) := by
    refine funext fun a => Fin.ext ?_
    refine ((cfg0.win 5).rect_emb_val t z a).trans ?_
    match a with
    | ⟨0, _⟩ => show win0_5.index t (0 : Fin 2) * 512 + (z 0).val = 512 * t.val + (z 0).val; rw [(ix_5 t).1]; omega
    | ⟨1, _⟩ => show win0_5.index t (1 : Fin 2) * 1024 + (z 1).val = (z 1).val; rw [(ix_5 t).2]; omega
  blk_simp
  rw [after0_5]
  refine Eq.trans ?_ (congrArg (dX m c) e).symm
  have hz : (z : S512x1024.Idx) = ix2 (z 0) (z 1) := by funext a; fin_cases a <;> rfl
  exact (congrArg (outsAt0 m c t.val t.isLt).1 hz).trans (tile m c t.val t.isLt (z 0) (z 1) (by omega))

theorem whole (n : ℕ) (hn : n < cfg0.N) (e : n = 15) (z : S1x1024.Idx) : (outsAt0 m c n hn).2 z = dG m c z := by
  subst e
  have hz : z = ix2 (z 0) (z 1) := by funext a; fin_cases a <;> rfl
  exact (congrArg (outsAt0 m c 15 hn).2 hz).trans ((sums m c 15 hn (z 0) (z 1)).trans (upto_all _ (by decide)))

theorem arr6 : (dats m 0 c).arrAt 6 cfg0.N = dG m c := by
  refine (dats m 0 c).arrAt_eq_of_covers 6 (dG m c) covers6 fun t hf z => ?_
  have e : ((cfg0.win 6).blk t).view.emb z = (z : S1x1024.Idx) := by
    refine funext fun a => Fin.ext ?_
    refine ((cfg0.win 6).rect_emb_val t z a).trans ?_
    match a with
    | ⟨0, _⟩ => show win0_6.index t (0 : Fin 2) * 1 + (z 0).val = (z 0).val; rw [(ix_6 t).1]; omega
    | ⟨1, _⟩ => show win0_6.index t (1 : Fin 2) * 1024 + (z 1).val = (z 1).val; rw [(ix_6 t).2]; omega
  blk_simp
  rw [after0_6]
  exact (whole m c t.val t.isLt (last t hf) z).trans (congrArg (dG m c) e).symm

end Cert.Kernel18Ideal.Norm

end
-- ==== Proof.MemQNormBwdSame.lean ====
/-
  The step back through the memory readout's query projection and the norm before it, compared with the
  reference's, which differentiates the mean of the squares, the reciprocal root and the products one after the other.
-/
module

public import proofs.«01_k».proof.Proof.MemQNormBwd
public import proofs.«01_k».proof.Proof.Gen.Reference18Ideal.Read
public import proofs.«01_k».proof.Defs

@[expose] public section

noncomputable section

namespace Cert.Kernel18Ideal.Norm

open Cert.Kernel18Ideal Idealize.ShloMosaic Idealize.ShloMosaic.TcCoe Cert.Reference18Ideal.Read

variable (m : (ℓ : Loc nD τ sig) → Buf (Elt Ideal) ℓ) (c : Dev nD)

theorem zero_bits : Ideal.ofBits .f32 0x00000000#32 = 0 := Ideal.ofBits_zero_f32

/-! ## The reference at an index -/

theorem dy_at (t : Fin 8192) (j : Fin 1024) : val_main_v19 (F := Ideal) (dz m c) (w m c) (ix2 t j) = dy m c t j := by
  rw [val_main_v19_apply]
  refine Finset.sum_congr rfl fun f _ => ?_
  rw [val_main_v18_apply, val_main_v16_apply]
  refine congrArg₂ (· * ·) (congrArg (dz m c) ?_) (congrArg (w m c) ?_)
  · funext k; match k with
    | ⟨0, _⟩ => rfl
    | ⟨1, _⟩ => rfl
  · funext k; match k with
    | ⟨0, _⟩ => rfl
    | ⟨1, _⟩ => rfl

theorem v_at (t : Fin 8192) : val_main_v6 (F := Ideal) (h m c) (ix2 t (0 : Fin 1)) = NormScalar.v (row m c t) := by
  have e : val_main_v1 (F := Ideal) (h m c) (ix1 t) = ∑ k, row m c t k * row m c t k := by
    rw [val_main_v1_apply]
    refine (congrArg₂ (· + ·) zero_bits (Finset.sum_congr rfl fun k _ => ?_)).trans (zero_add _)
    rw [val_main_v0_apply]
    have ek : idx_main_v1 (ix1 t) k = ix2 t k := by
      funext l; match l with
      | ⟨0, _⟩ => rfl
      | ⟨1, _⟩ => rfl
    rw [ek]
    rfl
  have e4 : val_main_v2 (F := Ideal) (h m c) (ix2 t (0 : Fin 1)) = ∑ k, row m c t k * row m c t k := by
    rw [val_main_v2_apply]
    refine Eq.trans (congrArg (val_main_v1 (F := Ideal) (h m c)) ?_) e
    funext l; match l with
    | ⟨0, _⟩ => rfl
  rw [val_main_v6_apply, val_main_v4_apply, val_main_v3_apply, val_main_v5_apply, e4]
  rfl

theorem root_at' (t : Fin 8192) : val_main_v7 (F := Ideal) (h m c) (ix2 t (0 : Fin 1)) = Ideal.rsqrt (NormScalar.v (row m c t)) := by
  rw [val_main_v7_apply, v_at]
  rfl

theorem normed_at' (t : Fin 8192) (j : Fin 1024) : val_main_v12 (F := Ideal) (h m c) (ix2 t j) = row m c t j * Ideal.rsqrt (NormScalar.v (row m c t)) := by
  rw [val_main_v12_apply, val_main_v11_apply]
  refine congrArg₂ (· * ·) rfl (Eq.trans (congrArg (val_main_v7 (F := Ideal) (h m c)) ?_) (root_at' m c t))
  funext l; match l with
  | ⟨0, _⟩ => rfl
  | ⟨1, _⟩ => rfl

theorem gy_at (t : Fin 8192) (k : Fin 1024) : val_main_v24 (F := Ideal) (dz m c) (w m c) (g m c) (ix2 t k) = gy m c t k := by
  rw [val_main_v24_apply, dy_at, val_main_v23_apply, val_main_v13_apply]
  refine congrArg₂ (· * ·) rfl (congrArg (g m c) ?_)
  funext l; match l with
  | ⟨0, _⟩ => rfl

theorem inner_at (t : Fin 8192) : val_main_v28 (F := Ideal) (dz m c) (w m c) (h m c) (g m c) (ix2 t (0 : Fin 1)) = ∑ k, row m c t k * gy m c t k := by
  rw [val_main_v28_apply, val_main_v27_apply]
  refine (congrArg₂ (· + ·) zero_bits (Finset.sum_congr rfl fun k _ => ?_)).trans (zero_add _)
  have ek : idx_main_v27 (idx_main_v28 (ix2 t (0 : Fin 1))) k = ix2 t k := by
    funext l; match l with
    | ⟨0, _⟩ => exact Fin.ext (by show t.val * 1 + 0 = t.val; omega)
    | ⟨1, _⟩ => rfl
  rw [val_main_v26_apply, ek, gy_at]
  rfl

theorem factor_at (t : Fin 8192) (j : Fin 1024) : val_main_v35 (F := Ideal) (dz m c) (w m c) (h m c) (g m c) (ix2 t j) = NormScalar.factor (row m c t) (gy m c t) := by
  rw [val_main_v35_apply, val_main_v34_apply]
  refine (congrArg₂ (· + ·) zero_bits ?_).trans (zero_add _)
  rw [Fin.sum_univ_one]
  have ek : idx_main_v34 (idx_main_v35 (ix2 t j)) 0 = ix2 t (0 : Fin 1) := by
    funext l; match l with
    | ⟨0, _⟩ => rfl
    | ⟨1, _⟩ => rfl
  rw [ek, val_main_v33_apply, val_main_v31_apply, val_main_v32_apply, inner_at, val_main_v10_apply, val_main_v9_apply, val_main_v8_apply, root_at', v_at]
  rfl

theorem dx_at' (t : Fin 8192) (j : Fin 1024) :
    val_main_v40 (F := Ideal) (dz m c) (w m c) (h m c) (g m c) (dres m c) (ix2 t j) = dX m c (ix2 t j) := by
  rw [val_main_v40_apply, val_main_v39_apply, val_main_v37_apply, val_main_v38_apply, val_main_v36_apply, val_main_v30_apply, factor_at, gy_at, val_main_v29_apply]
  have e : idx_main_v29 (ix2 t j) = ix2 t (0 : Fin 1) := by
    funext l; match l with
    | ⟨0, _⟩ => rfl
    | ⟨1, _⟩ => rfl
  rw [e, root_at']
  exact NormScalar.same (row m c t) (gy m c t) (dres m c (ix2 t j)) j

theorem dg_at' (j : Fin 1024) : val_main_v25 (F := Ideal) (dz m c) (w m c) (h m c) (ix1 j) = ∑ t, term m c j t := by
  rw [val_main_v25_apply]
  refine (congrArg₂ (· + ·) zero_bits ?_).trans (zero_add _)
  rw [Fin.sum_univ_one, val_main_v22_apply, val_main_v21_apply]
  refine (congrArg₂ (· + ·) zero_bits (Finset.sum_congr rfl fun t _ => ?_)).trans (zero_add _)
  have e : idx_main_v21 (idx_main_v22 (idx_main_v25 (ix1 j) 0)) t = ix2 t j := by
    funext l; match l with
    | ⟨0, _⟩ => rfl
    | ⟨1, _⟩ => exact Fin.ext (by show 0 * 1024 + j.val = j.val; omega)
  rw [e, val_main_v20_apply, normed_at', dy_at]
  exact mul_comm _ _

theorem same5 (x0 : FVec Ideal S8192x512 .bf16) (x1 : FVec Ideal S1024x512 .bf16) (x2 : FVec Ideal S8192x1024 .f32) (x3 : FVec Ideal S1024 .f32) (x4 : FVec Ideal S8192x1024 .f32)
    (e0 : x0 = dz m c) (e1 : x1 = w m c) (e2 : x2 = h m c) (e3 : x3 = g m c) (e4 : x4 = dres m c) : val_main_v40 (F := Ideal) x0 x1 x2 x3 x4 = dX m c := by
  subst e0 e1 e2 e3 e4
  funext y
  have e : y = ix2 (y 0) (y 1) := by
    funext k; match k with
    | ⟨0, _⟩ => rfl
    | ⟨1, _⟩ => rfl
  exact (congrArg (val_main_v40 (F := Ideal) (dz m c) (w m c) (h m c) (g m c) (dres m c)) e).trans ((dx_at' m c (y 0) (y 1)).trans (congrArg (dX m c) e.symm))

theorem same6 (x0 : FVec Ideal S8192x512 .bf16) (x1 : FVec Ideal S1024x512 .bf16) (x2 : FVec Ideal S8192x1024 .f32)
    (e0 : x0 = dz m c) (e1 : x1 = w m c) (e2 : x2 = h m c) : val_main_v41 (F := Ideal) x0 x1 x2 = dG m c := by
  subst e0 e1 e2
  funext y
  rw [val_main_v41_apply]
  refine Eq.trans (congrArg (val_main_v25 (F := Ideal) (dz m c) (w m c) (h m c)) ?_) (dg_at' m c (y 1))
  have h0 : (y 0).val < 1 := (y 0).isLt
  funext l; match l with
  | ⟨0, _⟩ => exact Fin.ext (by show (y 0).val * 1024 + (y 1).val = (y 1).val; omega)

theorem frame_reference (m : (ℓ : Loc Cert.Reference18Ideal.nD Cert.Reference18Ideal.τ Cert.Reference18Ideal.sig) → Buf (Elt Ideal) ℓ) (g : Dev Cert.Reference18Ideal.nD → PrngReg) :
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0) :=
  (θ_run _ _ _).mono (fun r h => ⟨fun c => (h c).2.2, sem_eq_zero_of_no_sems rfl r.2⟩) (Cert.Reference18Ideal.Value.run m g)

theorem algebraic : Cert.algebraic_Kernel18Ideal_Reference18Ideal (hKernel18Ideal := Cert.Kernel18Ideal.Gen.facts) (hReference18Ideal := Cert.Reference18Ideal.Gen.facts) := by
  intro m g m' g' _ hagree
  refine ⟨fun c => dX m c, fun c => dG m c, ?_, ?_⟩
  · refine (θ_run _ _ _).mono (fun r h c => ?_) (Cert.Kernel18Ideal.Value.run_blocks m g)
    exact ⟨(h c).1.trans (arr5 m c), (h c).2.1.trans (arr6 m c), (h c).2.2⟩
  · refine (θ_run _ _ _).mono (fun r h c => ?_) (Cert.Reference18Ideal.Value.run m' g')
    obtain ⟨a0, a1, a2, a3, a4⟩ := hagree c
    exact ⟨((h c).1.trans (val_main_v40_eq m' c)).trans (same5 m c (m' (c, Cert.Reference18Ideal.main_arg0)) (m' (c, Cert.Reference18Ideal.main_arg1)) (m' (c, Cert.Reference18Ideal.main_arg2)) (m' (c, Cert.Reference18Ideal.main_arg3)) (m' (c, Cert.Reference18Ideal.main_arg4)) a0 a1 a2 a3 a4),
      ((h c).2.1.trans (val_main_v41_eq (m' (c, Cert.Reference18Ideal.main_arg0)) (m' (c, Cert.Reference18Ideal.main_arg1)) (m' (c, Cert.Reference18Ideal.main_arg2)))).trans (same6 m c (m' (c, Cert.Reference18Ideal.main_arg0)) (m' (c, Cert.Reference18Ideal.main_arg1)) (m' (c, Cert.Reference18Ideal.main_arg2)) a0 a1 a2), (h c).2.2⟩

end Cert.Kernel18Ideal.Norm

end
-- ==== Proof.NormMemQ.lean ====
/-
  The norm before the memory readout's query projection, and the product of the normed activations with the weight.
  A block of 512 tokens is taken at each grid point.
-/
module

public import proofs.«01_k».proof.Proof.NormScalar
public import proofs.«01_k».proof.Proof.Gen.Kernel19Ideal.Value
public import Idealize.ShloMosaic.Lib.Pointwise
public import Idealize.ShloMosaic.Lib.Tactic
public import Idealize.ShloMosaic.Lib.Pipeline.ValueKit

@[expose] public section

noncomputable section

namespace Cert.Kernel19Ideal.NormMul

open Cert.Kernel19Ideal Cert.Kernel19Ideal.Gen Cert.Kernel19Ideal.Value
open Idealize.ShloMosaic Idealize.ShloMosaic.TcCoe

theorem hz : (![0, 0] : Fin 2 → Nat) = fun _ => 0 := funext fun a => by fin_cases a <;> rfl

section Body
variable {F : FTy → Type} [FloatOps F]
variable (c : Dev nD) (i : grid0.Coords) (a2 : Memref sig .tc .vmem S512x1024 .f32) (h2 : a2.IsWhole) (a3 : Memref sig .tc .vmem S1x1024 .f32) (h3 : a3.IsWhole) (a4 : Memref sig .tc .vmem S1024x512 .bf16) (h4 : a4.IsWhole)
  (a5 : Memref sig .tc .vmem S512x1024 .bf16) (h5 : a5.IsWhole) (a6 : Memref sig .tc .vmem S512x512 .f32) (h6 : a6.IsWhole)
  (x0 : Vec F S512x1024 .f32) (x1 : Vec F S1x1024 .f32) (x2 : Vec F S1024x512 .bf16)

/-- The normed activations, -/
theorem xn_A (c0 : cond0_0 i) : out0_A_3 c i a2 h2 a3 h3 a4 h4 a5 h5 a6 h6 c0 x0 x1 x2 = k0_pay1 x0 x1 := by
  unfold out0_A_3
  rw [View.read_writes_eq_canon _ _ _ (cover0_A_3 c i a2 h2 a3 h3 a4 h4 a5 h5 a6 h6 c0 x0 x1 x2)]
  unfold kernelRun0_A
  dsimp only
  sl_unfold_words
  rw [View.canon_unit_zero hz]
  simp only [View.readAt_eq_ld, h2.read_unread, h3.read_unread, h4.read_unread, View.ld_unit_zero (S := S512x1024) hz, View.ld_unit_zero (S := S1024x512) hz, View.ld_unit_zero (S := S1x1024) hz, shapeCast_self]

/-- and their product with the weight. -/
theorem z_A (c0 : cond0_0 i) : out0_A_4 c i a2 h2 a3 h3 a4 h4 a5 h5 a6 h6 c0 x0 x1 x2 = k0_pay2 (k0_pay1 x0 x1) x2 := by
  unfold out0_A_4
  rw [View.read_writes_eq_canon _ _ _ (cover0_A_4 c i a2 h2 a3 h3 a4 h4 a5 h5 a6 h6 c0 x0 x1 x2)]
  unfold kernelRun0_A
  dsimp only
  sl_unfold_words
  rw [View.canon_unit_zero hz, View.readCov_unit_zero (S := S512x1024) _ hz]
  simp only [View.readAt_eq_ld, h2.read_unread, h3.read_unread, h4.read_unread, View.ld_unit_zero (S := S512x1024) hz, View.ld_unit_zero (S := S1024x512) hz, View.ld_unit_zero (S := S1x1024) hz, shapeCast_self]

end Body

/-! One entry of each, on extended reals. -/

theorem normed_at (h : Vec Ideal S512x1024 .f32) (g : Vec Ideal S1x1024 .f32) (a : Fin 512) (j : Fin 1024) :
    k0_pay1 (F := Ideal) h g (ix2 a j) = h (ix2 a j) * Ideal.rsqrt (NormScalar.v fun k : Fin 1024 => h (ix2 a k)) * g (ix2 (0 : Fin 1) j) := by
  pointwise [k0_pay1]
  rfl

theorem mul_at (x : Vec Ideal S512x1024 .bf16) (w : Vec Ideal S1024x512 .bf16) (a : Fin 512) (j : Fin 512) :
    k0_pay2 (F := Ideal) x w (ix2 a j) = ∑ r, x (ix2 a r) * w (ix2 r j) := by
  pointwise [k0_pay2]

/-! What a grid point reads. -/

theorem ix_0 : ∀ t : Fin cfg0.N, win0_0.index t (0 : Fin 2) = t.val ∧ win0_0.index t (1 : Fin 2) = 0 :=
  (by decide +kernel : ∀ t : Fin grid0.N, _)
theorem ix_1 : ∀ t : Fin cfg0.N, win0_1.index t (0 : Fin 2) = 0 ∧ win0_1.index t (1 : Fin 2) = 0 :=
  (by decide +kernel : ∀ t : Fin grid0.N, _)
theorem ix_2 : ∀ t : Fin cfg0.N, win0_2.index t (0 : Fin 2) = 0 ∧ win0_2.index t (1 : Fin 2) = 0 :=
  (by decide +kernel : ∀ t : Fin grid0.N, _)
theorem ix_3 : ∀ t : Fin cfg0.N, win0_3.index t (0 : Fin 2) = t.val ∧ win0_3.index t (1 : Fin 2) = 0 :=
  (by decide +kernel : ∀ t : Fin grid0.N, _)
theorem ix_4 : ∀ t : Fin cfg0.N, win0_4.index t (0 : Fin 2) = t.val ∧ win0_4.index t (1 : Fin 2) = 0 :=
  (by decide +kernel : ∀ t : Fin grid0.N, _)

variable (m : (ℓ : Loc nD τ sig) → Buf (Elt Ideal) ℓ) (c : Dev nD)

def h : FVec Ideal S8192x1024 .f32 := m (c, main_arg0)
def g : FVec Ideal S1024 .f32 := m (c, main_arg1)
def w : FVec Ideal S1024x512 .bf16 := m (c, main_arg2)

theorem blk_0 (t : Fin cfg0.N) (a : Fin 512) (k : Fin 1024) (ha : 512 * t.val + a.val < 8192) :
    (iblk m c 0 t : Vec Ideal S512x1024 .f32) (ix2 a k) = h m c (ix2 ⟨512 * t.val + a.val, ha⟩ k) := by
  unfold iblk
  rw [View.read_apply]
  show V m c main_arg0 _ = m (c, main_arg0) _
  rw [V_main_arg0 m c]
  show m (c, main_arg0) _ = m (c, main_arg0) _
  congr 1
  funext l
  apply Fin.ext
  match l with
  | ⟨0, _⟩ => show win0_0.index t (0 : Fin 2) * 512 + 1 * a.val = _; rw [(ix_0 t).1]; show _ = 512 * t.val + a.val; omega
  | ⟨1, _⟩ => show win0_0.index t (1 : Fin 2) * 1024 + 1 * k.val = _; rw [(ix_0 t).2]; show _ = k.val; omega

theorem blk_2 (t : Fin cfg0.N) (a : Fin 1024) (k : Fin 512) :
    (iblk m c 2 t : Vec Ideal S1024x512 .bf16) (ix2 a k) = w m c (ix2 a k) := by
  unfold iblk
  rw [View.read_apply]
  show V m c main_arg2 _ = m (c, main_arg2) _
  rw [V_main_arg2 m c]
  show m (c, main_arg2) _ = m (c, main_arg2) _
  congr 1
  funext l
  apply Fin.ext
  match l with
  | ⟨0, _⟩ => show win0_2.index t (0 : Fin 2) * 1024 + 1 * a.val = _; rw [(ix_2 t).1]; show _ = a.val; omega
  | ⟨1, _⟩ => show win0_2.index t (1 : Fin 2) * 512 + 1 * k.val = _; rw [(ix_2 t).2]; show _ = k.val; omega

/-- The gain, as one row. -/
theorem V_gain : V m c main_v0 = shapeCast S1x1024 (g m c) shapeCasts_S1024_S1x1024 := by
  unfold V
  rw [StableHlo.after_cons, StableHlo.after_nil, StableHlo.reshape_result']
  rfl

theorem gain_row (k : Fin 1024) (x : FVec Ideal S1024 .f32) : shapeCast S1x1024 x shapeCasts_S1024_S1x1024 (ix2 (0 : Fin 1) k) = x (ix1 k) :=
  shapeCast_apply x shapeCasts_S1024_S1x1024 _ _ (by rewrite [Shape.rowMajor_val_one, Shape.rowMajor_val_two]; show k.val = 0 * 1024 + k.val; omega)

theorem blk_1 (t : Fin cfg0.N) (k : Fin 1024) : (iblk m c 1 t : Vec Ideal S1x1024 .f32) (ix2 (0 : Fin 1) k) = g m c (ix1 k) := by
  unfold iblk
  rw [View.read_apply]
  show V m c main_v0 _ = _
  rw [V_gain]
  refine Eq.trans (congrArg (shapeCast S1x1024 (g m c) shapeCasts_S1024_S1x1024) ?_) (gain_row k (g m c))
  funext l
  apply Fin.ext
  match l with
  | ⟨0, _⟩ => show win0_1.index t (0 : Fin 2) * 1 + 1 * 0 = _; rw [(ix_1 t).1]; rfl
  | ⟨1, _⟩ => show win0_1.index t (1 : Fin 2) * 1024 + 1 * k.val = _; rw [(ix_1 t).2]; show _ = k.val; omega

/-! The results, of one token and one channel. -/

def row (t : Fin 8192) (k : Fin 1024) : EReal := h m c (ix2 t k)

/-- The normed activations, with the gain. -/
def normed (t : Fin 8192) (k : Fin 1024) : EReal := row m c t k * Ideal.rsqrt (NormScalar.v (row m c t)) * g m c (ix1 k)

/-- Their product with the weight. -/
def prod (t : Fin 8192) (j : Fin 512) : EReal := ∑ r : Fin 1024, normed m c t r * w m c (ix2 r j)

def xn : FVec Ideal S8192x1024 .bf16 := fun y => normed m c (y 0) (y 1)
def z : FVec Ideal S8192x512 .f32 := fun y => prod m c (y 0) (y 1)

theorem xn_tile (t : Fin cfg0.N) (a : Fin 512) (j : Fin 1024) (ha : 512 * t.val + a.val < 8192) :
    k0_pay1 (F := Ideal) (iblk m c 0 t) (iblk m c 1 t) (ix2 a j) = normed m c ⟨512 * t.val + a.val, ha⟩ j := by
  rw [normed_at]
  have e1 : (fun k : Fin 1024 => (iblk m c 0 t : Vec Ideal S512x1024 .f32) (ix2 a k)) = row m c ⟨512 * t.val + a.val, ha⟩ := funext fun k => blk_0 m c t a k ha
  rw [e1]
  exact congrArg₂ (· * ·) (congrArg (· * _) (blk_0 m c t a j ha)) (blk_1 m c t j)

theorem prod_tile (t : Fin cfg0.N) (v : Vec Ideal S1024x512 .bf16) (hv : v = iblk m c 2 t) (a : Fin 512) (j : Fin 512) (ha : 512 * t.val + a.val < 8192) :
    ∑ r, k0_pay1 (F := Ideal) (iblk m c 0 t) (iblk m c 1 t) (ix2 a r) * v (ix2 r j) = prod m c ⟨512 * t.val + a.val, ha⟩ j :=
  Finset.sum_congr rfl fun r _ => congrArg₂ (· * ·) (xn_tile m c t a r ha) ((congrFun hv _).trans (blk_2 m c t r j))

/-! The arrays. -/

theorem covers3 : (cfg0.win 3).Covers := by decide +kernel

theorem arr3 : (dats m 0 c).arrAt 3 cfg0.N = xn m c := by
  refine (dats m 0 c).arrAt_eq_of_covers 3 (xn m c) covers3 fun t hf p => ?_
  have ht : t.val < 16 := lt_of_lt_of_eq t.isLt N_0
  have h0 : (p 0).val < 512 := (p 0).isLt
  have h1 : (p 1).val < 1024 := (p 1).isLt
  have e : ((cfg0.win 3).blk t).view.emb p = ix2 ⟨512 * t.val + (p 0).val, by omega⟩ (p 1) := by
    refine funext fun a => Fin.ext ?_
    refine ((cfg0.win 3).rect_emb_val t p a).trans ?_
    match a with
    | ⟨0, _⟩ => show win0_3.index t (0 : Fin 2) * 512 + (p 0).val = 512 * t.val + (p 0).val; rw [(ix_3 t).1]; omega
    | ⟨1, _⟩ => show win0_3.index t (1 : Fin 2) * 1024 + (p 1).val = (p 1).val; rw [(ix_3 t).2]; omega
  blk_simp
  rw [after0_3]
  refine Eq.trans ?_ (congrArg (xn m c) e).symm
  have hz : (p : S512x1024.Idx) = ix2 (p 0) (p 1) := by funext a; fin_cases a <;> rfl
  have eo : (outsAt0 m c t).1 = k0_pay1 (F := Ideal) (iblk m c 0 t) (iblk m c 1 t) := by
    unfold outsAt0
    dsimp only
    rw [xn_A]
  rw [eo]
  refine (congrArg (k0_pay1 (F := Ideal) (iblk m c 0 t) (iblk m c 1 t)) hz).trans ?_
  exact xn_tile m c t (p 0) (p 1) (by omega)

theorem covers4 : (cfg0.win 4).Covers := by decide +kernel

theorem arr4 : (dats m 0 c).arrAt 4 cfg0.N = z m c := by
  refine (dats m 0 c).arrAt_eq_of_covers 4 (z m c) covers4 fun t hf p => ?_
  have ht : t.val < 16 := lt_of_lt_of_eq t.isLt N_0
  have h0 : (p 0).val < 512 := (p 0).isLt
  have h1 : (p 1).val < 512 := (p 1).isLt
  have e : ((cfg0.win 4).blk t).view.emb p = ix2 ⟨512 * t.val + (p 0).val, by omega⟩ (p 1) := by
    refine funext fun a => Fin.ext ?_
    refine ((cfg0.win 4).rect_emb_val t p a).trans ?_
    match a with
    | ⟨0, _⟩ => show win0_4.index t (0 : Fin 2) * 512 + (p 0).val = 512 * t.val + (p 0).val; rw [(ix_4 t).1]; omega
    | ⟨1, _⟩ => show win0_4.index t (1 : Fin 2) * 512 + (p 1).val = (p 1).val; rw [(ix_4 t).2]; omega
  blk_simp
  rw [after0_4]
  refine Eq.trans ?_ (congrArg (z m c) e).symm
  have hz : (p : S512x512.Idx) = ix2 (p 0) (p 1) := by funext a; fin_cases a <;> rfl
  have eo : (outsAt0 m c t).2 = k0_pay2 (F := Ideal) (k0_pay1 (iblk m c 0 t) (iblk m c 1 t)) (iblk m c 2 t) := by
    unfold outsAt0
    dsimp only
    rw [z_A]
  rw [eo]
  refine (congrArg (k0_pay2 (F := Ideal) (k0_pay1 (iblk m c 0 t) (iblk m c 1 t)) (iblk m c 2 t)) hz).trans ?_
  exact (mul_at _ _ (p 0) (p 1)).trans (prod_tile m c t _ rfl (p 0) (p 1) (by omega))

end Cert.Kernel19Ideal.NormMul

end
-- ==== Proof.NormMemQSame.lean ====
/-
  The norm before the memory readout's query projection and the product, compared with the reference's.
-/
module

public import proofs.«01_k».proof.Proof.NormMemQ
public import proofs.«01_k».proof.Proof.Gen.Reference19Ideal.Read
public import proofs.«01_k».proof.Defs

@[expose] public section

noncomputable section

namespace Cert.Kernel19Ideal.NormMul

open Cert.Kernel19Ideal Idealize.ShloMosaic Idealize.ShloMosaic.TcCoe Cert.Reference19Ideal.Read

variable (m : (ℓ : Loc nD τ sig) → Buf (Elt Ideal) ℓ) (c : Dev nD)

theorem zero_bits : Ideal.ofBits .f32 0x00000000#32 = 0 := Ideal.ofBits_zero_f32

/-! ## The reference at an index -/

theorem v_at (t : Fin 8192) : val_main_v6 (F := Ideal) (h m c) (ix2 t (0 : Fin 1)) = NormScalar.v (row m c t) := by
  have e : val_main_v1 (F := Ideal) (h m c) (ix1 t) = ∑ k, row m c t k * row m c t k := by
    rw [val_main_v1_apply]
    refine (congrArg₂ (· + ·) zero_bits (Finset.sum_congr rfl fun k _ => ?_)).trans (zero_add _)
    rw [val_main_v0_apply]
    have ek : idx_main_v1 (ix1 t) k = ix2 t k := by
      funext l; match l with
      | ⟨0, _⟩ => rfl
      | ⟨1, _⟩ => rfl
    rw [ek]
    rfl
  have e4 : val_main_v2 (F := Ideal) (h m c) (ix2 t (0 : Fin 1)) = ∑ k, row m c t k * row m c t k := by
    rw [val_main_v2_apply]
    refine Eq.trans (congrArg (val_main_v1 (F := Ideal) (h m c)) ?_) e
    funext l; match l with
    | ⟨0, _⟩ => rfl
  rw [val_main_v6_apply, val_main_v4_apply, val_main_v3_apply, val_main_v5_apply, e4]
  rfl

theorem root_at' (t : Fin 8192) : val_main_v7 (F := Ideal) (h m c) (ix2 t (0 : Fin 1)) = Ideal.rsqrt (NormScalar.v (row m c t)) := by
  rw [val_main_v7_apply, v_at]
  rfl

theorem normed_at' (t : Fin 8192) (j : Fin 1024) : val_main_v12 (F := Ideal) (h m c) (g m c) (ix2 t j) = normed m c t j := by
  rw [val_main_v12_apply, val_main_v9_apply, val_main_v8_apply, val_main_v11_apply, val_main_v10_apply]
  refine congrArg₂ (· * ·) (congrArg₂ (· * ·) rfl (Eq.trans (congrArg (val_main_v7 (F := Ideal) (h m c)) ?_) (root_at' m c t))) (congrArg (g m c) ?_)
  · funext l; match l with
    | ⟨0, _⟩ => rfl
    | ⟨1, _⟩ => rfl
  · funext l; match l with
    | ⟨0, _⟩ => rfl

theorem prod_at (t : Fin 8192) (j : Fin 512) : val_main_v15 (F := Ideal) (h m c) (g m c) (w m c) (ix2 t j) = prod m c t j := by
  rw [val_main_v15_apply]
  refine Finset.sum_congr rfl fun r _ => ?_
  rw [val_main_v14_apply]
  refine congrArg₂ (· * ·) (Eq.trans (congrArg (val_main_v12 (F := Ideal) (h m c) (g m c)) ?_) (normed_at' m c t r)) (congrArg (w m c) ?_)
  · funext l; match l with
    | ⟨0, _⟩ => rfl
    | ⟨1, _⟩ => rfl
  · funext l; match l with
    | ⟨0, _⟩ => rfl
    | ⟨1, _⟩ => rfl

theorem same_xn (x0 : FVec Ideal S8192x1024 .f32) (x1 : FVec Ideal S1024 .f32) (e0 : x0 = h m c) (e1 : x1 = g m c) : val_main_v13 (F := Ideal) x0 x1 = xn m c := by
  subst e0 e1
  funext y
  rw [val_main_v13_apply]
  have e : y = ix2 (y 0) (y 1) := by
    funext k; match k with
    | ⟨0, _⟩ => rfl
    | ⟨1, _⟩ => rfl
  exact (congrArg (val_main_v12 (F := Ideal) (h m c) (g m c)) e).trans (normed_at' m c (y 0) (y 1))

theorem same_z (x0 : FVec Ideal S8192x1024 .f32) (x1 : FVec Ideal S1024 .f32) (x2 : FVec Ideal S1024x512 .bf16) (e0 : x0 = h m c) (e1 : x1 = g m c) (e2 : x2 = w m c) : val_main_v15 (F := Ideal) x0 x1 x2 = z m c := by
  subst e0 e1 e2
  funext y
  have e : y = ix2 (y 0) (y 1) := by
    funext k; match k with
    | ⟨0, _⟩ => rfl
    | ⟨1, _⟩ => rfl
  exact (congrArg (val_main_v15 (F := Ideal) (h m c) (g m c) (w m c)) e).trans (prod_at m c (y 0) (y 1))

theorem frame_reference (m : (ℓ : Loc Cert.Reference19Ideal.nD Cert.Reference19Ideal.τ Cert.Reference19Ideal.sig) → Buf (Elt Ideal) ℓ) (g : Dev Cert.Reference19Ideal.nD → PrngReg) :
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0) :=
  (θ_run _ _ _).mono (fun r h => ⟨fun c => (h c).2.2, sem_eq_zero_of_no_sems rfl r.2⟩) (Cert.Reference19Ideal.Value.run m g)

theorem algebraic : Cert.algebraic_Kernel19Ideal_Reference19Ideal (hKernel19Ideal := Cert.Kernel19Ideal.Gen.facts) (hReference19Ideal := Cert.Reference19Ideal.Gen.facts) := by
  intro m g m' g' _ hagree
  refine ⟨fun c => xn m c, fun c => z m c, ?_, ?_⟩
  · refine (θ_run _ _ _).mono (fun r h c => ?_) (Cert.Kernel19Ideal.Value.run_blocks m g)
    exact ⟨(h c).1.trans (arr3 m c), (h c).2.1.trans (arr4 m c), (h c).2.2⟩
  · refine (θ_run _ _ _).mono (fun r h c => ?_) (Cert.Reference19Ideal.Value.run m' g')
    obtain ⟨a0, a1, a2⟩ := hagree c
    exact ⟨((h c).1.trans (val_main_v13_eq (m' (c, Cert.Reference19Ideal.main_arg0)) (m' (c, Cert.Reference19Ideal.main_arg1)))).trans (same_xn m c (m' (c, Cert.Reference19Ideal.main_arg0)) (m' (c, Cert.Reference19Ideal.main_arg1)) a0 a1),
      ((h c).2.1.trans (val_main_v15_eq (m' (c, Cert.Reference19Ideal.main_arg0)) (m' (c, Cert.Reference19Ideal.main_arg1)) (m' (c, Cert.Reference19Ideal.main_arg2)))).trans (same_z m c (m' (c, Cert.Reference19Ideal.main_arg0)) (m' (c, Cert.Reference19Ideal.main_arg1)) (m' (c, Cert.Reference19Ideal.main_arg2)) a0 a1 a2), (h c).2.2⟩

end Cert.Kernel19Ideal.NormMul

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Whole
public import proofs.«01_k».proof.Proof.Match
public import proofs.«01_k».proof.Proof.Twin.Whole
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.NormBwdSame
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.GateUpDwSame
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Pre_finite4
public import proofs.«01_k».proof.Proof.SwigluSame
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.DownDwSame
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.GateUpRun
public import proofs.«01_k».proof.Proof.Twin.GateUpRun
public import proofs.«01_k».proof.Proof.GateUpSame
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.DownSame
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.InDwSame
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.InNormBwdSame
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.NormInSame
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.OutSame
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.OutDwSame
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.OutDxSame
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.MemOutSame
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.MemOutDwSame
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.MemOutDxSame
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.MemQDwSame
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.MemQNormBwdSame
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.NormMemQSame
public import Idealize.ShloMosaic.Adequacy
public import Idealize.ShloMosaic.Init
public import Idealize.ShloMosaic.Lib.Quiescent
public import Idealize.ShloMosaic.Lib.Claim

@[expose] public section

noncomputable section

namespace Cert.Proof

open Idealize.ShloMosaic Idealize.SL.Sem Idealize.ShloMosaic.TcCoe

/-- The reference's arguments end as they began, and it has no semaphores. -/
theorem frame_reference (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0) :=
  (θ_run _ _ _).mono (fun r h => ⟨fun c => (h c).2.2.2.2.2, sem_eq_zero_of_no_sems rfl r.2⟩) (Cert.ReferenceIdeal.Value.run m g)

set_option maxHeartbeats 4000000 in
theorem algebraic : Cert.algebraic_KernelIdeal_ReferenceIdeal_pre_finite (hKernelIdeal := Cert.KernelIdeal.Gen.facts) (hReferenceIdeal := Cert.ReferenceIdeal.Gen.facts) (hPre_finite := Cert.Pre_finite.Gen.facts) := by
  intro m g m' g' hpre hagree
  refine ⟨fun c => Cert.KernelIdeal.Fox.outQ m c, fun c => Cert.KernelIdeal.Fox.outK m c, fun c => Cert.KernelIdeal.Fox.outV m c, fun c => Cert.KernelIdeal.Fox.outC m c, fun c => Cert.KernelIdeal.Fox.outR m c, ?_, ?_⟩
  · refine (θ_run _ _ _).mono (fun r h c => ?_) (θ_run_and (Cert.KernelIdeal.Fox.run_main m g) (Cert.KernelIdeal.Fox.frame m g))
    obtain ⟨y, hy⟩ := Cert.KernelIdeal.Fox.real_ax m c (hpre c)
    exact ⟨((h.1.1 c).1 11).trans (Cert.KernelIdeal.Fox.arr_11 y hy), ((h.1.1 c).1 12).trans (Cert.KernelIdeal.Fox.arr_12 y hy), ((h.1.1 c).1 13).trans (Cert.KernelIdeal.Fox.arr_13 y hy),
      ((h.1.1 c).1 14).trans (Cert.KernelIdeal.Fox.arr_14 y hy), ((h.1.1 c).1 15).trans (Cert.KernelIdeal.Fox.arr_15 y hy), h.2.1 c⟩
  · refine (θ_run _ _ _).mono (fun r h c => ?_) (Cert.ReferenceIdeal.Value.run m' g')
    obtain ⟨a0, a1, a2, a3, a4⟩ := hagree c
    obtain ⟨h0, h1, h2, h3, h4, hk⟩ := h c
    exact ⟨(h0.trans (Cert.ReferenceIdeal.Read.val_main_v83_eq m' c)).trans (Cert.KernelIdeal.Fox.same_dq m c (m' (c, Cert.ReferenceIdeal.main_arg0)) (m' (c, Cert.ReferenceIdeal.main_arg1)) (m' (c, Cert.ReferenceIdeal.main_arg2)) (m' (c, Cert.ReferenceIdeal.main_arg3)) (m' (c, Cert.ReferenceIdeal.main_arg4)) a0 a1 a2 a3 a4),
      (h1.trans (Cert.ReferenceIdeal.Read.val_main_v85_eq m' c)).trans (Cert.KernelIdeal.Fox.same_dk m c (m' (c, Cert.ReferenceIdeal.main_arg0)) (m' (c, Cert.ReferenceIdeal.main_arg1)) (m' (c, Cert.ReferenceIdeal.main_arg2)) (m' (c, Cert.ReferenceIdeal.main_arg3)) (m' (c, Cert.ReferenceIdeal.main_arg4)) a0 a1 a2 a3 a4),
      (h2.trans (Cert.ReferenceIdeal.Read.val_main_v88_eq m' c)).trans (Cert.KernelIdeal.Fox.same_dv m c (m' (c, Cert.ReferenceIdeal.main_arg0)) (m' (c, Cert.ReferenceIdeal.main_arg1)) (m' (c, Cert.ReferenceIdeal.main_arg2)) (m' (c, Cert.ReferenceIdeal.main_arg3)) (m' (c, Cert.ReferenceIdeal.main_arg4)) a0 a1 a2 a3 a4),
      (h3.trans (Cert.ReferenceIdeal.Read.val_main_v90_eq m' c)).trans (Cert.KernelIdeal.Fox.same_dck m c (m' (c, Cert.ReferenceIdeal.main_arg0)) (m' (c, Cert.ReferenceIdeal.main_arg1)) (m' (c, Cert.ReferenceIdeal.main_arg2)) (m' (c, Cert.ReferenceIdeal.main_arg3)) (m' (c, Cert.ReferenceIdeal.main_arg4)) a0 a1 a2 a3 a4),
      (h4.trans (Cert.ReferenceIdeal.Read.val_main_v92_eq m' c)).trans (Cert.KernelIdeal.Fox.same_dcq m c (m' (c, Cert.ReferenceIdeal.main_arg0)) (m' (c, Cert.ReferenceIdeal.main_arg1)) (m' (c, Cert.ReferenceIdeal.main_arg2)) (m' (c, Cert.ReferenceIdeal.main_arg3)) (m' (c, Cert.ReferenceIdeal.main_arg4)) a0 a1 a2 a3 a4),
      hk⟩

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Pre_finite.Gen.facts, Cert.Pre_finite4.Gen.facts,
  fun m g _ => Cert.Kernel.Fox.frame m g,
  fun m g _ => Cert.KernelIdeal.Fox.frame m g,
  fun m g _ => Cert.KernelIdeal.Fox.frame m g,
  fun m g _ => frame_reference m g,
  fun m g _ => frame_reference m g,
  fun m g _ => Cert.Kernel2.Gen.frame m g,
  fun m g _ => Cert.Kernel2Ideal.Gen.frame m g,
  fun m g _ => Cert.Kernel2Ideal.Norm.frame_reference m g,
  fun m g _ => Cert.Kernel3.Gen.frame m g,
  fun m g _ => Cert.Kernel3Ideal.Gen.frame m g,
  fun m g _ => Cert.Kernel3Ideal.Dw.frame_reference m g,
  fun m g _ => Cert.Kernel4.Gen.frame m g,
  fun m g _ => Cert.Kernel4Ideal.Gen.frame m g,
  fun m g _ => Cert.Kernel4Ideal.Gen.frame m g,
  fun m g _ => Cert.Kernel4Ideal.Swiglu.frame_reference m g,
  fun m g _ => Cert.Kernel4Ideal.Swiglu.frame_reference m g,
  fun m g _ => Cert.Kernel5.Gen.frame m g,
  fun m g _ => Cert.Kernel5Ideal.Gen.frame m g,
  fun m g _ => Cert.Kernel5Ideal.Dw.frame_reference m g,
  fun m g _ => Cert.Kernel6.GateUp.frame m g,
  fun m g _ => Cert.Kernel6Ideal.GateUp.frame m g,
  fun m g _ => Cert.Kernel6Ideal.GateUp.frame_reference m g,
  fun m g _ => Cert.Kernel7.Gen.frame m g,
  fun m g _ => Cert.Kernel7Ideal.Gen.frame m g,
  fun m g _ => Cert.Kernel7Ideal.Mul.frame_reference m g,
  fun m g _ => Cert.Kernel8.Gen.frame m g,
  fun m g _ => Cert.Kernel8Ideal.Gen.frame m g,
  fun m g _ => Cert.Kernel8Ideal.Dw.frame_reference m g,
  fun m g _ => Cert.Kernel9.Gen.frame m g,
  fun m g _ => Cert.Kernel9Ideal.Gen.frame m g,
  fun m g _ => Cert.Kernel9Ideal.Norm.frame_reference m g,
  fun m g _ => Cert.Kernel10.Gen.frame m g,
  fun m g _ => Cert.Kernel10Ideal.Gen.frame m g,
  fun m g _ => Cert.Kernel10Ideal.NormMul.frame_reference m g,
  fun m g _ => Cert.Kernel11.Gen.frame m g,
  fun m g _ => Cert.Kernel11Ideal.Gen.frame m g,
  fun m g _ => Cert.Kernel11Ideal.Mul.frame_reference m g,
  fun m g _ => Cert.Kernel12.Gen.frame m g,
  fun m g _ => Cert.Kernel12Ideal.Gen.frame m g,
  fun m g _ => Cert.Kernel12Ideal.Dw.frame_reference m g,
  fun m g _ => Cert.Kernel13.Gen.frame m g,
  fun m g _ => Cert.Kernel13Ideal.Gen.frame m g,
  fun m g _ => Cert.Kernel13Ideal.Mul.frame_reference m g,
  fun m g _ => Cert.Kernel14.Gen.frame m g,
  fun m g _ => Cert.Kernel14Ideal.Gen.frame m g,
  fun m g _ => Cert.Kernel14Ideal.Mul.frame_reference m g,
  fun m g _ => Cert.Kernel15.Gen.frame m g,
  fun m g _ => Cert.Kernel15Ideal.Gen.frame m g,
  fun m g _ => Cert.Kernel15Ideal.Dw.frame_reference m g,
  fun m g _ => Cert.Kernel16.Gen.frame m g,
  fun m g _ => Cert.Kernel16Ideal.Gen.frame m g,
  fun m g _ => Cert.Kernel16Ideal.Mul.frame_reference m g,
  fun m g _ => Cert.Kernel17.Gen.frame m g,
  fun m g _ => Cert.Kernel17Ideal.Gen.frame m g,
  fun m g _ => Cert.Kernel17Ideal.Dw.frame_reference m g,
  fun m g _ => Cert.Kernel18.Gen.frame m g,
  fun m g _ => Cert.Kernel18Ideal.Gen.frame m g,
  fun m g _ => Cert.Kernel18Ideal.Norm.frame_reference m g,
  fun m g _ => Cert.Kernel19.Gen.frame m g,
  fun m g _ => Cert.Kernel19Ideal.Gen.frame m g,
  fun m g _ => Cert.Kernel19Ideal.NormMul.frame_reference m g,
  trivial,
  algebraic,
  trivial,
  Cert.Kernel2Ideal.Norm.algebraic,
  trivial,
  Cert.Kernel3Ideal.Dw.algebraic,
  trivial,
  Cert.Kernel4Ideal.Swiglu.algebraic,
  trivial,
  Cert.Kernel5Ideal.Dw.algebraic,
  trivial,
  Cert.Kernel6Ideal.GateUp.algebraic,
  trivial,
  Cert.Kernel7Ideal.Mul.algebraic,
  trivial,
  Cert.Kernel8Ideal.Dw.algebraic,
  trivial,
  Cert.Kernel9Ideal.Norm.algebraic,
  trivial,
  Cert.Kernel10Ideal.NormMul.algebraic,
  trivial,
  Cert.Kernel11Ideal.Mul.algebraic,
  trivial,
  Cert.Kernel12Ideal.Dw.algebraic,
  trivial,
  Cert.Kernel13Ideal.Mul.algebraic,
  trivial,
  Cert.Kernel14Ideal.Mul.algebraic,
  trivial,
  Cert.Kernel15Ideal.Dw.algebraic,
  trivial,
  Cert.Kernel16Ideal.Mul.algebraic,
  trivial,
  Cert.Kernel17Ideal.Dw.algebraic,
  trivial,
  Cert.Kernel18Ideal.Norm.algebraic,
  trivial,
  Cert.Kernel19Ideal.NormMul.algebraic⟩

end Cert.Proof

end
